-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_v193) = v1 c
          ∧ r.2.mem ((c.tc : Thread Cert.ReferenceIdeal.nD Cert.ReferenceIdeal.τ).loc Cert.ReferenceIdeal.main_v176) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S5x384x48x64 : Shape := ⟨4, ![5, 384, 48, 64]⟩
abbrev S5x384x48 : Shape := ⟨3, ![5, 384, 48]⟩
abbrev S48 : Shape := ⟨1, ![48]⟩
abbrev S5x384x1x128 : Shape := ⟨4, ![5, 384, 1, 128]⟩
abbrev S5x48x64x128 : Shape := ⟨4, ![5, 48, 64, 128]⟩
abbrev S5x48 : Shape := ⟨2, ![5, 48]⟩
abbrev S5 : Shape := ⟨1, ![5]⟩
abbrev S_ : Shape := ⟨0, ![]⟩

class Facts : Prop where
  bcast_S_S5x384x48 : S_.BroadcastsInDim S5x384x48 (![] : Fin 0 → Fin S5x384x48.rank)
  bcast_S_S48 : S_.BroadcastsInDim S48 (![] : Fin 0 → Fin S48.rank)
  bcast_S_S5 : S_.BroadcastsInDim S5 (![] : Fin 0 → Fin S5.rank)

variable [Facts]

def fn {F : FTy → Type} [FloatOps F] (main_arg0 : FVec F S5x384x48x64 .bf16) (main_arg1 : FVec F S5x384x48 .f32) (main_arg2 : FVec F S48 .f32) (main_arg3 : FVec F S5x384x1x128 .bf16) (main_arg4 : FVec F S5x384x1x128 .bf16) (main_arg5 : FVec F S48 .f32) (main_arg6 : FVec F S5x48x64x128 .fp8e4m3) (main_arg7 : FVec F S5x48 .f32) (main_arg8 : IVec S5 32) : IVec S5x384x48 1 × IVec S48 1 × IVec S5 1 :=
  let main_cst : FVec F S_ .f32 := constant S_ .f32 0x00000000#32
  let main_v0 : FVec F S5x384x48 .f32 := broadcastInDim S5x384x48 ![] bcast_S_S5x384x48 main_cst
  let main_v1 : IVec S5x384x48 1 := cmpf .oge main_arg1 main_v0
  let main_cst_0 : FVec F S_ .f32 := constant S_ .f32 0x7F800000#32
  let main_v2 : FVec F S5x384x48 .f32 := broadcastInDim S5x384x48 ![] bcast_S_S5x384x48 main_cst_0
  let main_v3 : IVec S5x384x48 1 := cmpf .olt main_arg1 main_v2
  let main_v4 : IVec S5x384x48 1 := andi main_v1 main_v3
  let main_v5 : FVec F S48 .f32 := Host.absf main_arg2
  let main_cst_1 : FVec F S_ .f32 := constant S_ .f32 0x7F800000#32
  let main_v6 : FVec F S48 .f32 := broadcastInDim S48 ![] bcast_S_S48 main_cst_1
  let main_v7 : IVec S48 1 := cmpf .olt main_v5 main_v6
  let main_c : IVec S_ 32 := constantI S_ 32 0#32
  let main_v8 : IVec S5 32 := broadcastInDim S5 ![] bcast_S_S5 main_c
  let main_v9 : IVec S5 1 := cmpi .sge main_arg8 main_v8
  let main_c_2 : IVec S_ 32 := constantI S_ 32 384#32
  let main_v10 : IVec S5 32 := broadcastInDim S5 ![] bcast_S_S5 main_c_2
  let main_v11 : IVec S5 1 := cmpi .sle main_arg8 main_v10
  let main_v12 : IVec S5 1 := andi main_v9 main_v11
  (main_v4, main_v7, main_v12)
-- ==== Kernel.lean ====
abbrev S5x384x48x64 : Shape := ⟨4, ![5, 384, 48, 64]⟩
abbrev S5x384x48 : Shape := ⟨3, ![5, 384, 48]⟩
abbrev S48 : Shape := ⟨1, ![48]⟩
abbrev S5x384x1x128 : Shape := ⟨4, ![5, 384, 1, 128]⟩
abbrev S5x48x64x128 : Shape := ⟨4, ![5, 48, 64, 128]⟩
abbrev S5x48 : Shape := ⟨2, ![5, 48]⟩
abbrev S5 : Shape := ⟨1, ![5]⟩
abbrev S5x48x64x384 : Shape := ⟨4, ![5, 48, 64, 384]⟩
abbrev S5x48x384 : Shape := ⟨3, ![5, 48, 384]⟩
abbrev S1x48 : Shape := ⟨2, ![1, 48]⟩
abbrev S5x384x128 : Shape := ⟨3, ![5, 384, 128]⟩
abbrev S1x48x384 : Shape := ⟨3, ![1, 48, 384]⟩
abbrev S1x384x128 : Shape := ⟨3, ![1, 384, 128]⟩
abbrev S1x16x64x384 : Shape := ⟨4, ![1, 16, 64, 384]⟩
abbrev S1x16x64x128 : Shape := ⟨4, ![1, 16, 64, 128]⟩
abbrev S3x16x384 : Shape := ⟨3, ![3, 16, 384]⟩
abbrev S3x2x16x128 : Shape := ⟨4, ![3, 2, 16, 128]⟩
abbrev S3x384x128 : Shape := ⟨3, ![3, 384, 128]⟩
abbrev S128x384 : Shape := ⟨2, ![128, 384]⟩
abbrev S384x128 : Shape := ⟨2, ![384, 128]⟩
abbrev S384x256 : Shape := ⟨2, ![384, 256]⟩
abbrev S64x128 : Shape := ⟨2, ![64, 128]⟩
abbrev S1024x384 : Shape := ⟨2, ![1024, 384]⟩
abbrev S16x64x128 : Shape := ⟨3, ![16, 64, 128]⟩
abbrev S1024x128 : Shape := ⟨2, ![1024, 128]⟩
abbrev S1 : Shape := ⟨1, ![1]⟩
abbrev S48x384 : Shape := ⟨2, ![48, 384]⟩
abbrev S48x48 : Shape := ⟨2, ![48, 48]⟩
abbrev S48x1 : Shape := ⟨2, ![48, 1]⟩
abbrev S256x256 : Shape := ⟨2, ![256, 256]⟩
abbrev S48x256 : Shape := ⟨2, ![48, 256]⟩
abbrev S3x16x256 : Shape := ⟨3, ![3, 16, 256]⟩
abbrev S48x128 : Shape := ⟨2, ![48, 128]⟩
abbrev S3x16x128 : Shape := ⟨3, ![3, 16, 128]⟩
abbrev S3x1x16x128 : Shape := ⟨4, ![3, 1, 16, 128]⟩
abbrev S16x128 : Shape := ⟨2, ![16, 128]⟩
abbrev S112x128 : Shape := ⟨2, ![112, 128]⟩
abbrev S128x128 : Shape := ⟨2, ![128, 128]⟩
abbrev S1x128x128 : Shape := ⟨3, ![1, 128, 128]⟩
abbrev S256x128 : Shape := ⟨2, ![256, 128]⟩
abbrev S1x4x64x128 : Shape := ⟨4, ![1, 4, 64, 128]⟩
abbrev S4x64x128 : Shape := ⟨3, ![4, 64, 128]⟩
abbrev S1x1x64x128 : Shape := ⟨4, ![1, 1, 64, 128]⟩
abbrev S1x1x128 : Shape := ⟨3, ![1, 1, 128]⟩
abbrev S1x128 : Shape := ⟨2, ![1, 128]⟩
abbrev S1x1 : Shape := ⟨2, ![1, 1]⟩
abbrev S1x1x1x128 : Shape := ⟨4, ![1, 1, 1, 128]⟩
abbrev S1x64x128 : Shape := ⟨3, ![1, 64, 128]⟩
abbrev S1x1x1 : Shape := ⟨3, ![1, 1, 1]⟩
abbrev S1x256 : Shape := ⟨2, ![1, 256]⟩
abbrev S1x1x256 : Shape := ⟨3, ![1, 1, 256]⟩
abbrev S1x128x1 : Shape := ⟨3, ![1, 128, 1]⟩
abbrev S128x1 : Shape := ⟨2, ![128, 1]⟩
abbrev S64x256 : Shape := ⟨2, ![64, 256]⟩
abbrev S1x1x64x256 : Shape := ⟨4, ![1, 1, 64, 256]⟩
abbrev S128x256 : Shape := ⟨2, ![128, 256]⟩
abbrev S1x1x64x384 : Shape := ⟨4, ![1, 1, 64, 384]⟩
abbrev S64x384 : Shape := ⟨2, ![64, 384]⟩
abbrev S1x1x384 : Shape := ⟨3, ![1, 1, 384]⟩
abbrev S1x384 : Shape := ⟨2, ![1, 384]⟩

abbrev nBuf : Space → Nat
  | .hbm => 16
  | .vmem => 29
  | .smem => 3
  | _ => 0

abbrev bufTy : (tb : Table) → Fin (tcTables nBuf tb) → BufTy
  | .hbm, ⟨0, _⟩ => ⟨S5x384x48x64, .bf16⟩
  | .hbm, ⟨1, _⟩ => ⟨S5x384x48, .f32⟩
  | .hbm, ⟨2, _⟩ => ⟨S48, .f32⟩
  | .hbm, ⟨3, _⟩ => ⟨S5x384x1x128, .bf16⟩
  | .hbm, ⟨4, _⟩ => ⟨S5x384x1x128, .bf16⟩
  | .hbm, ⟨5, _⟩ => ⟨S48, .f32⟩
  | .hbm, ⟨6, _⟩ => ⟨S5x48x64x128, .fp8e4m3⟩
  | .hbm, ⟨7, _⟩ => ⟨S5x48, .f32⟩
  | .hbm, ⟨8, _⟩ => ⟨S5x48x64x384, .bf16⟩
  | .hbm, ⟨9, _⟩ => ⟨S5x48x384, .f32⟩
  | .hbm, ⟨10, _⟩ => ⟨S1x48, .f32⟩
  | .hbm, ⟨11, _⟩ => ⟨S5x384x128, .bf16⟩
  | .hbm, ⟨12, _⟩ => ⟨S5x384x128, .bf16⟩
  | .hbm, ⟨13, _⟩ => ⟨S5x48x64x384, .bf16⟩
  | .hbm, ⟨14, _⟩ => ⟨S5x48x64x128, .fp8e4m3⟩
  | .hbm, ⟨15, _⟩ => ⟨S5x48, .f32⟩
  | .local _ .vmem, ⟨0, _⟩ => ⟨S1x48, .f32⟩
  | .local _ .vmem, ⟨1, _⟩ => ⟨S1x48x384, .f32⟩
  | .local _ .vmem, ⟨2, _⟩ => ⟨S1x48x384, .f32⟩
  | .local _ .vmem, ⟨3, _⟩ => ⟨S1x384x128, .bf16⟩
  | .local _ .vmem, ⟨4, _⟩ => ⟨S1x384x128, .bf16⟩
  | .local _ .vmem, ⟨5, _⟩ => ⟨S1x384x128, .bf16⟩
  | .local _ .vmem, ⟨6, _⟩ => ⟨S1x384x128, .bf16⟩
  | .local _ .vmem, ⟨7, _⟩ => ⟨S1x16x64x384, .bf16⟩
  | .local _ .vmem, ⟨8, _⟩ => ⟨S1x16x64x384, .bf16⟩
  | .local _ .vmem, ⟨9, _⟩ => ⟨S1x16x64x128, .fp8e4m3⟩
  | .local _ .vmem, ⟨10, _⟩ => ⟨S1x16x64x128, .fp8e4m3⟩
  | .local _ .vmem, ⟨11, _⟩ => ⟨S1x16x64x384, .bf16⟩
  | .local _ .vmem, ⟨12, _⟩ => ⟨S1x16x64x384, .bf16⟩
  | .local _ .vmem, ⟨13, _⟩ => ⟨S1x16x64x128, .fp8e4m3⟩
  | .local _ .vmem, ⟨14, _⟩ => ⟨S1x16x64x128, .fp8e4m3⟩
  | .local _ .vmem, ⟨15, _⟩ => ⟨S5x48, .f32⟩
  | .local _ .vmem, ⟨16, _⟩ => ⟨S3x16x384, .f32⟩
  | .local _ .vmem, ⟨17, _⟩ => ⟨S3x16x384, .f32⟩
  | .local _ .vmem, ⟨18, _⟩ => ⟨S3x16x384, .f32⟩
  | .local _ .vmem, ⟨19, _⟩ => ⟨S3x2x16x128, .f32⟩
  | .local _ .vmem, ⟨20, _⟩ => ⟨S3x384x128, .f32⟩
  | .local _ .vmem, ⟨21, _⟩ => ⟨S128x384, .bf16⟩
  | .local _ .vmem, ⟨22, _⟩ => ⟨S384x128, .bf16⟩
  | .local _ .vmem, ⟨23, _⟩ => ⟨S384x256, .f32⟩
  | .local _ .vmem, ⟨24, _⟩ => ⟨S64x128, .i32⟩
  | .local _ .vmem, ⟨25, _⟩ => ⟨S1024x384, .f32⟩
  | .local _ .vmem, ⟨26, _⟩ => ⟨S1024x384, .bf16⟩
  | .local _ .vmem, ⟨27, _⟩ => ⟨S16x64x128, .f32⟩
  | .local _ .vmem, ⟨28, _⟩ => ⟨S1024x128, .bf16⟩
  | .local _ .smem, ⟨0, _⟩ => ⟨S5, .i32⟩
  | .local _ .smem, ⟨1, _⟩ => ⟨S5x48, .f32⟩
  | .local _ .smem, ⟨2, _⟩ => ⟨S48, .f32⟩
  | _, _ => ⟨S5x384x48x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_arg8 : Ref sig .tc := ⟨.smem, 0, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_scratch10 : Ref sig .tc := ⟨.vmem, 26, rfl⟩
abbrev cc0_scratch11 : Ref sig .tc := ⟨.vmem, 27, rfl⟩
abbrev cc0_scratch12 : Ref sig .tc := ⟨.vmem, 28, rfl⟩
abbrev cc0_stg0_0 : Ref sig .tc := ⟨.smem, 1, rfl⟩
abbrev cc0_stg1_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨2, ![5, 3], ![false, false]⟩

abbrev pre0 : Pipeline.Prefetch sig := ⟨1, ![main_arg8.idx], fun | 0 => main_arg8.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (i : grid0.Coords) : BitVec 32 :=
  let arg1 : BitVec 32 := BitVec.ofNat 32 (i 1).val
  let c16_i32 : BitVec 32 := 16#32
  let v2 : BitVec 32 := Scalar.muli arg1 c16_i32
  v2
def k0_off2 (i : grid0.Coords) : Fin 3 → Nat :=
  let arg1 : BitVec 32 := BitVec.ofNat 32 (i 1).val
  let v44 : Index := Scalar.indexCast arg1
  let c0_23 : Index := 0#32
  let c0_24 : Index := 0#32
  ![v44.toNat, 0, 0]
def k0_off3 (i : grid0.Coords) : Fin 3 → Nat :=
  let arg1 : BitVec 32 := BitVec.ofNat 32 (i 1).val
  let v58 : Index := Scalar.indexCast arg1
  let c1_31 : Index := 1#32
  let c0_32 : Index := 0#32
  ![v58.toNat, 1, 0]
def k0_off4 (i : grid0.Coords) : Fin 3 → Nat :=
  let arg1 : BitVec 32 := BitVec.ofNat 32 (i 1).val
  let v72 : Index := Scalar.indexCast arg1
  let c2_38 : Index := 2#32
  let c0_39 : Index := 0#32
  ![v72.toNat, 2, 0]
def k0_off5 (i : grid0.Coords) : Fin 3 → Nat :=
  let arg1 : BitVec 32 := BitVec.ofNat 32 (i 1).val
  let v86 : Index := Scalar.indexCast arg1
  let c3_45 : Index := 3#32
  let c0_46 : Index := 0#32
  ![v86.toNat, 3, 0]
def k0_off6 (i : grid0.Coords) (c0_i32_57 : BitVec 32) : Fin 2 → Nat :=
  let arg0 : BitVec 32 := BitVec.ofNat 32 (i 0).val
  let v102 : Index := Scalar.indexCast arg0
  let arg1 : BitVec 32 := BitVec.ofNat 32 (i 1).val
  let c16_i32 : BitVec 32 := 16#32
  let v2 : BitVec 32 := Scalar.muli arg1 c16_i32
  let v3 : BitVec 32 := v2
  let v101 : BitVec 32 := Scalar.addi v3 c0_i32_57
  let v103 : Index := Scalar.indexCast v101
  ![v102.toNat, v103.toNat]
def k0_off7 (i : grid0.Coords) : Fin 4 → Nat :=
  let arg1 : BitVec 32 := BitVec.ofNat 32 (i 1).val
  let v107 : Index := Scalar.indexCast arg1
  let c0_58 : Index := 0#32
  let c0_59 : Index := 0#32
  let c0_60 : Index := 0#32
  ![v107.toNat, 0, 0, 0]
def k0_off8 (i : grid0.Coords) : Fin 4 → Nat :=
  let arg1 : BitVec 32 := BitVec.ofNat 32 (i 1).val
  let v126 : Index := Scalar.indexCast arg1
  let c0_69 : Index := 0#32
  let c1_70 : Index := 1#32
  let c0_71 : Index := 0#32
  ![v126.toNat, 0, 1, 0]
def k0_off9 (i : grid0.Coords) : Fin 4 → Nat :=
  let arg1 : BitVec 32 := BitVec.ofNat 32 (i 1).val
  let v145 : Index := Scalar.indexCast arg1
  let c0_80 : Index := 0#32
  let c2_81 : Index := 2#32
  let c0_82 : Index := 0#32
  ![v145.toNat, 0, 2, 0]
def k0_off10 (i : grid0.Coords) : Fin 4 → Nat :=
  let arg1 : BitVec 32 := BitVec.ofNat 32 (i 1).val
  let v164 : Index := Scalar.indexCast arg1
  let c0_91 : Index := 0#32
  let c3_92 : Index := 3#32
  let c0_93 : Index := 0#32
  ![v164.toNat, 0, 3, 0]
def k0_off11 (i : grid0.Coords) : Fin 3 → Nat :=
  let arg1 : BitVec 32 := BitVec.ofNat 32 (i 1).val
  let v426 : Index := Scalar.indexCast arg1
  let c0_199 : Index := 0#32
  let c0_200 : Index := 0#32
  ![v426.toNat, 0, 0]
def k0_off12 (i : grid0.Coords) (c0_i32_207 : BitVec 32) : Fin 1 → Nat :=
  let arg1 : BitVec 32 := BitVec.ofNat 32 (i 1).val
  let c16_i32 : BitVec 32 := 16#32
  let v2 : BitVec 32 := Scalar.muli arg1 c16_i32
  let v3 : BitVec 32 := v2
  let v446 : BitVec 32 := Scalar.addi v3 c0_i32_207
  let v447 : Index := Scalar.indexCast v446
  ![v447.toNat]
def k0_off13 (i : grid0.Coords) : Fin 3 → Nat :=
  let arg1 : BitVec 32 := BitVec.ofNat 32 (i 1).val
  let v474 : Index := Scalar.indexCast arg1
  let c0_222 : Index := 0#32
  let c1_223 : Index := 1#32
  ![v474.toNat, 0, 1]
def k0_off14 (i : grid0.Coords) : Fin 3 → Nat :=
  let arg1 : BitVec 32 := BitVec.ofNat 32 (i 1).val
  let v522 : Index := Scalar.indexCast arg1
  let c0_246 : Index := 0#32
  let c2_247 : Index := 2#32
  ![v522.toNat, 0, 2]
def k0_off15 (i : grid0.Coords) : Fin 3 → Nat :=
  let arg1 : BitVec 32 := BitVec.ofNat 32 (i 1).val
  let v570 : Index := Scalar.indexCast arg1
  let c0_270 : Index := 0#32
  let c3_271 : Index := 3#32
  ![v570.toNat, 0, 3]
def k0_off16 (i : grid0.Coords) : Fin 3 → Nat :=
  let arg1 : BitVec 32 := BitVec.ofNat 32 (i 1).val
  let v632 : Index := Scalar.indexCast arg1
  let c4_306 : Index := 4#32
  let c0_307 : Index := 0#32
  ![v632.toNat, 4, 0]
def k0_off17 (i : grid0.Coords) : Fin 3 → Nat :=
  let arg1 : BitVec 32 := BitVec.ofNat 32 (i 1).val
  let v646 : Index := Scalar.indexCast arg1
  let c5_314 : Index := 5#32
  let c0_315 : Index := 0#32
  ![v646.toNat, 5, 0]
def k0_off18 (i : grid0.Coords) : Fin 3 → Nat :=
  let arg1 : BitVec 32 := BitVec.ofNat 32 (i 1).val
  let v660 : Index := Scalar.indexCast arg1
  let c6_321 : Index := 6#32
  let c0_322 : Index := 0#32
  ![v660.toNat, 6, 0]
def k0_off19 (i : grid0.Coords) : Fin 3 → Nat :=
  let arg1 : BitVec 32 := BitVec.ofNat 32 (i 1).val
  let v674 : Index := Scalar.indexCast arg1
  let c7_328 : Index := 7#32
  let c0_329 : Index := 0#32
  ![v674.toNat, 7, 0]
def k0_off20 (i : grid0.Coords) : Fin 4 → Nat :=
  let arg1 : BitVec 32 := BitVec.ofNat 32 (i 1).val
  let v695 : Index := Scalar.indexCast arg1
  let c0_340 : Index := 0#32
  let c4_341 : Index := 4#32
  let c0_342 : Index := 0#32
  ![v695.toNat, 0, 4, 0]
def k0_off21 (i : grid0.Coords) : Fin 4 → Nat :=
  let arg1 : BitVec 32 := BitVec.ofNat 32 (i 1).val
  let v714 : Index := Scalar.indexCast arg1
  let c0_350 : Index := 0#32
  let c5_351 : Index := 5#32
  let c0_352 : Index := 0#32
  ![v714.toNat, 0, 5, 0]
def k0_off22 (i : grid0.Coords) : Fin 4 → Nat :=
  let arg1 : BitVec 32 := BitVec.ofNat 32 (i 1).val
  let v733 : Index := Scalar.indexCast arg1
  let c0_360 : Index := 0#32
  let c6_361 : Index := 6#32
  let c0_362 : Index := 0#32
  ![v733.toNat, 0, 6, 0]
def k0_off23 (i : grid0.Coords) : Fin 4 → Nat :=
  let arg1 : BitVec 32 := BitVec.ofNat 32 (i 1).val
  let v752 : Index := Scalar.indexCast arg1
  let c0_371 : Index := 0#32
  let c7_372 : Index := 7#32
  let c0_373 : Index := 0#32
  ![v752.toNat, 0, 7, 0]
def k0_off24 (i : grid0.Coords) : Fin 3 → Nat :=
  let arg1 : BitVec 32 := BitVec.ofNat 32 (i 1).val
  let v1014 : Index := Scalar.indexCast arg1
  let c0_481 : Index := 0#32
  let c4_482 : Index := 4#32
  ![v1014.toNat, 0, 4]
def k0_off25 (i : grid0.Coords) : Fin 3 → Nat :=
  let arg1 : BitVec 32 := BitVec.ofNat 32 (i 1).val
  let v1062 : Index := Scalar.indexCast arg1
  let c0_505 : Index := 0#32
  let c5_506 : Index := 5#32
  ![v1062.toNat, 0, 5]
def k0_off26 (i : grid0.Coords) : Fin 3 → Nat :=
  let arg1 : BitVec 32 := BitVec.ofNat 32 (i 1).val
  let v1110 : Index := Scalar.indexCast arg1
  let c0_529 : Index := 0#32
  let c6_530 : Index := 6#32
  ![v1110.toNat, 0, 6]
def k0_off27 (i : grid0.Coords) : Fin 3 → Nat :=
  let arg1 : BitVec 32 := BitVec.ofNat 32 (i 1).val
  let v1158 : Index := Scalar.indexCast arg1
  let c0_553 : Index := 0#32
  let c7_554 : Index := 7#32
  ![v1158.toNat, 0, 7]
def k0_off28 (i : grid0.Coords) : Fin 3 → Nat :=
  let arg1 : BitVec 32 := BitVec.ofNat 32 (i 1).val
  let v1220 : Index := Scalar.indexCast arg1
  let c8_589 : Index := 8#32
  let c0_590 : Index := 0#32
  ![v1220.toNat, 8, 0]
def k0_off29 (i : grid0.Coords) : Fin 3 → Nat :=
  let arg1 : BitVec 32 := BitVec.ofNat 32 (i 1).val
  let v1234 : Index := Scalar.indexCast arg1
  let c9_597 : Index := 9#32
  let c0_598 : Index := 0#32
  ![v1234.toNat, 9, 0]
def k0_off30 (i : grid0.Coords) : Fin 3 → Nat :=
  let arg1 : BitVec 32 := BitVec.ofNat 32 (i 1).val
  let v1248 : Index := Scalar.indexCast arg1
  let c10_604 : Index := 10#32
  let c0_605 : Index := 0#32
  ![v1248.toNat, 10, 0]
def k0_off31 (i : grid0.Coords) : Fin 3 → Nat :=
  let arg1 : BitVec 32 := BitVec.ofNat 32 (i 1).val
  let v1262 : Index := Scalar.indexCast arg1
  let c11_611 : Index := 11#32
  let c0_612 : Index := 0#32
  ![v1262.toNat, 11, 0]
def k0_off32 (i : grid0.Coords) : Fin 4 → Nat :=
  let arg1 : BitVec 32 := BitVec.ofNat 32 (i 1).val
  let v1283 : Index := Scalar.indexCast arg1
  let c0_623 : Index := 0#32
  let c8_624 : Index := 8#32
  let c0_625 : Index := 0#32
  ![v1283.toNat, 0, 8, 0]
def k0_off33 (i : grid0.Coords) : Fin 4 → Nat :=
  let arg1 : BitVec 32 := BitVec.ofNat 32 (i 1).val
  let v1302 : Index := Scalar.indexCast arg1
  let c0_633 : Index := 0#32
  let c9_634 : Index := 9#32
  let c0_635 : Index := 0#32
  ![v1302.toNat, 0, 9, 0]
def k0_off34 (i : grid0.Coords) : Fin 4 → Nat :=
  let arg1 : BitVec 32 := BitVec.ofNat 32 (i 1).val
  let v1321 : Index := Scalar.indexCast arg1
  let c0_643 : Index := 0#32
  let c10_644 : Index := 10#32
  let c0_645 : Index := 0#32
  ![v1321.toNat, 0, 10, 0]
def k0_off35 (i : grid0.Coords) : Fin 4 → Nat :=
  let arg1 : BitVec 32 := BitVec.ofNat 32 (i 1).val
  let v1340 : Index := Scalar.indexCast arg1
  let c0_653 : Index := 0#32
  let c11_654 : Index := 11#32
  let c0_655 : Index := 0#32
  ![v1340.toNat, 0, 11, 0]
def k0_off36 (i : grid0.Coords) : Fin 3 → Nat :=
  let arg1 : BitVec 32 := BitVec.ofNat 32 (i 1).val
  let v1602 : Index := Scalar.indexCast arg1
  let c0_763 : Index := 0#32
  let c8_764 : Index := 8#32
  ![v1602.toNat, 0, 8]
def k0_off37 (i : grid0.Coords) : Fin 3 → Nat :=
  let arg1 : BitVec 32 := BitVec.ofNat 32 (i 1).val
  let v1650 : Index := Scalar.indexCast arg1
  let c0_787 : Index := 0#32
  let c9_788 : Index := 9#32
  ![v1650.toNat, 0, 9]
def k0_off38 (i : grid0.Coords) : Fin 3 → Nat :=
  let arg1 : BitVec 32 := BitVec.ofNat 32 (i 1).val
  let v1698 : Index := Scalar.indexCast arg1
  let c0_811 : Index := 0#32
  let c10_812 : Index := 10#32
  ![v1698.toNat, 0, 10]
def k0_off39 (i : grid0.Coords) : Fin 3 → Nat :=
  let arg1 : BitVec 32 := BitVec.ofNat 32 (i 1).val
  let v1746 : Index := Scalar.indexCast arg1
  let c0_835 : Index := 0#32
  let c11_836 : Index := 11#32
  ![v1746.toNat, 0, 11]
def k0_off40 (i : grid0.Coords) : Fin 3 → Nat :=
  let arg1 : BitVec 32 := BitVec.ofNat 32 (i 1).val
  let v1808 : Index := Scalar.indexCast arg1
  let c12_871 : Index := 12#32
  let c0_872 : Index := 0#32
  ![v1808.toNat, 12, 0]
def k0_off41 (i : grid0.Coords) : Fin 3 → Nat :=
  let arg1 : BitVec 32 := BitVec.ofNat 32 (i 1).val
  let v1822 : Index := Scalar.indexCast arg1
  let c13_879 : Index := 13#32
  let c0_880 : Index := 0#32
  ![v1822.toNat, 13, 0]
def k0_off42 (i : grid0.Coords) : Fin 3 → Nat :=
  let arg1 : BitVec 32 := BitVec.ofNat 32 (i 1).val
  let v1836 : Index := Scalar.indexCast arg1
  let c14_886 : Index := 14#32
  let c0_887 : Index := 0#32
  ![v1836.toNat, 14, 0]
def k0_off43 (i : grid0.Coords) : Fin 3 → Nat :=
  let arg1 : BitVec 32 := BitVec.ofNat 32 (i 1).val
  let v1850 : Index := Scalar.indexCast arg1
  let c15_893 : Index := 15#32
  let c0_894 : Index := 0#32
  ![v1850.toNat, 15, 0]
def k0_off44 (i : grid0.Coords) : Fin 4 → Nat :=
  let arg1 : BitVec 32 := BitVec.ofNat 32 (i 1).val
  let v1871 : Index := Scalar.indexCast arg1
  let c0_905 : Index := 0#32
  let c12_906 : Index := 12#32
  let c0_907 : Index := 0#32
  ![v1871.toNat, 0, 12, 0]
def k0_off45 (i : grid0.Coords) : Fin 4 → Nat :=
  let arg1 : BitVec 32 := BitVec.ofNat 32 (i 1).val
  let v1890 : Index := Scalar.indexCast arg1
  let c0_915 : Index := 0#32
  let c13_916 : Index := 13#32
  let c0_917 : Index := 0#32
  ![v1890.toNat, 0, 13, 0]
def k0_off46 (i : grid0.Coords) : Fin 4 → Nat :=
  let arg1 : BitVec 32 := BitVec.ofNat 32 (i 1).val
  let v1909 : Index := Scalar.indexCast arg1
  let c0_925 : Index := 0#32
  let c14_926 : Index := 14#32
  let c0_927 : Index := 0#32
  ![v1909.toNat, 0, 14, 0]
def k0_off47 (i : grid0.Coords) : Fin 4 → Nat :=
  let arg1 : BitVec 32 := BitVec.ofNat 32 (i 1).val
  let v1928 : Index := Scalar.indexCast arg1
  let c0_935 : Index := 0#32
  let c15_936 : Index := 15#32
  let c0_937 : Index := 0#32
  ![v1928.toNat, 0, 15, 0]
def k0_off48 (i : grid0.Coords) : Fin 3 → Nat :=
  let arg1 : BitVec 32 := BitVec.ofNat 32 (i 1).val
  let v2190 : Index := Scalar.indexCast arg1
  let c0_1045 : Index := 0#32
  let c12_1046 : Index := 12#32
  ![v2190.toNat, 0, 12]
def k0_off49 (i : grid0.Coords) : Fin 3 → Nat :=
  let arg1 : BitVec 32 := BitVec.ofNat 32 (i 1).val
  let v2238 : Index := Scalar.indexCast arg1
  let c0_1069 : Index := 0#32
  let c13_1070 : Index := 13#32
  ![v2238.toNat, 0, 13]
def k0_off50 (i : grid0.Coords) : Fin 3 → Nat :=
  let arg1 : BitVec 32 := BitVec.ofNat 32 (i 1).val
  let v2286 : Index := Scalar.indexCast arg1
  let c0_1093 : Index := 0#32
  let c14_1094 : Index := 14#32
  ![v2286.toNat, 0, 14]
def k0_off51 (i : grid0.Coords) : Fin 3 → Nat :=
  let arg1 : BitVec 32 := BitVec.ofNat 32 (i 1).val
  let v2334 : Index := Scalar.indexCast arg1
  let c0_1117 : Index := 0#32
  let c15_1118 : Index := 15#32
  ![v2334.toNat, 0, 15]
def k0_off52 (i : grid0.Coords) : Fin 3 → Nat :=
  let arg1 : BitVec 32 := BitVec.ofNat 32 (i 1).val
  let v47 : Index := Scalar.indexCast arg1
  let c0_22 : Index := 0#32
  let c0_23 : Index := 0#32
  ![v47.toNat, 0, 0]
def k0_off53 (i : grid0.Coords) : Fin 3 → Nat :=
  let arg1 : BitVec 32 := BitVec.ofNat 32 (i 1).val
  let v64 : Index := Scalar.indexCast arg1
  let c1_30 : Index := 1#32
  let c0_31 : Index := 0#32
  ![v64.toNat, 1, 0]
def k0_off54 (i : grid0.Coords) : Fin 3 → Nat :=
  let arg1 : BitVec 32 := BitVec.ofNat 32 (i 1).val
  let v81 : Index := Scalar.indexCast arg1
  let c2_37 : Index := 2#32
  let c0_38 : Index := 0#32
  ![v81.toNat, 2, 0]
def k0_off55 (i : grid0.Coords) : Fin 3 → Nat :=
  let arg1 : BitVec 32 := BitVec.ofNat 32 (i 1).val
  let v98 : Index := Scalar.indexCast arg1
  let c3_44 : Index := 3#32
  let c0_45 : Index := 0#32
  ![v98.toNat, 3, 0]
def k0_off56 (i : grid0.Coords) (c0_i32_56 : BitVec 32) : Fin 2 → Nat :=
  let arg0 : BitVec 32 := BitVec.ofNat 32 (i 0).val
  let v114 : Index := Scalar.indexCast arg0
  let arg1 : BitVec 32 := BitVec.ofNat 32 (i 1).val
  let c16_i32 : BitVec 32 := 16#32
  let v2 : BitVec 32 := Scalar.muli arg1 c16_i32
  let v3 : BitVec 32 := v2
  let v113 : BitVec 32 := Scalar.addi v3 c0_i32_56
  let v115 : Index := Scalar.indexCast v113
  ![v114.toNat, v115.toNat]
def k0_off57 (i : grid0.Coords) : Fin 4 → Nat :=
  let arg1 : BitVec 32 := BitVec.ofNat 32 (i 1).val
  let v119 : Index := Scalar.indexCast arg1
  let c0_57 : Index := 0#32
  let c0_58 : Index := 0#32
  let c0_59 : Index := 0#32
  ![v119.toNat, 0, 0, 0]
def k0_off58 (i : grid0.Coords) : Fin 4 → Nat :=
  let arg1 : BitVec 32 := BitVec.ofNat 32 (i 1).val
  let v138 : Index := Scalar.indexCast arg1
  let c0_68 : Index := 0#32
  let c1_69 : Index := 1#32
  let c0_70 : Index := 0#32
  ![v138.toNat, 0, 1, 0]
def k0_off59 (i : grid0.Coords) : Fin 4 → Nat :=
  let arg1 : BitVec 32 := BitVec.ofNat 32 (i 1).val
  let v157 : Index := Scalar.indexCast arg1
  let c0_79 : Index := 0#32
  let c2_80 : Index := 2#32
  let c0_81 : Index := 0#32
  ![v157.toNat, 0, 2, 0]
def k0_off60 (i : grid0.Coords) : Fin 4 → Nat :=
  let arg1 : BitVec 32 := BitVec.ofNat 32 (i 1).val
  let v176 : Index := Scalar.indexCast arg1
  let c0_90 : Index := 0#32
  let c3_91 : Index := 3#32
  let c0_92 : Index := 0#32
  ![v176.toNat, 0, 3, 0]
def k0_off61 (i : grid0.Coords) : Fin 3 → Nat :=
  let arg1 : BitVec 32 := BitVec.ofNat 32 (i 1).val
  let v438 : Index := Scalar.indexCast arg1
  let c0_198 : Index := 0#32
  let c0_199 : Index := 0#32
  ![v438.toNat, 0, 0]
def k0_off62 (i : grid0.Coords) : Fin 3 → Nat :=
  let arg1 : BitVec 32 := BitVec.ofNat 32 (i 1).val
  let v443 : Index := Scalar.indexCast arg1
  let c0_200 : Index := 0#32
  let c0_201 : Index := 0#32
  ![v443.toNat, 0, 0]
def k0_off63 (i : grid0.Coords) : Fin 3 → Nat :=
  let arg1 : BitVec 32 := BitVec.ofNat 32 (i 1).val
  let v457 : Index := Scalar.indexCast arg1
  let c0_205 : Index := 0#32
  let c128_206 : Index := 128#32
  ![v457.toNat, 0, 128]
def k0_off64 (i : grid0.Coords) : Fin 3 → Nat :=
  let arg1 : BitVec 32 := BitVec.ofNat 32 (i 1).val
  let v466 : Index := Scalar.indexCast arg1
  let c128_209 : Index := 128#32
  let c0_210 : Index := 0#32
  ![v466.toNat, 128, 0]
def k0_off65 (i : grid0.Coords) (c0_i32_219 : BitVec 32) : Fin 1 → Nat :=
  let arg1 : BitVec 32 := BitVec.ofNat 32 (i 1).val
  let c16_i32 : BitVec 32 := 16#32
  let v2 : BitVec 32 := Scalar.muli arg1 c16_i32
  let v3 : BitVec 32 := v2
  let v490 : BitVec 32 := Scalar.addi v3 c0_i32_219
  let v491 : Index := Scalar.indexCast v490
  ![v491.toNat]
def k0_off66 (i : grid0.Coords) : Fin 3 → Nat :=
  let arg1 : BitVec 32 := BitVec.ofNat 32 (i 1).val
  let v518 : Index := Scalar.indexCast arg1
  let c0_233 : Index := 0#32
  let c1_234 : Index := 1#32
  ![v518.toNat, 0, 1]
def k0_off67 (i : grid0.Coords) : Fin 3 → Nat :=
  let arg1 : BitVec 32 := BitVec.ofNat 32 (i 1).val
  let v523 : Index := Scalar.indexCast arg1
  let c1_235 : Index := 1#32
  let c0_236 : Index := 0#32
  ![v523.toNat, 1, 0]
def k0_off68 (i : grid0.Coords) : Fin 3 → Nat :=
  let arg1 : BitVec 32 := BitVec.ofNat 32 (i 1).val
  let v537 : Index := Scalar.indexCast arg1
  let c1_241 : Index := 1#32
  let c128_242 : Index := 128#32
  ![v537.toNat, 1, 128]
def k0_off69 (i : grid0.Coords) : Fin 3 → Nat :=
  let arg1 : BitVec 32 := BitVec.ofNat 32 (i 1).val
  let v546 : Index := Scalar.indexCast arg1
  let c128_245 : Index := 128#32
  let c1_246 : Index := 1#32
  ![v546.toNat, 128, 1]
def k0_off70 (i : grid0.Coords) : Fin 3 → Nat :=
  let arg1 : BitVec 32 := BitVec.ofNat 32 (i 1).val
  let v598 : Index := Scalar.indexCast arg1
  let c0_270 : Index := 0#32
  let c2_271 : Index := 2#32
  ![v598.toNat, 0, 2]
def k0_off71 (i : grid0.Coords) : Fin 3 → Nat :=
  let arg1 : BitVec 32 := BitVec.ofNat 32 (i 1).val
  let v603 : Index := Scalar.indexCast arg1
  let c2_272 : Index := 2#32
  let c0_273 : Index := 0#32
  ![v603.toNat, 2, 0]
def k0_off72 (i : grid0.Coords) : Fin 3 → Nat :=
  let arg1 : BitVec 32 := BitVec.ofNat 32 (i 1).val
  let v617 : Index := Scalar.indexCast arg1
  let c2_278 : Index := 2#32
  let c128_279 : Index := 128#32
  ![v617.toNat, 2, 128]
def k0_off73 (i : grid0.Coords) : Fin 3 → Nat :=
  let arg1 : BitVec 32 := BitVec.ofNat 32 (i 1).val
  let v626 : Index := Scalar.indexCast arg1
  let c128_282 : Index := 128#32
  let c2_283 : Index := 2#32
  ![v626.toNat, 128, 2]
def k0_off74 (i : grid0.Coords) : Fin 3 → Nat :=
  let arg1 : BitVec 32 := BitVec.ofNat 32 (i 1).val
  let v678 : Index := Scalar.indexCast arg1
  let c0_307 : Index := 0#32
  let c3_308 : Index := 3#32
  ![v678.toNat, 0, 3]
def k0_off75 (i : grid0.Coords) : Fin 3 → Nat :=
  let arg1 : BitVec 32 := BitVec.ofNat 32 (i 1).val
  let v683 : Index := Scalar.indexCast arg1
  let c3_309 : Index := 3#32
  let c0_310 : Index := 0#32
  ![v683.toNat, 3, 0]
def k0_off76 (i : grid0.Coords) : Fin 3 → Nat :=
  let arg1 : BitVec 32 := BitVec.ofNat 32 (i 1).val
  let v697 : Index := Scalar.indexCast arg1
  let c3_315 : Index := 3#32
  let c128_316 : Index := 128#32
  ![v697.toNat, 3, 128]
def k0_off77 (i : grid0.Coords) : Fin 3 → Nat :=
  let arg1 : BitVec 32 := BitVec.ofNat 32 (i 1).val
  let v706 : Index := Scalar.indexCast arg1
  let c128_319 : Index := 128#32
  let c3_320 : Index := 3#32
  ![v706.toNat, 128, 3]
def k0_off78 (i : grid0.Coords) : Fin 3 → Nat :=
  let arg1 : BitVec 32 := BitVec.ofNat 32 (i 1).val
  let v775 : Index := Scalar.indexCast arg1
  let c4_357 : Index := 4#32
  let c0_358 : Index := 0#32
  ![v775.toNat, 4, 0]
def k0_off79 (i : grid0.Coords) : Fin 3 → Nat :=
  let arg1 : BitVec 32 := BitVec.ofNat 32 (i 1).val
  let v792 : Index := Scalar.indexCast arg1
  let c5_365 : Index := 5#32
  let c0_366 : Index := 0#32
  ![v792.toNat, 5, 0]
def k0_off80 (i : grid0.Coords) : Fin 3 → Nat :=
  let arg1 : BitVec 32 := BitVec.ofNat 32 (i 1).val
  let v809 : Index := Scalar.indexCast arg1
  let c6_372 : Index := 6#32
  let c0_373 : Index := 0#32
  ![v809.toNat, 6, 0]
def k0_off81 (i : grid0.Coords) : Fin 3 → Nat :=
  let arg1 : BitVec 32 := BitVec.ofNat 32 (i 1).val
  let v826 : Index := Scalar.indexCast arg1
  let c7_379 : Index := 7#32
  let c0_380 : Index := 0#32
  ![v826.toNat, 7, 0]
def k0_off82 (i : grid0.Coords) : Fin 4 → Nat :=
  let arg1 : BitVec 32 := BitVec.ofNat 32 (i 1).val
  let v847 : Index := Scalar.indexCast arg1
  let c0_391 : Index := 0#32
  let c4_392 : Index := 4#32
  let c0_393 : Index := 0#32
  ![v847.toNat, 0, 4, 0]
def k0_off83 (i : grid0.Coords) : Fin 4 → Nat :=
  let arg1 : BitVec 32 := BitVec.ofNat 32 (i 1).val
  let v866 : Index := Scalar.indexCast arg1
  let c0_401 : Index := 0#32
  let c5_402 : Index := 5#32
  let c0_403 : Index := 0#32
  ![v866.toNat, 0, 5, 0]
def k0_off84 (i : grid0.Coords) : Fin 4 → Nat :=
  let arg1 : BitVec 32 := BitVec.ofNat 32 (i 1).val
  let v885 : Index := Scalar.indexCast arg1
  let c0_411 : Index := 0#32
  let c6_412 : Index := 6#32
  let c0_413 : Index := 0#32
  ![v885.toNat, 0, 6, 0]
def k0_off85 (i : grid0.Coords) : Fin 4 → Nat :=
  let arg1 : BitVec 32 := BitVec.ofNat 32 (i 1).val
  let v904 : Index := Scalar.indexCast arg1
  let c0_422 : Index := 0#32
  let c7_423 : Index := 7#32
  let c0_424 : Index := 0#32
  ![v904.toNat, 0, 7, 0]
def k0_off86 (i : grid0.Coords) : Fin 3 → Nat :=
  let arg1 : BitVec 32 := BitVec.ofNat 32 (i 1).val
  let v1166 : Index := Scalar.indexCast arg1
  let c0_532 : Index := 0#32
  let c4_533 : Index := 4#32
  ![v1166.toNat, 0, 4]
def k0_off87 (i : grid0.Coords) : Fin 3 → Nat :=
  let arg1 : BitVec 32 := BitVec.ofNat 32 (i 1).val
  let v1171 : Index := Scalar.indexCast arg1
  let c4_534 : Index := 4#32
  let c0_535 : Index := 0#32
  ![v1171.toNat, 4, 0]
def k0_off88 (i : grid0.Coords) : Fin 3 → Nat :=
  let arg1 : BitVec 32 := BitVec.ofNat 32 (i 1).val
  let v1185 : Index := Scalar.indexCast arg1
  let c4_540 : Index := 4#32
  let c128_541 : Index := 128#32
  ![v1185.toNat, 4, 128]
def k0_off89 (i : grid0.Coords) : Fin 3 → Nat :=
  let arg1 : BitVec 32 := BitVec.ofNat 32 (i 1).val
  let v1194 : Index := Scalar.indexCast arg1
  let c128_544 : Index := 128#32
  let c4_545 : Index := 4#32
  ![v1194.toNat, 128, 4]
def k0_off90 (i : grid0.Coords) : Fin 3 → Nat :=
  let arg1 : BitVec 32 := BitVec.ofNat 32 (i 1).val
  let v1246 : Index := Scalar.indexCast arg1
  let c0_569 : Index := 0#32
  let c5_570 : Index := 5#32
  ![v1246.toNat, 0, 5]
def k0_off91 (i : grid0.Coords) : Fin 3 → Nat :=
  let arg1 : BitVec 32 := BitVec.ofNat 32 (i 1).val
  let v1251 : Index := Scalar.indexCast arg1
  let c5_571 : Index := 5#32
  let c0_572 : Index := 0#32
  ![v1251.toNat, 5, 0]
def k0_off92 (i : grid0.Coords) : Fin 3 → Nat :=
  let arg1 : BitVec 32 := BitVec.ofNat 32 (i 1).val
  let v1265 : Index := Scalar.indexCast arg1
  let c5_577 : Index := 5#32
  let c128_578 : Index := 128#32
  ![v1265.toNat, 5, 128]
def k0_off93 (i : grid0.Coords) : Fin 3 → Nat :=
  let arg1 : BitVec 32 := BitVec.ofNat 32 (i 1).val
  let v1274 : Index := Scalar.indexCast arg1
  let c128_581 : Index := 128#32
  let c5_582 : Index := 5#32
  ![v1274.toNat, 128, 5]
def k0_off94 (i : grid0.Coords) : Fin 3 → Nat :=
  let arg1 : BitVec 32 := BitVec.ofNat 32 (i 1).val
  let v1326 : Index := Scalar.indexCast arg1
  let c0_606 : Index := 0#32
  let c6_607 : Index := 6#32
  ![v1326.toNat, 0, 6]
def k0_off95 (i : grid0.Coords) : Fin 3 → Nat :=
  let arg1 : BitVec 32 := BitVec.ofNat 32 (i 1).val
  let v1331 : Index := Scalar.indexCast arg1
  let c6_608 : Index := 6#32
  let c0_609 : Index := 0#32
  ![v1331.toNat, 6, 0]
def k0_off96 (i : grid0.Coords) : Fin 3 → Nat :=
  let arg1 : BitVec 32 := BitVec.ofNat 32 (i 1).val
  let v1345 : Index := Scalar.indexCast arg1
  let c6_614 : Index := 6#32
  let c128_615 : Index := 128#32
  ![v1345.toNat, 6, 128]
def k0_off97 (i : grid0.Coords) : Fin 3 → Nat :=
  let arg1 : BitVec 32 := BitVec.ofNat 32 (i 1).val
  let v1354 : Index := Scalar.indexCast arg1
  let c128_618 : Index := 128#32
  let c6_619 : Index := 6#32
  ![v1354.toNat, 128, 6]
def k0_off98 (i : grid0.Coords) : Fin 3 → Nat :=
  let arg1 : BitVec 32 := BitVec.ofNat 32 (i 1).val
  let v1406 : Index := Scalar.indexCast arg1
  let c0_643 : Index := 0#32
  let c7_644 : Index := 7#32
  ![v1406.toNat, 0, 7]
def k0_off99 (i : grid0.Coords) : Fin 3 → Nat :=
  let arg1 : BitVec 32 := BitVec.ofNat 32 (i 1).val
  let v1411 : Index := Scalar.indexCast arg1
  let c7_645 : Index := 7#32
  let c0_646 : Index := 0#32
  ![v1411.toNat, 7, 0]
def k0_off100 (i : grid0.Coords) : Fin 3 → Nat :=
  let arg1 : BitVec 32 := BitVec.ofNat 32 (i 1).val
  let v1425 : Index := Scalar.indexCast arg1
  let c7_651 : Index := 7#32
  let c128_652 : Index := 128#32
  ![v1425.toNat, 7, 128]
def k0_off101 (i : grid0.Coords) : Fin 3 → Nat :=
  let arg1 : BitVec 32 := BitVec.ofNat 32 (i 1).val
  let v1434 : Index := Scalar.indexCast arg1
  let c128_655 : Index := 128#32
  let c7_656 : Index := 7#32
  ![v1434.toNat, 128, 7]
def k0_off102 (i : grid0.Coords) : Fin 3 → Nat :=
  let arg1 : BitVec 32 := BitVec.ofNat 32 (i 1).val
  let v1503 : Index := Scalar.indexCast arg1
  let c8_692 : Index := 8#32
  let c0_693 : Index := 0#32
  ![v1503.toNat, 8, 0]
def k0_off103 (i : grid0.Coords) : Fin 3 → Nat :=
  let arg1 : BitVec 32 := BitVec.ofNat 32 (i 1).val
  let v1520 : Index := Scalar.indexCast arg1
  let c9_700 : Index := 9#32
  let c0_701 : Index := 0#32
  ![v1520.toNat, 9, 0]
def k0_off104 (i : grid0.Coords) : Fin 3 → Nat :=
  let arg1 : BitVec 32 := BitVec.ofNat 32 (i 1).val
  let v1537 : Index := Scalar.indexCast arg1
  let c10_707 : Index := 10#32
  let c0_708 : Index := 0#32
  ![v1537.toNat, 10, 0]
def k0_off105 (i : grid0.Coords) : Fin 3 → Nat :=
  let arg1 : BitVec 32 := BitVec.ofNat 32 (i 1).val
  let v1554 : Index := Scalar.indexCast arg1
  let c11_714 : Index := 11#32
  let c0_715 : Index := 0#32
  ![v1554.toNat, 11, 0]
def k0_off106 (i : grid0.Coords) : Fin 4 → Nat :=
  let arg1 : BitVec 32 := BitVec.ofNat 32 (i 1).val
  let v1575 : Index := Scalar.indexCast arg1
  let c0_726 : Index := 0#32
  let c8_727 : Index := 8#32
  let c0_728 : Index := 0#32
  ![v1575.toNat, 0, 8, 0]
def k0_off107 (i : grid0.Coords) : Fin 4 → Nat :=
  let arg1 : BitVec 32 := BitVec.ofNat 32 (i 1).val
  let v1594 : Index := Scalar.indexCast arg1
  let c0_736 : Index := 0#32
  let c9_737 : Index := 9#32
  let c0_738 : Index := 0#32
  ![v1594.toNat, 0, 9, 0]
def k0_off108 (i : grid0.Coords) : Fin 4 → Nat :=
  let arg1 : BitVec 32 := BitVec.ofNat 32 (i 1).val
  let v1613 : Index := Scalar.indexCast arg1
  let c0_746 : Index := 0#32
  let c10_747 : Index := 10#32
  let c0_748 : Index := 0#32
  ![v1613.toNat, 0, 10, 0]
def k0_off109 (i : grid0.Coords) : Fin 4 → Nat :=
  let arg1 : BitVec 32 := BitVec.ofNat 32 (i 1).val
  let v1632 : Index := Scalar.indexCast arg1
  let c0_756 : Index := 0#32
  let c11_757 : Index := 11#32
  let c0_758 : Index := 0#32
  ![v1632.toNat, 0, 11, 0]
def k0_off110 (i : grid0.Coords) : Fin 3 → Nat :=
  let arg1 : BitVec 32 := BitVec.ofNat 32 (i 1).val
  let v1894 : Index := Scalar.indexCast arg1
  let c0_866 : Index := 0#32
  let c8_867 : Index := 8#32
  ![v1894.toNat, 0, 8]
def k0_off111 (i : grid0.Coords) : Fin 3 → Nat :=
  let arg1 : BitVec 32 := BitVec.ofNat 32 (i 1).val
  let v1899 : Index := Scalar.indexCast arg1
  let c8_868 : Index := 8#32
  let c0_869 : Index := 0#32
  ![v1899.toNat, 8, 0]
def k0_off112 (i : grid0.Coords) : Fin 3 → Nat :=
  let arg1 : BitVec 32 := BitVec.ofNat 32 (i 1).val
  let v1913 : Index := Scalar.indexCast arg1
  let c8_874 : Index := 8#32
  let c128_875 : Index := 128#32
  ![v1913.toNat, 8, 128]
def k0_off113 (i : grid0.Coords) : Fin 3 → Nat :=
  let arg1 : BitVec 32 := BitVec.ofNat 32 (i 1).val
  let v1922 : Index := Scalar.indexCast arg1
  let c128_878 : Index := 128#32
  let c8_879 : Index := 8#32
  ![v1922.toNat, 128, 8]
def k0_off114 (i : grid0.Coords) : Fin 3 → Nat :=
  let arg1 : BitVec 32 := BitVec.ofNat 32 (i 1).val
  let v1974 : Index := Scalar.indexCast arg1
  let c0_903 : Index := 0#32
  let c9_904 : Index := 9#32
  ![v1974.toNat, 0, 9]
def k0_off115 (i : grid0.Coords) : Fin 3 → Nat :=
  let arg1 : BitVec 32 := BitVec.ofNat 32 (i 1).val
  let v1979 : Index := Scalar.indexCast arg1
  let c9_905 : Index := 9#32
  let c0_906 : Index := 0#32
  ![v1979.toNat, 9, 0]
def k0_off116 (i : grid0.Coords) : Fin 3 → Nat :=
  let arg1 : BitVec 32 := BitVec.ofNat 32 (i 1).val
  let v1993 : Index := Scalar.indexCast arg1
  let c9_911 : Index := 9#32
  let c128_912 : Index := 128#32
  ![v1993.toNat, 9, 128]
def k0_off117 (i : grid0.Coords) : Fin 3 → Nat :=
  let arg1 : BitVec 32 := BitVec.ofNat 32 (i 1).val
  let v2002 : Index := Scalar.indexCast arg1
  let c128_915 : Index := 128#32
  let c9_916 : Index := 9#32
  ![v2002.toNat, 128, 9]
def k0_off118 (i : grid0.Coords) : Fin 3 → Nat :=
  let arg1 : BitVec 32 := BitVec.ofNat 32 (i 1).val
  let v2054 : Index := Scalar.indexCast arg1
  let c0_940 : Index := 0#32
  let c10_941 : Index := 10#32
  ![v2054.toNat, 0, 10]
def k0_off119 (i : grid0.Coords) : Fin 3 → Nat :=
  let arg1 : BitVec 32 := BitVec.ofNat 32 (i 1).val
  let v2059 : Index := Scalar.indexCast arg1
  let c10_942 : Index := 10#32
  let c0_943 : Index := 0#32
  ![v2059.toNat, 10, 0]
def k0_off120 (i : grid0.Coords) : Fin 3 → Nat :=
  let arg1 : BitVec 32 := BitVec.ofNat 32 (i 1).val
  let v2073 : Index := Scalar.indexCast arg1
  let c10_948 : Index := 10#32
  let c128_949 : Index := 128#32
  ![v2073.toNat, 10, 128]
def k0_off121 (i : grid0.Coords) : Fin 3 → Nat :=
  let arg1 : BitVec 32 := BitVec.ofNat 32 (i 1).val
  let v2082 : Index := Scalar.indexCast arg1
  let c128_952 : Index := 128#32
  let c10_953 : Index := 10#32
  ![v2082.toNat, 128, 10]
def k0_off122 (i : grid0.Coords) : Fin 3 → Nat :=
  let arg1 : BitVec 32 := BitVec.ofNat 32 (i 1).val
  let v2134 : Index := Scalar.indexCast arg1
  let c0_977 : Index := 0#32
  let c11_978 : Index := 11#32
  ![v2134.toNat, 0, 11]
def k0_off123 (i : grid0.Coords) : Fin 3 → Nat :=
  let arg1 : BitVec 32 := BitVec.ofNat 32 (i 1).val
  let v2139 : Index := Scalar.indexCast arg1
  let c11_979 : Index := 11#32
  let c0_980 : Index := 0#32
  ![v2139.toNat, 11, 0]
def k0_off124 (i : grid0.Coords) : Fin 3 → Nat :=
  let arg1 : BitVec 32 := BitVec.ofNat 32 (i 1).val
  let v2153 : Index := Scalar.indexCast arg1
  let c11_985 : Index := 11#32
  let c128_986 : Index := 128#32
  ![v2153.toNat, 11, 128]
def k0_off125 (i : grid0.Coords) : Fin 3 → Nat :=
  let arg1 : BitVec 32 := BitVec.ofNat 32 (i 1).val
  let v2162 : Index := Scalar.indexCast arg1
  let c128_989 : Index := 128#32
  let c11_990 : Index := 11#32
  ![v2162.toNat, 128, 11]
def k0_off126 (i : grid0.Coords) : Fin 3 → Nat :=
  let arg1 : BitVec 32 := BitVec.ofNat 32 (i 1).val
  let v2231 : Index := Scalar.indexCast arg1
  let c12_1026 : Index := 12#32
  let c0_1027 : Index := 0#32
  ![v2231.toNat, 12, 0]
def k0_off127 (i : grid0.Coords) : Fin 3 → Nat :=
  let arg1 : BitVec 32 := BitVec.ofNat 32 (i 1).val
  let v2248 : Index := Scalar.indexCast arg1
  let c13_1034 : Index := 13#32
  let c0_1035 : Index := 0#32
  ![v2248.toNat, 13, 0]
def k0_off128 (i : grid0.Coords) : Fin 3 → Nat :=
  let arg1 : BitVec 32 := BitVec.ofNat 32 (i 1).val
  let v2265 : Index := Scalar.indexCast arg1
  let c14_1041 : Index := 14#32
  let c0_1042 : Index := 0#32
  ![v2265.toNat, 14, 0]
def k0_off129 (i : grid0.Coords) : Fin 3 → Nat :=
  let arg1 : BitVec 32 := BitVec.ofNat 32 (i 1).val
  let v2282 : Index := Scalar.indexCast arg1
  let c15_1048 : Index := 15#32
  let c0_1049 : Index := 0#32
  ![v2282.toNat, 15, 0]
def k0_off130 (i : grid0.Coords) : Fin 4 → Nat :=
  let arg1 : BitVec 32 := BitVec.ofNat 32 (i 1).val
  let v2303 : Index := Scalar.indexCast arg1
  let c0_1060 : Index := 0#32
  let c12_1061 : Index := 12#32
  let c0_1062 : Index := 0#32
  ![v2303.toNat, 0, 12, 0]
def k0_off131 (i : grid0.Coords) : Fin 4 → Nat :=
  let arg1 : BitVec 32 := BitVec.ofNat 32 (i 1).val
  let v2322 : Index := Scalar.indexCast arg1
  let c0_1070 : Index := 0#32
  let c13_1071 : Index := 13#32
  let c0_1072 : Index := 0#32
  ![v2322.toNat, 0, 13, 0]
def k0_off132 (i : grid0.Coords) : Fin 4 → Nat :=
  let arg1 : BitVec 32 := BitVec.ofNat 32 (i 1).val
  let v2341 : Index := Scalar.indexCast arg1
  let c0_1080 : Index := 0#32
  let c14_1081 : Index := 14#32
  let c0_1082 : Index := 0#32
  ![v2341.toNat, 0, 14, 0]
def k0_off133 (i : grid0.Coords) : Fin 4 → Nat :=
  let arg1 : BitVec 32 := BitVec.ofNat 32 (i 1).val
  let v2360 : Index := Scalar.indexCast arg1
  let c0_1090 : Index := 0#32
  let c15_1091 : Index := 15#32
  let c0_1092 : Index := 0#32
  ![v2360.toNat, 0, 15, 0]
def k0_off134 (i : grid0.Coords) : Fin 3 → Nat :=
  let arg1 : BitVec 32 := BitVec.ofNat 32 (i 1).val
  let v2622 : Index := Scalar.indexCast arg1
  let c0_1200 : Index := 0#32
  let c12_1201 : Index := 12#32
  ![v2622.toNat, 0, 12]
def k0_off135 (i : grid0.Coords) : Fin 3 → Nat :=
  let arg1 : BitVec 32 := BitVec.ofNat 32 (i 1).val
  let v2627 : Index := Scalar.indexCast arg1
  let c12_1202 : Index := 12#32
  let c0_1203 : Index := 0#32
  ![v2627.toNat, 12, 0]
def k0_off136 (i : grid0.Coords) : Fin 3 → Nat :=
  let arg1 : BitVec 32 := BitVec.ofNat 32 (i 1).val
  let v2641 : Index := Scalar.indexCast arg1
  let c12_1208 : Index := 12#32
  let c128_1209 : Index := 128#32
  ![v2641.toNat, 12, 128]
def k0_off137 (i : grid0.Coords) : Fin 3 → Nat :=
  let arg1 : BitVec 32 := BitVec.ofNat 32 (i 1).val
  let v2650 : Index := Scalar.indexCast arg1
  let c128_1212 : Index := 128#32
  let c12_1213 : Index := 12#32
  ![v2650.toNat, 128, 12]
def k0_off138 (i : grid0.Coords) : Fin 3 → Nat :=
  let arg1 : BitVec 32 := BitVec.ofNat 32 (i 1).val
  let v2702 : Index := Scalar.indexCast arg1
  let c0_1237 : Index := 0#32
  let c13_1238 : Index := 13#32
  ![v2702.toNat, 0, 13]
def k0_off139 (i : grid0.Coords) : Fin 3 → Nat :=
  let arg1 : BitVec 32 := BitVec.ofNat 32 (i 1).val
  let v2707 : Index := Scalar.indexCast arg1
  let c13_1239 : Index := 13#32
  let c0_1240 : Index := 0#32
  ![v2707.toNat, 13, 0]
def k0_off140 (i : grid0.Coords) : Fin 3 → Nat :=
  let arg1 : BitVec 32 := BitVec.ofNat 32 (i 1).val
  let v2721 : Index := Scalar.indexCast arg1
  let c13_1245 : Index := 13#32
  let c128_1246 : Index := 128#32
  ![v2721.toNat, 13, 128]
def k0_off141 (i : grid0.Coords) : Fin 3 → Nat :=
  let arg1 : BitVec 32 := BitVec.ofNat 32 (i 1).val
  let v2730 : Index := Scalar.indexCast arg1
  let c128_1249 : Index := 128#32
  let c13_1250 : Index := 13#32
  ![v2730.toNat, 128, 13]
def k0_off142 (i : grid0.Coords) : Fin 3 → Nat :=
  let arg1 : BitVec 32 := BitVec.ofNat 32 (i 1).val
  let v2782 : Index := Scalar.indexCast arg1
  let c0_1274 : Index := 0#32
  let c14_1275 : Index := 14#32
  ![v2782.toNat, 0, 14]
def k0_off143 (i : grid0.Coords) : Fin 3 → Nat :=
  let arg1 : BitVec 32 := BitVec.ofNat 32 (i 1).val
  let v2787 : Index := Scalar.indexCast arg1
  let c14_1276 : Index := 14#32
  let c0_1277 : Index := 0#32
  ![v2787.toNat, 14, 0]
def k0_off144 (i : grid0.Coords) : Fin 3 → Nat :=
  let arg1 : BitVec 32 := BitVec.ofNat 32 (i 1).val
  let v2801 : Index := Scalar.indexCast arg1
  let c14_1282 : Index := 14#32
  let c128_1283 : Index := 128#32
  ![v2801.toNat, 14, 128]
def k0_off145 (i : grid0.Coords) : Fin 3 → Nat :=
  let arg1 : BitVec 32 := BitVec.ofNat 32 (i 1).val
  let v2810 : Index := Scalar.indexCast arg1
  let c128_1286 : Index := 128#32
  let c14_1287 : Index := 14#32
  ![v2810.toNat, 128, 14]
def k0_off146 (i : grid0.Coords) : Fin 3 → Nat :=
  let arg1 : BitVec 32 := BitVec.ofNat 32 (i 1).val
  let v2862 : Index := Scalar.indexCast arg1
  let c0_1311 : Index := 0#32
  let c15_1312 : Index := 15#32
  ![v2862.toNat, 0, 15]
def k0_off147 (i : grid0.Coords) : Fin 3 → Nat :=
  let arg1 : BitVec 32 := BitVec.ofNat 32 (i 1).val
  let v2867 : Index := Scalar.indexCast arg1
  let c15_1313 : Index := 15#32
  let c0_1314 : Index := 0#32
  ![v2867.toNat, 15, 0]
def k0_off148 (i : grid0.Coords) : Fin 3 → Nat :=
  let arg1 : BitVec 32 := BitVec.ofNat 32 (i 1).val
  let v2881 : Index := Scalar.indexCast arg1
  let c15_1319 : Index := 15#32
  let c128_1320 : Index := 128#32
  ![v2881.toNat, 15, 128]
def k0_off149 (i : grid0.Coords) : Fin 3 → Nat :=
  let arg1 : BitVec 32 := BitVec.ofNat 32 (i 1).val
  let v2890 : Index := Scalar.indexCast arg1
  let c128_1323 : Index := 128#32
  let c15_1324 : Index := 15#32
  ![v2890.toNat, 128, 15]
def k0_off150 (i : grid0.Coords) : Fin 3 → Nat :=
  let arg1 : BitVec 32 := BitVec.ofNat 32 (i 1).val
  let v47 : Index := Scalar.indexCast arg1
  let c0_22 : Index := 0#32
  let c0_23 : Index := 0#32
  ![v47.toNat, 0, 0]
def k0_off151 (i : grid0.Coords) : Fin 3 → Nat :=
  let arg1 : BitVec 32 := BitVec.ofNat 32 (i 1).val
  let v64 : Index := Scalar.indexCast arg1
  let c1_30 : Index := 1#32
  let c0_31 : Index := 0#32
  ![v64.toNat, 1, 0]
def k0_off152 (i : grid0.Coords) : Fin 3 → Nat :=
  let arg1 : BitVec 32 := BitVec.ofNat 32 (i 1).val
  let v81 : Index := Scalar.indexCast arg1
  let c2_37 : Index := 2#32
  let c0_38 : Index := 0#32
  ![v81.toNat, 2, 0]
def k0_off153 (i : grid0.Coords) : Fin 3 → Nat :=
  let arg1 : BitVec 32 := BitVec.ofNat 32 (i 1).val
  let v98 : Index := Scalar.indexCast arg1
  let c3_44 : Index := 3#32
  let c0_45 : Index := 0#32
  ![v98.toNat, 3, 0]
def k0_off154 (i : grid0.Coords) (c0_i32_56 : BitVec 32) : Fin 2 → Nat :=
  let arg0 : BitVec 32 := BitVec.ofNat 32 (i 0).val
  let v114 : Index := Scalar.indexCast arg0
  let arg1 : BitVec 32 := BitVec.ofNat 32 (i 1).val
  let c16_i32 : BitVec 32 := 16#32
  let v2 : BitVec 32 := Scalar.muli arg1 c16_i32
  let v3 : BitVec 32 := v2
  let v113 : BitVec 32 := Scalar.addi v3 c0_i32_56
  let v115 : Index := Scalar.indexCast v113
  ![v114.toNat, v115.toNat]
def k0_off155 (i : grid0.Coords) : Fin 4 → Nat :=
  let arg1 : BitVec 32 := BitVec.ofNat 32 (i 1).val
  let v119 : Index := Scalar.indexCast arg1
  let c0_57 : Index := 0#32
  let c0_58 : Index := 0#32
  let c0_59 : Index := 0#32
  ![v119.toNat, 0, 0, 0]
def k0_off156 (i : grid0.Coords) : Fin 4 → Nat :=
  let arg1 : BitVec 32 := BitVec.ofNat 32 (i 1).val
  let v142 : Index := Scalar.indexCast arg1
  let c0_70 : Index := 0#32
  let c1_71 : Index := 1#32
  let c0_72 : Index := 0#32
  ![v142.toNat, 0, 1, 0]
def k0_off157 (i : grid0.Coords) : Fin 4 → Nat :=
  let arg1 : BitVec 32 := BitVec.ofNat 32 (i 1).val
  let v165 : Index := Scalar.indexCast arg1
  let c0_83 : Index := 0#32
  let c2_84 : Index := 2#32
  let c0_85 : Index := 0#32
  ![v165.toNat, 0, 2, 0]
def k0_off158 (i : grid0.Coords) : Fin 4 → Nat :=
  let arg1 : BitVec 32 := BitVec.ofNat 32 (i 1).val
  let v188 : Index := Scalar.indexCast arg1
  let c0_96 : Index := 0#32
  let c3_97 : Index := 3#32
  let c0_98 : Index := 0#32
  ![v188.toNat, 0, 3, 0]
def k0_off159 (i : grid0.Coords) : Fin 4 → Nat :=
  let arg1 : BitVec 32 := BitVec.ofNat 32 (i 1).val
  let v205 : Index := Scalar.indexCast arg1
  let c1_108 : Index := 1#32
  let c0_109 : Index := 0#32
  let c0_110 : Index := 0#32
  ![v205.toNat, 1, 0, 0]
def k0_off160 (i : grid0.Coords) : Fin 4 → Nat :=
  let arg1 : BitVec 32 := BitVec.ofNat 32 (i 1).val
  let v217 : Index := Scalar.indexCast arg1
  let c1_117 : Index := 1#32
  let c1_118 : Index := 1#32
  let c0_119 : Index := 0#32
  ![v217.toNat, 1, 1, 0]
def k0_off161 (i : grid0.Coords) : Fin 4 → Nat :=
  let arg1 : BitVec 32 := BitVec.ofNat 32 (i 1).val
  let v229 : Index := Scalar.indexCast arg1
  let c1_126 : Index := 1#32
  let c2_127 : Index := 2#32
  let c0_128 : Index := 0#32
  ![v229.toNat, 1, 2, 0]
def k0_off162 (i : grid0.Coords) : Fin 4 → Nat :=
  let arg1 : BitVec 32 := BitVec.ofNat 32 (i 1).val
  let v241 : Index := Scalar.indexCast arg1
  let c1_135 : Index := 1#32
  let c3_136 : Index := 3#32
  let c0_137 : Index := 0#32
  ![v241.toNat, 1, 3, 0]
def k0_off163 (i : grid0.Coords) : Fin 3 → Nat :=
  let arg1 : BitVec 32 := BitVec.ofNat 32 (i 1).val
  let v511 : Index := Scalar.indexCast arg1
  let c0_253 : Index := 0#32
  let c0_254 : Index := 0#32
  ![v511.toNat, 0, 0]
def k0_off164 (i : grid0.Coords) : Fin 3 → Nat :=
  let arg1 : BitVec 32 := BitVec.ofNat 32 (i 1).val
  let v516 : Index := Scalar.indexCast arg1
  let c0_255 : Index := 0#32
  let c0_256 : Index := 0#32
  ![v516.toNat, 0, 0]
def k0_off165 (i : grid0.Coords) : Fin 3 → Nat :=
  let arg1 : BitVec 32 := BitVec.ofNat 32 (i 1).val
  let v530 : Index := Scalar.indexCast arg1
  let c0_260 : Index := 0#32
  let c128_261 : Index := 128#32
  ![v530.toNat, 0, 128]
def k0_off166 (i : grid0.Coords) : Fin 3 → Nat :=
  let arg1 : BitVec 32 := BitVec.ofNat 32 (i 1).val
  let v539 : Index := Scalar.indexCast arg1
  let c128_264 : Index := 128#32
  let c0_265 : Index := 0#32
  ![v539.toNat, 128, 0]
def k0_off167 (i : grid0.Coords) : Fin 3 → Nat :=
  let arg1 : BitVec 32 := BitVec.ofNat 32 (i 1).val
  let v558 : Index := Scalar.indexCast arg1
  let c256_272 : Index := 256#32
  let c0_273 : Index := 0#32
  ![v558.toNat, 256, 0]
def k0_off168 (i : grid0.Coords) : Fin 3 → Nat :=
  let arg1 : BitVec 32 := BitVec.ofNat 32 (i 1).val
  let v563 : Index := Scalar.indexCast arg1
  let c0_274 : Index := 0#32
  let c256_275 : Index := 256#32
  ![v563.toNat, 0, 256]
def k0_off169 (i : grid0.Coords) (c0_i32_282 : BitVec 32) : Fin 1 → Nat :=
  let arg1 : BitVec 32 := BitVec.ofNat 32 (i 1).val
  let c16_i32 : BitVec 32 := 16#32
  let v2 : BitVec 32 := Scalar.muli arg1 c16_i32
  let v3 : BitVec 32 := v2
  let v583 : BitVec 32 := Scalar.addi v3 c0_i32_282
  let v584 : Index := Scalar.indexCast v583
  ![v584.toNat]
def k0_off170 (i : grid0.Coords) : Fin 3 → Nat :=
  let arg1 : BitVec 32 := BitVec.ofNat 32 (i 1).val
  let v586 : Index := Scalar.indexCast arg1
  let c0_283 : Index := 0#32
  let c0_284 : Index := 0#32
  ![v586.toNat, 0, 0]
def k0_off171 (i : grid0.Coords) : Fin 3 → Nat :=
  let arg1 : BitVec 32 := BitVec.ofNat 32 (i 1).val
  let v626 : Index := Scalar.indexCast arg1
  let c0_301 : Index := 0#32
  let c1_302 : Index := 1#32
  ![v626.toNat, 0, 1]
def k0_off172 (i : grid0.Coords) : Fin 3 → Nat :=
  let arg1 : BitVec 32 := BitVec.ofNat 32 (i 1).val
  let v631 : Index := Scalar.indexCast arg1
  let c1_303 : Index := 1#32
  let c0_304 : Index := 0#32
  ![v631.toNat, 1, 0]
def k0_off173 (i : grid0.Coords) : Fin 3 → Nat :=
  let arg1 : BitVec 32 := BitVec.ofNat 32 (i 1).val
  let v645 : Index := Scalar.indexCast arg1
  let c1_309 : Index := 1#32
  let c128_310 : Index := 128#32
  ![v645.toNat, 1, 128]
def k0_off174 (i : grid0.Coords) : Fin 3 → Nat :=
  let arg1 : BitVec 32 := BitVec.ofNat 32 (i 1).val
  let v654 : Index := Scalar.indexCast arg1
  let c128_313 : Index := 128#32
  let c1_314 : Index := 1#32
  ![v654.toNat, 128, 1]
def k0_off175 (i : grid0.Coords) : Fin 3 → Nat :=
  let arg1 : BitVec 32 := BitVec.ofNat 32 (i 1).val
  let v673 : Index := Scalar.indexCast arg1
  let c256_321 : Index := 256#32
  let c1_322 : Index := 1#32
  ![v673.toNat, 256, 1]
def k0_off176 (i : grid0.Coords) : Fin 3 → Nat :=
  let arg1 : BitVec 32 := BitVec.ofNat 32 (i 1).val
  let v678 : Index := Scalar.indexCast arg1
  let c1_323 : Index := 1#32
  let c256_324 : Index := 256#32
  ![v678.toNat, 1, 256]
def k0_off177 (i : grid0.Coords) : Fin 3 → Nat :=
  let arg1 : BitVec 32 := BitVec.ofNat 32 (i 1).val
  let v701 : Index := Scalar.indexCast arg1
  let c1_332 : Index := 1#32
  let c0_333 : Index := 0#32
  ![v701.toNat, 1, 0]
def k0_off178 (i : grid0.Coords) : Fin 3 → Nat :=
  let arg1 : BitVec 32 := BitVec.ofNat 32 (i 1).val
  let v741 : Index := Scalar.indexCast arg1
  let c0_350 : Index := 0#32
  let c2_351 : Index := 2#32
  ![v741.toNat, 0, 2]
def k0_off179 (i : grid0.Coords) : Fin 3 → Nat :=
  let arg1 : BitVec 32 := BitVec.ofNat 32 (i 1).val
  let v746 : Index := Scalar.indexCast arg1
  let c2_352 : Index := 2#32
  let c0_353 : Index := 0#32
  ![v746.toNat, 2, 0]
def k0_off180 (i : grid0.Coords) : Fin 3 → Nat :=
  let arg1 : BitVec 32 := BitVec.ofNat 32 (i 1).val
  let v760 : Index := Scalar.indexCast arg1
  let c2_358 : Index := 2#32
  let c128_359 : Index := 128#32
  ![v760.toNat, 2, 128]
def k0_off181 (i : grid0.Coords) : Fin 3 → Nat :=
  let arg1 : BitVec 32 := BitVec.ofNat 32 (i 1).val
  let v769 : Index := Scalar.indexCast arg1
  let c128_362 : Index := 128#32
  let c2_363 : Index := 2#32
  ![v769.toNat, 128, 2]
def k0_off182 (i : grid0.Coords) : Fin 3 → Nat :=
  let arg1 : BitVec 32 := BitVec.ofNat 32 (i 1).val
  let v788 : Index := Scalar.indexCast arg1
  let c256_370 : Index := 256#32
  let c2_371 : Index := 2#32
  ![v788.toNat, 256, 2]
def k0_off183 (i : grid0.Coords) : Fin 3 → Nat :=
  let arg1 : BitVec 32 := BitVec.ofNat 32 (i 1).val
  let v793 : Index := Scalar.indexCast arg1
  let c2_372 : Index := 2#32
  let c256_373 : Index := 256#32
  ![v793.toNat, 2, 256]
def k0_off184 (i : grid0.Coords) : Fin 3 → Nat :=
  let arg1 : BitVec 32 := BitVec.ofNat 32 (i 1).val
  let v816 : Index := Scalar.indexCast arg1
  let c2_381 : Index := 2#32
  let c0_382 : Index := 0#32
  ![v816.toNat, 2, 0]
def k0_off185 (i : grid0.Coords) : Fin 3 → Nat :=
  let arg1 : BitVec 32 := BitVec.ofNat 32 (i 1).val
  let v856 : Index := Scalar.indexCast arg1
  let c0_399 : Index := 0#32
  let c3_400 : Index := 3#32
  ![v856.toNat, 0, 3]
def k0_off186 (i : grid0.Coords) : Fin 3 → Nat :=
  let arg1 : BitVec 32 := BitVec.ofNat 32 (i 1).val
  let v861 : Index := Scalar.indexCast arg1
  let c3_401 : Index := 3#32
  let c0_402 : Index := 0#32
  ![v861.toNat, 3, 0]
def k0_off187 (i : grid0.Coords) : Fin 3 → Nat :=
  let arg1 : BitVec 32 := BitVec.ofNat 32 (i 1).val
  let v875 : Index := Scalar.indexCast arg1
  let c3_407 : Index := 3#32
  let c128_408 : Index := 128#32
  ![v875.toNat, 3, 128]
def k0_off188 (i : grid0.Coords) : Fin 3 → Nat :=
  let arg1 : BitVec 32 := BitVec.ofNat 32 (i 1).val
  let v884 : Index := Scalar.indexCast arg1
  let c128_411 : Index := 128#32
  let c3_412 : Index := 3#32
  ![v884.toNat, 128, 3]
def k0_off189 (i : grid0.Coords) : Fin 3 → Nat :=
  let arg1 : BitVec 32 := BitVec.ofNat 32 (i 1).val
  let v903 : Index := Scalar.indexCast arg1
  let c256_419 : Index := 256#32
  let c3_420 : Index := 3#32
  ![v903.toNat, 256, 3]
def k0_off190 (i : grid0.Coords) : Fin 3 → Nat :=
  let arg1 : BitVec 32 := BitVec.ofNat 32 (i 1).val
  let v908 : Index := Scalar.indexCast arg1
  let c3_421 : Index := 3#32
  let c256_422 : Index := 256#32
  ![v908.toNat, 3, 256]
def k0_off191 (i : grid0.Coords) : Fin 3 → Nat :=
  let arg1 : BitVec 32 := BitVec.ofNat 32 (i 1).val
  let v931 : Index := Scalar.indexCast arg1
  let c3_430 : Index := 3#32
  let c0_431 : Index := 0#32
  ![v931.toNat, 3, 0]
def k0_off192 (i : grid0.Coords) : Fin 3 → Nat :=
  let arg1 : BitVec 32 := BitVec.ofNat 32 (i 1).val
  let v988 : Index := Scalar.indexCast arg1
  let c4_461 : Index := 4#32
  let c0_462 : Index := 0#32
  ![v988.toNat, 4, 0]
def k0_off193 (i : grid0.Coords) : Fin 3 → Nat :=
  let arg1 : BitVec 32 := BitVec.ofNat 32 (i 1).val
  let v1005 : Index := Scalar.indexCast arg1
  let c5_469 : Index := 5#32
  let c0_470 : Index := 0#32
  ![v1005.toNat, 5, 0]
def k0_off194 (i : grid0.Coords) : Fin 3 → Nat :=
  let arg1 : BitVec 32 := BitVec.ofNat 32 (i 1).val
  let v1022 : Index := Scalar.indexCast arg1
  let c6_476 : Index := 6#32
  let c0_477 : Index := 0#32
  ![v1022.toNat, 6, 0]
def k0_off195 (i : grid0.Coords) : Fin 3 → Nat :=
  let arg1 : BitVec 32 := BitVec.ofNat 32 (i 1).val
  let v1039 : Index := Scalar.indexCast arg1
  let c7_483 : Index := 7#32
  let c0_484 : Index := 0#32
  ![v1039.toNat, 7, 0]
def k0_off196 (i : grid0.Coords) : Fin 4 → Nat :=
  let arg1 : BitVec 32 := BitVec.ofNat 32 (i 1).val
  let v1060 : Index := Scalar.indexCast arg1
  let c0_495 : Index := 0#32
  let c4_496 : Index := 4#32
  let c0_497 : Index := 0#32
  ![v1060.toNat, 0, 4, 0]
def k0_off197 (i : grid0.Coords) : Fin 4 → Nat :=
  let arg1 : BitVec 32 := BitVec.ofNat 32 (i 1).val
  let v1083 : Index := Scalar.indexCast arg1
  let c0_507 : Index := 0#32
  let c5_508 : Index := 5#32
  let c0_509 : Index := 0#32
  ![v1083.toNat, 0, 5, 0]
def k0_off198 (i : grid0.Coords) : Fin 4 → Nat :=
  let arg1 : BitVec 32 := BitVec.ofNat 32 (i 1).val
  let v1106 : Index := Scalar.indexCast arg1
  let c0_519 : Index := 0#32
  let c6_520 : Index := 6#32
  let c0_521 : Index := 0#32
  ![v1106.toNat, 0, 6, 0]
def k0_off199 (i : grid0.Coords) : Fin 4 → Nat :=
  let arg1 : BitVec 32 := BitVec.ofNat 32 (i 1).val
  let v1129 : Index := Scalar.indexCast arg1
  let c0_532 : Index := 0#32
  let c7_533 : Index := 7#32
  let c0_534 : Index := 0#32
  ![v1129.toNat, 0, 7, 0]
def k0_off200 (i : grid0.Coords) : Fin 4 → Nat :=
  let arg1 : BitVec 32 := BitVec.ofNat 32 (i 1).val
  let v1146 : Index := Scalar.indexCast arg1
  let c1_545 : Index := 1#32
  let c4_546 : Index := 4#32
  let c0_547 : Index := 0#32
  ![v1146.toNat, 1, 4, 0]
def k0_off201 (i : grid0.Coords) : Fin 4 → Nat :=
  let arg1 : BitVec 32 := BitVec.ofNat 32 (i 1).val
  let v1158 : Index := Scalar.indexCast arg1
  let c1_554 : Index := 1#32
  let c5_555 : Index := 5#32
  let c0_556 : Index := 0#32
  ![v1158.toNat, 1, 5, 0]
def k0_off202 (i : grid0.Coords) : Fin 4 → Nat :=
  let arg1 : BitVec 32 := BitVec.ofNat 32 (i 1).val
  let v1170 : Index := Scalar.indexCast arg1
  let c1_563 : Index := 1#32
  let c6_564 : Index := 6#32
  let c0_565 : Index := 0#32
  ![v1170.toNat, 1, 6, 0]
def k0_off203 (i : grid0.Coords) : Fin 4 → Nat :=
  let arg1 : BitVec 32 := BitVec.ofNat 32 (i 1).val
  let v1182 : Index := Scalar.indexCast arg1
  let c1_572 : Index := 1#32
  let c7_573 : Index := 7#32
  let c0_574 : Index := 0#32
  ![v1182.toNat, 1, 7, 0]
def k0_off204 (i : grid0.Coords) : Fin 3 → Nat :=
  let arg1 : BitVec 32 := BitVec.ofNat 32 (i 1).val
  let v1452 : Index := Scalar.indexCast arg1
  let c0_692 : Index := 0#32
  let c4_693 : Index := 4#32
  ![v1452.toNat, 0, 4]
def k0_off205 (i : grid0.Coords) : Fin 3 → Nat :=
  let arg1 : BitVec 32 := BitVec.ofNat 32 (i 1).val
  let v1457 : Index := Scalar.indexCast arg1
  let c4_694 : Index := 4#32
  let c0_695 : Index := 0#32
  ![v1457.toNat, 4, 0]
def k0_off206 (i : grid0.Coords) : Fin 3 → Nat :=
  let arg1 : BitVec 32 := BitVec.ofNat 32 (i 1).val
  let v1471 : Index := Scalar.indexCast arg1
  let c4_700 : Index := 4#32
  let c128_701 : Index := 128#32
  ![v1471.toNat, 4, 128]
def k0_off207 (i : grid0.Coords) : Fin 3 → Nat :=
  let arg1 : BitVec 32 := BitVec.ofNat 32 (i 1).val
  let v1480 : Index := Scalar.indexCast arg1
  let c128_704 : Index := 128#32
  let c4_705 : Index := 4#32
  ![v1480.toNat, 128, 4]
def k0_off208 (i : grid0.Coords) : Fin 3 → Nat :=
  let arg1 : BitVec 32 := BitVec.ofNat 32 (i 1).val
  let v1499 : Index := Scalar.indexCast arg1
  let c256_712 : Index := 256#32
  let c4_713 : Index := 4#32
  ![v1499.toNat, 256, 4]
def k0_off209 (i : grid0.Coords) : Fin 3 → Nat :=
  let arg1 : BitVec 32 := BitVec.ofNat 32 (i 1).val
  let v1504 : Index := Scalar.indexCast arg1
  let c4_714 : Index := 4#32
  let c256_715 : Index := 256#32
  ![v1504.toNat, 4, 256]
def k0_off210 (i : grid0.Coords) : Fin 3 → Nat :=
  let arg1 : BitVec 32 := BitVec.ofNat 32 (i 1).val
  let v1527 : Index := Scalar.indexCast arg1
  let c4_723 : Index := 4#32
  let c0_724 : Index := 0#32
  ![v1527.toNat, 4, 0]
def k0_off211 (i : grid0.Coords) : Fin 3 → Nat :=
  let arg1 : BitVec 32 := BitVec.ofNat 32 (i 1).val
  let v1567 : Index := Scalar.indexCast arg1
  let c0_741 : Index := 0#32
  let c5_742 : Index := 5#32
  ![v1567.toNat, 0, 5]
def k0_off212 (i : grid0.Coords) : Fin 3 → Nat :=
  let arg1 : BitVec 32 := BitVec.ofNat 32 (i 1).val
  let v1572 : Index := Scalar.indexCast arg1
  let c5_743 : Index := 5#32
  let c0_744 : Index := 0#32
  ![v1572.toNat, 5, 0]
def k0_off213 (i : grid0.Coords) : Fin 3 → Nat :=
  let arg1 : BitVec 32 := BitVec.ofNat 32 (i 1).val
  let v1586 : Index := Scalar.indexCast arg1
  let c5_749 : Index := 5#32
  let c128_750 : Index := 128#32
  ![v1586.toNat, 5, 128]
def k0_off214 (i : grid0.Coords) : Fin 3 → Nat :=
  let arg1 : BitVec 32 := BitVec.ofNat 32 (i 1).val
  let v1595 : Index := Scalar.indexCast arg1
  let c128_753 : Index := 128#32
  let c5_754 : Index := 5#32
  ![v1595.toNat, 128, 5]
def k0_off215 (i : grid0.Coords) : Fin 3 → Nat :=
  let arg1 : BitVec 32 := BitVec.ofNat 32 (i 1).val
  let v1614 : Index := Scalar.indexCast arg1
  let c256_761 : Index := 256#32
  let c5_762 : Index := 5#32
  ![v1614.toNat, 256, 5]
def k0_off216 (i : grid0.Coords) : Fin 3 → Nat :=
  let arg1 : BitVec 32 := BitVec.ofNat 32 (i 1).val
  let v1619 : Index := Scalar.indexCast arg1
  let c5_763 : Index := 5#32
  let c256_764 : Index := 256#32
  ![v1619.toNat, 5, 256]
def k0_off217 (i : grid0.Coords) : Fin 3 → Nat :=
  let arg1 : BitVec 32 := BitVec.ofNat 32 (i 1).val
  let v1642 : Index := Scalar.indexCast arg1
  let c5_772 : Index := 5#32
  let c0_773 : Index := 0#32
  ![v1642.toNat, 5, 0]
def k0_off218 (i : grid0.Coords) : Fin 3 → Nat :=
  let arg1 : BitVec 32 := BitVec.ofNat 32 (i 1).val
  let v1682 : Index := Scalar.indexCast arg1
  let c0_790 : Index := 0#32
  let c6_791 : Index := 6#32
  ![v1682.toNat, 0, 6]
def k0_off219 (i : grid0.Coords) : Fin 3 → Nat :=
  let arg1 : BitVec 32 := BitVec.ofNat 32 (i 1).val
  let v1687 : Index := Scalar.indexCast arg1
  let c6_792 : Index := 6#32
  let c0_793 : Index := 0#32
  ![v1687.toNat, 6, 0]
def k0_off220 (i : grid0.Coords) : Fin 3 → Nat :=
  let arg1 : BitVec 32 := BitVec.ofNat 32 (i 1).val
  let v1701 : Index := Scalar.indexCast arg1
  let c6_798 : Index := 6#32
  let c128_799 : Index := 128#32
  ![v1701.toNat, 6, 128]
def k0_off221 (i : grid0.Coords) : Fin 3 → Nat :=
  let arg1 : BitVec 32 := BitVec.ofNat 32 (i 1).val
  let v1710 : Index := Scalar.indexCast arg1
  let c128_802 : Index := 128#32
  let c6_803 : Index := 6#32
  ![v1710.toNat, 128, 6]
def k0_off222 (i : grid0.Coords) : Fin 3 → Nat :=
  let arg1 : BitVec 32 := BitVec.ofNat 32 (i 1).val
  let v1729 : Index := Scalar.indexCast arg1
  let c256_810 : Index := 256#32
  let c6_811 : Index := 6#32
  ![v1729.toNat, 256, 6]
def k0_off223 (i : grid0.Coords) : Fin 3 → Nat :=
  let arg1 : BitVec 32 := BitVec.ofNat 32 (i 1).val
  let v1734 : Index := Scalar.indexCast arg1
  let c6_812 : Index := 6#32
  let c256_813 : Index := 256#32
  ![v1734.toNat, 6, 256]
def k0_off224 (i : grid0.Coords) : Fin 3 → Nat :=
  let arg1 : BitVec 32 := BitVec.ofNat 32 (i 1).val
  let v1757 : Index := Scalar.indexCast arg1
  let c6_821 : Index := 6#32
  let c0_822 : Index := 0#32
  ![v1757.toNat, 6, 0]
def k0_off225 (i : grid0.Coords) : Fin 3 → Nat :=
  let arg1 : BitVec 32 := BitVec.ofNat 32 (i 1).val
  let v1797 : Index := Scalar.indexCast arg1
  let c0_839 : Index := 0#32
  let c7_840 : Index := 7#32
  ![v1797.toNat, 0, 7]
def k0_off226 (i : grid0.Coords) : Fin 3 → Nat :=
  let arg1 : BitVec 32 := BitVec.ofNat 32 (i 1).val
  let v1802 : Index := Scalar.indexCast arg1
  let c7_841 : Index := 7#32
  let c0_842 : Index := 0#32
  ![v1802.toNat, 7, 0]
def k0_off227 (i : grid0.Coords) : Fin 3 → Nat :=
  let arg1 : BitVec 32 := BitVec.ofNat 32 (i 1).val
  let v1816 : Index := Scalar.indexCast arg1
  let c7_847 : Index := 7#32
  let c128_848 : Index := 128#32
  ![v1816.toNat, 7, 128]
def k0_off228 (i : grid0.Coords) : Fin 3 → Nat :=
  let arg1 : BitVec 32 := BitVec.ofNat 32 (i 1).val
  let v1825 : Index := Scalar.indexCast arg1
  let c128_851 : Index := 128#32
  let c7_852 : Index := 7#32
  ![v1825.toNat, 128, 7]
def k0_off229 (i : grid0.Coords) : Fin 3 → Nat :=
  let arg1 : BitVec 32 := BitVec.ofNat 32 (i 1).val
  let v1844 : Index := Scalar.indexCast arg1
  let c256_859 : Index := 256#32
  let c7_860 : Index := 7#32
  ![v1844.toNat, 256, 7]
def k0_off230 (i : grid0.Coords) : Fin 3 → Nat :=
  let arg1 : BitVec 32 := BitVec.ofNat 32 (i 1).val
  let v1849 : Index := Scalar.indexCast arg1
  let c7_861 : Index := 7#32
  let c256_862 : Index := 256#32
  ![v1849.toNat, 7, 256]
def k0_off231 (i : grid0.Coords) : Fin 3 → Nat :=
  let arg1 : BitVec 32 := BitVec.ofNat 32 (i 1).val
  let v1872 : Index := Scalar.indexCast arg1
  let c7_870 : Index := 7#32
  let c0_871 : Index := 0#32
  ![v1872.toNat, 7, 0]
def k0_off232 (i : grid0.Coords) : Fin 3 → Nat :=
  let arg1 : BitVec 32 := BitVec.ofNat 32 (i 1).val
  let v1929 : Index := Scalar.indexCast arg1
  let c8_900 : Index := 8#32
  let c0_901 : Index := 0#32
  ![v1929.toNat, 8, 0]
def k0_off233 (i : grid0.Coords) : Fin 3 → Nat :=
  let arg1 : BitVec 32 := BitVec.ofNat 32 (i 1).val
  let v1946 : Index := Scalar.indexCast arg1
  let c9_908 : Index := 9#32
  let c0_909 : Index := 0#32
  ![v1946.toNat, 9, 0]
def k0_off234 (i : grid0.Coords) : Fin 3 → Nat :=
  let arg1 : BitVec 32 := BitVec.ofNat 32 (i 1).val
  let v1963 : Index := Scalar.indexCast arg1
  let c10_915 : Index := 10#32
  let c0_916 : Index := 0#32
  ![v1963.toNat, 10, 0]
def k0_off235 (i : grid0.Coords) : Fin 3 → Nat :=
  let arg1 : BitVec 32 := BitVec.ofNat 32 (i 1).val
  let v1980 : Index := Scalar.indexCast arg1
  let c11_922 : Index := 11#32
  let c0_923 : Index := 0#32
  ![v1980.toNat, 11, 0]
def k0_off236 (i : grid0.Coords) : Fin 4 → Nat :=
  let arg1 : BitVec 32 := BitVec.ofNat 32 (i 1).val
  let v2001 : Index := Scalar.indexCast arg1
  let c0_934 : Index := 0#32
  let c8_935 : Index := 8#32
  let c0_936 : Index := 0#32
  ![v2001.toNat, 0, 8, 0]
def k0_off237 (i : grid0.Coords) : Fin 4 → Nat :=
  let arg1 : BitVec 32 := BitVec.ofNat 32 (i 1).val
  let v2024 : Index := Scalar.indexCast arg1
  let c0_946 : Index := 0#32
  let c9_947 : Index := 9#32
  let c0_948 : Index := 0#32
  ![v2024.toNat, 0, 9, 0]
def k0_off238 (i : grid0.Coords) : Fin 4 → Nat :=
  let arg1 : BitVec 32 := BitVec.ofNat 32 (i 1).val
  let v2047 : Index := Scalar.indexCast arg1
  let c0_958 : Index := 0#32
  let c10_959 : Index := 10#32
  let c0_960 : Index := 0#32
  ![v2047.toNat, 0, 10, 0]
def k0_off239 (i : grid0.Coords) : Fin 4 → Nat :=
  let arg1 : BitVec 32 := BitVec.ofNat 32 (i 1).val
  let v2070 : Index := Scalar.indexCast arg1
  let c0_970 : Index := 0#32
  let c11_971 : Index := 11#32
  let c0_972 : Index := 0#32
  ![v2070.toNat, 0, 11, 0]
def k0_off240 (i : grid0.Coords) : Fin 4 → Nat :=
  let arg1 : BitVec 32 := BitVec.ofNat 32 (i 1).val
  let v2087 : Index := Scalar.indexCast arg1
  let c1_983 : Index := 1#32
  let c8_984 : Index := 8#32
  let c0_985 : Index := 0#32
  ![v2087.toNat, 1, 8, 0]
def k0_off241 (i : grid0.Coords) : Fin 4 → Nat :=
  let arg1 : BitVec 32 := BitVec.ofNat 32 (i 1).val
  let v2099 : Index := Scalar.indexCast arg1
  let c1_992 : Index := 1#32
  let c9_993 : Index := 9#32
  let c0_994 : Index := 0#32
  ![v2099.toNat, 1, 9, 0]
def k0_off242 (i : grid0.Coords) : Fin 4 → Nat :=
  let arg1 : BitVec 32 := BitVec.ofNat 32 (i 1).val
  let v2111 : Index := Scalar.indexCast arg1
  let c1_1001 : Index := 1#32
  let c10_1002 : Index := 10#32
  let c0_1003 : Index := 0#32
  ![v2111.toNat, 1, 10, 0]
def k0_off243 (i : grid0.Coords) : Fin 4 → Nat :=
  let arg1 : BitVec 32 := BitVec.ofNat 32 (i 1).val
  let v2123 : Index := Scalar.indexCast arg1
  let c1_1010 : Index := 1#32
  let c11_1011 : Index := 11#32
  let c0_1012 : Index := 0#32
  ![v2123.toNat, 1, 11, 0]
def k0_off244 (i : grid0.Coords) : Fin 3 → Nat :=
  let arg1 : BitVec 32 := BitVec.ofNat 32 (i 1).val
  let v2393 : Index := Scalar.indexCast arg1
  let c0_1130 : Index := 0#32
  let c8_1131 : Index := 8#32
  ![v2393.toNat, 0, 8]
def k0_off245 (i : grid0.Coords) : Fin 3 → Nat :=
  let arg1 : BitVec 32 := BitVec.ofNat 32 (i 1).val
  let v2398 : Index := Scalar.indexCast arg1
  let c8_1132 : Index := 8#32
  let c0_1133 : Index := 0#32
  ![v2398.toNat, 8, 0]
def k0_off246 (i : grid0.Coords) : Fin 3 → Nat :=
  let arg1 : BitVec 32 := BitVec.ofNat 32 (i 1).val
  let v2412 : Index := Scalar.indexCast arg1
  let c8_1138 : Index := 8#32
  let c128_1139 : Index := 128#32
  ![v2412.toNat, 8, 128]
def k0_off247 (i : grid0.Coords) : Fin 3 → Nat :=
  let arg1 : BitVec 32 := BitVec.ofNat 32 (i 1).val
  let v2421 : Index := Scalar.indexCast arg1
  let c128_1142 : Index := 128#32
  let c8_1143 : Index := 8#32
  ![v2421.toNat, 128, 8]
def k0_off248 (i : grid0.Coords) : Fin 3 → Nat :=
  let arg1 : BitVec 32 := BitVec.ofNat 32 (i 1).val
  let v2440 : Index := Scalar.indexCast arg1
  let c256_1150 : Index := 256#32
  let c8_1151 : Index := 8#32
  ![v2440.toNat, 256, 8]
def k0_off249 (i : grid0.Coords) : Fin 3 → Nat :=
  let arg1 : BitVec 32 := BitVec.ofNat 32 (i 1).val
  let v2445 : Index := Scalar.indexCast arg1
  let c8_1152 : Index := 8#32
  let c256_1153 : Index := 256#32
  ![v2445.toNat, 8, 256]
def k0_off250 (i : grid0.Coords) : Fin 3 → Nat :=
  let arg1 : BitVec 32 := BitVec.ofNat 32 (i 1).val
  let v2468 : Index := Scalar.indexCast arg1
  let c8_1161 : Index := 8#32
  let c0_1162 : Index := 0#32
  ![v2468.toNat, 8, 0]
def k0_off251 (i : grid0.Coords) : Fin 3 → Nat :=
  let arg1 : BitVec 32 := BitVec.ofNat 32 (i 1).val
  let v2508 : Index := Scalar.indexCast arg1
  let c0_1179 : Index := 0#32
  let c9_1180 : Index := 9#32
  ![v2508.toNat, 0, 9]
def k0_off252 (i : grid0.Coords) : Fin 3 → Nat :=
  let arg1 : BitVec 32 := BitVec.ofNat 32 (i 1).val
  let v2513 : Index := Scalar.indexCast arg1
  let c9_1181 : Index := 9#32
  let c0_1182 : Index := 0#32
  ![v2513.toNat, 9, 0]
def k0_off253 (i : grid0.Coords) : Fin 3 → Nat :=
  let arg1 : BitVec 32 := BitVec.ofNat 32 (i 1).val
  let v2527 : Index := Scalar.indexCast arg1
  let c9_1187 : Index := 9#32
  let c128_1188 : Index := 128#32
  ![v2527.toNat, 9, 128]
def k0_off254 (i : grid0.Coords) : Fin 3 → Nat :=
  let arg1 : BitVec 32 := BitVec.ofNat 32 (i 1).val
  let v2536 : Index := Scalar.indexCast arg1
  let c128_1191 : Index := 128#32
  let c9_1192 : Index := 9#32
  ![v2536.toNat, 128, 9]
def k0_off255 (i : grid0.Coords) : Fin 3 → Nat :=
  let arg1 : BitVec 32 := BitVec.ofNat 32 (i 1).val
  let v2555 : Index := Scalar.indexCast arg1
  let c256_1199 : Index := 256#32
  let c9_1200 : Index := 9#32
  ![v2555.toNat, 256, 9]
def k0_off256 (i : grid0.Coords) : Fin 3 → Nat :=
  let arg1 : BitVec 32 := BitVec.ofNat 32 (i 1).val
  let v2560 : Index := Scalar.indexCast arg1
  let c9_1201 : Index := 9#32
  let c256_1202 : Index := 256#32
  ![v2560.toNat, 9, 256]
def k0_off257 (i : grid0.Coords) : Fin 3 → Nat :=
  let arg1 : BitVec 32 := BitVec.ofNat 32 (i 1).val
  let v2583 : Index := Scalar.indexCast arg1
  let c9_1210 : Index := 9#32
  let c0_1211 : Index := 0#32
  ![v2583.toNat, 9, 0]
def k0_off258 (i : grid0.Coords) : Fin 3 → Nat :=
  let arg1 : BitVec 32 := BitVec.ofNat 32 (i 1).val
  let v2623 : Index := Scalar.indexCast arg1
  let c0_1228 : Index := 0#32
  let c10_1229 : Index := 10#32
  ![v2623.toNat, 0, 10]
def k0_off259 (i : grid0.Coords) : Fin 3 → Nat :=
  let arg1 : BitVec 32 := BitVec.ofNat 32 (i 1).val
  let v2628 : Index := Scalar.indexCast arg1
  let c10_1230 : Index := 10#32
  let c0_1231 : Index := 0#32
  ![v2628.toNat, 10, 0]
def k0_off260 (i : grid0.Coords) : Fin 3 → Nat :=
  let arg1 : BitVec 32 := BitVec.ofNat 32 (i 1).val
  let v2642 : Index := Scalar.indexCast arg1
  let c10_1236 : Index := 10#32
  let c128_1237 : Index := 128#32
  ![v2642.toNat, 10, 128]
def k0_off261 (i : grid0.Coords) : Fin 3 → Nat :=
  let arg1 : BitVec 32 := BitVec.ofNat 32 (i 1).val
  let v2651 : Index := Scalar.indexCast arg1
  let c128_1240 : Index := 128#32
  let c10_1241 : Index := 10#32
  ![v2651.toNat, 128, 10]
def k0_off262 (i : grid0.Coords) : Fin 3 → Nat :=
  let arg1 : BitVec 32 := BitVec.ofNat 32 (i 1).val
  let v2670 : Index := Scalar.indexCast arg1
  let c256_1248 : Index := 256#32
  let c10_1249 : Index := 10#32
  ![v2670.toNat, 256, 10]
def k0_off263 (i : grid0.Coords) : Fin 3 → Nat :=
  let arg1 : BitVec 32 := BitVec.ofNat 32 (i 1).val
  let v2675 : Index := Scalar.indexCast arg1
  let c10_1250 : Index := 10#32
  let c256_1251 : Index := 256#32
  ![v2675.toNat, 10, 256]
def k0_off264 (i : grid0.Coords) : Fin 3 → Nat :=
  let arg1 : BitVec 32 := BitVec.ofNat 32 (i 1).val
  let v2698 : Index := Scalar.indexCast arg1
  let c10_1259 : Index := 10#32
  let c0_1260 : Index := 0#32
  ![v2698.toNat, 10, 0]
def k0_off265 (i : grid0.Coords) : Fin 3 → Nat :=
  let arg1 : BitVec 32 := BitVec.ofNat 32 (i 1).val
  let v2738 : Index := Scalar.indexCast arg1
  let c0_1277 : Index := 0#32
  let c11_1278 : Index := 11#32
  ![v2738.toNat, 0, 11]
def k0_off266 (i : grid0.Coords) : Fin 3 → Nat :=
  let arg1 : BitVec 32 := BitVec.ofNat 32 (i 1).val
  let v2743 : Index := Scalar.indexCast arg1
  let c11_1279 : Index := 11#32
  let c0_1280 : Index := 0#32
  ![v2743.toNat, 11, 0]
def k0_off267 (i : grid0.Coords) : Fin 3 → Nat :=
  let arg1 : BitVec 32 := BitVec.ofNat 32 (i 1).val
  let v2757 : Index := Scalar.indexCast arg1
  let c11_1285 : Index := 11#32
  let c128_1286 : Index := 128#32
  ![v2757.toNat, 11, 128]
def k0_off268 (i : grid0.Coords) : Fin 3 → Nat :=
  let arg1 : BitVec 32 := BitVec.ofNat 32 (i 1).val
  let v2766 : Index := Scalar.indexCast arg1
  let c128_1289 : Index := 128#32
  let c11_1290 : Index := 11#32
  ![v2766.toNat, 128, 11]
def k0_off269 (i : grid0.Coords) : Fin 3 → Nat :=
  let arg1 : BitVec 32 := BitVec.ofNat 32 (i 1).val
  let v2785 : Index := Scalar.indexCast arg1
  let c256_1297 : Index := 256#32
  let c11_1298 : Index := 11#32
  ![v2785.toNat, 256, 11]
def k0_off270 (i : grid0.Coords) : Fin 3 → Nat :=
  let arg1 : BitVec 32 := BitVec.ofNat 32 (i 1).val
  let v2790 : Index := Scalar.indexCast arg1
  let c11_1299 : Index := 11#32
  let c256_1300 : Index := 256#32
  ![v2790.toNat, 11, 256]
def k0_off271 (i : grid0.Coords) : Fin 3 → Nat :=
  let arg1 : BitVec 32 := BitVec.ofNat 32 (i 1).val
  let v2813 : Index := Scalar.indexCast arg1
  let c11_1308 : Index := 11#32
  let c0_1309 : Index := 0#32
  ![v2813.toNat, 11, 0]
def k0_off272 (i : grid0.Coords) : Fin 3 → Nat :=
  let arg1 : BitVec 32 := BitVec.ofNat 32 (i 1).val
  let v2870 : Index := Scalar.indexCast arg1
  let c12_1338 : Index := 12#32
  let c0_1339 : Index := 0#32
  ![v2870.toNat, 12, 0]
def k0_off273 (i : grid0.Coords) : Fin 3 → Nat :=
  let arg1 : BitVec 32 := BitVec.ofNat 32 (i 1).val
  let v2887 : Index := Scalar.indexCast arg1
  let c13_1346 : Index := 13#32
  let c0_1347 : Index := 0#32
  ![v2887.toNat, 13, 0]
def k0_off274 (i : grid0.Coords) : Fin 3 → Nat :=
  let arg1 : BitVec 32 := BitVec.ofNat 32 (i 1).val
  let v2904 : Index := Scalar.indexCast arg1
  let c14_1353 : Index := 14#32
  let c0_1354 : Index := 0#32
  ![v2904.toNat, 14, 0]
def k0_off275 (i : grid0.Coords) : Fin 3 → Nat :=
  let arg1 : BitVec 32 := BitVec.ofNat 32 (i 1).val
  let v2921 : Index := Scalar.indexCast arg1
  let c15_1360 : Index := 15#32
  let c0_1361 : Index := 0#32
  ![v2921.toNat, 15, 0]
def k0_off276 (i : grid0.Coords) : Fin 4 → Nat :=
  let arg1 : BitVec 32 := BitVec.ofNat 32 (i 1).val
  let v2942 : Index := Scalar.indexCast arg1
  let c0_1372 : Index := 0#32
  let c12_1373 : Index := 12#32
  let c0_1374 : Index := 0#32
  ![v2942.toNat, 0, 12, 0]
def k0_off277 (i : grid0.Coords) : Fin 4 → Nat :=
  let arg1 : BitVec 32 := BitVec.ofNat 32 (i 1).val
  let v2965 : Index := Scalar.indexCast arg1
  let c0_1384 : Index := 0#32
  let c13_1385 : Index := 13#32
  let c0_1386 : Index := 0#32
  ![v2965.toNat, 0, 13, 0]
def k0_off278 (i : grid0.Coords) : Fin 4 → Nat :=
  let arg1 : BitVec 32 := BitVec.ofNat 32 (i 1).val
  let v2988 : Index := Scalar.indexCast arg1
  let c0_1396 : Index := 0#32
  let c14_1397 : Index := 14#32
  let c0_1398 : Index := 0#32
  ![v2988.toNat, 0, 14, 0]
def k0_off279 (i : grid0.Coords) : Fin 4 → Nat :=
  let arg1 : BitVec 32 := BitVec.ofNat 32 (i 1).val
  let v3011 : Index := Scalar.indexCast arg1
  let c0_1408 : Index := 0#32
  let c15_1409 : Index := 15#32
  let c0_1410 : Index := 0#32
  ![v3011.toNat, 0, 15, 0]
def k0_off280 (i : grid0.Coords) : Fin 4 → Nat :=
  let arg1 : BitVec 32 := BitVec.ofNat 32 (i 1).val
  let v3028 : Index := Scalar.indexCast arg1
  let c1_1421 : Index := 1#32
  let c12_1422 : Index := 12#32
  let c0_1423 : Index := 0#32
  ![v3028.toNat, 1, 12, 0]
def k0_off281 (i : grid0.Coords) : Fin 4 → Nat :=
  let arg1 : BitVec 32 := BitVec.ofNat 32 (i 1).val
  let v3040 : Index := Scalar.indexCast arg1
  let c1_1430 : Index := 1#32
  let c13_1431 : Index := 13#32
  let c0_1432 : Index := 0#32
  ![v3040.toNat, 1, 13, 0]
def k0_off282 (i : grid0.Coords) : Fin 4 → Nat :=
  let arg1 : BitVec 32 := BitVec.ofNat 32 (i 1).val
  let v3052 : Index := Scalar.indexCast arg1
  let c1_1439 : Index := 1#32
  let c14_1440 : Index := 14#32
  let c0_1441 : Index := 0#32
  ![v3052.toNat, 1, 14, 0]
def k0_off283 (i : grid0.Coords) : Fin 4 → Nat :=
  let arg1 : BitVec 32 := BitVec.ofNat 32 (i 1).val
  let v3064 : Index := Scalar.indexCast arg1
  let c1_1448 : Index := 1#32
  let c15_1449 : Index := 15#32
  let c0_1450 : Index := 0#32
  ![v3064.toNat, 1, 15, 0]
def k0_off284 (i : grid0.Coords) : Fin 3 → Nat :=
  let arg1 : BitVec 32 := BitVec.ofNat 32 (i 1).val
  let v3334 : Index := Scalar.indexCast arg1
  let c0_1568 : Index := 0#32
  let c12_1569 : Index := 12#32
  ![v3334.toNat, 0, 12]
def k0_off285 (i : grid0.Coords) : Fin 3 → Nat :=
  let arg1 : BitVec 32 := BitVec.ofNat 32 (i 1).val
  let v3339 : Index := Scalar.indexCast arg1
  let c12_1570 : Index := 12#32
  let c0_1571 : Index := 0#32
  ![v3339.toNat, 12, 0]
def k0_off286 (i : grid0.Coords) : Fin 3 → Nat :=
  let arg1 : BitVec 32 := BitVec.ofNat 32 (i 1).val
  let v3353 : Index := Scalar.indexCast arg1
  let c12_1576 : Index := 12#32
  let c128_1577 : Index := 128#32
  ![v3353.toNat, 12, 128]
def k0_off287 (i : grid0.Coords) : Fin 3 → Nat :=
  let arg1 : BitVec 32 := BitVec.ofNat 32 (i 1).val
  let v3362 : Index := Scalar.indexCast arg1
  let c128_1580 : Index := 128#32
  let c12_1581 : Index := 12#32
  ![v3362.toNat, 128, 12]
def k0_off288 (i : grid0.Coords) : Fin 3 → Nat :=
  let arg1 : BitVec 32 := BitVec.ofNat 32 (i 1).val
  let v3381 : Index := Scalar.indexCast arg1
  let c256_1588 : Index := 256#32
  let c12_1589 : Index := 12#32
  ![v3381.toNat, 256, 12]
def k0_off289 (i : grid0.Coords) : Fin 3 → Nat :=
  let arg1 : BitVec 32 := BitVec.ofNat 32 (i 1).val
  let v3386 : Index := Scalar.indexCast arg1
  let c12_1590 : Index := 12#32
  let c256_1591 : Index := 256#32
  ![v3386.toNat, 12, 256]
def k0_off290 (i : grid0.Coords) : Fin 3 → Nat :=
  let arg1 : BitVec 32 := BitVec.ofNat 32 (i 1).val
  let v3409 : Index := Scalar.indexCast arg1
  let c12_1599 : Index := 12#32
  let c0_1600 : Index := 0#32
  ![v3409.toNat, 12, 0]
def k0_off291 (i : grid0.Coords) : Fin 3 → Nat :=
  let arg1 : BitVec 32 := BitVec.ofNat 32 (i 1).val
  let v3449 : Index := Scalar.indexCast arg1
  let c0_1617 : Index := 0#32
  let c13_1618 : Index := 13#32
  ![v3449.toNat, 0, 13]
def k0_off292 (i : grid0.Coords) : Fin 3 → Nat :=
  let arg1 : BitVec 32 := BitVec.ofNat 32 (i 1).val
  let v3454 : Index := Scalar.indexCast arg1
  let c13_1619 : Index := 13#32
  let c0_1620 : Index := 0#32
  ![v3454.toNat, 13, 0]
def k0_off293 (i : grid0.Coords) : Fin 3 → Nat :=
  let arg1 : BitVec 32 := BitVec.ofNat 32 (i 1).val
  let v3468 : Index := Scalar.indexCast arg1
  let c13_1625 : Index := 13#32
  let c128_1626 : Index := 128#32
  ![v3468.toNat, 13, 128]
def k0_off294 (i : grid0.Coords) : Fin 3 → Nat :=
  let arg1 : BitVec 32 := BitVec.ofNat 32 (i 1).val
  let v3477 : Index := Scalar.indexCast arg1
  let c128_1629 : Index := 128#32
  let c13_1630 : Index := 13#32
  ![v3477.toNat, 128, 13]
def k0_off295 (i : grid0.Coords) : Fin 3 → Nat :=
  let arg1 : BitVec 32 := BitVec.ofNat 32 (i 1).val
  let v3496 : Index := Scalar.indexCast arg1
  let c256_1637 : Index := 256#32
  let c13_1638 : Index := 13#32
  ![v3496.toNat, 256, 13]
def k0_off296 (i : grid0.Coords) : Fin 3 → Nat :=
  let arg1 : BitVec 32 := BitVec.ofNat 32 (i 1).val
  let v3501 : Index := Scalar.indexCast arg1
  let c13_1639 : Index := 13#32
  let c256_1640 : Index := 256#32
  ![v3501.toNat, 13, 256]
def k0_off297 (i : grid0.Coords) : Fin 3 → Nat :=
  let arg1 : BitVec 32 := BitVec.ofNat 32 (i 1).val
  let v3524 : Index := Scalar.indexCast arg1
  let c13_1648 : Index := 13#32
  let c0_1649 : Index := 0#32
  ![v3524.toNat, 13, 0]
def k0_off298 (i : grid0.Coords) : Fin 3 → Nat :=
  let arg1 : BitVec 32 := BitVec.ofNat 32 (i 1).val
  let v3564 : Index := Scalar.indexCast arg1
  let c0_1666 : Index := 0#32
  let c14_1667 : Index := 14#32
  ![v3564.toNat, 0, 14]
def k0_off299 (i : grid0.Coords) : Fin 3 → Nat :=
  let arg1 : BitVec 32 := BitVec.ofNat 32 (i 1).val
  let v3569 : Index := Scalar.indexCast arg1
  let c14_1668 : Index := 14#32
  let c0_1669 : Index := 0#32
  ![v3569.toNat, 14, 0]
def k0_off300 (i : grid0.Coords) : Fin 3 → Nat :=
  let arg1 : BitVec 32 := BitVec.ofNat 32 (i 1).val
  let v3583 : Index := Scalar.indexCast arg1
  let c14_1674 : Index := 14#32
  let c128_1675 : Index := 128#32
  ![v3583.toNat, 14, 128]
def k0_off301 (i : grid0.Coords) : Fin 3 → Nat :=
  let arg1 : BitVec 32 := BitVec.ofNat 32 (i 1).val
  let v3592 : Index := Scalar.indexCast arg1
  let c128_1678 : Index := 128#32
  let c14_1679 : Index := 14#32
  ![v3592.toNat, 128, 14]
def k0_off302 (i : grid0.Coords) : Fin 3 → Nat :=
  let arg1 : BitVec 32 := BitVec.ofNat 32 (i 1).val
  let v3611 : Index := Scalar.indexCast arg1
  let c256_1686 : Index := 256#32
  let c14_1687 : Index := 14#32
  ![v3611.toNat, 256, 14]
def k0_off303 (i : grid0.Coords) : Fin 3 → Nat :=
  let arg1 : BitVec 32 := BitVec.ofNat 32 (i 1).val
  let v3616 : Index := Scalar.indexCast arg1
  let c14_1688 : Index := 14#32
  let c256_1689 : Index := 256#32
  ![v3616.toNat, 14, 256]
def k0_off304 (i : grid0.Coords) : Fin 3 → Nat :=
  let arg1 : BitVec 32 := BitVec.ofNat 32 (i 1).val
  let v3639 : Index := Scalar.indexCast arg1
  let c14_1697 : Index := 14#32
  let c0_1698 : Index := 0#32
  ![v3639.toNat, 14, 0]
def k0_off305 (i : grid0.Coords) : Fin 3 → Nat :=
  let arg1 : BitVec 32 := BitVec.ofNat 32 (i 1).val
  let v3679 : Index := Scalar.indexCast arg1
  let c0_1715 : Index := 0#32
  let c15_1716 : Index := 15#32
  ![v3679.toNat, 0, 15]
def k0_off306 (i : grid0.Coords) : Fin 3 → Nat :=
  let arg1 : BitVec 32 := BitVec.ofNat 32 (i 1).val
  let v3684 : Index := Scalar.indexCast arg1
  let c15_1717 : Index := 15#32
  let c0_1718 : Index := 0#32
  ![v3684.toNat, 15, 0]
def k0_off307 (i : grid0.Coords) : Fin 3 → Nat :=
  let arg1 : BitVec 32 := BitVec.ofNat 32 (i 1).val
  let v3698 : Index := Scalar.indexCast arg1
  let c15_1723 : Index := 15#32
  let c128_1724 : Index := 128#32
  ![v3698.toNat, 15, 128]
def k0_off308 (i : grid0.Coords) : Fin 3 → Nat :=
  let arg1 : BitVec 32 := BitVec.ofNat 32 (i 1).val
  let v3707 : Index := Scalar.indexCast arg1
  let c128_1727 : Index := 128#32
  let c15_1728 : Index := 15#32
  ![v3707.toNat, 128, 15]
def k0_off309 (i : grid0.Coords) : Fin 3 → Nat :=
  let arg1 : BitVec 32 := BitVec.ofNat 32 (i 1).val
  let v3726 : Index := Scalar.indexCast arg1
  let c256_1735 : Index := 256#32
  let c15_1736 : Index := 15#32
  ![v3726.toNat, 256, 15]
def k0_off310 (i : grid0.Coords) : Fin 3 → Nat :=
  let arg1 : BitVec 32 := BitVec.ofNat 32 (i 1).val
  let v3731 : Index := Scalar.indexCast arg1
  let c15_1737 : Index := 15#32
  let c256_1738 : Index := 256#32
  ![v3731.toNat, 15, 256]
def k0_off311 (i : grid0.Coords) : Fin 3 → Nat :=
  let arg1 : BitVec 32 := BitVec.ofNat 32 (i 1).val
  let v3754 : Index := Scalar.indexCast arg1
  let c15_1746 : Index := 15#32
  let c0_1747 : Index := 0#32
  ![v3754.toNat, 15, 0]
def k0_cond3 (v1 : BitVec 32) : BitVec 1 :=
  let c127_i32 : BitVec 32 := 127#32
  let v12 : BitVec 32 := Scalar.addi v1 c127_i32
  let c7_i32 : BitVec 32 := 7#32
  let v13 : BitVec 32 := Scalar.shrui v12 c7_i32
  let c1_i32 : BitVec 32 := 1#32
  let v14 : BitVec 32 := Scalar.maxsi v13 c1_i32
  let c1_i32_4 : BitVec 32 := 1#32
  let v15 : BitVec 1 := Scalar.cmpi .eq v14 c1_i32_4
  let v16 : BitVec 32 := Scalar.extui v15
  let c0_i32_5 : BitVec 32 := 0#32
  let v17 : BitVec 1 := Scalar.cmpi .ne v16 c0_i32_5
  v17

def k0_cond4 (v1 : BitVec 32) : BitVec 1 :=
  let c127_i32 : BitVec 32 := 127#32
  let v12 : BitVec 32 := Scalar.addi v1 c127_i32
  let c7_i32 : BitVec 32 := 7#32
  let v13 : BitVec 32 := Scalar.shrui v12 c7_i32
  let c1_i32 : BitVec 32 := 1#32
  let v14 : BitVec 32 := Scalar.maxsi v13 c1_i32
  let c2_i32 : BitVec 32 := 2#32
  let v18 : BitVec 1 := Scalar.cmpi .eq v14 c2_i32
  let v19 : BitVec 32 := Scalar.extui v18
  let c0_i32_6 : BitVec 32 := 0#32
  let v20 : BitVec 1 := Scalar.cmpi .ne v19 c0_i32_6
  v20

def k0_cond5 (v1 : BitVec 32) : BitVec 1 :=
  let c127_i32 : BitVec 32 := 127#32
  let v12 : BitVec 32 := Scalar.addi v1 c127_i32
  let c7_i32 : BitVec 32 := 7#32
  let v13 : BitVec 32 := Scalar.shrui v12 c7_i32
  let c1_i32 : BitVec 32 := 1#32
  let v14 : BitVec 32 := Scalar.maxsi v13 c1_i32
  let c3_i32 : BitVec 32 := 3#32
  let v21 : BitVec 1 := Scalar.cmpi .eq v14 c3_i32
  let v22 : BitVec 32 := Scalar.extui v21
  let c0_i32_7 : BitVec 32 := 0#32
  let v23 : BitVec 1 := Scalar.cmpi .ne v22 c0_i32_7
  v23

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let arg1 : BitVec 32 := BitVec.ofNat 32 (i 1).val
  let c0_i32_0 : BitVec 32 := 0#32
  let v5 : BitVec 1 := Scalar.cmpi .eq arg1 c0_i32_0
  let v6 : BitVec 1 := Scalar.andi v4 v5
  let v7 : BitVec 32 := Scalar.extui v6
  let c0_i32_1 : BitVec 32 := 0#32
  let v8 : BitVec 1 := Scalar.cmpi .ne v7 c0_i32_1
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S5x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x48x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x384x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x16x64x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x64x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x64x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x64x128 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S5x48 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S5x384x48x64 : Shape := ⟨4, ![5, 384, 48, 64]⟩
abbrev S5x384x48 : Shape := ⟨3, ![5, 384, 48]⟩
abbrev S48 : Shape := ⟨1, ![48]⟩
abbrev S5x384x1x128 : Shape := ⟨4, ![5, 384, 1, 128]⟩
abbrev S5x48x64x128 : Shape := ⟨4, ![5, 48, 64, 128]⟩
abbrev S5x48 : Shape := ⟨2, ![5, 48]⟩
abbrev S5 : Shape := ⟨1, ![5]⟩
abbrev S384 : Shape := ⟨1, ![384]⟩
abbrev S1x384 : Shape := ⟨2, ![1, 384]⟩
abbrev S5x1 : Shape := ⟨2, ![5, 1]⟩
abbrev S5x384 : Shape := ⟨2, ![5, 384]⟩
abbrev S5x384x1 : Shape := ⟨3, ![5, 384, 1]⟩
abbrev S_ : Shape := ⟨0, ![]⟩
abbrev S5x384x1x1 : Shape := ⟨4, ![5, 384, 1, 1]⟩
abbrev S5x384x128 : Shape := ⟨3, ![5, 384, 128]⟩
abbrev S5x48x1x1 : Shape := ⟨4, ![5, 48, 1, 1]⟩
abbrev S5x256x48x64 : Shape := ⟨4, ![5, 256, 48, 64]⟩
abbrev S5x256x48 : Shape := ⟨3, ![5, 256, 48]⟩
abbrev S5x256x128 : Shape := ⟨3, ![5, 256, 128]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S5x48x256 : Shape := ⟨3, ![5, 48, 256]⟩
abbrev S1x1x48 : Shape := ⟨3, ![1, 1, 48]⟩
abbrev S5x48x1x256 : Shape := ⟨4, ![5, 48, 1, 256]⟩
abbrev S5x48x256x256 : Shape := ⟨4, ![5, 48, 256, 256]⟩
abbrev S5x256x256 : Shape := ⟨3, ![5, 256, 256]⟩
abbrev S5x48x256x1 : Shape := ⟨4, ![5, 48, 256, 1]⟩
abbrev S5x1x256x256 : Shape := ⟨4, ![5, 1, 256, 256]⟩
abbrev S5x48x64x256 : Shape := ⟨4, ![5, 48, 64, 256]⟩
abbrev S48x1x1 : Shape := ⟨3, ![48, 1, 1]⟩
abbrev S1x48x1x1 : Shape := ⟨4, ![1, 48, 1, 1]⟩
abbrev S5x48x1 : Shape := ⟨3, ![5, 48, 1]⟩
abbrev S5x128x48x64 : Shape := ⟨4, ![5, 128, 48, 64]⟩
abbrev S5x128x48 : Shape := ⟨3, ![5, 128, 48]⟩
abbrev S5x128x128 : Shape := ⟨3, ![5, 128, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S5x48x128 : Shape := ⟨3, ![5, 48, 128]⟩
abbrev S5x48x1x128 : Shape := ⟨4, ![5, 48, 1, 128]⟩
abbrev S5x48x128x128 : Shape := ⟨4, ![5, 48, 128, 128]⟩
abbrev S5x48x128x1 : Shape := ⟨4, ![5, 48, 128, 1]⟩
abbrev S5x1x128x128 : Shape := ⟨4, ![5, 1, 128, 128]⟩
abbrev S5x48x64x384 : Shape := ⟨4, ![5, 48, 64, 384]⟩

abbrev nBuf : Space → Nat
  | .hbm => 271
  | .vmem => 2
  | .smem => 0
  | _ => 0

abbrev hbmTy0_0 (i : Nat) : BufTy := match i % 128 with
  | 0 => ⟨S5x384x48x64, .bf16⟩
  | 1 => ⟨S5x384x48, .f32⟩
  | 2 => ⟨S48, .f32⟩
  | 3 => ⟨S5x384x1x128, .bf16⟩
  | 4 => ⟨S5x384x1x128, .bf16⟩
  | 5 => ⟨S48, .f32⟩
  | 6 => ⟨S5x48x64x128, .fp8e4m3⟩
  | 7 => ⟨S5x48, .f32⟩
  | 8 => ⟨S5, .i32⟩
  | 9 => ⟨S5x48x64x128, .bf16⟩
  | 10 => ⟨S384, .i32⟩
  | 11 => ⟨S1x384, .i32⟩
  | 12 => ⟨S5x1, .i32⟩
  | 13 => ⟨S5x384, .i32⟩
  | 14 => ⟨S5x384, .i32⟩
  | 15 => ⟨S5x384, .i1⟩
  | 16 => ⟨S5x384x1, .i1⟩
  | 17 => ⟨S_, .f32⟩
  | 18 => ⟨S_, .f32⟩
  | 19 => ⟨S5x384x48, .i1⟩
  | 20 => ⟨S5x384x48, .f32⟩
  | 21 => ⟨S5x384x48, .f32⟩
  | 22 => ⟨S5x384x1x1, .i1⟩
  | 23 => ⟨S_, .bf16⟩
  | 24 => ⟨S5x384x48x64, .i1⟩
  | 25 => ⟨S5x384x48x64, .bf16⟩
  | 26 => ⟨S5x384x48x64, .bf16⟩
  | 27 => ⟨S5x384x1, .i1⟩
  | 28 => ⟨S5x384x128, .bf16⟩
  | 29 => ⟨S_, .bf16⟩
  | 30 => ⟨S5x384x128, .i1⟩
  | 31 => ⟨S5x384x128, .bf16⟩
  | 32 => ⟨S5x384x128, .bf16⟩
  | 33 => ⟨S5x384x1, .i1⟩
  | 34 => ⟨S5x384x128, .bf16⟩
  | 35 => ⟨S_, .bf16⟩
  | 36 => ⟨S5x384x128, .i1⟩
  | 37 => ⟨S5x384x128, .bf16⟩
  | 38 => ⟨S5x384x128, .bf16⟩
  | 39 => ⟨S5x48x64x128, .f32⟩
  | 40 => ⟨S5x48x1x1, .f32⟩
  | 41 => ⟨S5x48x64x128, .f32⟩
  | 42 => ⟨S5x48x64x128, .f32⟩
  | 43 => ⟨S5x256x48x64, .bf16⟩
  | 44 => ⟨S5x256x48, .f32⟩
  | 45 => ⟨S5x256x128, .bf16⟩
  | 46 => ⟨S5x256x128, .bf16⟩
  | 47 => ⟨S256, .i32⟩
  | 48 => ⟨S1x256, .i32⟩
  | 49 => ⟨S256x1, .i32⟩
  | 50 => ⟨S256x256, .i32⟩
  | 51 => ⟨S256x256, .i32⟩
  | 52 => ⟨S256x256, .i1⟩
  | 53 => ⟨S5x48x256, .f32⟩
  | 54 => ⟨S1x1x48, .f32⟩
  | 55 => ⟨S5x256x48, .f32⟩
  | 56 => ⟨S5x256x48, .f32⟩
  | 57 => ⟨S5x48x256, .f32⟩
  | 58 => ⟨S5x48x1x256, .f32⟩
  | 59 => ⟨S_, .f32⟩
  | 60 => ⟨S_, .f32⟩
  | 61 => ⟨S5x48x256x256, .i1⟩
  | 62 => ⟨S5x48x256x256, .f32⟩
  | 63 => ⟨S5x48x256x256, .f32⟩
  | 64 => ⟨S5x48x256x256, .f32⟩
  | 65 => ⟨S_, .f32⟩
  | 66 => ⟨S5x48x256, .f32⟩
  | 67 => ⟨S5x48x256, .f32⟩
  | 68 => ⟨S5x256x256, .f32⟩
  | 69 => ⟨S5x48x256x1, .f32⟩
  | 70 => ⟨S5x48x1x256, .f32⟩
  | 71 => ⟨S5x48x256x256, .f32⟩
  | 72 => ⟨S5x48x256x256, .f32⟩
  | 73 => ⟨S5x48x256x256, .f32⟩
  | 74 => ⟨S_, .f32⟩
  | 75 => ⟨S_, .f32⟩
  | 76 => ⟨S5x48x256x256, .i1⟩
  | 77 => ⟨S5x48x256x256, .f32⟩
  | 78 => ⟨S5x48x256x256, .f32⟩
  | 79 => ⟨S5x1x256x256, .f32⟩
  | 80 => ⟨S5x48x256x256, .f32⟩
  | 81 => ⟨S5x48x256x256, .f32⟩
  | 82 => ⟨S5x48x256x256, .f32⟩
  | 83 => ⟨S5x48x1x256, .f32⟩
  | 84 => ⟨S5x48x256x256, .f32⟩
  | 85 => ⟨S5x48x256x256, .f32⟩
  | 86 => ⟨S5x48x256x256, .bf16⟩
  | 87 => ⟨S5x48x64x256, .f32⟩
  | 88 => ⟨S5x48x64x256, .f32⟩
  | 89 => ⟨S5x48x1x1, .f32⟩
  | 90 => ⟨S5x48x64x256, .f32⟩
  | 91 => ⟨S5x48x64x256, .f32⟩
  | 92 => ⟨S5x48x1x256, .f32⟩
  | 93 => ⟨S5x48x64x256, .f32⟩
  | 94 => ⟨S5x48x64x256, .f32⟩
  | 95 => ⟨S5x48x64x256, .bf16⟩
  | 96 => ⟨S5x48x64x256, .f32⟩
  | 97 => ⟨S5x48x64x256, .f32⟩
  | 98 => ⟨S48x1x1, .f32⟩
  | 99 => ⟨S1x48x1x1, .f32⟩
  | 100 => ⟨S5x48x64x256, .f32⟩
  | 101 => ⟨S5x48x64x256, .f32⟩
  | 102 => ⟨S5x48x64x256, .f32⟩
  | 103 => ⟨S5x48x1, .f32⟩
  | 104 => ⟨S5x48x256, .f32⟩
  | 105 => ⟨S5x48x256, .f32⟩
  | 106 => ⟨S5x48x256, .f32⟩
  | 107 => ⟨S5x48x256, .f32⟩
  | 108 => ⟨S5x48x1x256, .f32⟩
  | 109 => ⟨S5x48x64x256, .f32⟩
  | 110 => ⟨S5x48x64x256, .f32⟩
  | 111 => ⟨S5x48x64x256, .bf16⟩
  | 112 => ⟨S5x48x64x128, .f32⟩
  | 113 => ⟨S5x48x1, .f32⟩
  | 114 => ⟨S5x48, .f32⟩
  | 115 => ⟨S5x48x1x1, .f32⟩
  | 116 => ⟨S5x48x64x128, .f32⟩
  | 117 => ⟨S5x48x64x128, .f32⟩
  | 118 => ⟨S5x48x64x128, .f32⟩
  | 119 => ⟨S5x128x48x64, .bf16⟩
  | 120 => ⟨S5x128x48, .f32⟩
  | 121 => ⟨S5x128x128, .bf16⟩
  | 122 => ⟨S5x128x128, .bf16⟩
  | 123 => ⟨S128, .i32⟩
  | 124 => ⟨S1x128, .i32⟩
  | 125 => ⟨S128x1, .i32⟩
  | 126 => ⟨S128x128, .i32⟩
  | 127 => ⟨S128x128, .i32⟩
  | _ => ⟨S5x384x48x64, .bf16⟩

abbrev hbmTy0_1 (i : Nat) : BufTy := match i % 128 with
  | 0 => ⟨S128x128, .i1⟩
  | 1 => ⟨S5x48x128, .f32⟩
  | 2 => ⟨S1x1x48, .f32⟩
  | 3 => ⟨S5x128x48, .f32⟩
  | 4 => ⟨S5x128x48, .f32⟩
  | 5 => ⟨S5x48x128, .f32⟩
  | 6 => ⟨S5x48x1x128, .f32⟩
  | 7 => ⟨S_, .f32⟩
  | 8 => ⟨S_, .f32⟩
  | 9 => ⟨S5x48x128x128, .i1⟩
  | 10 => ⟨S5x48x128x128, .f32⟩
  | 11 => ⟨S5x48x128x128, .f32⟩
  | 12 => ⟨S5x48x128x128, .f32⟩
  | 13 => ⟨S_, .f32⟩
  | 14 => ⟨S5x48x128, .f32⟩
  | 15 => ⟨S5x48x128, .f32⟩
  | 16 => ⟨S5x128x128, .f32⟩
  | 17 => ⟨S5x48x128x1, .f32⟩
  | 18 => ⟨S5x48x1x128, .f32⟩
  | 19 => ⟨S5x48x128x128, .f32⟩
  | 20 => ⟨S5x48x128x128, .f32⟩
  | 21 => ⟨S5x48x128x128, .f32⟩
  | 22 => ⟨S_, .f32⟩
  | 23 => ⟨S_, .f32⟩
  | 24 => ⟨S5x48x128x128, .i1⟩
  | 25 => ⟨S5x48x128x128, .f32⟩
  | 26 => ⟨S5x48x128x128, .f32⟩
  | 27 => ⟨S5x1x128x128, .f32⟩
  | 28 => ⟨S5x48x128x128, .f32⟩
  | 29 => ⟨S5x48x128x128, .f32⟩
  | 30 => ⟨S5x48x128x128, .f32⟩
  | 31 => ⟨S5x48x1x128, .f32⟩
  | 32 => ⟨S5x48x128x128, .f32⟩
  | 33 => ⟨S5x48x128x128, .f32⟩
  | 34 => ⟨S5x48x128x128, .bf16⟩
  | 35 => ⟨S5x48x64x128, .f32⟩
  | 36 => ⟨S5x48x64x128, .bf16⟩
  | 37 => ⟨S5x48x64x128, .f32⟩
  | 38 => ⟨S5x48x1x128, .f32⟩
  | 39 => ⟨S5x48x64x128, .f32⟩
  | 40 => ⟨S5x48x64x128, .f32⟩
  | 41 => ⟨S5x48x64x128, .bf16⟩
  | 42 => ⟨S5x48x64x128, .f32⟩
  | 43 => ⟨S5x48x64x128, .f32⟩
  | 44 => ⟨S48x1x1, .f32⟩
  | 45 => ⟨S1x48x1x1, .f32⟩
  | 46 => ⟨S5x48x64x128, .f32⟩
  | 47 => ⟨S5x48x64x128, .f32⟩
  | 48 => ⟨S5x48x64x128, .f32⟩
  | 49 => ⟨S5x48x1, .f32⟩
  | 50 => ⟨S5x48x128, .f32⟩
  | 51 => ⟨S5x48x128, .f32⟩
  | 52 => ⟨S5x48x128, .f32⟩
  | 53 => ⟨S5x48x128, .f32⟩
  | 54 => ⟨S5x48x1x128, .f32⟩
  | 55 => ⟨S5x48x64x128, .f32⟩
  | 56 => ⟨S5x48x64x128, .f32⟩
  | 57 => ⟨S5x48x64x128, .bf16⟩
  | 58 => ⟨S5x48x64x128, .f32⟩
  | 59 => ⟨S5x48x1, .f32⟩
  | 60 => ⟨S5x48, .f32⟩
  | 61 => ⟨S5x48x1x1, .f32⟩
  | 62 => ⟨S5x48x64x128, .f32⟩
  | 63 => ⟨S5x48x64x128, .f32⟩
  | 64 => ⟨S5x48x64x128, .f32⟩
  | 65 => ⟨S5x48x64x384, .f32⟩
  | 66 => ⟨S5x48x64x384, .bf16⟩
  | 67 => ⟨S5x48x64x128, .f32⟩
  | 68 => ⟨S_, .f32⟩
  | 69 => ⟨S5x48, .f32⟩
  | 70 => ⟨S_, .f32⟩
  | 71 => ⟨S5x48, .f32⟩
  | 72 => ⟨S5x48, .f32⟩
  | 73 => ⟨S_, .f32⟩
  | 74 => ⟨S5x48, .f32⟩
  | 75 => ⟨S5x48, .i1⟩
  | 76 => ⟨S5x48, .f32⟩
  | 77 => ⟨S_, .f32⟩
  | 78 => ⟨S5x48, .f32⟩
  | 79 => ⟨S5x48, .f32⟩
  | 80 => ⟨S5x48, .f32⟩
  | 81 => ⟨S5x48, .f32⟩
  | 82 => ⟨S_, .f32⟩
  | 83 => ⟨S5x48, .f32⟩
  | 84 => ⟨S5x48, .f32⟩
  | 85 => ⟨S_, .f32⟩
  | 86 => ⟨S5x48, .f32⟩
  | 87 => ⟨S5x48, .f32⟩
  | 88 => ⟨S_, .f32⟩
  | 89 => ⟨S_, .f32⟩
  | 90 => ⟨S5x48, .f32⟩
  | 91 => ⟨S5x48, .f32⟩
  | 92 => ⟨S_, .f32⟩
  | 93 => ⟨S5x48, .f32⟩
  | 94 => ⟨S5x48, .i1⟩
  | 95 => ⟨S_, .f32⟩
  | 96 => ⟨S5x48, .f32⟩
  | 97 => ⟨S5x48, .f32⟩
  | 98 => ⟨S_, .f32⟩
  | 99 => ⟨S5x48, .f32⟩
  | 100 => ⟨S5x48, .i1⟩
  | 101 => ⟨S_, .f32⟩
  | 102 => ⟨S_, .f32⟩
  | 103 => ⟨S5x48, .f32⟩
  | 104 => ⟨S5x48, .f32⟩
  | 105 => ⟨S5x48, .f32⟩
  | 106 => ⟨S5x48, .f32⟩
  | 107 => ⟨S5x48, .f32⟩
  | 108 => ⟨S_, .f32⟩
  | 109 => ⟨S5x48, .f32⟩
  | 110 => ⟨S5x48, .i1⟩
  | 111 => ⟨S5x48, .f32⟩
  | 112 => ⟨S_, .f32⟩
  | 113 => ⟨S5x48, .f32⟩
  | 114 => ⟨S5x48, .f32⟩
  | 115 => ⟨S_, .f32⟩
  | 116 => ⟨S5x48, .f32⟩
  | 117 => ⟨S5x48, .i1⟩
  | 118 => ⟨S_, .f32⟩
  | 119 => ⟨S5x48, .f32⟩
  | 120 => ⟨S5x48, .i1⟩
  | 121 => ⟨S_, .f32⟩
  | 122 => ⟨S_, .f32⟩
  | 123 => ⟨S5x48, .f32⟩
  | 124 => ⟨S5x48, .f32⟩
  | 125 => ⟨S5x48, .f32⟩
  | 126 => ⟨S_, .f32⟩
  | 127 => ⟨S5x48, .f32⟩
  | _ => ⟨S5x384x48x64, .bf16⟩

abbrev hbmTy0_2 (i : Nat) : BufTy := match i % 128 with
  | 0 => ⟨S5x48, .f32⟩
  | 1 => ⟨S5x48, .f32⟩
  | 2 => ⟨S5x48, .f32⟩
  | 3 => ⟨S5x48x1x1, .f32⟩
  | 4 => ⟨S5x48x64x128, .f32⟩
  | 5 => ⟨S5x48x64x128, .f32⟩
  | 6 => ⟨S_, .f32⟩
  | 7 => ⟨S_, .f32⟩
  | 8 => ⟨S_, .f32⟩
  | 9 => ⟨S5x48x64x128, .f32⟩
  | 10 => ⟨S5x48x64x128, .f32⟩
  | 11 => ⟨S_, .f32⟩
  | 12 => ⟨S5x48x64x128, .f32⟩
  | 13 => ⟨S5x48x64x128, .f32⟩
  | 14 => ⟨S5x48x64x128, .fp8e4m3⟩
  | _ => ⟨S5x384x48x64, .bf16⟩

abbrev hbmTy (i : Nat) : BufTy := match i / 128 with
  | 0 => hbmTy0_0 i
  | 1 => hbmTy0_1 i
  | 2 => hbmTy0_2 i
  | _ => ⟨S5x384x48x64, .bf16⟩

abbrev bufTy : (tb : Table) → Fin (tcTables nBuf tb) → BufTy
  | .hbm, ⟨i, _⟩ => hbmTy i
  | .local _ .vmem, ⟨0, _⟩ => ⟨S5x48x64x128, .fp8e4m3⟩
  | .local _ .vmem, ⟨1, _⟩ => ⟨S5x48x64x128, .bf16⟩
  | _, _ => ⟨S5x384x48x64, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_call1_v0 : Ref sig .tc := ⟨.hbm, 24, rfl⟩
abbrev main_call1_v1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_call2_v0 : Ref sig .tc := ⟨.hbm, 30, rfl⟩
abbrev main_call2_v1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_2 : Ref sig .tc := ⟨.hbm, 35, rfl⟩
abbrev main_call3_v0 : Ref sig .tc := ⟨.hbm, 36, rfl⟩
abbrev main_call3_v1 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_3 : Ref sig .tc := ⟨.hbm, 59, rfl⟩
abbrev main_call4_v0 : Ref sig .tc := ⟨.hbm, 60, rfl⟩
abbrev main_call4_v1 : Ref sig .tc := ⟨.hbm, 61, rfl⟩
abbrev main_call4_v2 : Ref sig .tc := ⟨.hbm, 62, rfl⟩
abbrev main_call4_v3 : Ref sig .tc := ⟨.hbm, 63, rfl⟩
abbrev main_v37 : Ref sig .tc := ⟨.hbm, 64, rfl⟩
abbrev main_cst_4 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_5 : Ref sig .tc := ⟨.hbm, 74, rfl⟩
abbrev main_call5_v0 : Ref sig .tc := ⟨.hbm, 75, rfl⟩
abbrev main_call5_v1 : Ref sig .tc := ⟨.hbm, 76, rfl⟩
abbrev main_call5_v2 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_cst_6 : Ref sig .tc := ⟨.hbm, 135, rfl⟩
abbrev main_call6_v0 : Ref sig .tc := ⟨.hbm, 136, rfl⟩
abbrev main_call6_v1 : Ref sig .tc := ⟨.hbm, 137, rfl⟩
abbrev main_call6_v2 : Ref sig .tc := ⟨.hbm, 138, rfl⟩
abbrev main_call6_v3 : Ref sig .tc := ⟨.hbm, 139, rfl⟩
abbrev main_v103 : Ref sig .tc := ⟨.hbm, 140, rfl⟩
abbrev main_cst_7 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_cst_8 : Ref sig .tc := ⟨.hbm, 150, rfl⟩
abbrev main_call7_v0 : Ref sig .tc := ⟨.hbm, 151, rfl⟩
abbrev main_call7_v1 : Ref sig .tc := ⟨.hbm, 152, rfl⟩
abbrev main_call7_v2 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_cst_9 : Ref sig .tc := ⟨.hbm, 196, rfl⟩
abbrev main_v154 : Ref sig .tc := ⟨.hbm, 197, rfl⟩
abbrev main_cst_10 : Ref sig .tc := ⟨.hbm, 198, rfl⟩
abbrev main_v155 : Ref sig .tc := ⟨.hbm, 199, rfl⟩
abbrev main_v156 : Ref sig .tc := ⟨.hbm, 200, rfl⟩
abbrev main_cst_11 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_cst_12 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_cst_13 : Ref sig .tc := ⟨.hbm, 210, rfl⟩
abbrev main_v164 : Ref sig .tc := ⟨.hbm, 211, rfl⟩
abbrev main_v165 : Ref sig .tc := ⟨.hbm, 212, rfl⟩
abbrev main_cst_14 : Ref sig .tc := ⟨.hbm, 213, rfl⟩
abbrev main_v166 : Ref sig .tc := ⟨.hbm, 214, rfl⟩
abbrev main_v167 : Ref sig .tc := ⟨.hbm, 215, rfl⟩
abbrev main_cst_15 : Ref sig .tc := ⟨.hbm, 216, rfl⟩
abbrev main_call8_v0 : Ref sig .tc := ⟨.hbm, 217, rfl⟩
abbrev main_call8_v1 : Ref sig .tc := ⟨.hbm, 218, rfl⟩
abbrev main_v168 : Ref sig .tc := ⟨.hbm, 219, rfl⟩
abbrev main_cst_16 : Ref sig .tc := ⟨.hbm, 220, rfl⟩
abbrev main_v169 : Ref sig .tc := ⟨.hbm, 221, rfl⟩
abbrev main_v170 : Ref sig .tc := ⟨.hbm, 222, rfl⟩
abbrev main_cst_17 : Ref sig .tc := ⟨.hbm, 223, rfl⟩
abbrev main_v171 : Ref sig .tc := ⟨.hbm, 224, rfl⟩
abbrev main_v172 : Ref sig .tc := ⟨.hbm, 225, rfl⟩
abbrev main_cst_18 : Ref sig .tc := ⟨.hbm, 226, rfl⟩
abbrev main_v173 : Ref sig .tc := ⟨.hbm, 227, rfl⟩
abbrev main_v174 : Ref sig .tc := ⟨.hbm, 228, rfl⟩
abbrev main_cst_19 : Ref sig .tc := ⟨.hbm, 229, rfl⟩
abbrev main_cst_20 : Ref sig .tc := ⟨.hbm, 230, rfl⟩
abbrev main_call9_v0 : Ref sig .tc := ⟨.hbm, 231, rfl⟩
abbrev main_call9_v1 : Ref sig .tc := ⟨.hbm, 232, rfl⟩
abbrev main_v175 : Ref sig .tc := ⟨.hbm, 233, rfl⟩
abbrev main_call10_v0 : Ref sig .tc := ⟨.hbm, 234, rfl⟩
abbrev main_v176 : Ref sig .tc := ⟨.hbm, 235, rfl⟩
abbrev main_cst_21 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_cst_22 : Ref sig .tc := ⟨.hbm, 240, rfl⟩
abbrev main_v180 : Ref sig .tc := ⟨.hbm, 241, rfl⟩
abbrev main_v181 : Ref sig .tc := ⟨.hbm, 242, rfl⟩
abbrev main_cst_23 : Ref sig .tc := ⟨.hbm, 243, rfl⟩
abbrev main_v182 : Ref sig .tc := ⟨.hbm, 244, rfl⟩
abbrev main_v183 : Ref sig .tc := ⟨.hbm, 245, rfl⟩
abbrev main_cst_24 : Ref sig .tc := ⟨.hbm, 246, rfl⟩
abbrev main_v184 : Ref sig .tc := ⟨.hbm, 247, rfl⟩
abbrev main_v185 : Ref sig .tc := ⟨.hbm, 248, rfl⟩
abbrev main_cst_25 : Ref sig .tc := ⟨.hbm, 249, rfl⟩
abbrev main_cst_26 : Ref sig .tc := ⟨.hbm, 250, rfl⟩
abbrev main_call11_v0 : Ref sig .tc := ⟨.hbm, 251, rfl⟩
abbrev main_call11_v1 : Ref sig .tc := ⟨.hbm, 252, rfl⟩
abbrev main_v186 : Ref sig .tc := ⟨.hbm, 253, rfl⟩
abbrev main_cst_27 : Ref sig .tc := ⟨.hbm, 254, rfl⟩
abbrev main_call12_v0 : Ref sig .tc := ⟨.hbm, 255, rfl⟩
abbrev main_v187 : Ref sig .tc := ⟨.hbm, 256, rfl⟩
abbrev main_call13_v0 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_cst_28 : Ref sig .tc := ⟨.hbm, 262, rfl⟩
abbrev main_cst_29 : Ref sig .tc := ⟨.hbm, 263, rfl⟩
abbrev main_call14_v0 : Ref sig .tc := ⟨.hbm, 264, rfl⟩
abbrev main_call14_v1 : Ref sig .tc := ⟨.hbm, 265, rfl⟩
abbrev main_call14_v2 : Ref sig .tc := ⟨.hbm, 266, rfl⟩
abbrev main_call14_v3 : Ref sig .tc := ⟨.hbm, 267, rfl⟩
abbrev main_call14_v4 : Ref sig .tc := ⟨.hbm, 268, rfl⟩
abbrev main_v192 : Ref sig .tc := ⟨.hbm, 269, rfl⟩
abbrev main_v193 : Ref sig .tc := ⟨.hbm, 270, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S5x48x64x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x48x64x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Act.lean ====
/-
  A kernel body as a function of the contents of its buffers. An `Act` is a piece of straight-line
  TensorCore program over a family of buffers, together with the function from contents to contents
  it computes and the proof that it computes it. The pieces compose by `bind`; a whole body written
  in them is correct by construction, and what it computes is read off `run`.
-/
module

public import Idealize.ShloMosaic.Lib.Pipeline.Kit
public import Idealize.ShloMosaic.Lib.Pipeline.Regions

@[expose] public section

noncomputable section

namespace Cert.Ssd

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-- A family of buffers: their spaces, shapes and element types. -/
structure Fam where
  /-- The names of the buffers. -/
  K : Type
  [dec : DecidableEq K]
  [fin : Fintype K]
  /-- Where each lies. -/
  sp : K → CoreSpace
  /-- Its shape. -/
  sh : K → Shape
  /-- Its element type. -/
  el : K → EltTy
  /-- Those only read, of which a part share is held. -/
  ro : K → Bool

attribute [instance] Fam.dec Fam.fin

variable {G : Fam} {nD : Nat} {τ : Topo} {sig : RefSig} {F : FTy → Type} {Λ : Labels}

/-- Contents of every buffer. -/
abbrev St (G : Fam) (F : FTy → Type) : Type := (k : G.K) → (G.sh k).Idx → Elt F (G.el k)

/-- Where the buffers are. -/
abbrev Mems (G : Fam) (sig : RefSig) : Type := (k : G.K) → Memref sig .tc (G.sp k) (G.sh k) (G.el k)

section Own

variable {Ix : Type} [DecidableEq Ix] {Name : Type} [DecidableEq Name] {U : Type} [URA U] {Lvl : Type}

/-- The share held of buffer `k`. -/
def shareOf (k : G.K) : PosShare TreeShare := bif G.ro k then fullShare.right else fullShare

/-- Every buffer held at its contents. -/
def own (d : Dev nD) (mr : Mems G sig) (σ : St G F) : sProp (MT nD τ sig Ix (Elt F) Name U Lvl) :=
  BI.bigSep (Finset.univ : Finset G.K) fun k => owns (d.tc : Thread nD τ) (mr k) (shareOf k) (σ k)

end Own

/-- Running `prog`, given in continuation style, from contents `σ` is continuing at `run σ`. -/
def ActOk (τ : Topo) (nD : Nat) (Λ : Labels) (mr : Mems G sig) {α : Type}
    (prog : {β : Type} → (α → Prog (TpuEff nD τ sig (Elt F) Λ .tc) β) → Prog (TpuEff nD τ sig (Elt F) Λ .tc) β)
    (run : St G F → α × St G F) : Prop :=
  ∀ {Ix : Type} [DecidableEq Ix] {Name : Type} [DecidableEq Name] {U : Type} [URA U] {Lvl : Type} [Preorder Lvl]
    (defs : Defs nD τ sig (Elt F) Λ) (𝒱 : Variants) (d : Dev nD) (bd : Option 𝒱.V) (E : Set Name)
    (σ : St G F) {β : Type} (k : α → Prog (TpuEff nD τ sig (Elt F) Λ .tc) β)
    (Q : β → sProp (MT nD τ sig Ix (Elt F) Name U Lvl)),
    iprop(own d mr σ ∗ (own d mr (run σ).2 -∗ wp frame (wpE defs 𝒱 (d.tc : Thread nD τ) bd) E (k (run σ).1) Q))
      ⊢ wp frame (wpE defs 𝒱 (d.tc : Thread nD τ) bd) E (prog k) Q

variable (F τ nD Λ) in
/-- A piece of program over the buffers `mr`, what it computes, and that it does. -/
structure Act (mr : Mems G sig) (α : Type) where
  /-- The program, before a continuation. -/
  prog : {β : Type} → (α → Prog (TpuEff nD τ sig (Elt F) Λ .tc) β) → Prog (TpuEff nD τ sig (Elt F) Λ .tc) β
  /-- Its value and the contents after it, from the contents before. -/
  run : St G F → α × St G F
  /-- It computes that. -/
  ok : ActOk τ nD Λ mr prog run

namespace Act

variable {mr : Mems G sig} {α β : Type}

/-- No operation. -/
def ret (a : α) : Act nD τ F Λ mr α where
  prog k := k a
  run σ := (a, σ)
  ok := by
    intro Ix _ Name _ U _ Lvl _ defs 𝒱 d bd E σ γ k Q
    iintro ⟨H, K⟩
    iapply K; iexact H

/-- One piece, then another at its value. -/
def bind (m : Act nD τ F Λ mr α) (f : α → Act nD τ F Λ mr β) : Act nD τ F Λ mr β where
  prog k := m.prog fun a => (f a).prog k
  run σ := (f (m.run σ).1).run (m.run σ).2
  ok := by
    intro Ix _ Name _ U _ Lvl _ defs 𝒱 d bd E σ γ k Q
    refine BIBase.Entails.trans ?_ (m.ok defs 𝒱 d bd E σ _ Q)
    iintro ⟨H, K⟩
    isplitl [H]; · iexact H
    iintro H
    iapply ((f (m.run σ).1).ok defs 𝒱 d bd E (m.run σ).2 k Q)
    isplitl [H]; · iexact H
    iexact K

instance : Monad (Act nD τ F Λ mr) where
  pure := ret
  bind := bind

/-- A load of a rectangle. -/
def load (k : G.K) (r : Rect (G.sh k)) (hl : (mr k).view.LoadsAt r.toLoadRect) :
    Act nD τ F Λ mr (r.shape.Idx → Elt F (G.el k)) where
  prog c := .op (.load (mr k) r.toLoadRect hl) c
  run σ := (fun x => σ k (r.emb x), σ)
  ok := by
    intro Ix _ Name _ U _ Lvl _ defs 𝒱 d bd E σ γ c Q
    have hb : (own d mr σ : sProp (MT nD τ sig Ix (Elt F) Name U Lvl))
        ⊢ iprop(owns (d.tc : Thread nD τ) (mr k) (shareOf k) (σ k)
          ∗ BI.bigSep (Finset.univ.erase k) fun k' => owns (d.tc : Thread nD τ) (mr k') (shareOf k') (σ k')) := by
      unfold own
      rw [BI.bigSep_erase (Finset.mem_univ k)]; exact .rfl
    have hb' : iprop(owns (d.tc : Thread nD τ) (mr k) (shareOf k) (σ k)
          ∗ BI.bigSep (Finset.univ.erase k) fun k' => owns (d.tc : Thread nD τ) (mr k') (shareOf k') (σ k'))
        ⊢ (own d mr σ : sProp (MT nD τ sig Ix (Elt F) Name U Lvl)) := by
      unfold own
      rw [BI.bigSep_erase (Finset.mem_univ k)]; exact .rfl
    iintro ⟨H, K⟩
    ihave H := hb $$ H
    icases H with ⟨H1, H2⟩
    ihave H1 := (show owns (d.tc : Thread nD τ) (mr k) (shareOf k) (σ k)
        ⊢ iprop(∃ f, ⌜(mr k).view.read (Elt F) f = σ k⌝
            ∗ (mr k).view.loc (d.tc : Thread nD τ) ↦[(mr k).view.set]{shareOf k} f) from .rfl) $$ H1
    icases H1 with ⟨%f, %hf, H1⟩
    iapply (wp_load_rect (defs := defs) 𝒱 (d.tc : Thread nD τ) bd E (Q := Q) (m := mr k) (r := r) (hl := hl) (k := c)
      (S := (mr k).view.set) (q := shareOf k) (f := f) (View.set_slice_subset _ _)) $$ H1
    iintro H1
    have e : ((mr k).access r).read (Elt F) f = fun x => σ k (r.emb x) := by
      rw [← hf]; rfl
    rw [e]
    iapply K
    iapply hb'
    isplitl [H1]
    · unfold owns
      iexists f; isplitr; · ipureintro; exact hf
      iexact H1
    · iexact H2

/-- The contents with buffer `k` replaced. -/
def _root_.Cert.Ssd.St.set (σ : St G F) (k : G.K) (X : (G.sh k).Idx → Elt F (G.el k)) : St G F := Function.update σ k X

/-- A store of a whole rectangle. -/
def store (k : G.K) (r : Rect (G.sh k)) (w : r.shape.Idx → Elt F (G.el k))
    (hx : ((mr k).access r).Stores Finset.univ) (hr : G.ro k = false) : Act nD τ F Λ mr PUnit where
  prog c := .op (.store (mr k) r w Finset.univ hx (.inl rfl)) c
  run σ := (⟨⟩, St.set σ k (r.overlay (σ k) w))
  ok := by
    intro Ix _ Name _ U _ Lvl _ defs 𝒱 d bd E σ γ c Q
    have hs : (shareOf k : PosShare TreeShare) = fullShare := by unfold shareOf; rw [hr]; rfl
    have hb : (own d mr σ : sProp (MT nD τ sig Ix (Elt F) Name U Lvl))
        ⊢ iprop(owns (d.tc : Thread nD τ) (mr k) fullShare (σ k)
          ∗ BI.bigSep (Finset.univ.erase k) fun k' => owns (d.tc : Thread nD τ) (mr k') (shareOf k') (σ k')) := by
      unfold own
      rw [BI.bigSep_erase (Finset.mem_univ k), hs]; exact .rfl
    have hb' : iprop(owns (d.tc : Thread nD τ) (mr k) fullShare (r.overlay (σ k) w)
          ∗ BI.bigSep (Finset.univ.erase k) fun k' => owns (d.tc : Thread nD τ) (mr k') (shareOf k') (σ k'))
        ⊢ (own d mr (St.set σ k (r.overlay (σ k) w)) : sProp (MT nD τ sig Ix (Elt F) Name U Lvl)) := by
      unfold own
      rw [BI.bigSep_erase (Finset.mem_univ k), hs]
      have e1 : St.set σ k (r.overlay (σ k) w) k = r.overlay (σ k) w := by unfold St.set; exact Function.update_self ..
      have e2 : ∀ k' ∈ Finset.univ.erase k, owns (d.tc : Thread nD τ) (mr k') (shareOf k') (σ k')
          = (owns (d.tc : Thread nD τ) (mr k') (shareOf k') (St.set σ k (r.overlay (σ k) w) k') : sProp (MT nD τ sig Ix (Elt F) Name U Lvl)) := by
        intro k' hk'
        unfold St.set
        rw [Function.update_of_ne (Finset.ne_of_mem_erase hk')]
      rw [e1, BI.bigSep_congr e2]; exact .rfl
    iintro ⟨H, K⟩
    ihave H := hb $$ H
    icases H with ⟨H1, H2⟩
    ihave H1 := (show owns (d.tc : Thread nD τ) (mr k) fullShare (σ k)
        ⊢ iprop(∃ f, ⌜(mr k).view.read (Elt F) f = σ k⌝
            ∗ (mr k).view.loc (d.tc : Thread nD τ) ↦[(mr k).view.set]{fullShare} f) from .rfl) $$ H1
    icases H1 with ⟨%f, %hf, H1⟩
    iapply (wp_store (defs := defs) 𝒱 (d.tc : Thread nD τ) bd E (Q := Q) (m := mr k) (r := r) (w := w) (Mk := Finset.univ)
      (hx := hx) (hm := .inl rfl) (k := c) (S := (mr k).view.set) (f := f) (View.set_slice_subset _ _)) $$ H1
    iintro H1
    iapply K
    iapply hb'
    isplitl [H1]
    · unfold owns
      iexists ((mr k).access r).write (Elt F) f w Finset.univ
      isplitr
      · ipureintro
        funext j
        by_cases hj : j ∈ r.set
        · obtain ⟨i, rfl⟩ := r.exists_idx_of_mem hj
          change _ = r.overlay _ _ (r.emb i)
          rw [Rect.overlay_emb]
          exact View.read_slice_write_emb r f w (Finset.mem_univ i)
        · rw [Rect.overlay_of_not_mem _ _ _ hj, ← hf]
          refine View.read_slice_write_of_not_mem r f w Finset.univ ?_
          rwa [Rect.map_emb_univ]
      · iexact H1
    · iexact H2

/-- A load of one element of a rectangle. -/
def word (k : G.K) (r : Rect (G.sh k)) (hl : (mr k).view.LoadsAt r.toLoadRect) (x : r.shape.Idx) :
    Act nD τ F Λ mr (Elt F (G.el k)) := bind (load k r hl) fun f => ret (f x)

/-- A conditional. -/
def ite (c : Prop) [Decidable c] (m : Act nD τ F Λ mr PUnit) : Act nD τ F Λ mr PUnit where
  prog k := dite c (fun _ => m.prog k) (fun _ => k ⟨⟩)
  run σ := if c then m.run σ else (⟨⟩, σ)
  ok := by
    intro Ix _ Name _ U _ Lvl _ defs 𝒱 d bd E σ γ k Q
    dsimp only
    by_cases h : c
    · rw [dif_pos h, if_pos h]
      exact m.ok defs 𝒱 d bd E σ k Q
    · rw [dif_neg h, if_neg h]
      iintro ⟨H, K⟩
      iapply K; iexact H

end Act

end Cert.Ssd
-- ==== Proof.Body.lean ====
/-
  The kernel's body, written once with its unrolled heads as a function of the head: the tables a
  batch's first step prepares, and the step over sixteen heads for one, two or three live tiles, in
  four groups of four. `Body.body` is an `Act` over the twenty-five buffers; `Text.lean` shows that
  both printed programs run it.
-/
module

public import proofs.«01_k».proof.Proof.Act
public import proofs.«01_k».proof.Proof.Gen.Kernel

@[expose] public section

set_option maxRecDepth 16384

noncomputable section

namespace Cert.Ssd

open Idealize.ShloMosaic Idealize.ShloMosaic.TcCoe Idealize.SL.Sem
open Cert.Kernel (S1 S5 S48 S48x1 S48x48 S1x48 S5x48 S1x1 S1x1x1 S1x256 S1x1x256 S1x128 S1x384 S1x1x128 S1x1x256 S1x1x384
  S1x1x1x128 S64x128 S64x256 S64x384 S128x128 S128x256 S128x384 S256x128 S256x256 S384x128 S384x256 S1024x384 S1024x128
  S16x64x128 S1x64x128 S4x64x128 S1x4x64x128 S1x1x64x128 S1x1x64x256 S1x1x64x384 S1x16x64x128 S1x16x64x384 S1x48x384
  S1x384x128 S3x16x384 S3x2x16x128 S3x384x128 S48x384 S48x256 S48x128 S3x16x256 S3x16x128 S3x1x16x128 S16x128 S112x128
  S1x128x128 S1x128x1 S128x1)
open Cert.Kernel.Gen

/-- The buffers of the kernel: its operands, its results, its scratches. -/
inductive Buf
  | lens | hs | dd | aa | dt | bb | cc | x | hc | y | fc | fs
  | cum | ecs | dw | gd | bcol | ct | bm | cbt | mask | e | xw | st | sb
  deriving DecidableEq

instance : Fintype Buf :=
  ⟨{.lens, .hs, .dd, .aa, .dt, .bb, .cc, .x, .hc, .y, .fc, .fs, .cum, .ecs, .dw, .gd, .bcol, .ct, .bm, .cbt, .mask, .e, .xw, .st, .sb},
    by intro k; cases k <;> decide⟩

/-- Their spaces, shapes and element types. -/
@[reducible] def fam : Fam where
  K := Buf
  sp := fun | .lens | .hs | .dd => .smem | _ => .vmem
  sh := fun
    | .lens => S5 | .hs => S5x48 | .dd => S48 | .aa => S1x48 | .dt => S1x48x384 | .bb => S1x384x128 | .cc => S1x384x128
    | .x => S1x16x64x384 | .hc => S1x16x64x128 | .y => S1x16x64x384 | .fc => S1x16x64x128 | .fs => S5x48
    | .cum => S3x16x384 | .ecs => S3x16x384 | .dw => S3x16x384 | .gd => S3x2x16x128 | .bcol => S3x384x128
    | .ct => S128x384 | .bm => S384x128 | .cbt => S384x256 | .mask => S64x128 | .e => S1024x384 | .xw => S1024x384
    | .st => S16x64x128 | .sb => S1024x128
  el := fun
    | .lens => .i32 | .hs => .f32 | .dd => .f32 | .aa => .f32 | .dt => .f32 | .bb => .bf16 | .cc => .bf16
    | .x => .bf16 | .hc => .fp8e4m3 | .y => .bf16 | .fc => .fp8e4m3 | .fs => .f32
    | .cum => .f32 | .ecs => .f32 | .dw => .f32 | .gd => .f32 | .bcol => .f32
    | .ct => .bf16 | .bm => .bf16 | .cbt => .f32 | .mask => .i32 | .e => .f32 | .xw => .bf16
    | .st => .f32 | .sb => .bf16
  ro := fun | .lens => true | _ => false

/-! ## Loads and stores of boxes -/

section Ops

variable {nD : Nat} {τ : Topo} {sig : RefSig} {F : FTy → Type} {Λ : Labels} (mr : Mems fam sig) (hw : ∀ k, (mr k).IsWhole)

theorem loads_of_vmem {cs : CoreSpace} {s : Shape} {e : EltTy} (m : Memref sig .tc cs s e) (hv : cs = .vmem) (r : LoadRect s)
    (h : 0 < r.shape.numel) : m.view.LoadsAt r := by subst hv; exact View.loadsAt_vmem h

theorem loads_of_smem {cs : CoreSpace} {s : Shape} {e : EltTy} (m : Memref sig .tc cs s e) (hv : cs = .smem) (r : Rect s)
    (h1 : r.shape.numel = 1) (hp : e.packing = 1) : m.view.LoadsAt r.toLoadRect := by
  subst hv; exact View.loadsAt_rect (View.loads_smem_one hp h1)

theorem stores_of_bits {cs : CoreSpace} {s : Shape} {e : EltTy} (m : Memref sig .tc cs s e) (hv : cs = .vmem) (r : Rect s)
    (h : 0 < r.shape.numel) (he : e.bits = 32) : (m.access r).Stores Finset.univ := by
  subst hv; exact View.stores_vmem_bits_univ h he

theorem stores_of_packed {cs : CoreSpace} {s : Shape} {e : EltTy} (m : Memref sig .tc cs s e) (hm : m.IsWhole) (hv : cs = .vmem)
    (r : Rect s) (h : 0 < r.shape.numel) (hp : r.PackedRows e.packing) : (m.access r).Stores Finset.univ := by
  subst hv; exact View.stores_vmem h (hm.storeExact_slice rfl _ hp) (fun _ => rfl)

/-- Load a box of a vector buffer. -/
def ld (k : Buf) (off size : Fin (fam.sh k).rank → Nat) (inb : ∀ a, off a + size a ≤ (fam.sh k).size a)
    (h : 0 < (⟨(fam.sh k).rank, size⟩ : Shape).numel) (hv : fam.sp k = .vmem := by rfl) :
    Act (G := fam) nD τ F Λ mr ((⟨(fam.sh k).rank, size⟩ : Shape).Idx → Elt F (fam.el k)) :=
  Act.load (G := fam) (mr := mr) k (Rect.unit off size inb) (loads_of_vmem (mr k) hv _ h)

/-- Load one word of a scalar buffer. -/
def ldw (k : Buf) (off size : Fin (fam.sh k).rank → Nat) (inb : ∀ a, off a + size a ≤ (fam.sh k).size a)
    (h1 : (⟨(fam.sh k).rank, size⟩ : Shape).numel = 1) (hv : fam.sp k = .smem := by rfl) (hp : (fam.el k).packing = 1 := by rfl) :
    Act (G := fam) nD τ F Λ mr (Elt F (fam.el k)) :=
  Act.word (G := fam) (mr := mr) k (Rect.unit off size inb) (loads_of_smem (mr k) hv _ h1 hp) (Shape.Idx.first (h1.symm ▸ Nat.one_pos))

/-- Store a box of a vector buffer of 32-bit elements. -/
def st32 (k : Buf) (off size : Fin (fam.sh k).rank → Nat) (inb : ∀ a, off a + size a ≤ (fam.sh k).size a)
    (h : 0 < (⟨(fam.sh k).rank, size⟩ : Shape).numel)
    (w : (⟨(fam.sh k).rank, size⟩ : Shape).Idx → Elt F (fam.el k))
    (hv : fam.sp k = .vmem := by rfl) (he : (fam.el k).bits = 32 := by rfl) (hr : fam.ro k = false := by rfl) :
    Act (G := fam) nD τ F Λ mr PUnit :=
  Act.store (G := fam) (mr := mr) k (Rect.unit off size inb) w (stores_of_bits (mr k) hv _ h he) hr

/-- Store a box of whole packed rows of a vector buffer of narrow elements. -/
def stp (k : Buf) (off size : Fin (fam.sh k).rank → Nat) (inb : ∀ a, off a + size a ≤ (fam.sh k).size a)
    (h : 0 < (⟨(fam.sh k).rank, size⟩ : Shape).numel)
    (hp : (Rect.unit off size inb).PackedRows (fam.el k).packing)
    (w : (⟨(fam.sh k).rank, size⟩ : Shape).Idx → Elt F (fam.el k))
    (hv : fam.sp k = .vmem := by rfl) (hr : fam.ro k = false := by rfl) :
    Act (G := fam) nD τ F Λ mr PUnit :=
  Act.store (G := fam) (mr := mr) k (Rect.unit off size inb) w (stores_of_packed (mr k) (hw k) hv _ h hp) hr

end Ops

/-! ## Where the boxes lie -/

theorem lit2 {p : Fin 2 → Prop} (h0 : p 0) (h1 : p 1) : ∀ a, p a := by intro a; fin_cases a <;> assumption
theorem lit3 {p : Fin 3 → Prop} (h0 : p 0) (h1 : p 1) (h2 : p 2) : ∀ a, p a := by intro a; fin_cases a <;> assumption
theorem lit4 {p : Fin 4 → Prop} (h0 : p 0) (h1 : p 1) (h2 : p 2) (h3 : p 3) : ∀ a, p a := by intro a; fin_cases a <;> assumption

/-- A box of head `j` of a buffer of sixteen heads. -/
theorem in_head (j : Fin 16) (lo w W D : Nat) (h : lo + w ≤ W) :
    ∀ a, (![0, j.val, 0, lo] : Fin 4 → Nat) a + (![1, 1, D, w] : Fin 4 → Nat) a ≤ (![1, 16, D, W] : Fin 4 → Nat) a :=
  lit4 (by simp) (by have := j.isLt; simp; omega) (by simp) (by simpa using h)
/-- A box of group `q`'s four heads. -/
theorem in_group (q : Fin 4) : ∀ a, (![0, 4 * q.val, 0, 0] : Fin 4 → Nat) a + S1x4x64x128.size a ≤ S1x16x64x128.size a := by
  revert q; decide
/-- The rows of head `j` in a buffer of sixteen heads' rows. -/
theorem in_rows (j : Fin 16) (lo w W : Nat) (h : lo + w ≤ W) :
    ∀ a, (![64 * j.val, lo] : Fin 2 → Nat) a + (![64, w] : Fin 2 → Nat) a ≤ (![1024, W] : Fin 2 → Nat) a :=
  lit2 (by have := j.isLt; simp; omega) (by simpa using h)
/-- The rows of group `q`. -/
theorem in_grows (q : Fin 4) (lo w W : Nat) (h : lo + w ≤ W) :
    ∀ a, (![256 * q.val, lo] : Fin 2 → Nat) a + (![256, w] : Fin 2 → Nat) a ≤ (![1024, W] : Fin 2 → Nat) a :=
  lit2 (by have := q.isLt; simp; omega) (by simpa using h)
theorem in_st (j : Fin 16) : ∀ a, (![j.val, 0, 0] : Fin 3 → Nat) a + S1x64x128.size a ≤ S16x64x128.size a := by revert j; decide

/-- The printed index of a block of sixteen heads. -/
abbrev gIx (g : Fin 3) : Nat := (Scalar.indexCast (BitVec.ofNat 32 g.val)).toNat
/-- The printed index of a batch. -/
abbrev bIx (b : Fin 5) : Nat := (Scalar.indexCast (BitVec.ofNat 32 b.val)).toNat
/-- The number of head `j` of block `g`, as the kernel computes it. -/
abbrev hBv (g : Fin 3) (j : Fin 16) : BitVec 32 := Scalar.addi (Scalar.muli (BitVec.ofNat 32 g.val) 16#32) (BitVec.ofNat 32 j.val)
abbrev hIx (g : Fin 3) (j : Fin 16) : Nat := (Scalar.indexCast (hBv g j)).toNat

theorem gIx_eq (g : Fin 3) : gIx g = g.val := by revert g; decide
theorem bIx_eq (b : Fin 5) : bIx b = b.val := by revert b; decide
theorem hIx_eq (g : Fin 3) (j : Fin 16) : hIx g j = 16 * g.val + j.val := by revert g j; decide

theorem in_row (g : Fin 3) (j : Fin 16) (lo w : Nat) (h : lo + w ≤ 384) :
    ∀ a, (![gIx g, j.val, lo] : Fin 3 → Nat) a + (![1, 1, w] : Fin 3 → Nat) a ≤ S3x16x384.size a :=
  lit3 (by have := g.isLt; simp [gIx_eq]; omega) (by have := j.isLt; simp; omega) (by simpa using h)
theorem in_gd (g : Fin 3) (k : Fin 2) (j : Fin 16) :
    ∀ a, (![gIx g, k.val, j.val, 0] : Fin 4 → Nat) a + S1x1x1x128.size a ≤ S3x2x16x128.size a := by
  revert g k j; decide
theorem in_bcol (g : Fin 3) (j : Fin 16) (lo : Nat) (h : lo + 128 ≤ 384) :
    ∀ a, (![gIx g, lo, j.val] : Fin 3 → Nat) a + S1x128x1.size a ≤ S3x384x128.size a :=
  lit3 (by have := g.isLt; simp [gIx_eq]; omega) (by simpa using h) (by have := j.isLt; simp; omega)
theorem in_hs (b : Fin 5) (g : Fin 3) (j : Fin 16) :
    ∀ a, (![bIx b, hIx g j] : Fin 2 → Nat) a + S1x1.size a ≤ S5x48.size a :=
  lit2 (by have := b.isLt; simp [bIx_eq]; omega) (by have := g.isLt; have := j.isLt; simp [hIx_eq]; omega)
theorem in_d (g : Fin 3) (j : Fin 16) : ∀ a, (![hIx g j] : Fin 1 → Nat) a + S1.size a ≤ S48.size a := by
  intro a; have := g.isLt; have := j.isLt; fin_cases a; simp [hIx_eq]; omega
theorem in_lens (b : Fin 5) : ∀ a, (![bIx b] : Fin 1 → Nat) a + S1.size a ≤ S5.size a := by revert b; decide

theorem pk_xw1 (j : Fin 16) : (Rect.unit (s := S1024x384) ![64 * j.val, 0] S64x128.size (in_rows j 0 128 384 (by omega))).PackedRows (EltTy.packing .bf16) := by
  revert j; decide
theorem pk_xw2 (j : Fin 16) : (Rect.unit (s := S1024x384) ![64 * j.val, 0] S64x256.size (in_rows j 0 256 384 (by omega))).PackedRows (EltTy.packing .bf16) := by
  revert j; decide
theorem pk_xw3 (j : Fin 16) : (Rect.unit (s := S1024x384) ![64 * j.val, 0] S64x384.size (in_rows j 0 384 384 (by omega))).PackedRows (EltTy.packing .bf16) := by
  revert j; decide
theorem pk_sb (j : Fin 16) : (Rect.unit (s := S1024x128) ![64 * j.val, 0] S64x128.size (in_rows j 0 128 128 (by omega))).PackedRows (EltTy.packing .bf16) := by
  revert j; decide
theorem pk_fc (j : Fin 16) : (Rect.unit (s := S1x16x64x128) ![0, j.val, 0, 0] S1x1x64x128.size (in_head j 0 128 128 64 (by omega))).PackedRows (EltTy.packing .fp8e4m3) := by
  revert j; decide
theorem pk_y1 (j : Fin 16) : (Rect.unit (s := S1x16x64x384) ![0, j.val, 0, 0] S1x1x64x128.size (in_head j 0 128 384 64 (by omega))).PackedRows (EltTy.packing .bf16) := by
  revert j; decide
theorem pk_y1z (j : Fin 16) : (Rect.unit (s := S1x16x64x384) ![0, j.val, 0, 128] S1x1x64x256.size (in_head j 128 256 384 64 (by omega))).PackedRows (EltTy.packing .bf16) := by
  revert j; decide
theorem pk_y2 (j : Fin 16) : (Rect.unit (s := S1x16x64x384) ![0, j.val, 0, 0] S1x1x64x256.size (in_head j 0 256 384 64 (by omega))).PackedRows (EltTy.packing .bf16) := by
  revert j; decide
theorem pk_y3 (j : Fin 16) : (Rect.unit (s := S1x16x64x384) ![0, j.val, 0, 256] S1x1x64x128.size (in_head j 256 128 384 64 (by omega))).PackedRows (EltTy.packing .bf16) := by
  revert j; decide

end Cert.Ssd
-- ==== Proof.Steps.lean ====
/-
  The statements of the kernel's body, as an `Act`: preparing a batch's tables, and one step over
  sixteen heads when one, two or three tiles of 128 positions are live.
-/
module

public import proofs.«01_k».proof.Proof.Body

@[expose] public section

set_option maxRecDepth 16384

noncomputable section

namespace Cert.Ssd

open Idealize.ShloMosaic Idealize.ShloMosaic.TcCoe Idealize.SL.Sem
open Cert.Kernel hiding Facts Facts₀
open Cert.Kernel.Gen

/-! ## Values computed between loads and stores -/

section Values

variable {F : FTy → Type} [FloatOps F]

/-- The positions of the last of the live tiles that lie before the sequence's end. -/
def liveV (n lo : BitVec 32) : IVec S64x128 1 :=
  cmpi .slt (addi (iota .tc S64x128 32 [1] iota_S64x128_d1_w32) (broadcast S64x128 lo)) (broadcast S64x128 n)

/-- The rows and columns of the causal triangle, two positions to a word. -/
def maskV : IVec S64x128 32 :=
  shapeCast S64x128
    (ori
      (select (cmpi .sge (iota .tc S64x128 32 [1] iota_S64x128_d1_w32)
          (muli (iota .tc S64x128 32 [0] iota_S64x128_d0_w32) (broadcast S64x128 2#32)))
        (broadcast S64x128 65535#32) (broadcast S64x128 0#32))
      (select (cmpi .sge (iota .tc S64x128 32 [1] iota_S64x128_d1_w32)
          (addi (muli (iota .tc S64x128 32 [0] iota_S64x128_d0_w32) (broadcast S64x128 2#32)) (broadcast S64x128 1#32)))
        (broadcast S64x128 4294901760#32) (broadcast S64x128 0#32)))
    shapeCasts_S64x128_S64x128

/-- The step sizes of a batch, zero past the sequence's end. -/
def dtV (n : BitVec 32) (dt : Vec F S1x48x384 .f32) : FVec F S48x384 .f32 :=
  select (cmpi .slt (iota .tc S48x384 32 [1] iota_S48x384_d1_w32) (broadcast S48x384 n))
    (shapeCast S48x384 dt shapeCasts_S1x48x384_S48x384) (broadcast S48x384 (Scalar.ofBits .f32 0x00000000#32))

/-- The row of decay rates as a column, by way of a diagonal matrix. -/
def aV (a : Vec F S1x48 .f32) : FVec F S48x1 .f32 :=
  shapeCast S48x1
    (multiReduction .add [1] S48
      (select (cmpi .eq (iota .tc S48x48 32 [0] iota_S48x48_d0_w32) (iota .tc S48x48 32 [1] iota_S48x48_d1_w32))
        (broadcastTo S48x48 (shapeCast S1x48 (shapeCast S1x48 a shapeCasts_S1x48_S1x48) shapeCasts_S1x48_S1x48) broadcasts_S1x48_S48x48)
        (broadcast S48x48 (Scalar.ofBits .f32 0x00000000#32)))
      0x00000000#32 reduces_S48x48_S48 (.inl rfl) rfl)
    shapeCasts_S48_S48x1

/-- Step size times decay rate. -/
def daV (d : FVec F S48x384 .f32) (a : FVec F S48x1 .f32) : FVec F S48x384 .f32 := mulf d (broadcastTo S48x384 a broadcasts_S48x1_S48x384)

/-- The first, second and third bf16 parts of a value. -/
def hiV (v : FVec F S48x384 .f32) : FVec F S48x384 .bf16 := truncf .bf16 v bitsLt_bf16_f32
def midV (v : FVec F S48x384 .f32) : FVec F S48x384 .bf16 := truncf .bf16 (subf v (extf .f32 (hiV v) bitsLt_bf16_f32)) bitsLt_bf16_f32
def loV (v : FVec F S48x384 .f32) : FVec F S48x384 .bf16 :=
  truncf .bf16 (subf (subf v (extf .f32 (hiV v) bitsLt_bf16_f32)) (extf .f32 (midV v) bitsLt_bf16_f32)) bitsLt_bf16_f32

/-- Ones on and above the diagonal. -/
def triV : FVec F S256x256 .bf16 :=
  truncf .bf16 (sitofp .f32 (extui 32 (cmpi .sle (iota .tc S256x256 32 [0] iota_S256x256_d0_w32)
    (iota .tc S256x256 32 [1] iota_S256x256_d1_w32)) natLt_1_32)) bitsLt_bf16_f32

/-- The binary logarithm of the step sizes. -/
def lgV (L : F .f32) (d : FVec F S48x384 .f32) : FVec F S48x384 .f32 := mulf (log d) (broadcast S48x384 L)

/-- The running sums of the first chunk, times `L`. -/
def cs0V (L : F .f32) (v : FVec F S48x384 .f32) : FVec F S48x256 .f32 :=
  mulf
    (addf
      (addf
        (addf (broadcast S48x256 (Scalar.ofBits .f32 0x00000000#32))
          (matmul dot_S48x256_S256x256_S48x256_1_0_0_1_n_n none (extractStridedSlice S48x256 ![0, 0] (loV v) slices_S48x384_o0_0_S48x256) triV (constant S48x256 .f32 0x00000000#32)))
        (matmul dot_S48x256_S256x256_S48x256_1_0_0_1_n_n none (extractStridedSlice S48x256 ![0, 0] (midV v) slices_S48x384_o0_0_S48x256) triV (constant S48x256 .f32 0x00000000#32)))
      (matmul dot_S48x256_S256x256_S48x256_1_0_0_1_n_n none (extractStridedSlice S48x256 ![0, 0] (hiV v) slices_S48x384_o0_0_S48x256) triV (constant S48x256 .f32 0x00000000#32)))
    (broadcast S48x256 L)

/-- The running sums of the second chunk, times `L`. -/
def cs1V (L : F .f32) (v : FVec F S48x384 .f32) : FVec F S48x128 .f32 :=
  mulf
    (addf
      (addf
        (addf (broadcast S48x128 (Scalar.ofBits .f32 0x00000000#32))
          (matmul dot_S48x128_S128x128_S48x128_1_0_0_1_n_n none (extractStridedSlice S48x128 ![0, 256] (loV v) slices_S48x384_o0_256_S48x128) (extractStridedSlice S128x128 ![0, 0] triV slices_S256x256_o0_0_S128x128) (constant S48x128 .f32 0x00000000#32)))
        (matmul dot_S48x128_S128x128_S48x128_1_0_0_1_n_n none (extractStridedSlice S48x128 ![0, 256] (midV v) slices_S48x384_o0_256_S48x128) (extractStridedSlice S128x128 ![0, 0] triV slices_S256x256_o0_0_S128x128) (constant S48x128 .f32 0x00000000#32)))
      (matmul dot_S48x128_S128x128_S48x128_1_0_0_1_n_n none (extractStridedSlice S48x128 ![0, 256] (hiV v) slices_S48x384_o0_256_S48x128) (extractStridedSlice S128x128 ![0, 0] triV slices_S256x256_o0_0_S128x128) (constant S48x128 .f32 0x00000000#32)))
    (broadcast S48x128 L)

/-- The decay from each position to its chunk's end, times the step size. -/
def dw0V (cs : FVec F S48x256 .f32) (d : FVec F S48x384 .f32) : FVec F S48x256 .f32 :=
  mulf (exp2 (subf (broadcastTo S48x256 (extractStridedSlice S48x1 ![0, 255] cs slices_S48x256_o0_255_S48x1) broadcasts_S48x1_S48x256) cs))
    (extractStridedSlice S48x256 ![0, 0] d slices_S48x384_o0_0_S48x256)
def dw1V (cs : FVec F S48x128 .f32) (d : FVec F S48x384 .f32) : FVec F S48x128 .f32 :=
  mulf (exp2 (subf (broadcastTo S48x128 (extractStridedSlice S48x1 ![0, 127] cs slices_S48x128_o0_127_S48x1) broadcasts_S48x1_S48x128) cs))
    (extractStridedSlice S48x128 ![0, 256] d slices_S48x384_o0_256_S48x128)

/-- A whole chunk's decay, along a row of the state. -/
def gdV (last : FVec F S48x1 .f32) : FVec F S3x1x16x128 .f32 :=
  shapeCast S3x1x16x128 (shapeCast S3x16x128 (broadcastTo S48x128 (shapeCast S48x1 (exp2 last) shapeCasts_S48x1_S48x1) broadcasts_S48x1_S48x128)
    shapeCasts_S48x128_S3x16x128) shapeCasts_S3x16x128_S3x1x16x128

/-- Sixteen heads' rows stood up as columns. -/
def colV (v : FVec F S16x128 .f32) : FVec F S1x128x128 .f32 :=
  shapeCast S1x128x128 (transpose S128x128 [1, 0]
    (concatenate S128x128 0 [⟨S16x128, v⟩, ⟨S112x128, broadcast S112x128 (Scalar.ofBits .f32 0x00000000#32)⟩] concatenates_S16x128_S112x128_S128x128_d0)
    transposes_S128x128_p1_0_S128x128) shapeCasts_S128x128_S1x128x128

/-- B or C, zero past the sequence's end. -/
def bcV (n : BitVec 32) (v : Vec F S1x384x128 .bf16) : FVec F S384x128 .bf16 :=
  select (cmpi .slt (iota .tc S384x128 32 [0] iota_S384x128_d0_w32) (broadcast S384x128 n))
    (shapeCast S384x128 v shapeCasts_S1x384x128_S384x128) (broadcast S384x128 (Scalar.ofBits .bf16 0x0000#16))

def ctV (v : FVec F S384x128 .bf16) : FVec F S128x384 .bf16 :=
  truncf .bf16 (transpose S128x384 [1, 0] (extf .f32 v bitsLt_bf16_f32) transposes_S384x128_p1_0_S128x384) bitsLt_bf16_f32

/-- B against C within each chunk. -/
def cbt0V (bm cm : FVec F S384x128 .bf16) : FVec F S256x256 .f32 :=
  matmul dot_S256x128_S256x128_S256x256_1_1_0_0_n_n none (extractStridedSlice S256x128 ![0, 0] bm slices_S384x128_o0_0_S256x128)
    (extractStridedSlice S256x128 ![0, 0] cm slices_S384x128_o0_0_S256x128) (constant S256x256 .f32 0x00000000#32)
def cbt1V (bm cm : FVec F S384x128 .bf16) : FVec F S128x128 .f32 :=
  matmul dot_S128x128_S128x128_S128x128_1_1_0_0_n_n none (extractStridedSlice S128x128 ![256, 0] bm slices_S384x128_o256_0_S128x128)
    (extractStridedSlice S128x128 ![256, 0] cm slices_S384x128_o256_0_S128x128) (constant S128x128 .f32 0x00000000#32)

/-- Four heads' codes as rows. -/
def codesV (v : Vec F S1x4x64x128 .fp8e4m3) : FVec F S256x128 .bf16 :=
  extf .bf16 (shapeCast S256x128 (shapeCast S4x64x128 v shapeCasts_S1x4x64x128_S4x64x128) shapeCasts_S4x64x128_S256x128) bitsLt_fp8e4m3_bf16

/-- A head's entry state. -/
def entryV (hc : Vec F S1x1x64x128 .fp8e4m3) (s : Elt F .f32) : FVec F S64x128 .f32 :=
  mulf (extf .f32 (shapeCast S64x128 hc shapeCasts_S1x1x64x128_S64x128) bitsLt_fp8e4m3_f32) (broadcast S64x128 s)

theorem slices_head (i : Fin 4) : S256x128.Slices ![64 * i.val, 0] S64x128 := by revert i; decide

/-- Decaying a state over a chunk and adding what the chunk feeds it. -/
def stepV (i : Fin 4) (gd : Vec F S1x1x1x128 .f32) (s : FVec F S64x128 .f32) (u : FVec F S256x128 .f32) : FVec F S64x128 .f32 :=
  addf (mulf (broadcastTo S64x128 (shapeCast S1x128 gd shapeCasts_S1x1x1x128_S1x128) broadcasts_S1x128_S64x128) s)
    (extractStridedSlice S64x128 ![64 * i.val, 0] u (slices_head i))

/-- A state's largest magnitude, over 448. -/
def amaxV (s : FVec F S64x128 .f32) : FVec F S1x1 .f32 :=
  mulf
    (broadcast S1x1 (extractAt ![0, 0, 0] (shapeCast S1x1x1
      (multiReduction .maximumf [1, 2] S1 (shapeCast S1x64x128 (absf s) shapeCasts_S64x128_S1x64x128) 0xFF800000#32 reduces_S1x64x128_S1 (.inl rfl) rfl)
      shapeCasts_S1_S1x1x1) inpos_S1x1x1_p0_0_0))
    (broadcast S1x1 (Scalar.ofBits .f32 0x3B124925#32))

/-- The exponent a state is scaled by. -/
def expoV (v : FVec F S1x1 .f32) : IVec S1x1 32 :=
  select (cmpf .oeq v (broadcast S1x1 (Scalar.ofBits .f32 0x00000000#32))) (broadcast S1x1 0#32)
    (subi
      (broadcast S1x1 (extractAt ![0, 0, 0] (shapeCast S1x1x1
        (multiReductionI .maxsi [1, 2] S1
          (shapeCast S1x1x256
            (select (cmpf .oge (broadcastTo S1x256 v broadcasts_S1x1_S1x256)
                (bitcastToFloat .f32 (shli (iota .tc S1x256 32 [1] iota_S1x256_d1_w32) (broadcast S1x256 23#32))))
              (iota .tc S1x256 32 [1] iota_S1x256_d1_w32) (broadcast S1x256 0#32))
            shapeCasts_S1x256_S1x1x256)
          2147483648#32 reduces_S1x1x256_S1 rfl)
        shapeCasts_S1_S1x1x1) inpos_S1x1x1_p0_0_0))
      (broadcast S1x1 126#32))

/-- The scale, two to the exponent, and its inverse. -/
def scaleV (e : IVec S1x1 32) : FVec F S1x1 .f32 := bitcastToFloat .f32 (shli (addi e (broadcast S1x1 127#32)) (broadcast S1x1 23#32))
def unscaleV (e : IVec S1x1 32) : FVec F S1x1 .f32 := bitcastToFloat .f32 (shli (subi (broadcast S1x1 127#32) e) (broadcast S1x1 23#32))

/-- A state's codes. -/
def quantV (s : FVec F S64x128 .f32) (e : IVec S1x1 32) : FVec F S64x128 .fp8e4m3 :=
  truncf .fp8e4m3
    (minimumf (broadcast S64x128 (Scalar.ofBits .f32 0x43E00000#32))
      (maximumf (broadcast S64x128 (Scalar.ofBits .f32 0xC3E00000#32)) (mulf s (broadcastTo S64x128 (unscaleV e) broadcasts_S1x1_S64x128))))
    bitsLt_fp8e4m3_f32

/-- Where a head's scale goes. -/
def atV (b : Fin 5) (g : Fin 3) (j : Fin 16) : IVec S5x48 1 :=
  andi (cmpi .eq (iota .tc S5x48 32 [0] iota_S5x48_d0_w32) (broadcast S5x48 (BitVec.ofNat 32 b.val)))
    (cmpi .eq (iota .tc S5x48 32 [1] iota_S5x48_d1_w32) (broadcast S5x48 (hBv g j)))
def putV (b : Fin 5) (g : Fin 3) (j : Fin 16) (e : IVec S1x1 32) (old : Vec F S5x48 .f32) : FVec F S5x48 .f32 :=
  select (atV b g j) (broadcastTo S5x48 (shapeCast S1x1 (scaleV e) shapeCasts_S1x1_S1x1) broadcasts_S1x1_S5x48)
    (shapeCast S5x48 old shapeCasts_S5x48_S5x48)

/-- A tile of weights: the product of B and C, times the decay between the two positions and the step size. -/
def wV (bcol : Vec F S1x128x1 .f32) (cum : Vec F S1x1x128 .f32) (cb : Vec F S128x128 .f32) : FVec F S128x128 .bf16 :=
  truncf .bf16 (mulf cb (exp2 (subf (broadcastTo S128x128 (shapeCast S1x128 cum shapeCasts_S1x1x128_S1x128) broadcasts_S1x128_S128x128)
    (broadcastTo S128x128 (shapeCast S128x1 (shapeCast S128x1 bcol shapeCasts_S1x128x1_S128x1) shapeCasts_S128x1_S128x1) broadcasts_S128x1_S128x128)))) bitsLt_bf16_f32
/-- The causal half of a tile on the diagonal. -/
def causalV (mask : Vec F S64x128 .i32) (v : FVec F S128x128 .bf16) : FVec F S128x128 .bf16 :=
  select (cmpi .ne (bitcast S128x128 16 mask bitcasts_S64x128_w32_S128x128_w16) (broadcast S128x128 0#16)) v
    (broadcast S128x128 (Scalar.ofBits .bf16 0x0000#16))
/-- Three tiles of a chunk's weights, and zeros above the diagonal. -/
def w4V (w00 w01 w11 : FVec F S128x128 .bf16) : FVec F S256x256 .bf16 :=
  concatenate S256x256 0
    [⟨S128x256, concatenate S128x256 1 [⟨S128x128, w00⟩, ⟨S128x128, w01⟩] concatenates_S128x128_S128x128_S128x256_d1⟩,
     ⟨S128x256, concatenate S128x256 1 [⟨S128x128, broadcast S128x128 (Scalar.ofBits .bf16 0x0000#16)⟩, ⟨S128x128, w11⟩] concatenates_S128x128_S128x128_S128x256_d1⟩]
    concatenates_S128x256_S128x256_S256x256_d0

/-- A head's outputs: the chunk's own part, the entry state's part, and the skip. -/

def y128V (x : FVec F S64x128 .bf16) (wt : FVec F S128x128 .bf16) (er : FVec F S1x128 .f32) (e : Vec F S64x128 .f32) (d : Elt F .f32) : FVec F S1x1x64x128 .bf16 :=
  shapeCast S1x1x64x128
    (truncf .bf16
      (addf (addf (matmul dot_S64x128_S128x128_S64x128_1_0_0_1_n_n none x wt (constant S64x128 .f32 0x00000000#32))
          (mulf e (broadcastTo S64x128 er broadcasts_S1x128_S64x128)))
        (mulf (broadcast S64x128 d) (extf .f32 x bitsLt_bf16_f32))) bitsLt_bf16_f32)
    shapeCasts_S64x128_S1x1x64x128
def er128V (ecs : Vec F S1x1x128 .f32) (s : Elt F .f32) : FVec F S1x128 .f32 :=
  mulf (shapeCast S1x128 ecs shapeCasts_S1x1x128_S1x128) (broadcast S1x128 s)
/-- Zeros, past the live tiles. -/
def z128V : FVec F S1x1x64x128 .bf16 := shapeCast S1x1x64x128 (broadcast S64x128 (Scalar.ofBits .bf16 0x0000#16)) shapeCasts_S64x128_S1x1x64x128

def y256V (x : FVec F S64x256 .bf16) (wt : FVec F S256x256 .bf16) (er : FVec F S1x256 .f32) (e : Vec F S64x256 .f32) (d : Elt F .f32) : FVec F S1x1x64x256 .bf16 :=
  shapeCast S1x1x64x256
    (truncf .bf16
      (addf (addf (matmul dot_S64x256_S256x256_S64x256_1_0_0_1_n_n none x wt (constant S64x256 .f32 0x00000000#32))
          (mulf e (broadcastTo S64x256 er broadcasts_S1x256_S64x256)))
        (mulf (broadcast S64x256 d) (extf .f32 x bitsLt_bf16_f32))) bitsLt_bf16_f32)
    shapeCasts_S64x256_S1x1x64x256
def er256V (ecs : Vec F S1x1x256 .f32) (s : Elt F .f32) : FVec F S1x256 .f32 :=
  mulf (shapeCast S1x256 ecs shapeCasts_S1x1x256_S1x256) (broadcast S1x256 s)
/-- Zeros, past the live tiles. -/
def z256V : FVec F S1x1x64x256 .bf16 := shapeCast S1x1x64x256 (broadcast S64x256 (Scalar.ofBits .bf16 0x0000#16)) shapeCasts_S64x256_S1x1x64x256

/-- A head's inputs, zero past the sequence's end. -/
def x128V (live : IVec S64x128 1) (x : Vec F S1x1x64x128 .bf16) : FVec F S64x128 .bf16 :=
  select live (shapeCast S64x128 x shapeCasts_S1x1x64x128_S64x128) (broadcast S64x128 (Scalar.ofBits .bf16 0x0000#16))
def x256V (live : IVec S64x128 1) (x : Vec F S1x1x64x256 .bf16) : FVec F S64x256 .bf16 :=
  concatenate S64x256 1
    [⟨S64x128, extractStridedSlice S64x128 ![0, 0] (shapeCast S64x256 x shapeCasts_S1x1x64x256_S64x256) slices_S64x256_o0_0_S64x128⟩,
     ⟨S64x128, select live (extractStridedSlice S64x128 ![0, 128] (shapeCast S64x256 x shapeCasts_S1x1x64x256_S64x256) slices_S64x256_o0_128_S64x128)
        (broadcast S64x128 (Scalar.ofBits .bf16 0x0000#16))⟩] concatenates_S64x128_S64x128_S64x256_d1
def x384V (live : IVec S64x128 1) (x : Vec F S1x1x64x384 .bf16) : FVec F S64x384 .bf16 :=
  concatenate S64x384 1
    [⟨S64x256, extractStridedSlice S64x256 ![0, 0] (shapeCast S64x384 x shapeCasts_S1x1x64x384_S64x384) slices_S64x384_o0_0_S64x256⟩,
     ⟨S64x128, select live (extractStridedSlice S64x128 ![0, 256] (shapeCast S64x384 x shapeCasts_S1x1x64x384_S64x384) slices_S64x384_o0_256_S64x128)
        (broadcast S64x128 (Scalar.ofBits .bf16 0x0000#16))⟩] concatenates_S64x256_S64x128_S64x384_d1

def xw128V (x : FVec F S64x128 .bf16) (dw : Vec F S1x1x128 .f32) : FVec F S64x128 .bf16 :=
  shapeCast S64x128 (truncf .bf16 (mulf (extf .f32 x bitsLt_bf16_f32)
    (broadcastTo S64x128 (shapeCast S1x128 dw shapeCasts_S1x1x128_S1x128) broadcasts_S1x128_S64x128)) bitsLt_bf16_f32) shapeCasts_S64x128_S64x128

def xw256V (x : FVec F S64x256 .bf16) (dw : Vec F S1x1x256 .f32) : FVec F S64x256 .bf16 :=
  shapeCast S64x256 (truncf .bf16 (mulf (extf .f32 x bitsLt_bf16_f32)
    (broadcastTo S64x256 (shapeCast S1x256 dw shapeCasts_S1x1x256_S1x256) broadcasts_S1x256_S64x256)) bitsLt_bf16_f32) shapeCasts_S64x256_S64x256

def xw384V (x : FVec F S64x384 .bf16) (dw : Vec F S1x1x384 .f32) : FVec F S64x384 .bf16 :=
  shapeCast S64x384 (truncf .bf16 (mulf (extf .f32 x bitsLt_bf16_f32)
    (broadcastTo S64x384 (shapeCast S1x384 dw shapeCasts_S1x1x384_S1x384) broadcasts_S1x384_S64x384)) bitsLt_bf16_f32) shapeCasts_S64x384_S64x384

end Values

/-! ## The statements -/

section Steps

variable {nD : Nat} {τ : Topo} {sig : RefSig} {F : FTy → Type} [FloatOps F] {Λ : Labels} (mr : Mems fam sig) (hw : ∀ k, (mr k).IsWhole)

/-- A piece of the kernel. -/
abbrev Piece (nD : Nat) (τ : Topo) (F : FTy → Type) (Λ : Labels) {sig : RefSig} (mr : Mems fam sig) (α : Type) := Act (G := fam) nD τ F Λ mr α

/-- Head `i` of group `q`. -/
abbrev hd (q i : Fin 4) : Fin 16 := ⟨4 * q.val + i.val, by have := q.isLt; have := i.isLt; omega⟩

/-- The same for each head of a group. -/
def four {α : Type} (m : Fin 4 → Piece nD τ F Λ mr α) : Piece nD τ F Λ mr (Fin 4 → α) := do
  let a ← m 0
  let b ← m 1
  let c ← m 2
  let d ← m 3
  pure ![a, b, c, d]

/-- The causal mask and the zeroed scales, before anything else. -/
def initA : Piece nD τ F Λ mr PUnit := do
  let _ ← ld mr .mask ![0, 0] S64x128.size inb_S64x128_S64x128_0_0 h_S64x128
  st32 mr .mask ![0, 0] S64x128.size inb_S64x128_S64x128_0_0 h_S64x128 maskV
  let _ ← ld mr .fs ![0, 0] S5x48.size inb_S5x48_S5x48_0_0 h_S5x48
  st32 mr .fs ![0, 0] S5x48.size inb_S5x48_S5x48_0_0 h_S5x48 (broadcast S5x48 (Scalar.ofBits .f32 0x00000000#32))

/-- Store a box, after the load of the same box that the kernel makes and drops. -/
def over32 (k : Buf) (off size : Fin (fam.sh k).rank → Nat) (inb : ∀ a, off a + size a ≤ (fam.sh k).size a)
    (h : 0 < (⟨(fam.sh k).rank, size⟩ : Shape).numel)
    (w : (⟨(fam.sh k).rank, size⟩ : Shape).Idx → Elt F (fam.el k))
    (hv : fam.sp k = .vmem := by rfl) (he : (fam.el k).bits = 32 := by rfl) (hr : fam.ro k = false := by rfl) : Piece nD τ F Λ mr PUnit := do
  let _ ← ld mr k off size inb h hv
  st32 mr k off size inb h w hv he hr
def overp (k : Buf) (off size : Fin (fam.sh k).rank → Nat) (inb : ∀ a, off a + size a ≤ (fam.sh k).size a)
    (h : 0 < (⟨(fam.sh k).rank, size⟩ : Shape).numel)
    (hp : (Rect.unit off size inb).PackedRows (fam.el k).packing)
    (w : (⟨(fam.sh k).rank, size⟩ : Shape).Idx → Elt F (fam.el k))
    (hv : fam.sp k = .vmem := by rfl) (hr : fam.ro k = false := by rfl) : Piece nD τ F Λ mr PUnit := do
  let _ ← ld mr k off size inb h hv
  stp mr hw k off size inb h hp w hv hr

/-- The tables of the first chunk. -/
def tab0A (L : F .f32) (d da : FVec F S48x384 .f32) : Piece nD τ F Λ mr PUnit := do
  over32 mr .cum ![0, 0, 0] S3x16x256.size inb_S3x16x384_S3x16x256_0_0_0 h_S3x16x256
    (shapeCast S3x16x256 (shapeCast S3x16x256 (cs0V L da) shapeCasts_S48x256_S3x16x256) shapeCasts_S3x16x256_S3x16x256)
  over32 mr .ecs ![0, 0, 0] S3x16x256.size inb_S3x16x384_S3x16x256_0_0_0 h_S3x16x256
    (shapeCast S3x16x256 (shapeCast S3x16x256 (exp2 (cs0V L da)) shapeCasts_S48x256_S3x16x256) shapeCasts_S3x16x256_S3x16x256)
  over32 mr .dw ![0, 0, 0] S3x16x256.size inb_S3x16x384_S3x16x256_0_0_0 h_S3x16x256
    (shapeCast S3x16x256 (shapeCast S3x16x256 (dw0V (cs0V L da) d) shapeCasts_S48x256_S3x16x256) shapeCasts_S3x16x256_S3x16x256)
  over32 mr .gd ![0, 0, 0, 0] S3x1x16x128.size inb_S3x2x16x128_S3x1x16x128_0_0_0_0 h_S3x1x16x128
    (gdV (extractStridedSlice S48x1 ![0, 255] (cs0V L da) slices_S48x256_o0_255_S48x1))

  over32 mr .bcol ![0, 0, 0] S1x128x128.size inb_S3x384x128_S1x128x128_0_0_0 h_S1x128x128
    (colV (extractStridedSlice S16x128 ![0, 0] (subf (cs0V L da) (extractStridedSlice S48x256 ![0, 0] (lgV L d) slices_S48x384_o0_0_S48x256)) slices_S48x256_o0_0_S16x128))
  over32 mr .bcol ![1, 0, 0] S1x128x128.size inb_S3x384x128_S1x128x128_1_0_0 h_S1x128x128
    (colV (extractStridedSlice S16x128 ![16, 0] (subf (cs0V L da) (extractStridedSlice S48x256 ![0, 0] (lgV L d) slices_S48x384_o0_0_S48x256)) slices_S48x256_o16_0_S16x128))
  over32 mr .bcol ![2, 0, 0] S1x128x128.size inb_S3x384x128_S1x128x128_2_0_0 h_S1x128x128
    (colV (extractStridedSlice S16x128 ![32, 0] (subf (cs0V L da) (extractStridedSlice S48x256 ![0, 0] (lgV L d) slices_S48x384_o0_0_S48x256)) slices_S48x256_o32_0_S16x128))
  over32 mr .bcol ![0, 128, 0] S1x128x128.size inb_S3x384x128_S1x128x128_0_128_0 h_S1x128x128
    (colV (extractStridedSlice S16x128 ![0, 128] (subf (cs0V L da) (extractStridedSlice S48x256 ![0, 0] (lgV L d) slices_S48x384_o0_0_S48x256)) slices_S48x256_o0_128_S16x128))
  over32 mr .bcol ![1, 128, 0] S1x128x128.size inb_S3x384x128_S1x128x128_1_128_0 h_S1x128x128
    (colV (extractStridedSlice S16x128 ![16, 128] (subf (cs0V L da) (extractStridedSlice S48x256 ![0, 0] (lgV L d) slices_S48x384_o0_0_S48x256)) slices_S48x256_o16_128_S16x128))
  over32 mr .bcol ![2, 128, 0] S1x128x128.size inb_S3x384x128_S1x128x128_2_128_0 h_S1x128x128
    (colV (extractStridedSlice S16x128 ![32, 128] (subf (cs0V L da) (extractStridedSlice S48x256 ![0, 0] (lgV L d) slices_S48x384_o0_0_S48x256)) slices_S48x256_o32_128_S16x128))

/-- The tables of the second chunk. -/
def tab1A (L : F .f32) (d da : FVec F S48x384 .f32) : Piece nD τ F Λ mr PUnit := do
  over32 mr .cum ![0, 0, 256] S3x16x128.size inb_S3x16x384_S3x16x128_0_0_256 h_S3x16x128
    (shapeCast S3x16x128 (shapeCast S3x16x128 (cs1V L da) shapeCasts_S48x128_S3x16x128) shapeCasts_S3x16x128_S3x16x128)
  over32 mr .ecs ![0, 0, 256] S3x16x128.size inb_S3x16x384_S3x16x128_0_0_256 h_S3x16x128
    (shapeCast S3x16x128 (shapeCast S3x16x128 (exp2 (cs1V L da)) shapeCasts_S48x128_S3x16x128) shapeCasts_S3x16x128_S3x16x128)
  over32 mr .dw ![0, 0, 256] S3x16x128.size inb_S3x16x384_S3x16x128_0_0_256 h_S3x16x128
    (shapeCast S3x16x128 (shapeCast S3x16x128 (dw1V (cs1V L da) d) shapeCasts_S48x128_S3x16x128) shapeCasts_S3x16x128_S3x16x128)
  over32 mr .gd ![0, 1, 0, 0] S3x1x16x128.size inb_S3x2x16x128_S3x1x16x128_0_1_0_0 h_S3x1x16x128
    (gdV (extractStridedSlice S48x1 ![0, 127] (cs1V L da) slices_S48x128_o0_127_S48x1))
  over32 mr .bcol ![0, 256, 0] S1x128x128.size inb_S3x384x128_S1x128x128_0_256_0 h_S1x128x128
    (colV (extractStridedSlice S16x128 ![0, 0] (subf (cs1V L da) (extractStridedSlice S48x128 ![0, 256] (lgV L d) slices_S48x384_o0_256_S48x128)) slices_S48x128_o0_0_S16x128))
  over32 mr .bcol ![1, 256, 0] S1x128x128.size inb_S3x384x128_S1x128x128_1_256_0 h_S1x128x128
    (colV (extractStridedSlice S16x128 ![16, 0] (subf (cs1V L da) (extractStridedSlice S48x128 ![0, 256] (lgV L d) slices_S48x384_o0_256_S48x128)) slices_S48x128_o16_0_S16x128))
  over32 mr .bcol ![2, 256, 0] S1x128x128.size inb_S3x384x128_S1x128x128_2_256_0 h_S1x128x128
    (colV (extractStridedSlice S16x128 ![32, 0] (subf (cs1V L da) (extractStridedSlice S48x128 ![0, 256] (lgV L d) slices_S48x384_o0_256_S48x128)) slices_S48x128_o32_0_S16x128))

/-- B, C transposed and their products within each chunk. -/
def tabBCA (bm cm : FVec F S384x128 .bf16) : Piece nD τ F Λ mr PUnit := do
  overp mr hw .bm ![0, 0] S384x128.size inb_S384x128_S384x128_0_0 h_S384x128 packedbf16_S384x128_S384x128_0_0
    (shapeCast S384x128 bm shapeCasts_S384x128_S384x128)
  overp mr hw .ct ![0, 0] S128x384.size inb_S128x384_S128x384_0_0 h_S128x384 packedbf16_S128x384_S128x384_0_0
    (shapeCast S128x384 (ctV cm) shapeCasts_S128x384_S128x384)
  over32 mr .cbt ![0, 0] S256x256.size inb_S384x256_S256x256_0_0 h_S256x256 (shapeCast S256x256 (cbt0V bm cm) shapeCasts_S256x256_S256x256)
  over32 mr .cbt ![256, 0] S128x128.size inb_S384x256_S128x128_256_0 h_S128x128 (shapeCast S128x128 (cbt1V bm cm) shapeCasts_S128x128_S128x128)

/-- The tables of a batch. -/
def prepareA (L : F .f32) (n : BitVec 32) : Piece nD τ F Λ mr PUnit := do
  let dt ← ld mr .dt ![0, 0, 0] S1x48x384.size inb_S1x48x384_S1x48x384_0_0_0 h_S1x48x384
  let a ← ld mr .aa ![0, 0] S1x48.size inb_S1x48_S1x48_0_0 h_S1x48
  tab0A mr L (dtV n dt) (daV (dtV n dt) (aV a))
  tab1A mr L (dtV n dt) (daV (dtV n dt) (aV a))
  let bv ← ld mr .bb ![0, 0, 0] S1x384x128.size inb_S1x384x128_S1x384x128_0_0_0 h_S1x384x128
  let cv ← ld mr .cc ![0, 0, 0] S1x384x128.size inb_S1x384x128_S1x384x128_0_0_0 h_S1x384x128
  tabBCA mr hw (bcV n bv) (bcV n cv)

section Group

variable (b : Fin 5) (g : Fin 3) (q : Fin 4)

/-- The entry states against C: the first 128 positions. -/
def entry128A : Piece nD τ F Λ mr PUnit := do
  let hc ← ld mr .hc ![0, 4 * q.val, 0, 0] S1x4x64x128.size (in_group q) h_S1x4x64x128
  let ct ← ld mr .ct ![0, 0] S128x128.size inb_S128x384_S128x128_0_0 h_S128x128
  over32 mr .e ![256 * q.val, 0] S256x128.size (in_grows q 0 128 384 (by omega)) h_S256x128
    (shapeCast S256x128 (matmul dot_S256x128_S128x128_S256x128_1_0_0_1_n_n none (codesV hc) ct (constant S256x128 .f32 0x00000000#32)) shapeCasts_S256x128_S256x128)

/-- The entry states against C: the first 256 positions. -/
def entry256A : Piece nD τ F Λ mr PUnit := do
  let hc ← ld mr .hc ![0, 4 * q.val, 0, 0] S1x4x64x128.size (in_group q) h_S1x4x64x128
  let ct ← ld mr .ct ![0, 0] S128x256.size inb_S128x384_S128x256_0_0 h_S128x256
  over32 mr .e ![256 * q.val, 0] S256x256.size (in_grows q 0 256 384 (by omega)) h_S256x256
    (shapeCast S256x256 (matmul dot_S256x128_S128x256_S256x256_1_0_0_1_n_n none (codesV hc) ct (constant S256x256 .f32 0x00000000#32)) shapeCasts_S256x256_S256x256)

/-- A head's inputs over 128 positions, and those weighted by the decay to the chunk's end. -/
def x128A (live : IVec S64x128 1) (j : Fin 16) : Piece nD τ F Λ mr (FVec F S64x128 .bf16) := do
  let x ← ld mr .x ![0, j.val, 0, 0] S1x1x64x128.size (in_head j 0 128 384 64 (by omega)) h_S1x1x64x128
  let dw ← ld mr .dw ![gIx g, j.val, 0] S1x1x128.size (in_row g j 0 128 (by omega)) h_S1x1x128
  overp mr hw .xw ![64 * j.val, 0] S64x128.size (in_rows j 0 128 384 (by omega)) h_S64x128 (pk_xw1 j) (xw128V (x128V live x) dw)
  pure (x128V live x)

/-- A head's inputs over 256 positions, and those weighted by the decay to the chunk's end. -/
def x256A (live : IVec S64x128 1) (j : Fin 16) : Piece nD τ F Λ mr (FVec F S64x256 .bf16) := do
  let x ← ld mr .x ![0, j.val, 0, 0] S1x1x64x256.size (in_head j 0 256 384 64 (by omega)) h_S1x1x64x256
  let dw ← ld mr .dw ![gIx g, j.val, 0] S1x1x256.size (in_row g j 0 256 (by omega)) h_S1x1x256
  overp mr hw .xw ![64 * j.val, 0] S64x256.size (in_rows j 0 256 384 (by omega)) h_S64x256 (pk_xw2 j) (xw256V (x256V live x) dw)
  pure (x256V live x)

/-- A head's inputs over 384 positions, and those weighted by the decay to the chunk's end. -/
def x384A (live : IVec S64x128 1) (j : Fin 16) : Piece nD τ F Λ mr (FVec F S64x384 .bf16) := do
  let x ← ld mr .x ![0, j.val, 0, 0] S1x1x64x384.size (in_head j 0 384 384 64 (by omega)) h_S1x1x64x384
  let dw ← ld mr .dw ![gIx g, j.val, 0] S1x1x384.size (in_row g j 0 384 (by omega)) h_S1x1x384
  overp mr hw .xw ![64 * j.val, 0] S64x384.size (in_rows j 0 384 384 (by omega)) h_S64x384 (pk_xw3 j) (xw384V (x384V live x) dw)
  pure (x384V live x)

/-- What the first 128 positions feed the states of a group. -/
def feed128A : Piece nD τ F Λ mr (FVec F S256x128 .f32) := do
  let xw ← ld mr .xw ![256 * q.val, 0] S256x128.size (in_grows q 0 128 384 (by omega)) h_S256x128
  let bm ← ld mr .bm ![0, 0] S128x128.size inb_S384x128_S128x128_0_0 h_S128x128
  pure (matmul dot_S256x128_S128x128_S256x128_1_0_0_1_n_n none xw bm (constant S256x128 .f32 0x00000000#32))

/-- What the first 256 positions feed the states of a group. -/
def feed256A : Piece nD τ F Λ mr (FVec F S256x128 .f32) := do
  let xw ← ld mr .xw ![256 * q.val, 0] S256x256.size (in_grows q 0 256 384 (by omega)) h_S256x256
  let bm ← ld mr .bm ![0, 0] S256x128.size inb_S384x128_S256x128_0_0 h_S256x128
  pure (matmul dot_S256x256_S256x128_S256x128_1_0_0_1_n_n none xw bm (constant S256x128 .f32 0x00000000#32))

/-- The feed of the second chunk. -/
def feedLastA : Piece nD τ F Λ mr (FVec F S256x128 .f32) := do
  let xw ← ld mr .xw ![256 * q.val, 256] S256x128.size (in_grows q 256 128 384 (by omega)) h_S256x128
  let bm ← ld mr .bm ![256, 0] S128x128.size inb_S384x128_S128x128_256_0 h_S128x128
  pure (matmul dot_S256x128_S128x128_S256x128_1_0_0_1_n_n none xw bm (constant S256x128 .f32 0x00000000#32))

/-- A head's state after the first chunk. -/
def state0A (u : FVec F S256x128 .f32) (i : Fin 4) : Piece nD τ F Λ mr (FVec F S64x128 .f32) := do
  let hc ← ld mr .hc ![0, (hd q i).val, 0, 0] S1x1x64x128.size (in_head (hd q i) 0 128 128 64 (by omega)) h_S1x1x64x128
  let s ← ldw mr .hs ![bIx b, hIx g (hd q i)] S1x1.size (in_hs b g (hd q i)) numel1_S1x1
  let gd ← ld mr .gd ![gIx g, 0, (hd q i).val, 0] S1x1x1x128.size (in_gd g 0 (hd q i)) h_S1x1x1x128
  over32 mr .st ![(hd q i).val, 0, 0] S1x64x128.size (in_st (hd q i)) h_S1x64x128
    (shapeCast S1x64x128 (stepV i gd (entryV hc s) u) shapeCasts_S64x128_S1x64x128)
  pure (stepV i gd (entryV hc s) u)

/-- The same, also kept in bf16. -/
def state0sA (u : FVec F S256x128 .f32) (i : Fin 4) : Piece nD τ F Λ mr PUnit := do
  let s ← state0A mr b g q u i
  overp mr hw .sb ![64 * (hd q i).val, 0] S64x128.size (in_rows (hd q i) 0 128 128 (by omega)) h_S64x128 (pk_sb (hd q i))
    (shapeCast S64x128 (truncf .bf16 s bitsLt_bf16_f32) shapeCasts_S64x128_S64x128)

/-- A head's state after the second chunk. -/
def state1A (u : FVec F S256x128 .f32) (i : Fin 4) : Piece nD τ F Λ mr PUnit := do
  let gd ← ld mr .gd ![gIx g, 1, (hd q i).val, 0] S1x1x1x128.size (in_gd g 1 (hd q i)) h_S1x1x1x128
  let s ← ld mr .st ![(hd q i).val, 0, 0] S1x64x128.size (in_st (hd q i)) h_S1x64x128
  over32 mr .st ![(hd q i).val, 0, 0] S1x64x128.size (in_st (hd q i)) h_S1x64x128
    (shapeCast S1x64x128 (stepV i gd (shapeCast S64x128 s shapeCasts_S1x64x128_S64x128) u) shapeCasts_S64x128_S1x64x128)

/-- The states after the first chunk against C: the last 128 positions. -/
def entryLastA : Piece nD τ F Λ mr PUnit := do
  let sb ← ld mr .sb ![256 * q.val, 0] S256x128.size (in_grows q 0 128 128 (by omega)) h_S256x128
  let ct ← ld mr .ct ![0, 256] S128x128.size inb_S128x384_S128x128_0_256 h_S128x128
  over32 mr .e ![256 * q.val, 256] S256x128.size (in_grows q 256 128 384 (by omega)) h_S256x128
    (shapeCast S256x128 (matmul dot_S256x128_S128x128_S256x128_1_0_0_1_n_n none sb ct (constant S256x128 .f32 0x00000000#32)) shapeCasts_S256x128_S256x128)

/-- Quantise a head's final state. -/
def quantA (j : Fin 16) : Piece nD τ F Λ mr PUnit := do
  let s ← ld mr .st ![j.val, 0, 0] S1x64x128.size (in_st j) h_S1x64x128
  overp mr hw .fc ![0, j.val, 0, 0] S1x1x64x128.size (in_head j 0 128 128 64 (by omega)) h_S1x1x64x128 (pk_fc j)
    (shapeCast S1x1x64x128 (quantV (shapeCast S64x128 s shapeCasts_S1x64x128_S64x128)
      (expoV (amaxV (F := F) (shapeCast S64x128 s shapeCasts_S1x64x128_S64x128)))) shapeCasts_S64x128_S1x1x64x128)
  let old ← ld mr .fs ![0, 0] S5x48.size inb_S5x48_S5x48_0_0 h_S5x48
  over32 mr .fs ![0, 0] S5x48.size inb_S5x48_S5x48_0_0 h_S5x48
    (putV b g j (expoV (amaxV (F := F) (shapeCast S64x128 s shapeCasts_S1x64x128_S64x128))) old)

/-- The weights of the first chunk's only tile. -/
def w1A (mask : Vec F S64x128 .i32) (j : Fin 16) : Piece nD τ F Λ mr (FVec F S128x128 .bf16) := do
  let b0 ← ld mr .bcol ![gIx g, 0, j.val] S1x128x1.size (in_bcol g j 0 (by omega)) h_S1x128x1
  let c0 ← ld mr .cum ![gIx g, j.val, 0] S1x1x128.size (in_row g j 0 128 (by omega)) h_S1x1x128
  let p ← ld mr .cbt ![0, 0] S128x128.size inb_S384x256_S128x128_0_0 h_S128x128
  pure (causalV mask (wV b0 c0 p))

/-- The weights of the first chunk's two tiles. -/
def w2A (mask : Vec F S64x128 .i32) (j : Fin 16) : Piece nD τ F Λ mr (FVec F S256x256 .bf16) := do
  let b0 ← ld mr .bcol ![gIx g, 0, j.val] S1x128x1.size (in_bcol g j 0 (by omega)) h_S1x128x1
  let c0 ← ld mr .cum ![gIx g, j.val, 0] S1x1x128.size (in_row g j 0 128 (by omega)) h_S1x1x128
  let p00 ← ld mr .cbt ![0, 0] S128x128.size inb_S384x256_S128x128_0_0 h_S128x128
  let c1 ← ld mr .cum ![gIx g, j.val, 128] S1x1x128.size (in_row g j 128 128 (by omega)) h_S1x1x128
  let p01 ← ld mr .cbt ![0, 128] S128x128.size inb_S384x256_S128x128_0_128 h_S128x128
  let b1 ← ld mr .bcol ![gIx g, 128, j.val] S1x128x1.size (in_bcol g j 128 (by omega)) h_S1x128x1
  let c1' ← ld mr .cum ![gIx g, j.val, 128] S1x1x128.size (in_row g j 128 128 (by omega)) h_S1x1x128
  let p11 ← ld mr .cbt ![128, 128] S128x128.size inb_S384x256_S128x128_128_128 h_S128x128
  pure (w4V (causalV mask (wV b0 c0 p00)) (wV b0 c1 p01) (causalV mask (wV b1 c1' p11)))

/-- The weights of the second chunk. -/
def w3A (mask : Vec F S64x128 .i32) (j : Fin 16) : Piece nD τ F Λ mr (FVec F S128x128 .bf16) := do
  let b2 ← ld mr .bcol ![gIx g, 256, j.val] S1x128x1.size (in_bcol g j 256 (by omega)) h_S1x128x1
  let c2 ← ld mr .cum ![gIx g, j.val, 256] S1x1x128.size (in_row g j 256 128 (by omega)) h_S1x1x128
  let p ← ld mr .cbt ![256, 0] S128x128.size inb_S384x256_S128x128_256_0 h_S128x128
  pure (causalV mask (wV b2 c2 p))

/-- A head's outputs over its first 128 positions; answers the head's skip weight. -/
def y128A (x : FVec F S64x128 .bf16) (wt : FVec F S128x128 .bf16) (j : Fin 16) : Piece nD τ F Λ mr (Elt F .f32) := do
  let d ← ldw mr .dd ![hIx g j] S1.size (in_d g j) numel1_S1
  let ecs ← ld mr .ecs ![gIx g, j.val, 0] S1x1x128.size (in_row g j 0 128 (by omega)) h_S1x1x128
  let s ← ldw mr .hs ![bIx b, hIx g j] S1x1.size (in_hs b g j) numel1_S1x1
  let e ← ld mr .e ![64 * j.val, 0] S64x128.size (in_rows j 0 128 384 (by omega)) h_S64x128
  overp mr hw .y ![0, j.val, 0, 0] S1x1x64x128.size (in_head j 0 128 384 64 (by omega)) h_S1x1x64x128 (pk_y1 j)
    (y128V x wt (er128V ecs s) e d)
  pure d

/-- A head's outputs over its first 256 positions; answers the head's skip weight. -/
def y256A (x : FVec F S64x256 .bf16) (wt : FVec F S256x256 .bf16) (j : Fin 16) : Piece nD τ F Λ mr (Elt F .f32) := do
  let d ← ldw mr .dd ![hIx g j] S1.size (in_d g j) numel1_S1
  let ecs ← ld mr .ecs ![gIx g, j.val, 0] S1x1x256.size (in_row g j 0 256 (by omega)) h_S1x1x256
  let s ← ldw mr .hs ![bIx b, hIx g j] S1x1.size (in_hs b g j) numel1_S1x1
  let e ← ld mr .e ![64 * j.val, 0] S64x256.size (in_rows j 0 256 384 (by omega)) h_S64x256
  overp mr hw .y ![0, j.val, 0, 0] S1x1x64x256.size (in_head j 0 256 384 64 (by omega)) h_S1x1x64x256 (pk_y2 j)
    (y256V x wt (er256V ecs s) e d)
  pure d

/-- A head's outputs over the last 128 positions. -/
def yLastA (x : FVec F S64x128 .bf16) (wt : FVec F S128x128 .bf16) (d : Elt F .f32) (j : Fin 16) : Piece nD τ F Λ mr PUnit := do
  let ecs ← ld mr .ecs ![gIx g, j.val, 256] S1x1x128.size (in_row g j 256 128 (by omega)) h_S1x1x128
  let e ← ld mr .e ![64 * j.val, 256] S64x128.size (in_rows j 256 128 384 (by omega)) h_S64x128
  overp mr hw .y ![0, j.val, 0, 256] S1x1x64x128.size (in_head j 256 128 384 64 (by omega)) h_S1x1x64x128 (pk_y3 j)
    (y128V x wt (shapeCast S1x128 ecs shapeCasts_S1x1x128_S1x128) e d)

/-- Four heads, one live tile. -/
def group1A (live : IVec S64x128 1) (mask : Vec F S64x128 .i32) : Piece nD τ F Λ mr PUnit := do
  entry128A mr q
  let xs ← four mr fun i => x128A mr hw g live (hd q i)
  let u ← feed128A mr q
  let _ ← four mr fun i => state0A mr b g q u i
  let _ ← four mr fun i => quantA mr hw b g (hd q i)
  let _ ← four mr fun i => do
    let wt ← w1A mr g mask (hd q i)
    let _ ← y128A mr hw b g (xs i) wt (hd q i)
    overp mr hw .y ![0, (hd q i).val, 0, 128] S1x1x64x256.size (in_head (hd q i) 128 256 384 64 (by omega)) h_S1x1x64x256 (pk_y1z (hd q i)) z256V
  pure ⟨⟩

/-- Four heads, two live tiles. -/
def group2A (live : IVec S64x128 1) (mask : Vec F S64x128 .i32) : Piece nD τ F Λ mr PUnit := do
  entry256A mr q
  let xs ← four mr fun i => x256A mr hw g live (hd q i)
  let u ← feed256A mr q
  let _ ← four mr fun i => state0A mr b g q u i
  let _ ← four mr fun i => quantA mr hw b g (hd q i)
  let _ ← four mr fun i => do
    let wt ← w2A mr g mask (hd q i)
    let _ ← y256A mr hw b g (xs i) wt (hd q i)
    overp mr hw .y ![0, (hd q i).val, 0, 256] S1x1x64x128.size (in_head (hd q i) 256 128 384 64 (by omega)) h_S1x1x64x128 (pk_y3 (hd q i)) z128V
  pure ⟨⟩

/-- Four heads, three live tiles. -/
def group3A (live : IVec S64x128 1) (mask : Vec F S64x128 .i32) : Piece nD τ F Λ mr PUnit := do
  entry256A mr q
  let xs ← four mr fun i => x384A mr hw g live (hd q i)
  let u ← feed256A mr q
  let _ ← four mr fun i => state0sA mr hw b g q u i
  let u' ← feedLastA mr q
  let _ ← four mr fun i => state1A mr g q u' i
  entryLastA mr q
  let _ ← four mr fun i => quantA mr hw b g (hd q i)
  let _ ← four mr fun i => do
    let wt ← w2A mr g mask (hd q i)
    let w' ← w3A mr g mask (hd q i)
    let d ← y256A mr hw b g (extractStridedSlice S64x256 ![0, 0] (xs i) slices_S64x384_o0_0_S64x256) wt (hd q i)
    yLastA mr hw g (extractStridedSlice S64x128 ![0, 256] (xs i) slices_S64x384_o0_256_S64x128) w' d (hd q i)
  pure ⟨⟩

end Group

variable (b : Fin 5) (g : Fin 3)

/-- A step over sixteen heads. -/
def step1A (n : BitVec 32) : Piece nD τ F Λ mr PUnit := do
  let mask ← ld mr .mask ![0, 0] S64x128.size inb_S64x128_S64x128_0_0 h_S64x128
  let _ ← four mr fun q => group1A mr hw b g q (liveV n 0#32) mask
  pure ⟨⟩
def step2A (n : BitVec 32) : Piece nD τ F Λ mr PUnit := do
  let mask ← ld mr .mask ![0, 0] S64x128.size inb_S64x128_S64x128_0_0 h_S64x128
  let _ ← four mr fun q => group2A mr hw b g q (liveV n 128#32) mask
  pure ⟨⟩
def step3A (n : BitVec 32) : Piece nD τ F Λ mr PUnit := do
  let mask ← ld mr .mask ![0, 0] S64x128.size inb_S64x128_S64x128_0_0 h_S64x128
  let _ ← four mr fun q => group3A mr hw b g q (liveV n 256#32) mask
  pure ⟨⟩

/-- Whether this is the first step of all. -/
abbrev first (b : Fin 5) (g : Fin 3) : BitVec 1 :=
  Scalar.cmpi .ne (Scalar.extui (Scalar.andi (Scalar.cmpi .eq (BitVec.ofNat 32 b.val) 0#32) (Scalar.cmpi .eq (BitVec.ofNat 32 g.val) 0#32)) : BitVec 32) 0#32
/-- Whether this is a batch's first step. -/
abbrev fresh (g : Fin 3) : BitVec 1 := Scalar.cmpi .ne (Scalar.extui (Scalar.cmpi .eq (BitVec.ofNat 32 g.val) 0#32) : BitVec 32) 0#32

/-- The kernel's body at batch `b`, block `g`. -/
def bodyA (L : F .f32) : Piece nD τ F Λ mr PUnit := do
  let n ← ldw mr .lens ![bIx b] S1.size (in_lens b) numel1_S1
  Act.ite (first b g = 1#1) (initA mr)
  Act.ite (fresh g = 1#1) (prepareA mr hw L n)
  Act.ite (k0_cond3 n = 1#1) (step1A mr hw b g n)
  Act.ite (k0_cond4 n = 1#1) (step2A mr hw b g n)
  Act.ite (k0_cond5 n = 1#1) (step3A mr hw b g n)

end Steps

end Cert.Ssd
-- ==== Proof.Keep.lean ====
/-
  Which buffers each piece of the body writes: every other buffer is after the piece as before it.
-/
module

public import proofs.«01_k».proof.Proof.Steps

@[expose] public section

set_option maxRecDepth 16384

noncomputable section

namespace Cert.Ssd

open Idealize.ShloMosaic Idealize.ShloMosaic.TcCoe Idealize.SL.Sem
open Cert.Kernel hiding Facts Facts₀
open Cert.Kernel.Gen

variable {nD : Nat} {τ : Topo} {sig : RefSig} {F : FTy → Type} [FloatOps F] {Λ : Labels} {mr : Mems fam sig} {hw : ∀ k, (mr k).IsWhole}
variable {α β : Type}

/-- The piece writes no buffer but those of `wr`. -/
structure Writes (wr : Buf → Bool) (m : Piece nD τ F Λ mr α) : Prop where
  keeps : ∀ (σ : St fam F) (k : Buf), wr k = false → (m.run σ).2 k = σ k

variable {wr wr' : Buf → Bool}

namespace Writes

theorem mono {m : Piece nD τ F Λ mr α} (h : Writes wr m) (hs : ∀ k, wr' k = false → wr k = false) : Writes wr' m :=
  ⟨fun σ k hk => h.keeps σ k (hs k hk)⟩

theorem pure (a : α) : Writes wr (Pure.pure a : Piece nD τ F Λ mr α) := ⟨fun _ _ _ => rfl⟩

theorem bind {m : Piece nD τ F Λ mr α} {f : α → Piece nD τ F Λ mr β} (h : Writes wr m) (h' : ∀ a, Writes wr (f a)) :
    Writes wr (m >>= f) := ⟨fun σ k hk => ((h' (m.run σ).1).keeps (m.run σ).2 k hk).trans (h.keeps σ k hk)⟩

theorem ld {k off size inb h} {hv : fam.sp k = .vmem} : Writes wr (ld (nD := nD) (τ := τ) (F := F) (Λ := Λ) mr k off size inb h hv) := ⟨fun _ _ _ => rfl⟩
theorem ldw {k off size inb h hv hp} : Writes wr (ldw (nD := nD) (τ := τ) (F := F) (Λ := Λ) mr k off size inb h hv hp) := ⟨fun _ _ _ => rfl⟩

theorem set_ne {σ : St fam F} {k k' : Buf} (X : (fam.sh k).Idx → Elt F (fam.el k)) (h : k' ≠ k) : St.set (G := fam) σ k X k' = σ k' :=
  Function.update_of_ne h ..

theorem st32 {k off size inb h w hv he hr} (hk : wr k = true) : Writes wr (st32 (nD := nD) (τ := τ) (F := F) (Λ := Λ) mr k off size inb h w hv he hr) :=
  ⟨fun σ k' hk' => set_ne _ (fun e => by subst e; rw [hk] at hk'; cases hk')⟩
theorem stp {k off size inb h hp w hv hr} (hk : wr k = true) : Writes wr (stp (nD := nD) (τ := τ) (F := F) (Λ := Λ) mr hw k off size inb h hp w hv hr) :=
  ⟨fun σ k' hk' => set_ne _ (fun e => by subst e; rw [hk] at hk'; cases hk')⟩

theorem over32 {k off size inb h w hv he hr} (hk : wr k = true) : Writes wr (over32 (nD := nD) (τ := τ) (F := F) (Λ := Λ) mr k off size inb h w hv he hr) :=
  bind ld fun _ => st32 hk
theorem overp {k off size inb h hp w hv hr} (hk : wr k = true) : Writes wr (overp (nD := nD) (τ := τ) (F := F) (Λ := Λ) mr hw k off size inb h hp w hv hr) :=
  bind ld fun _ => stp hk

theorem four {m : Fin 4 → Piece nD τ F Λ mr α} (h : ∀ i, Writes wr (m i)) : Writes wr (four mr m) :=
  bind (h 0) fun _ => bind (h 1) fun _ => bind (h 2) fun _ => bind (h 3) fun _ => pure _

theorem ite {c : Prop} [Decidable c] {m : Piece nD τ F Λ mr PUnit} (h : Writes wr m) : Writes wr (Act.ite c m) := by
  refine ⟨fun σ k hk => ?_⟩
  show (if c then m.run σ else (⟨⟩, σ)).2 k = σ k
  split
  · exact h.keeps σ k hk
  · rfl

end Writes

/-- The buffers the preparation writes. -/
def wrTab : Buf → Bool
  | .cum | .ecs | .dw | .gd | .bcol | .ct | .bm | .cbt => true
  | _ => false
/-- The buffers the start writes. -/
def wrInit : Buf → Bool
  | .mask | .fs => true
  | _ => false
/-- The buffers a step writes. -/
def wrStep : Buf → Bool
  | .y | .fc | .fs | .e | .xw | .st | .sb => true
  | _ => false

variable (mr hw)

theorem initA_writes : Writes wrInit (initA (nD := nD) (τ := τ) (F := F) (Λ := Λ) mr) :=
  .bind .ld fun _ => .bind (.st32 rfl) fun _ => .bind .ld fun _ => .st32 rfl

theorem prepareA_writes (L : F .f32) (n : BitVec 32) : Writes wrTab (prepareA (nD := nD) (τ := τ) (F := F) (Λ := Λ) mr hw L n) := by
  refine .bind .ld fun _ => .bind .ld fun _ => .bind ?_ fun _ => .bind ?_ fun _ => .bind .ld fun _ => .bind .ld fun _ => ?_
  · unfold tab0A
    repeat' first | exact Writes.over32 rfl | refine Writes.bind (Writes.over32 rfl) fun _ => ?_
  · unfold tab1A
    repeat' first | exact Writes.over32 rfl | refine Writes.bind (Writes.over32 rfl) fun _ => ?_
  · exact .bind (.overp rfl) fun _ => .bind (.overp rfl) fun _ => .bind (.over32 rfl) fun _ => .over32 rfl

variable (b : Fin 5) (g : Fin 3) (q : Fin 4)

theorem state0A_writes (u : FVec F S256x128 .f32) (i : Fin 4) : Writes wrStep (state0A (nD := nD) (τ := τ) (F := F) (Λ := Λ) mr b g q u i) :=
  .bind .ld fun _ => .bind .ldw fun _ => .bind .ld fun _ => .bind (.over32 rfl) fun _ => .pure _
theorem quantA_writes (j : Fin 16) : Writes wrStep (quantA (nD := nD) (τ := τ) (F := F) (Λ := Λ) mr hw b g j) :=
  .bind .ld fun _ => .bind (.overp rfl) fun _ => .bind .ld fun _ => .over32 rfl
theorem w1A_writes (mask : Vec F S64x128 .i32) (j : Fin 16) : Writes wr (w1A (nD := nD) (τ := τ) (F := F) (Λ := Λ) mr g mask j) :=
  .bind .ld fun _ => .bind .ld fun _ => .bind .ld fun _ => .pure _
theorem w2A_writes (mask : Vec F S64x128 .i32) (j : Fin 16) : Writes wr (w2A (nD := nD) (τ := τ) (F := F) (Λ := Λ) mr g mask j) :=
  .bind .ld fun _ => .bind .ld fun _ => .bind .ld fun _ => .bind .ld fun _ => .bind .ld fun _ => .bind .ld fun _ => .bind .ld fun _ => .bind .ld fun _ => .pure _
theorem w3A_writes (mask : Vec F S64x128 .i32) (j : Fin 16) : Writes wr (w3A (nD := nD) (τ := τ) (F := F) (Λ := Λ) mr g mask j) :=
  .bind .ld fun _ => .bind .ld fun _ => .bind .ld fun _ => .pure _
theorem y128A_writes (x : FVec F S64x128 .bf16) (wt : FVec F S128x128 .bf16) (j : Fin 16) :
    Writes wrStep (y128A (nD := nD) (τ := τ) (F := F) (Λ := Λ) mr hw b g x wt j) :=
  .bind .ldw fun _ => .bind .ld fun _ => .bind .ldw fun _ => .bind .ld fun _ => .bind (.overp rfl) fun _ => .pure _
theorem y256A_writes (x : FVec F S64x256 .bf16) (wt : FVec F S256x256 .bf16) (j : Fin 16) :
    Writes wrStep (y256A (nD := nD) (τ := τ) (F := F) (Λ := Λ) mr hw b g x wt j) :=
  .bind .ldw fun _ => .bind .ld fun _ => .bind .ldw fun _ => .bind .ld fun _ => .bind (.overp rfl) fun _ => .pure _
theorem yLastA_writes (x : FVec F S64x128 .bf16) (wt : FVec F S128x128 .bf16) (d : Elt F .f32) (j : Fin 16) :
    Writes wrStep (yLastA (nD := nD) (τ := τ) (F := F) (Λ := Λ) mr hw g x wt d j) :=
  .bind .ld fun _ => .bind .ld fun _ => .overp rfl

theorem group1A_writes (live : IVec S64x128 1) (mask : Vec F S64x128 .i32) :
    Writes wrStep (group1A (nD := nD) (τ := τ) (F := F) (Λ := Λ) mr hw b g q live mask) :=
  .bind (.bind .ld fun _ => .bind .ld fun _ => .over32 rfl) fun _ =>
  .bind (.four fun _ => .bind .ld fun _ => .bind .ld fun _ => .bind (.overp rfl) fun _ => .pure _) fun _ =>
  .bind (.bind .ld fun _ => .bind .ld fun _ => .pure _) fun _ =>
  .bind (.four fun _ => state0A_writes ..) fun _ =>
  .bind (.four fun _ => quantA_writes ..) fun _ =>
  .bind (.four fun _ => .bind (w1A_writes ..) fun _ => .bind (y128A_writes ..) fun _ => .overp rfl) fun _ => .pure _

theorem group2A_writes (live : IVec S64x128 1) (mask : Vec F S64x128 .i32) :
    Writes wrStep (group2A (nD := nD) (τ := τ) (F := F) (Λ := Λ) mr hw b g q live mask) :=
  .bind (.bind .ld fun _ => .bind .ld fun _ => .over32 rfl) fun _ =>
  .bind (.four fun _ => .bind .ld fun _ => .bind .ld fun _ => .bind (.overp rfl) fun _ => .pure _) fun _ =>
  .bind (.bind .ld fun _ => .bind .ld fun _ => .pure _) fun _ =>
  .bind (.four fun _ => state0A_writes ..) fun _ =>
  .bind (.four fun _ => quantA_writes ..) fun _ =>
  .bind (.four fun _ => .bind (w2A_writes ..) fun _ => .bind (y256A_writes ..) fun _ => .overp rfl) fun _ => .pure _

theorem group3A_writes (live : IVec S64x128 1) (mask : Vec F S64x128 .i32) :
    Writes wrStep (group3A (nD := nD) (τ := τ) (F := F) (Λ := Λ) mr hw b g q live mask) :=
  .bind (.bind .ld fun _ => .bind .ld fun _ => .over32 rfl) fun _ =>
  .bind (.four fun _ => .bind .ld fun _ => .bind .ld fun _ => .bind (.overp rfl) fun _ => .pure _) fun _ =>
  .bind (.bind .ld fun _ => .bind .ld fun _ => .pure _) fun _ =>
  .bind (.four fun _ => .bind (state0A_writes ..) fun _ => .overp rfl) fun _ =>
  .bind (.bind .ld fun _ => .bind .ld fun _ => .pure _) fun _ =>
  .bind (.four fun _ => .bind .ld fun _ => .bind .ld fun _ => .over32 rfl) fun _ =>
  .bind (.bind .ld fun _ => .bind .ld fun _ => .over32 rfl) fun _ =>
  .bind (.four fun _ => quantA_writes ..) fun _ =>
  .bind (.four fun _ => .bind (w2A_writes ..) fun _ => .bind (w3A_writes ..) fun _ => .bind (y256A_writes ..) fun _ => yLastA_writes ..) fun _ => .pure _

theorem step1A_writes (n : BitVec 32) : Writes wrStep (step1A (nD := nD) (τ := τ) (F := F) (Λ := Λ) mr hw b g n) :=
  .bind .ld fun _ => .bind (.four fun _ => group1A_writes ..) fun _ => .pure _
theorem step2A_writes (n : BitVec 32) : Writes wrStep (step2A (nD := nD) (τ := τ) (F := F) (Λ := Λ) mr hw b g n) :=
  .bind .ld fun _ => .bind (.four fun _ => group2A_writes ..) fun _ => .pure _
theorem step3A_writes (n : BitVec 32) : Writes wrStep (step3A (nD := nD) (τ := τ) (F := F) (Λ := Λ) mr hw b g n) :=
  .bind .ld fun _ => .bind (.four fun _ => group3A_writes ..) fun _ => .pure _

/-- What the body writes: no window that it reads, and not the table of lengths. -/
theorem bodyA_writes (L : F .f32) : Writes (fun k => wrInit k || wrTab k || wrStep k) (bodyA (nD := nD) (τ := τ) (F := F) (Λ := Λ) mr hw b g L) := by
  have hI : ∀ k, (wrInit k || wrTab k || wrStep k) = false → wrInit k = false := by intro k; cases wrInit k <;> simp
  have hT : ∀ k, (wrInit k || wrTab k || wrStep k) = false → wrTab k = false := by intro k; cases wrTab k <;> simp
  have hS : ∀ k, (wrInit k || wrTab k || wrStep k) = false → wrStep k = false := by intro k; cases wrStep k <;> simp
  exact .bind .ldw fun n =>
    .bind (.ite ((initA_writes mr).mono hI)) fun _ =>
    .bind (.ite ((prepareA_writes mr hw L n).mono hT)) fun _ =>
    .bind (.ite ((step1A_writes mr hw b g n).mono hS)) fun _ =>
    .bind (.ite ((step2A_writes mr hw b g n).mono hS)) fun _ => .ite ((step3A_writes mr hw b g n).mono hS)

end Cert.Ssd

end
-- ==== Proof.Chain.lean ====
/-
  The buffers of the body held together, written out one by one, and how the contents of the windows,
  of the scratch buffers and of the table of lengths make up the contents of them all.
-/
module

public import proofs.«01_k».proof.Proof.Steps

@[expose] public section

noncomputable section

namespace Cert.Ssd

open Idealize.ShloMosaic Idealize.ShloMosaic.TcCoe Idealize.SL Idealize.SL.RA Idealize.SL.BI Idealize.SL.Sem
open scoped Idealize.SL.BI
open Idealize.SL.BI.BIBase

variable {nD : Nat} {τ : Topo} {sig : RefSig} {F : FTy → Type}
variable {Ix : Type} [DecidableEq Ix] {Name : Type} [DecidableEq Name] {U : Type} [URA U] {Lvl : Type}

/-- The buffers held together, one by one. -/
theorem own_eq (d : Dev nD) (mr : Mems fam sig) (σ : St fam F) :
    (own d mr σ : sProp (MT nD τ sig Ix (Elt F) Name U Lvl)) = iprop(owns (d.tc : Thread nD τ) (mr Buf.lens) fullShare.right (σ Buf.lens)
      ∗ owns (d.tc : Thread nD τ) (mr Buf.hs) fullShare (σ Buf.hs)
      ∗ owns (d.tc : Thread nD τ) (mr Buf.dd) fullShare (σ Buf.dd)
      ∗ owns (d.tc : Thread nD τ) (mr Buf.aa) fullShare (σ Buf.aa)
      ∗ owns (d.tc : Thread nD τ) (mr Buf.dt) fullShare (σ Buf.dt)
      ∗ owns (d.tc : Thread nD τ) (mr Buf.bb) fullShare (σ Buf.bb)
      ∗ owns (d.tc : Thread nD τ) (mr Buf.cc) fullShare (σ Buf.cc)
      ∗ owns (d.tc : Thread nD τ) (mr Buf.x) fullShare (σ Buf.x)
      ∗ owns (d.tc : Thread nD τ) (mr Buf.hc) fullShare (σ Buf.hc)
      ∗ owns (d.tc : Thread nD τ) (mr Buf.y) fullShare (σ Buf.y)
      ∗ owns (d.tc : Thread nD τ) (mr Buf.fc) fullShare (σ Buf.fc)
      ∗ owns (d.tc : Thread nD τ) (mr Buf.fs) fullShare (σ Buf.fs)
      ∗ owns (d.tc : Thread nD τ) (mr Buf.cum) fullShare (σ Buf.cum)
      ∗ owns (d.tc : Thread nD τ) (mr Buf.ecs) fullShare (σ Buf.ecs)
      ∗ owns (d.tc : Thread nD τ) (mr Buf.dw) fullShare (σ Buf.dw)
      ∗ owns (d.tc : Thread nD τ) (mr Buf.gd) fullShare (σ Buf.gd)
      ∗ owns (d.tc : Thread nD τ) (mr Buf.bcol) fullShare (σ Buf.bcol)
      ∗ owns (d.tc : Thread nD τ) (mr Buf.ct) fullShare (σ Buf.ct)
      ∗ owns (d.tc : Thread nD τ) (mr Buf.bm) fullShare (σ Buf.bm)
      ∗ owns (d.tc : Thread nD τ) (mr Buf.cbt) fullShare (σ Buf.cbt)
      ∗ owns (d.tc : Thread nD τ) (mr Buf.mask) fullShare (σ Buf.mask)
      ∗ owns (d.tc : Thread nD τ) (mr Buf.e) fullShare (σ Buf.e)
      ∗ owns (d.tc : Thread nD τ) (mr Buf.xw) fullShare (σ Buf.xw)
      ∗ owns (d.tc : Thread nD τ) (mr Buf.st) fullShare (σ Buf.st)
      ∗ owns (d.tc : Thread nD τ) (mr Buf.sb) fullShare (σ Buf.sb)) :=
  bigSep_univ_eq_bigSepL [Buf.lens, Buf.hs, Buf.dd, Buf.aa, Buf.dt, Buf.bb, Buf.cc, Buf.x, Buf.hc, Buf.y, Buf.fc, Buf.fs, Buf.cum, Buf.ecs, Buf.dw, Buf.gd, Buf.bcol, Buf.ct, Buf.bm, Buf.cbt, Buf.mask, Buf.e, Buf.xw, Buf.st, Buf.sb] (by decide) (by decide) _

/-- The contents of all the buffers, from the table of lengths, the windows' and the scratch buffers' (read off `σ`). -/
@[reducible] def merge (tbl : (fam.sh .lens).Idx → Elt F .i32) (Y : (k : Buf) → (fam.sh k).Idx → Elt F (fam.el k)) (σ : St fam F) : St fam F
  | .lens => tbl
  | .hs => Y .hs
  | .dd => Y .dd
  | .aa => Y .aa
  | .dt => Y .dt
  | .bb => Y .bb
  | .cc => Y .cc
  | .x => Y .x
  | .hc => Y .hc
  | .y => Y .y
  | .fc => Y .fc
  | .fs => Y .fs
  | .cum => σ .cum
  | .ecs => σ .ecs
  | .dw => σ .dw
  | .gd => σ .gd
  | .bcol => σ .bcol
  | .ct => σ .ct
  | .bm => σ .bm
  | .cbt => σ .cbt
  | .mask => σ .mask
  | .e => σ .e
  | .xw => σ .xw
  | .st => σ .st
  | .sb => σ .sb

end Cert.Ssd

end
-- ==== Proof.Text.lean ====
/-
  The printed program runs the text of the kernel.
-/
module

public import proofs.«01_k».proof.Proof.Steps
public import proofs.«01_k».proof.Proof.Gen.Kernel

@[expose] public section

set_option maxRecDepth 65536

noncomputable section

namespace Cert.Ssd

open Idealize.ShloMosaic Idealize.ShloMosaic.TcCoe Idealize.SL.Sem

namespace Kernel

open Cert.Kernel

/-- The buffers of the kernel, from the body's arguments. -/
@[reducible] def mems (arg2 : Memref sig .tc .smem S5 .i32) (arg3 : Memref sig .tc .smem S5x48 .f32) (arg4 : Memref sig .tc .smem S48 .f32) (arg5 : Memref sig .tc .vmem S1x48 .f32) (arg6 : Memref sig .tc .vmem S1x48x384 .f32) (arg7 : Memref sig .tc .vmem S1x384x128 .bf16) (arg8 : Memref sig .tc .vmem S1x384x128 .bf16) (arg9 : Memref sig .tc .vmem S1x16x64x384 .bf16) (arg10 : Memref sig .tc .vmem S1x16x64x128 .fp8e4m3) (arg11 : Memref sig .tc .vmem S1x16x64x384 .bf16) (arg12 : Memref sig .tc .vmem S1x16x64x128 .fp8e4m3) (arg13 : Memref sig .tc .vmem S5x48 .f32) (arg14 : Memref sig .tc .vmem S3x16x384 .f32) (arg15 : Memref sig .tc .vmem S3x16x384 .f32) (arg16 : Memref sig .tc .vmem S3x16x384 .f32) (arg17 : Memref sig .tc .vmem S3x2x16x128 .f32) (arg18 : Memref sig .tc .vmem S3x384x128 .f32) (arg19 : Memref sig .tc .vmem S128x384 .bf16) (arg20 : Memref sig .tc .vmem S384x128 .bf16) (arg21 : Memref sig .tc .vmem S384x256 .f32) (arg22 : Memref sig .tc .vmem S64x128 .i32) (arg23 : Memref sig .tc .vmem S1024x384 .f32) (arg24 : Memref sig .tc .vmem S1024x384 .bf16) (arg25 : Memref sig .tc .vmem S16x64x128 .f32) (arg26 : Memref sig .tc .vmem S1024x128 .bf16) : Mems fam sig
  | .lens => arg2
  | .hs => arg3
  | .dd => arg4
  | .aa => arg5
  | .dt => arg6
  | .bb => arg7
  | .cc => arg8
  | .x => arg9
  | .hc => arg10
  | .y => arg11
  | .fc => arg12
  | .fs => arg13
  | .cum => arg14
  | .ecs => arg15
  | .dw => arg16
  | .gd => arg17
  | .bcol => arg18
  | .ct => arg19
  | .bm => arg20
  | .cbt => arg21
  | .mask => arg22
  | .e => arg23
  | .xw => arg24
  | .st => arg25
  | .sb => arg26

theorem mems_whole {arg2 : Memref sig .tc .smem S5 .i32} (harg2 : arg2.IsWhole) {arg3 : Memref sig .tc .smem S5x48 .f32} (harg3 : arg3.IsWhole) {arg4 : Memref sig .tc .smem S48 .f32} (harg4 : arg4.IsWhole) {arg5 : Memref sig .tc .vmem S1x48 .f32} (harg5 : arg5.IsWhole) {arg6 : Memref sig .tc .vmem S1x48x384 .f32} (harg6 : arg6.IsWhole) {arg7 : Memref sig .tc .vmem S1x384x128 .bf16} (harg7 : arg7.IsWhole) {arg8 : Memref sig .tc .vmem S1x384x128 .bf16} (harg8 : arg8.IsWhole) {arg9 : Memref sig .tc .vmem S1x16x64x384 .bf16} (harg9 : arg9.IsWhole) {arg10 : Memref sig .tc .vmem S1x16x64x128 .fp8e4m3} (harg10 : arg10.IsWhole) {arg11 : Memref sig .tc .vmem S1x16x64x384 .bf16} (harg11 : arg11.IsWhole) {arg12 : Memref sig .tc .vmem S1x16x64x128 .fp8e4m3} (harg12 : arg12.IsWhole) {arg13 : Memref sig .tc .vmem S5x48 .f32} (harg13 : arg13.IsWhole) {arg14 : Memref sig .tc .vmem S3x16x384 .f32} (harg14 : arg14.IsWhole) {arg15 : Memref sig .tc .vmem S3x16x384 .f32} (harg15 : arg15.IsWhole) {arg16 : Memref sig .tc .vmem S3x16x384 .f32} (harg16 : arg16.IsWhole) {arg17 : Memref sig .tc .vmem S3x2x16x128 .f32} (harg17 : arg17.IsWhole) {arg18 : Memref sig .tc .vmem S3x384x128 .f32} (harg18 : arg18.IsWhole) {arg19 : Memref sig .tc .vmem S128x384 .bf16} (harg19 : arg19.IsWhole) {arg20 : Memref sig .tc .vmem S384x128 .bf16} (harg20 : arg20.IsWhole) {arg21 : Memref sig .tc .vmem S384x256 .f32} (harg21 : arg21.IsWhole) {arg22 : Memref sig .tc .vmem S64x128 .i32} (harg22 : arg22.IsWhole) {arg23 : Memref sig .tc .vmem S1024x384 .f32} (harg23 : arg23.IsWhole) {arg24 : Memref sig .tc .vmem S1024x384 .bf16} (harg24 : arg24.IsWhole) {arg25 : Memref sig .tc .vmem S16x64x128 .f32} (harg25 : arg25.IsWhole) {arg26 : Memref sig .tc .vmem S1024x128 .bf16} (harg26 : arg26.IsWhole) :
    ∀ k, (mems arg2 arg3 arg4 arg5 arg6 arg7 arg8 arg9 arg10 arg11 arg12 arg13 arg14 arg15 arg16 arg17 arg18 arg19 arg20 arg21 arg22 arg23 arg24 arg25 arg26 k).IsWhole
  | .lens => harg2
  | .hs => harg3
  | .dd => harg4
  | .aa => harg5
  | .dt => harg6
  | .bb => harg7
  | .cc => harg8
  | .x => harg9
  | .hc => harg10
  | .y => harg11
  | .fc => harg12
  | .fs => harg13
  | .cum => harg14
  | .ecs => harg15
  | .dw => harg16
  | .gd => harg17
  | .bcol => harg18
  | .ct => harg19
  | .bm => harg20
  | .cbt => harg21
  | .mask => harg22
  | .e => harg23
  | .xw => harg24
  | .st => harg25
  | .sb => harg26

variable {F : FTy → Type} [FloatOps F]
/-- The printed body is the text. -/
theorem body_eq (i : grid0.Coords) (arg2 : Memref sig .tc .smem S5 .i32) (harg2 : arg2.IsWhole) (arg3 : Memref sig .tc .smem S5x48 .f32) (harg3 : arg3.IsWhole) (arg4 : Memref sig .tc .smem S48 .f32) (harg4 : arg4.IsWhole) (arg5 : Memref sig .tc .vmem S1x48 .f32) (harg5 : arg5.IsWhole) (arg6 : Memref sig .tc .vmem S1x48x384 .f32) (harg6 : arg6.IsWhole) (arg7 : Memref sig .tc .vmem S1x384x128 .bf16) (harg7 : arg7.IsWhole) (arg8 : Memref sig .tc .vmem S1x384x128 .bf16) (harg8 : arg8.IsWhole) (arg9 : Memref sig .tc .vmem S1x16x64x384 .bf16) (harg9 : arg9.IsWhole) (arg10 : Memref sig .tc .vmem S1x16x64x128 .fp8e4m3) (harg10 : arg10.IsWhole) (arg11 : Memref sig .tc .vmem S1x16x64x384 .bf16) (harg11 : arg11.IsWhole) (arg12 : Memref sig .tc .vmem S1x16x64x128 .fp8e4m3) (harg12 : arg12.IsWhole) (arg13 : Memref sig .tc .vmem S5x48 .f32) (harg13 : arg13.IsWhole) (arg14 : Memref sig .tc .vmem S3x16x384 .f32) (harg14 : arg14.IsWhole) (arg15 : Memref sig .tc .vmem S3x16x384 .f32) (harg15 : arg15.IsWhole) (arg16 : Memref sig .tc .vmem S3x16x384 .f32) (harg16 : arg16.IsWhole) (arg17 : Memref sig .tc .vmem S3x2x16x128 .f32) (harg17 : arg17.IsWhole) (arg18 : Memref sig .tc .vmem S3x384x128 .f32) (harg18 : arg18.IsWhole) (arg19 : Memref sig .tc .vmem S128x384 .bf16) (harg19 : arg19.IsWhole) (arg20 : Memref sig .tc .vmem S384x128 .bf16) (harg20 : arg20.IsWhole) (arg21 : Memref sig .tc .vmem S384x256 .f32) (harg21 : arg21.IsWhole) (arg22 : Memref sig .tc .vmem S64x128 .i32) (harg22 : arg22.IsWhole) (arg23 : Memref sig .tc .vmem S1024x384 .f32) (harg23 : arg23.IsWhole) (arg24 : Memref sig .tc .vmem S1024x384 .bf16) (harg24 : arg24.IsWhole) (arg25 : Memref sig .tc .vmem S16x64x128 .f32) (harg25 : arg25.IsWhole) (arg26 : Memref sig .tc .vmem S1024x128 .bf16) (harg26 : arg26.IsWhole) :
    cc0_ssd_scan (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 =
      (bodyA (mems arg2 arg3 arg4 arg5 arg6 arg7 arg8 arg9 arg10 arg11 arg12 arg13 arg14 arg15 arg16 arg17 arg18 arg19 arg20 arg21 arg22 arg23 arg24 arg25 arg26) (mems_whole harg2 harg3 harg4 harg5 harg6 harg7 harg8 harg9 harg10 harg11 harg12 harg13 harg14 harg15 harg16 harg17 harg18 harg19 harg20 harg21 harg22 harg23 harg24 harg25 harg26) (i 0) (i 1) (Scalar.ofBits .f32 0x3FB8AA3B#32)).prog .ret := by
  chain_rfl

end Kernel

end Cert.Ssd
-- ==== Proof.Launch.lean ====
/-
  The printed program: the run of the launch, from a statement about the body's function of contents.
-/
module

public import proofs.«01_k».proof.Proof.Chain
public import proofs.«01_k».proof.Proof.Text
public import proofs.«01_k».proof.Proof.Gen.Kernel.Launch
public import Idealize.ShloMosaic.Lib.Pipeline.Frame
public import Idealize.ShloMosaic.Lib.StableHlo.Run

@[expose] public section

set_option maxRecDepth 65536

noncomputable section

namespace Cert.Ssd.Kernel

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄" => MT nD τ sig Unit (Elt F) ℕ (UR sig nD τ) ℕ

variable (m : (ℓ : Loc nD τ sig) → Idealize.ShloMosaic.Buf (Elt F) ℓ) (ρ : Dev nD → PrngReg)

/-- The table of lengths at launch. -/
def lens0 : S5.Idx → BitVec 32 := m (((0 : Dev nD).tc : Thread nD τ).loc main_arg8)

/-- The tables' contents at launch. -/
def tables : pre0.Contents (Elt F) := fun
  | ⟨0, _⟩ => lens0 m
  | ⟨_ + 1, h⟩ => absurd h (Nat.not_lt.2 (Nat.le_add_left _ _))

/-- They are admitted: the index maps do not read them. -/
def adm : (p : Fin 1) → (pcfgs (F := F) p).Adm := fun _ => ⟨tables m, by show ok0 (F := F) (tables m); unfold ok0; trivial⟩

/-- The pipeline at the table's contents. -/
abbrev cfgA : Pipeline.Cfg sig Λ₀ := Pipeline.pin (pcfgs (F := F)) (adm m) 0

/-- The buffers when the pipeline is entered: the host operations have run. -/
def V (c : Dev nD) (b : Ref sig .tc) : Idealize.ShloMosaic.Buf (Elt F) ((c.tc : Thread nD τ).loc b) :=
  StableHlo.after hostOps0 (fun b => m (c, b)) b

/-- The windows' contents, by the body's names. -/
@[reducible] def wins (Y : (w : Fin 11) → (spec0 w).block.Idx → Elt F (spec0 w).elt) (σ : St fam F) : St fam F
  | .hs => Y 0
  | .dd => Y 1
  | .aa => Y 2
  | .dt => Y 3
  | .bb => Y 4
  | .cc => Y 5
  | .x => Y 6
  | .hc => Y 7
  | .y => Y 8
  | .fc => Y 9
  | .fs => Y 10
  | k => σ k

/-- and back. -/
@[reducible] def unwins (σ : St fam F) : (w : Fin 11) → (spec0 w).block.Idx → Elt F (spec0 w).elt
  | 0 => σ .hs
  | 1 => σ .dd
  | 2 => σ .aa
  | 3 => σ .dt
  | 4 => σ .bb
  | 5 => σ .cc
  | 6 => σ .x
  | 7 => σ .hc
  | 8 => σ .y
  | 9 => σ .fc
  | 10 => σ .fs
  | ⟨_ + 11, h⟩ => absurd h (Nat.not_lt.2 (Nat.le_add_left _ _))

/-- The constant of the kernel's text. -/
abbrev L : F .f32 := Scalar.ofBits .f32 0x3FB8AA3B#32

/-- The contents the body starts from at a point. -/
abbrev entry (Y : (w : Fin 11) → (spec0 w).block.Idx → Elt F (spec0 w).elt) (σ : St fam F) : St fam F :=
  merge (lens0 m) (wins Y σ) σ

/-- The scratch buffers at contents. -/
def scratch (c : Dev nD) (σ : St fam F) : sProp 𝕄 :=
  iprop(owns (c.tc : Thread nD τ) (Memref.whole cc0_scratch0) fullShare (σ .cum)
    ∗ owns (c.tc : Thread nD τ) (Memref.whole cc0_scratch1) fullShare (σ .ecs)
    ∗ owns (c.tc : Thread nD τ) (Memref.whole cc0_scratch2) fullShare (σ .dw)
    ∗ owns (c.tc : Thread nD τ) (Memref.whole cc0_scratch3) fullShare (σ .gd)
    ∗ owns (c.tc : Thread nD τ) (Memref.whole cc0_scratch4) fullShare (σ .bcol)
    ∗ owns (c.tc : Thread nD τ) (Memref.whole cc0_scratch5) fullShare (σ .ct)
    ∗ owns (c.tc : Thread nD τ) (Memref.whole cc0_scratch6) fullShare (σ .bm)
    ∗ owns (c.tc : Thread nD τ) (Memref.whole cc0_scratch7) fullShare (σ .cbt)
    ∗ owns (c.tc : Thread nD τ) (Memref.whole cc0_scratch8) fullShare (σ .mask)
    ∗ owns (c.tc : Thread nD τ) (Memref.whole cc0_scratch9) fullShare (σ .e)
    ∗ owns (c.tc : Thread nD τ) (Memref.whole cc0_scratch10) fullShare (σ .xw)
    ∗ owns (c.tc : Thread nD τ) (Memref.whole cc0_scratch11) fullShare (σ .st)
    ∗ owns (c.tc : Thread nD τ) (Memref.whole cc0_scratch12) fullShare (σ .sb))

/-- The table of lengths, for the body to read. -/
def table (c : Dev nD) : sProp 𝕄 :=
  (((c.tc : Thread nD τ).loc main_arg8) ↦{fullShare.right} (show Idealize.ShloMosaic.Buf (Elt F) ((c.tc : Thread nD τ).loc main_arg8) from lens0 m))

/-- The kernel's placement of its buffers at point `t`. -/
abbrev memsAt (t : Fin grid0.N) : Mems fam sig :=
  mems (Memref.whole main_arg8) (spec0_0.stage ((cfgA m).slots t 0)) (spec0_1.stage ((cfgA m).slots t 1)) (spec0_2.stage ((cfgA m).slots t 2)) (spec0_3.stage ((cfgA m).slots t 3)) (spec0_4.stage ((cfgA m).slots t 4)) (spec0_5.stage ((cfgA m).slots t 5)) (spec0_6.stage ((cfgA m).slots t 6)) (spec0_7.stage ((cfgA m).slots t 7)) (spec0_8.stage ((cfgA m).slots t 8)) (spec0_9.stage ((cfgA m).slots t 9)) (spec0_10.stage ((cfgA m).slots t 10)) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) (Memref.whole cc0_scratch12)

/-- Each is a whole buffer. -/
theorem wholeAt (t : Fin grid0.N) : ∀ k, (memsAt m t k).IsWhole :=
  mems_whole (Memref.isWhole_whole _) (hstage0_0 (((cfgA m).slots t 0).cast nbuf0_0)) (hstage0_1 (((cfgA m).slots t 1).cast nbuf0_1)) (hstage0_2 (((cfgA m).slots t 2).cast nbuf0_2)) (hstage0_3 (((cfgA m).slots t 3).cast nbuf0_3)) (hstage0_4 (((cfgA m).slots t 4).cast nbuf0_4)) (hstage0_5 (((cfgA m).slots t 5).cast nbuf0_5)) (hstage0_6 (((cfgA m).slots t 6).cast nbuf0_6)) (hstage0_7 (((cfgA m).slots t 7).cast nbuf0_7)) (hstage0_8 (((cfgA m).slots t 8).cast nbuf0_8)) (hstage0_9 (((cfgA m).slots t 9).cast nbuf0_9)) (hstage0_10 (((cfgA m).slots t 10).cast nbuf0_10)) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _)

/-- The body at point `t`. -/
abbrev bodyAt (t : Fin grid0.N) : Piece nD τ F Λ₀ (memsAt m t) PUnit :=
  bodyA (memsAt m t) (wholeAt m t) ((grid0.coords t) 0) ((grid0.coords t) 1) L

/-- What the body makes of the contents. The placement of the buffers does not matter to it. -/
abbrev step (t : Fin grid0.N) (σ : St fam F) : St fam F := ((bodyAt m t).run σ).2

variable (aft : (w : Fin 11) → Fin grid0.N → (Y X : (spec0 w).block.Idx → Elt F (spec0 w).elt) → Prop)
  (Inv : Fin (grid0.N + 1) → St fam F → Prop)

/-- The proof's data: `aft` of what the body leaves in each window, `Inv` of the scratch buffers between points. -/
def rdat (c : Dev nD) : RDat τ (Elt F) Unit ℕ (UR sig nD τ) ℕ (cfgA m) c where
  A w := V m c (Pipeline.arrRef spec0 w)
  after w t Y X := aft w t Y X
  Φ t := iprop((∃ σ : St fam F, ⌜Inv t σ⌝ ∗ scratch c σ) ∗ (∃ r, prngReg c r) ∗ table m c)
  q _ := fullShare
  owed _ := 0

/-- What the statement about the body's function is: from what the windows may hold and the scratch buffers do, it
    leaves in each window and in the scratch buffers what it should. -/
def StepOk : Prop :=
  ∀ (c : Dev nD) (t : Fin grid0.N) (Y : (w : Fin 11) → (spec0 w).block.Idx → Elt F (spec0 w).elt) (σ : St fam F),
    (∀ w, (rdat m aft Inv c).Finds w t (Y w)) → Inv t.castSucc σ →
      (∀ w, aft w t (Y w) (unwins (step m t (entry m Y σ)) w)) ∧ Inv t.succ (step m t (entry m Y σ))

/-- The body keeps the table. -/
def Keeps : Prop := ∀ (t : Fin grid0.N) (σ : St fam F), step m t σ .lens = σ .lens

theorem defs₀_row (t : Fin grid0.N) : defs₀ (F := F) .tc (cfgA m).body ((cfgA m).bodyArgs t ((cfgA m).slots t)) = (bodyAt m t).prog .ret := by
  unfold defs₀
  rw [Defs.onTc_tc]
  exact body_eq (grid0.coords t) _ _ _ _ _ _ _ _ _ _ _ _ _ _ _ _ _ _ _ _ _ _ _ _ _ _ _ _ _ _ _ _ _ _ _ _ _ _ _ _ _ _ _ _ _ _ _ _ _ _

/-- The table as the body holds it. -/
theorem table_owns (c : Dev nD) (t : Fin grid0.N) : (owns (c.tc : Thread nD τ) (memsAt m t .lens) fullShare.right (lens0 m) : sProp 𝕄) = table m c :=
  owns_whole (c.tc : Thread nD τ) main_arg8 fullShare.right (show main_arg8.ty.Contents (Elt F) from lens0 m)

/-- All the buffers at point `t`, as the windows, the scratch buffers and the table. -/
theorem own_split (c : Dev nD) (t : Fin grid0.N) (σ : St fam F) (h : σ .lens = lens0 m) :
    (own c (memsAt m t) σ : sProp 𝕄)
      = iprop(table m c ∗ owns (c.tc : Thread nD τ) ((spec0 0).stage ((cfgA m).slots t 0)) fullShare (unwins σ 0)
      ∗ owns (c.tc : Thread nD τ) ((spec0 1).stage ((cfgA m).slots t 1)) fullShare (unwins σ 1)
      ∗ owns (c.tc : Thread nD τ) ((spec0 2).stage ((cfgA m).slots t 2)) fullShare (unwins σ 2)
      ∗ owns (c.tc : Thread nD τ) ((spec0 3).stage ((cfgA m).slots t 3)) fullShare (unwins σ 3)
      ∗ owns (c.tc : Thread nD τ) ((spec0 4).stage ((cfgA m).slots t 4)) fullShare (unwins σ 4)
      ∗ owns (c.tc : Thread nD τ) ((spec0 5).stage ((cfgA m).slots t 5)) fullShare (unwins σ 5)
      ∗ owns (c.tc : Thread nD τ) ((spec0 6).stage ((cfgA m).slots t 6)) fullShare (unwins σ 6)
      ∗ owns (c.tc : Thread nD τ) ((spec0 7).stage ((cfgA m).slots t 7)) fullShare (unwins σ 7)
      ∗ owns (c.tc : Thread nD τ) ((spec0 8).stage ((cfgA m).slots t 8)) fullShare (unwins σ 8)
      ∗ owns (c.tc : Thread nD τ) ((spec0 9).stage ((cfgA m).slots t 9)) fullShare (unwins σ 9)
      ∗ owns (c.tc : Thread nD τ) ((spec0 10).stage ((cfgA m).slots t 10)) fullShare (unwins σ 10)
      ∗ scratch c σ) := by
  rw [own_eq, h, table_owns]
  rfl

theorem bodyOb (hk : Keeps m) (hs : StepOk m aft Inv) (c : Dev nD) :
    (rdat m aft Inv c).BodyObligation (defs₀ (F := F)) Variants.none () Set.univ := by
  intro t Y hY
  rw [defs₀_row, bigSep_W0, bigSep_W0]
  rw [show (rdat m aft Inv c).Φ t.castSucc = iprop((∃ σ : St fam F, ⌜Inv t.castSucc σ⌝ ∗ scratch c σ) ∗ (∃ r, prngReg c r) ∗ table m c) from rfl,
    show (rdat m aft Inv c).Φ t.succ = iprop((∃ σ : St fam F, ⌜Inv t.succ σ⌝ ∗ scratch c σ) ∗ (∃ r, prngReg c r) ∗ table m c) from rfl,
    show (rdat m aft Inv c).owesAt () t.succ = (rdat m aft Inv c).owesAt () t.castSucc from rfl]
  iintro ⟨⟨⟨%σ, %hσ, Hs⟩, Hp, Ht⟩, HO, W0, W1, W2, W3, W4, W5, W6, W7, W8, W9, W10⟩
  obtain ⟨ha, hi⟩ := hs c t Y σ hY hσ
  iapply ((bodyAt m t).ok (defs₀ (F := F)) Variants.none c none Set.univ (entry m Y σ) .ret _)
  rw [own_split m c t (entry m Y σ) rfl, own_split m c t ((bodyAt m t).run (entry m Y σ)).2 (hk t _)]
  isplitl [Ht W0 W1 W2 W3 W4 W5 W6 W7 W8 W9 W10 Hs]
  · isplitl [Ht]; · iexact Ht
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    iexact Hs
  iintro ⟨Ht, W0, W1, W2, W3, W4, W5, W6, W7, W8, W9, W10, Hs⟩
  rw [wp_ret]; imodintro
  isplitl [Hs Hp Ht]
  · isplitl [Hs]
    · iexists (step m t (entry m Y σ)); isplitr; · ipureintro; exact hi
      iexact Hs
    isplitl [Hp]; · iexact Hp
    iexact Ht
  isplitl [HO]; · iexact HO
  isplitl [W0]
  · iexists (unwins (step m t (entry m Y σ)) 0)
    isplitr; · ipureintro; exact ha 0
    iexact W0
  isplitl [W1]
  · iexists (unwins (step m t (entry m Y σ)) 1)
    isplitr; · ipureintro; exact ha 1
    iexact W1
  isplitl [W2]
  · iexists (unwins (step m t (entry m Y σ)) 2)
    isplitr; · ipureintro; exact ha 2
    iexact W2
  isplitl [W3]
  · iexists (unwins (step m t (entry m Y σ)) 3)
    isplitr; · ipureintro; exact ha 3
    iexact W3
  isplitl [W4]
  · iexists (unwins (step m t (entry m Y σ)) 4)
    isplitr; · ipureintro; exact ha 4
    iexact W4
  isplitl [W5]
  · iexists (unwins (step m t (entry m Y σ)) 5)
    isplitr; · ipureintro; exact ha 5
    iexact W5
  isplitl [W6]
  · iexists (unwins (step m t (entry m Y σ)) 6)
    isplitr; · ipureintro; exact ha 6
    iexact W6
  isplitl [W7]
  · iexists (unwins (step m t (entry m Y σ)) 7)
    isplitr; · ipureintro; exact ha 7
    iexact W7
  isplitl [W8]
  · iexists (unwins (step m t (entry m Y σ)) 8)
    isplitr; · ipureintro; exact ha 8
    iexact W8
  isplitl [W9]
  · iexists (unwins (step m t (entry m Y σ)) 9)
    isplitr; · ipureintro; exact ha 9
    iexact W9
  iexists (unwins (step m t (entry m Y σ)) 10)
  isplitr; · ipureintro; exact ha 10
  iexact W10

theorem hmain : Pipeline.HMainP (Ix := Unit) (Name := ℕ) (U := UR sig nD τ) (Lvl := ℕ) (pcfgs (F := F)) 0 defs₀ Variants.none m (main (F := F)) (V m) :=
  Pipeline.hmainP_prefix pcfgs 0 defs₀ Variants.none m main hostOps0 hostOps0_sub ⟨rfl, rfl, rfl, rfl, rfl⟩ main_chain

/-- A buffer the host operations do not write is as at launch. -/
theorem V_of_ne (c : Dev nD) {b : Ref sig .tc} (h0 : b ≠ main_v0) (h1 : b ≠ main_v1) (h2 : b ≠ main_v2) (h3 : b ≠ main_v3) (h4 : b ≠ main_v4) :
    V m c b = m ((c.tc : Thread nD τ).loc b) := by
  unfold V
  simp only [StableHlo.after_cons, StableHlo.after_nil]
  rw [StableHlo.reshape_result_ne _ _ _ _ _ _ _ h4, StableHlo.reshape_result_ne _ _ _ _ _ _ _ h3, StableHlo.reshape_result_ne _ _ _ _ _ _ _ h2,
    StableHlo.unary_result_ne (τ := τ) (x := main_arg1) (y := main_v1) _ _ _ _ h1, StableHlo.unary_result_ne (τ := τ) (x := main_arg0) (y := main_v0) _ _ _ _ h0]

theorem V_pre (c : Dev nD) (k : Fin 1) : V m c (pre0.ref k) = (adm m 0).1 k := by
  obtain rfl : c = 0 := Subsingleton.elim _ _
  obtain rfl : k = 0 := Subsingleton.elim _ _
  exact V_of_ne m 0 (b := main_arg8) (by decide) (by decide) (by decide) (by decide) (by decide)

theorem prefHeld_eq (c : Dev nD) : (Pipeline.ΦT (U := UR sig nD τ) pre0 (adm m 0).1 c : sProp 𝕄) = table m c := by
  unfold Pipeline.ΦT Pipeline.prefHeld
  rw [show (Finset.univ : Finset (Fin 1)) = {0} from by decide, bigSep_singleton]
  rfl

set_option backward.isDefEq.respectTransparency.types false in
/-- The run of the kernel: it ends, with every array as the proof's data says and every other buffer as at the entry. -/
theorem run (hk : Keeps m) (hs : StepOk m aft Inv) (h0 : ∀ σ, Inv 0 σ) :
    θ_run defs (onTc (τ := τ) (main (F := F))) (s₀ m ρ)
      (fun r => Pipeline.RDat.FramePost (cfgA m) (rdat m aft Inv) (V m) r ∧ r.2.sem = fun _ => 0) :=
  RDat.θ_run_frameP_track (Q' := _) pcfgs (adm m) 0 launch0 defs₀ Variants.none (rdat m aft Inv) m ρ main
    (hbody := bodyOb m aft Inv hk hs)
    (hshare := fun c w => by unfold RDat.share; split <;> rfl) (howed := fun _ _ => rfl)
    (V := V m) (hmain := hmain m) (hA := fun _ _ => rfl) (hpf := V_pre m)
    (hin := fun c => by
      show _ ⊢ iprop((∃ σ : St fam F, ⌜Inv 0 σ⌝ ∗ scratch c σ) ∗ (∃ r, prngReg c r) ∗ table m c)
      rw [← prefHeld_eq]
      unfold Pipeline.ΦA
      rw [scopedRest0_eq]
      unfold scratch
      iintro ⟨⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩, ⟨%f10, S10⟩, ⟨%f11, S11⟩, ⟨%f12, S12⟩⟩, Hp⟩, Ht⟩
      isplitr [Hp Ht]
      · iexists (fun
          | .cum => f0
          | .ecs => f1
          | .dw => f2
          | .gd => f3
          | .bcol => f4
          | .ct => f5
          | .bm => f6
          | .cbt => f7
          | .mask => f8
          | .e => f9
          | .xw => f10
          | .st => f11
          | .sb => f12
          | .lens => lens0 m
          | .hs => fun _ => (Scalar.ofBits .f32 0x00000000#32 : F _)
          | .dd => fun _ => (Scalar.ofBits .f32 0x00000000#32 : F _)
          | .aa => fun _ => (Scalar.ofBits .f32 0x00000000#32 : F _)
          | .dt => fun _ => (Scalar.ofBits .f32 0x00000000#32 : F _)
          | .bb => fun _ => (Scalar.ofBits .bf16 0x0000#16 : F _)
          | .cc => fun _ => (Scalar.ofBits .bf16 0x0000#16 : F _)
          | .x => fun _ => (Scalar.ofBits .bf16 0x0000#16 : F _)
          | .hc => fun _ => (Scalar.ofBits .fp8e4m3 0x00#8 : F _)
          | .y => fun _ => (Scalar.ofBits .bf16 0x0000#16 : F _)
          | .fc => fun _ => (Scalar.ofBits .fp8e4m3 0x00#8 : F _)
          | .fs => fun _ => (Scalar.ofBits .f32 0x00000000#32 : F _)
          : St fam F)
        isplitr; · ipureintro; exact h0 _
        isplitl [S0]; · iapply (Entails.of_eq (owns_whole (Val := Elt F) (Ix := Unit) (Name := ℕ) (U := UR sig nD τ) (Lvl := ℕ) (c.tc : Thread nD τ) cc0_scratch0 fullShare f0).symm); iexact S0
        isplitl [S1]; · iapply (Entails.of_eq (owns_whole (Val := Elt F) (Ix := Unit) (Name := ℕ) (U := UR sig nD τ) (Lvl := ℕ) (c.tc : Thread nD τ) cc0_scratch1 fullShare f1).symm); iexact S1
        isplitl [S2]; · iapply (Entails.of_eq (owns_whole (Val := Elt F) (Ix := Unit) (Name := ℕ) (U := UR sig nD τ) (Lvl := ℕ) (c.tc : Thread nD τ) cc0_scratch2 fullShare f2).symm); iexact S2
        isplitl [S3]; · iapply (Entails.of_eq (owns_whole (Val := Elt F) (Ix := Unit) (Name := ℕ) (U := UR sig nD τ) (Lvl := ℕ) (c.tc : Thread nD τ) cc0_scratch3 fullShare f3).symm); iexact S3
        isplitl [S4]; · iapply (Entails.of_eq (owns_whole (Val := Elt F) (Ix := Unit) (Name := ℕ) (U := UR sig nD τ) (Lvl := ℕ) (c.tc : Thread nD τ) cc0_scratch4 fullShare f4).symm); iexact S4
        isplitl [S5]; · iapply (Entails.of_eq (owns_whole (Val := Elt F) (Ix := Unit) (Name := ℕ) (U := UR sig nD τ) (Lvl := ℕ) (c.tc : Thread nD τ) cc0_scratch5 fullShare f5).symm); iexact S5
        isplitl [S6]; · iapply (Entails.of_eq (owns_whole (Val := Elt F) (Ix := Unit) (Name := ℕ) (U := UR sig nD τ) (Lvl := ℕ) (c.tc : Thread nD τ) cc0_scratch6 fullShare f6).symm); iexact S6
        isplitl [S7]; · iapply (Entails.of_eq (owns_whole (Val := Elt F) (Ix := Unit) (Name := ℕ) (U := UR sig nD τ) (Lvl := ℕ) (c.tc : Thread nD τ) cc0_scratch7 fullShare f7).symm); iexact S7
        isplitl [S8]; · iapply (Entails.of_eq (owns_whole (Val := Elt F) (Ix := Unit) (Name := ℕ) (U := UR sig nD τ) (Lvl := ℕ) (c.tc : Thread nD τ) cc0_scratch8 fullShare f8).symm); iexact S8
        isplitl [S9]; · iapply (Entails.of_eq (owns_whole (Val := Elt F) (Ix := Unit) (Name := ℕ) (U := UR sig nD τ) (Lvl := ℕ) (c.tc : Thread nD τ) cc0_scratch9 fullShare f9).symm); iexact S9
        isplitl [S10]; · iapply (Entails.of_eq (owns_whole (Val := Elt F) (Ix := Unit) (Name := ℕ) (U := UR sig nD τ) (Lvl := ℕ) (c.tc : Thread nD τ) cc0_scratch10 fullShare f10).symm); iexact S10
        isplitl [S11]; · iapply (Entails.of_eq (owns_whole (Val := Elt F) (Ix := Unit) (Name := ℕ) (U := UR sig nD τ) (Lvl := ℕ) (c.tc : Thread nD τ) cc0_scratch11 fullShare f11).symm); iexact S11
        iapply (Entails.of_eq (owns_whole (Val := Elt F) (Ix := Unit) (Name := ℕ) (U := UR sig nD τ) (Lvl := ℕ) (c.tc : Thread nD τ) cc0_scratch12 fullShare f12).symm); iexact S12
      isplitl [Hp]; · iexact Hp
      iexact Ht)
    (hout := fun c => by
      show iprop((∃ σ : St fam F, ⌜Inv _ σ⌝ ∗ scratch c σ) ∗ (∃ r, prngReg c r) ∗ table m c) ⊢ _
      unfold Pipeline.ΦA
      rw [scopedRest0_eq]
      unfold scratch
      iintro ⟨⟨%σ, -, S0, S1, S2, S3, S4, S5, S6, S7, S8, S9, S10, S11, S12⟩, Hp, -⟩
      isplitr [Hp]
      · isplitl [S0]; · iexists _; iapply (Entails.of_eq (owns_whole (Val := Elt F) (Ix := Unit) (Name := ℕ) (U := UR sig nD τ) (Lvl := ℕ) (c.tc : Thread nD τ) cc0_scratch0 fullShare _)); iexact S0
        isplitl [S1]; · iexists _; iapply (Entails.of_eq (owns_whole (Val := Elt F) (Ix := Unit) (Name := ℕ) (U := UR sig nD τ) (Lvl := ℕ) (c.tc : Thread nD τ) cc0_scratch1 fullShare _)); iexact S1
        isplitl [S2]; · iexists _; iapply (Entails.of_eq (owns_whole (Val := Elt F) (Ix := Unit) (Name := ℕ) (U := UR sig nD τ) (Lvl := ℕ) (c.tc : Thread nD τ) cc0_scratch2 fullShare _)); iexact S2
        isplitl [S3]; · iexists _; iapply (Entails.of_eq (owns_whole (Val := Elt F) (Ix := Unit) (Name := ℕ) (U := UR sig nD τ) (Lvl := ℕ) (c.tc : Thread nD τ) cc0_scratch3 fullShare _)); iexact S3
        isplitl [S4]; · iexists _; iapply (Entails.of_eq (owns_whole (Val := Elt F) (Ix := Unit) (Name := ℕ) (U := UR sig nD τ) (Lvl := ℕ) (c.tc : Thread nD τ) cc0_scratch4 fullShare _)); iexact S4
        isplitl [S5]; · iexists _; iapply (Entails.of_eq (owns_whole (Val := Elt F) (Ix := Unit) (Name := ℕ) (U := UR sig nD τ) (Lvl := ℕ) (c.tc : Thread nD τ) cc0_scratch5 fullShare _)); iexact S5
        isplitl [S6]; · iexists _; iapply (Entails.of_eq (owns_whole (Val := Elt F) (Ix := Unit) (Name := ℕ) (U := UR sig nD τ) (Lvl := ℕ) (c.tc : Thread nD τ) cc0_scratch6 fullShare _)); iexact S6
        isplitl [S7]; · iexists _; iapply (Entails.of_eq (owns_whole (Val := Elt F) (Ix := Unit) (Name := ℕ) (U := UR sig nD τ) (Lvl := ℕ) (c.tc : Thread nD τ) cc0_scratch7 fullShare _)); iexact S7
        isplitl [S8]; · iexists _; iapply (Entails.of_eq (owns_whole (Val := Elt F) (Ix := Unit) (Name := ℕ) (U := UR sig nD τ) (Lvl := ℕ) (c.tc : Thread nD τ) cc0_scratch8 fullShare _)); iexact S8
        isplitl [S9]; · iexists _; iapply (Entails.of_eq (owns_whole (Val := Elt F) (Ix := Unit) (Name := ℕ) (U := UR sig nD τ) (Lvl := ℕ) (c.tc : Thread nD τ) cc0_scratch9 fullShare _)); iexact S9
        isplitl [S10]; · iexists _; iapply (Entails.of_eq (owns_whole (Val := Elt F) (Ix := Unit) (Name := ℕ) (U := UR sig nD τ) (Lvl := ℕ) (c.tc : Thread nD τ) cc0_scratch10 fullShare _)); iexact S10
        isplitl [S11]; · iexists _; iapply (Entails.of_eq (owns_whole (Val := Elt F) (Ix := Unit) (Name := ℕ) (U := UR sig nD τ) (Lvl := ℕ) (c.tc : Thread nD τ) cc0_scratch11 fullShare _)); iexact S11
        iexists _; iapply (Entails.of_eq (owns_whole (Val := Elt F) (Ix := Unit) (Name := ℕ) (U := UR sig nD τ) (Lvl := ℕ) (c.tc : Thread nD τ) cc0_scratch12 fullShare _)); iexact S12
      iexact Hp)
    (hQ' := fun _ h => h)

/-- A buffer that is no window's array, and no host result, is after the run as at launch. -/
theorem rest_eq {r : PUnit × MemSt nD τ sig (Elt F)} (h : Pipeline.RDat.FramePost (cfgA m) (rdat m aft Inv) (V m) r) (c : Dev nD)
    (b : Ref sig .tc) (hb : b.isScoped = false) (ha : ∀ w, (spec0 w).arr.view.ref ≠ b)
    (h0 : b ≠ main_v0) (h1 : b ≠ main_v1) (h2 : b ≠ main_v2) (h3 : b ≠ main_v3) (h4 : b ≠ main_v4) :
    r.2.mem ((c.tc : Thread nD τ).loc b) = m ((c.tc : Thread nD τ).loc b) :=
  ((h c).2 b (Pipeline.mem_restRefs_of b hb ha)).trans (V_of_ne m c h0 h1 h2 h3 h4)

/-- The arguments are after the run as at launch. -/
theorem args_eq {r : PUnit × MemSt nD τ sig (Elt F)} (h : Pipeline.RDat.FramePost (cfgA m) (rdat m aft Inv) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨rest_eq m aft Inv h c main_arg0 rfl (by decide) (by decide) (by decide) (by decide) (by decide) (by decide),
    rest_eq m aft Inv h c main_arg1 rfl (by decide) (by decide) (by decide) (by decide) (by decide) (by decide),
    rest_eq m aft Inv h c main_arg2 rfl (by decide) (by decide) (by decide) (by decide) (by decide) (by decide),
    rest_eq m aft Inv h c main_arg3 rfl (by decide) (by decide) (by decide) (by decide) (by decide) (by decide),
    rest_eq m aft Inv h c main_arg4 rfl (by decide) (by decide) (by decide) (by decide) (by decide) (by decide),
    (RDat.FramePost.arr_in h c 1 rfl).trans (V_of_ne m c (b := main_arg5) (by decide) (by decide) (by decide) (by decide) (by decide)),
    (RDat.FramePost.arr_in h c 7 rfl).trans (V_of_ne m c (b := main_arg6) (by decide) (by decide) (by decide) (by decide) (by decide)),
    (RDat.FramePost.arr_in h c 0 rfl).trans (V_of_ne m c (b := main_arg7) (by decide) (by decide) (by decide) (by decide) (by decide)),
    rest_eq m aft Inv h c main_arg8 rfl (by decide) (by decide) (by decide) (by decide) (by decide) (by decide)⟩

end Cert.Ssd.Kernel

end
-- ==== Proof.Frame.lean ====
/-
  The kernel: it terminates, leaves its arguments unchanged and every semaphore counter at zero.
-/
module

public import proofs.«01_k».proof.Proof.Keep
public import proofs.«01_k».proof.Proof.Launch

@[expose] public section

noncomputable section

namespace Cert.Ssd.Kernel

open Cert.Kernel Cert.Kernel.Gen
open Idealize.ShloMosaic Idealize.ShloMosaic.TcCoe Idealize.SL.Sem

variable {F : FTy → Type} [FloatOps F]
variable (m : (ℓ : Loc nD τ sig) → Idealize.ShloMosaic.Buf (Elt F) ℓ) (ρ : Dev nD → PrngReg)

/-- The body keeps the table of lengths. -/
theorem keeps : Keeps m := fun t σ => (bodyA_writes (memsAt m t) (wholeAt m t) ((grid0.coords t) 0) ((grid0.coords t) 1) L).keeps σ .lens rfl

/-- Nothing is asked of what the body leaves. -/
theorem anyOk : StepOk m (fun _ _ _ _ => True) (fun _ _ => True) := fun _ _ _ _ _ _ => ⟨fun _ => trivial, trivial⟩

theorem frame : θ_run defs (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run _ _ _).mono (fun _ h => ⟨fun c => args_eq m _ _ h.1 c, h.2⟩) (run m ρ _ _ (keeps m) (anyOk m) (fun _ => trivial))

end Cert.Ssd.Kernel

end
-- ==== Proof.TextIdeal.lean ====
/-
  The idealized program runs the text of the kernel.
-/
module

public import proofs.«01_k».proof.Proof.Steps
public import proofs.«01_k».proof.Proof.Gen.KernelIdeal

@[expose] public section

set_option maxRecDepth 65536

noncomputable section

namespace Cert.Ssd

open Idealize.ShloMosaic Idealize.ShloMosaic.TcCoe Idealize.SL.Sem

namespace KernelIdeal

open Cert.KernelIdeal

/-- The buffers of the kernel, from the body's arguments. -/
@[reducible] def mems (arg2 : Memref sig .tc .smem S5 .i32) (arg3 : Memref sig .tc .smem S5x48 .f32) (arg4 : Memref sig .tc .smem S48 .f32) (arg5 : Memref sig .tc .vmem S1x48 .f32) (arg6 : Memref sig .tc .vmem S1x48x384 .f32) (arg7 : Memref sig .tc .vmem S1x384x128 .bf16) (arg8 : Memref sig .tc .vmem S1x384x128 .bf16) (arg9 : Memref sig .tc .vmem S1x16x64x384 .bf16) (arg10 : Memref sig .tc .vmem S1x16x64x128 .fp8e4m3) (arg11 : Memref sig .tc .vmem S1x16x64x384 .bf16) (arg12 : Memref sig .tc .vmem S1x16x64x128 .fp8e4m3) (arg13 : Memref sig .tc .vmem S5x48 .f32) (arg14 : Memref sig .tc .vmem S3x16x384 .f32) (arg15 : Memref sig .tc .vmem S3x16x384 .f32) (arg16 : Memref sig .tc .vmem S3x16x384 .f32) (arg17 : Memref sig .tc .vmem S3x2x16x128 .f32) (arg18 : Memref sig .tc .vmem S3x384x128 .f32) (arg19 : Memref sig .tc .vmem S128x384 .bf16) (arg20 : Memref sig .tc .vmem S384x128 .bf16) (arg21 : Memref sig .tc .vmem S384x256 .f32) (arg22 : Memref sig .tc .vmem S64x128 .i32) (arg23 : Memref sig .tc .vmem S1024x384 .f32) (arg24 : Memref sig .tc .vmem S1024x384 .bf16) (arg25 : Memref sig .tc .vmem S16x64x128 .f32) (arg26 : Memref sig .tc .vmem S1024x128 .bf16) : Mems fam sig
  | .lens => arg2
  | .hs => arg3
  | .dd => arg4
  | .aa => arg5
  | .dt => arg6
  | .bb => arg7
  | .cc => arg8
  | .x => arg9
  | .hc => arg10
  | .y => arg11
  | .fc => arg12
  | .fs => arg13
  | .cum => arg14
  | .ecs => arg15
  | .dw => arg16
  | .gd => arg17
  | .bcol => arg18
  | .ct => arg19
  | .bm => arg20
  | .cbt => arg21
  | .mask => arg22
  | .e => arg23
  | .xw => arg24
  | .st => arg25
  | .sb => arg26

theorem mems_whole {arg2 : Memref sig .tc .smem S5 .i32} (harg2 : arg2.IsWhole) {arg3 : Memref sig .tc .smem S5x48 .f32} (harg3 : arg3.IsWhole) {arg4 : Memref sig .tc .smem S48 .f32} (harg4 : arg4.IsWhole) {arg5 : Memref sig .tc .vmem S1x48 .f32} (harg5 : arg5.IsWhole) {arg6 : Memref sig .tc .vmem S1x48x384 .f32} (harg6 : arg6.IsWhole) {arg7 : Memref sig .tc .vmem S1x384x128 .bf16} (harg7 : arg7.IsWhole) {arg8 : Memref sig .tc .vmem S1x384x128 .bf16} (harg8 : arg8.IsWhole) {arg9 : Memref sig .tc .vmem S1x16x64x384 .bf16} (harg9 : arg9.IsWhole) {arg10 : Memref sig .tc .vmem S1x16x64x128 .fp8e4m3} (harg10 : arg10.IsWhole) {arg11 : Memref sig .tc .vmem S1x16x64x384 .bf16} (harg11 : arg11.IsWhole) {arg12 : Memref sig .tc .vmem S1x16x64x128 .fp8e4m3} (harg12 : arg12.IsWhole) {arg13 : Memref sig .tc .vmem S5x48 .f32} (harg13 : arg13.IsWhole) {arg14 : Memref sig .tc .vmem S3x16x384 .f32} (harg14 : arg14.IsWhole) {arg15 : Memref sig .tc .vmem S3x16x384 .f32} (harg15 : arg15.IsWhole) {arg16 : Memref sig .tc .vmem S3x16x384 .f32} (harg16 : arg16.IsWhole) {arg17 : Memref sig .tc .vmem S3x2x16x128 .f32} (harg17 : arg17.IsWhole) {arg18 : Memref sig .tc .vmem S3x384x128 .f32} (harg18 : arg18.IsWhole) {arg19 : Memref sig .tc .vmem S128x384 .bf16} (harg19 : arg19.IsWhole) {arg20 : Memref sig .tc .vmem S384x128 .bf16} (harg20 : arg20.IsWhole) {arg21 : Memref sig .tc .vmem S384x256 .f32} (harg21 : arg21.IsWhole) {arg22 : Memref sig .tc .vmem S64x128 .i32} (harg22 : arg22.IsWhole) {arg23 : Memref sig .tc .vmem S1024x384 .f32} (harg23 : arg23.IsWhole) {arg24 : Memref sig .tc .vmem S1024x384 .bf16} (harg24 : arg24.IsWhole) {arg25 : Memref sig .tc .vmem S16x64x128 .f32} (harg25 : arg25.IsWhole) {arg26 : Memref sig .tc .vmem S1024x128 .bf16} (harg26 : arg26.IsWhole) :
    ∀ k, (mems arg2 arg3 arg4 arg5 arg6 arg7 arg8 arg9 arg10 arg11 arg12 arg13 arg14 arg15 arg16 arg17 arg18 arg19 arg20 arg21 arg22 arg23 arg24 arg25 arg26 k).IsWhole
  | .lens => harg2
  | .hs => harg3
  | .dd => harg4
  | .aa => harg5
  | .dt => harg6
  | .bb => harg7
  | .cc => harg8
  | .x => harg9
  | .hc => harg10
  | .y => harg11
  | .fc => harg12
  | .fs => harg13
  | .cum => harg14
  | .ecs => harg15
  | .dw => harg16
  | .gd => harg17
  | .bcol => harg18
  | .ct => harg19
  | .bm => harg20
  | .cbt => harg21
  | .mask => harg22
  | .e => harg23
  | .xw => harg24
  | .st => harg25
  | .sb => harg26

variable {F : FTy → Type} [FloatOps F] [Named F]
/-- The printed body is the text. -/
theorem body_eq (i : grid0.Coords) (arg2 : Memref sig .tc .smem S5 .i32) (harg2 : arg2.IsWhole) (arg3 : Memref sig .tc .smem S5x48 .f32) (harg3 : arg3.IsWhole) (arg4 : Memref sig .tc .smem S48 .f32) (harg4 : arg4.IsWhole) (arg5 : Memref sig .tc .vmem S1x48 .f32) (harg5 : arg5.IsWhole) (arg6 : Memref sig .tc .vmem S1x48x384 .f32) (harg6 : arg6.IsWhole) (arg7 : Memref sig .tc .vmem S1x384x128 .bf16) (harg7 : arg7.IsWhole) (arg8 : Memref sig .tc .vmem S1x384x128 .bf16) (harg8 : arg8.IsWhole) (arg9 : Memref sig .tc .vmem S1x16x64x384 .bf16) (harg9 : arg9.IsWhole) (arg10 : Memref sig .tc .vmem S1x16x64x128 .fp8e4m3) (harg10 : arg10.IsWhole) (arg11 : Memref sig .tc .vmem S1x16x64x384 .bf16) (harg11 : arg11.IsWhole) (arg12 : Memref sig .tc .vmem S1x16x64x128 .fp8e4m3) (harg12 : arg12.IsWhole) (arg13 : Memref sig .tc .vmem S5x48 .f32) (harg13 : arg13.IsWhole) (arg14 : Memref sig .tc .vmem S3x16x384 .f32) (harg14 : arg14.IsWhole) (arg15 : Memref sig .tc .vmem S3x16x384 .f32) (harg15 : arg15.IsWhole) (arg16 : Memref sig .tc .vmem S3x16x384 .f32) (harg16 : arg16.IsWhole) (arg17 : Memref sig .tc .vmem S3x2x16x128 .f32) (harg17 : arg17.IsWhole) (arg18 : Memref sig .tc .vmem S3x384x128 .f32) (harg18 : arg18.IsWhole) (arg19 : Memref sig .tc .vmem S128x384 .bf16) (harg19 : arg19.IsWhole) (arg20 : Memref sig .tc .vmem S384x128 .bf16) (harg20 : arg20.IsWhole) (arg21 : Memref sig .tc .vmem S384x256 .f32) (harg21 : arg21.IsWhole) (arg22 : Memref sig .tc .vmem S64x128 .i32) (harg22 : arg22.IsWhole) (arg23 : Memref sig .tc .vmem S1024x384 .f32) (harg23 : arg23.IsWhole) (arg24 : Memref sig .tc .vmem S1024x384 .bf16) (harg24 : arg24.IsWhole) (arg25 : Memref sig .tc .vmem S16x64x128 .f32) (harg25 : arg25.IsWhole) (arg26 : Memref sig .tc .vmem S1024x128 .bf16) (harg26 : arg26.IsWhole) :
    cc0_ssd_scan (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 =
      (bodyA (mems arg2 arg3 arg4 arg5 arg6 arg7 arg8 arg9 arg10 arg11 arg12 arg13 arg14 arg15 arg16 arg17 arg18 arg19 arg20 arg21 arg22 arg23 arg24 arg25 arg26) (mems_whole harg2 harg3 harg4 harg5 harg6 harg7 harg8 harg9 harg10 harg11 harg12 harg13 harg14 harg15 harg16 harg17 harg18 harg19 harg20 harg21 harg22 harg23 harg24 harg25 harg26) (i 0) (i 1) (Named.named κ "log2e" 0x3FB8AA3B#32)).prog .ret := by
  chain_rfl

end KernelIdeal

end Cert.Ssd
-- ==== Proof.LaunchIdeal.lean ====
/-
  The idealized program: the run of the launch, from a statement about the body's function of contents.
-/
module

public import proofs.«01_k».proof.Proof.Chain
public import proofs.«01_k».proof.Proof.TextIdeal
public import proofs.«01_k».proof.Proof.Gen.KernelIdeal.Launch
public import Idealize.ShloMosaic.Lib.Pipeline.Frame
public import Idealize.ShloMosaic.Lib.StableHlo.Run

@[expose] public section

set_option maxRecDepth 65536

noncomputable section

namespace Cert.Ssd.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [Named F]

local notation "𝕄" => MT nD τ sig Unit (Elt F) ℕ (UR sig nD τ) ℕ

variable (m : (ℓ : Loc nD τ sig) → Idealize.ShloMosaic.Buf (Elt F) ℓ) (ρ : Dev nD → PrngReg)

/-- The table of lengths at launch. -/
def lens0 : S5.Idx → BitVec 32 := m (((0 : Dev nD).tc : Thread nD τ).loc main_arg8)

/-- The tables' contents at launch. -/
def tables : pre0.Contents (Elt F) := fun
  | ⟨0, _⟩ => lens0 m
  | ⟨_ + 1, h⟩ => absurd h (Nat.not_lt.2 (Nat.le_add_left _ _))

/-- They are admitted: the index maps do not read them. -/
def adm : (p : Fin 1) → (pcfgs (F := F) p).Adm := fun _ => ⟨tables m, by show ok0 (F := F) (tables m); unfold ok0; trivial⟩

/-- The pipeline at the table's contents. -/
abbrev cfgA : Pipeline.Cfg sig Λ₀ := Pipeline.pin (pcfgs (F := F)) (adm m) 0

/-- The buffers when the pipeline is entered: the host operations have run. -/
def V (c : Dev nD) (b : Ref sig .tc) : Idealize.ShloMosaic.Buf (Elt F) ((c.tc : Thread nD τ).loc b) :=
  StableHlo.after hostOps0 (fun b => m (c, b)) b

/-- The windows' contents, by the body's names. -/
@[reducible] def wins (Y : (w : Fin 11) → (spec0 w).block.Idx → Elt F (spec0 w).elt) (σ : St fam F) : St fam F
  | .hs => Y 0
  | .dd => Y 1
  | .aa => Y 2
  | .dt => Y 3
  | .bb => Y 4
  | .cc => Y 5
  | .x => Y 6
  | .hc => Y 7
  | .y => Y 8
  | .fc => Y 9
  | .fs => Y 10
  | k => σ k

/-- and back. -/
@[reducible] def unwins (σ : St fam F) : (w : Fin 11) → (spec0 w).block.Idx → Elt F (spec0 w).elt
  | 0 => σ .hs
  | 1 => σ .dd
  | 2 => σ .aa
  | 3 => σ .dt
  | 4 => σ .bb
  | 5 => σ .cc
  | 6 => σ .x
  | 7 => σ .hc
  | 8 => σ .y
  | 9 => σ .fc
  | 10 => σ .fs
  | ⟨_ + 11, h⟩ => absurd h (Nat.not_lt.2 (Nat.le_add_left _ _))

/-- The constant of the kernel's text. -/
abbrev L : F .f32 := Named.named κ "log2e" 0x3FB8AA3B#32

/-- The contents the body starts from at a point. -/
abbrev entry (Y : (w : Fin 11) → (spec0 w).block.Idx → Elt F (spec0 w).elt) (σ : St fam F) : St fam F :=
  merge (lens0 m) (wins Y σ) σ

/-- The scratch buffers at contents. -/
def scratch (c : Dev nD) (σ : St fam F) : sProp 𝕄 :=
  iprop(owns (c.tc : Thread nD τ) (Memref.whole cc0_scratch0) fullShare (σ .cum)
    ∗ owns (c.tc : Thread nD τ) (Memref.whole cc0_scratch1) fullShare (σ .ecs)
    ∗ owns (c.tc : Thread nD τ) (Memref.whole cc0_scratch2) fullShare (σ .dw)
    ∗ owns (c.tc : Thread nD τ) (Memref.whole cc0_scratch3) fullShare (σ .gd)
    ∗ owns (c.tc : Thread nD τ) (Memref.whole cc0_scratch4) fullShare (σ .bcol)
    ∗ owns (c.tc : Thread nD τ) (Memref.whole cc0_scratch5) fullShare (σ .ct)
    ∗ owns (c.tc : Thread nD τ) (Memref.whole cc0_scratch6) fullShare (σ .bm)
    ∗ owns (c.tc : Thread nD τ) (Memref.whole cc0_scratch7) fullShare (σ .cbt)
    ∗ owns (c.tc : Thread nD τ) (Memref.whole cc0_scratch8) fullShare (σ .mask)
    ∗ owns (c.tc : Thread nD τ) (Memref.whole cc0_scratch9) fullShare (σ .e)
    ∗ owns (c.tc : Thread nD τ) (Memref.whole cc0_scratch10) fullShare (σ .xw)
    ∗ owns (c.tc : Thread nD τ) (Memref.whole cc0_scratch11) fullShare (σ .st)
    ∗ owns (c.tc : Thread nD τ) (Memref.whole cc0_scratch12) fullShare (σ .sb))

/-- The table of lengths, for the body to read. -/
def table (c : Dev nD) : sProp 𝕄 :=
  (((c.tc : Thread nD τ).loc main_arg8) ↦{fullShare.right} (show Idealize.ShloMosaic.Buf (Elt F) ((c.tc : Thread nD τ).loc main_arg8) from lens0 m))

/-- The kernel's placement of its buffers at point `t`. -/
abbrev memsAt (t : Fin grid0.N) : Mems fam sig :=
  mems (Memref.whole main_arg8) (spec0_0.stage ((cfgA m).slots t 0)) (spec0_1.stage ((cfgA m).slots t 1)) (spec0_2.stage ((cfgA m).slots t 2)) (spec0_3.stage ((cfgA m).slots t 3)) (spec0_4.stage ((cfgA m).slots t 4)) (spec0_5.stage ((cfgA m).slots t 5)) (spec0_6.stage ((cfgA m).slots t 6)) (spec0_7.stage ((cfgA m).slots t 7)) (spec0_8.stage ((cfgA m).slots t 8)) (spec0_9.stage ((cfgA m).slots t 9)) (spec0_10.stage ((cfgA m).slots t 10)) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) (Memref.whole cc0_scratch12)

/-- Each is a whole buffer. -/
theorem wholeAt (t : Fin grid0.N) : ∀ k, (memsAt m t k).IsWhole :=
  mems_whole (Memref.isWhole_whole _) (hstage0_0 (((cfgA m).slots t 0).cast nbuf0_0)) (hstage0_1 (((cfgA m).slots t 1).cast nbuf0_1)) (hstage0_2 (((cfgA m).slots t 2).cast nbuf0_2)) (hstage0_3 (((cfgA m).slots t 3).cast nbuf0_3)) (hstage0_4 (((cfgA m).slots t 4).cast nbuf0_4)) (hstage0_5 (((cfgA m).slots t 5).cast nbuf0_5)) (hstage0_6 (((cfgA m).slots t 6).cast nbuf0_6)) (hstage0_7 (((cfgA m).slots t 7).cast nbuf0_7)) (hstage0_8 (((cfgA m).slots t 8).cast nbuf0_8)) (hstage0_9 (((cfgA m).slots t 9).cast nbuf0_9)) (hstage0_10 (((cfgA m).slots t 10).cast nbuf0_10)) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _)

/-- The body at point `t`. -/
abbrev bodyAt (t : Fin grid0.N) : Piece nD τ F Λ₀ (memsAt m t) PUnit :=
  bodyA (memsAt m t) (wholeAt m t) ((grid0.coords t) 0) ((grid0.coords t) 1) L

/-- What the body makes of the contents. The placement of the buffers does not matter to it. -/
abbrev step (t : Fin grid0.N) (σ : St fam F) : St fam F := ((bodyAt m t).run σ).2

variable (aft : (w : Fin 11) → Fin grid0.N → (Y X : (spec0 w).block.Idx → Elt F (spec0 w).elt) → Prop)
  (Inv : Fin (grid0.N + 1) → St fam F → Prop)

/-- The proof's data: `aft` of what the body leaves in each window, `Inv` of the scratch buffers between points. -/
def rdat (c : Dev nD) : RDat τ (Elt F) Unit ℕ (UR sig nD τ) ℕ (cfgA m) c where
  A w := V m c (Pipeline.arrRef spec0 w)
  after w t Y X := aft w t Y X
  Φ t := iprop((∃ σ : St fam F, ⌜Inv t σ⌝ ∗ scratch c σ) ∗ (∃ r, prngReg c r) ∗ table m c)
  q _ := fullShare
  owed _ := 0

/-- What the statement about the body's function is: from what the windows may hold and the scratch buffers do, it
    leaves in each window and in the scratch buffers what it should. -/
def StepOk : Prop :=
  ∀ (c : Dev nD) (t : Fin grid0.N) (Y : (w : Fin 11) → (spec0 w).block.Idx → Elt F (spec0 w).elt) (σ : St fam F),
    (∀ w, (rdat m aft Inv c).Finds w t (Y w)) → Inv t.castSucc σ →
      (∀ w, aft w t (Y w) (unwins (step m t (entry m Y σ)) w)) ∧ Inv t.succ (step m t (entry m Y σ))

/-- The body keeps the table. -/
def Keeps : Prop := ∀ (t : Fin grid0.N) (σ : St fam F), step m t σ .lens = σ .lens

theorem defs₀_row (t : Fin grid0.N) : defs₀ (F := F) .tc (cfgA m).body ((cfgA m).bodyArgs t ((cfgA m).slots t)) = (bodyAt m t).prog .ret := by
  unfold defs₀
  rw [Defs.onTc_tc]
  exact body_eq (grid0.coords t) _ _ _ _ _ _ _ _ _ _ _ _ _ _ _ _ _ _ _ _ _ _ _ _ _ _ _ _ _ _ _ _ _ _ _ _ _ _ _ _ _ _ _ _ _ _ _ _ _ _

/-- The table as the body holds it. -/
theorem table_owns (c : Dev nD) (t : Fin grid0.N) : (owns (c.tc : Thread nD τ) (memsAt m t .lens) fullShare.right (lens0 m) : sProp 𝕄) = table m c :=
  owns_whole (c.tc : Thread nD τ) main_arg8 fullShare.right (show main_arg8.ty.Contents (Elt F) from lens0 m)

/-- All the buffers at point `t`, as the windows, the scratch buffers and the table. -/
theorem own_split (c : Dev nD) (t : Fin grid0.N) (σ : St fam F) (h : σ .lens = lens0 m) :
    (own c (memsAt m t) σ : sProp 𝕄)
      = iprop(table m c ∗ owns (c.tc : Thread nD τ) ((spec0 0).stage ((cfgA m).slots t 0)) fullShare (unwins σ 0)
      ∗ owns (c.tc : Thread nD τ) ((spec0 1).stage ((cfgA m).slots t 1)) fullShare (unwins σ 1)
      ∗ owns (c.tc : Thread nD τ) ((spec0 2).stage ((cfgA m).slots t 2)) fullShare (unwins σ 2)
      ∗ owns (c.tc : Thread nD τ) ((spec0 3).stage ((cfgA m).slots t 3)) fullShare (unwins σ 3)
      ∗ owns (c.tc : Thread nD τ) ((spec0 4).stage ((cfgA m).slots t 4)) fullShare (unwins σ 4)
      ∗ owns (c.tc : Thread nD τ) ((spec0 5).stage ((cfgA m).slots t 5)) fullShare (unwins σ 5)
      ∗ owns (c.tc : Thread nD τ) ((spec0 6).stage ((cfgA m).slots t 6)) fullShare (unwins σ 6)
      ∗ owns (c.tc : Thread nD τ) ((spec0 7).stage ((cfgA m).slots t 7)) fullShare (unwins σ 7)
      ∗ owns (c.tc : Thread nD τ) ((spec0 8).stage ((cfgA m).slots t 8)) fullShare (unwins σ 8)
      ∗ owns (c.tc : Thread nD τ) ((spec0 9).stage ((cfgA m).slots t 9)) fullShare (unwins σ 9)
      ∗ owns (c.tc : Thread nD τ) ((spec0 10).stage ((cfgA m).slots t 10)) fullShare (unwins σ 10)
      ∗ scratch c σ) := by
  rw [own_eq, h, table_owns]
  rfl

theorem bodyOb (hk : Keeps m) (hs : StepOk m aft Inv) (c : Dev nD) :
    (rdat m aft Inv c).BodyObligation (defs₀ (F := F)) Variants.none () Set.univ := by
  intro t Y hY
  rw [defs₀_row, bigSep_W0, bigSep_W0]
  rw [show (rdat m aft Inv c).Φ t.castSucc = iprop((∃ σ : St fam F, ⌜Inv t.castSucc σ⌝ ∗ scratch c σ) ∗ (∃ r, prngReg c r) ∗ table m c) from rfl,
    show (rdat m aft Inv c).Φ t.succ = iprop((∃ σ : St fam F, ⌜Inv t.succ σ⌝ ∗ scratch c σ) ∗ (∃ r, prngReg c r) ∗ table m c) from rfl,
    show (rdat m aft Inv c).owesAt () t.succ = (rdat m aft Inv c).owesAt () t.castSucc from rfl]
  iintro ⟨⟨⟨%σ, %hσ, Hs⟩, Hp, Ht⟩, HO, W0, W1, W2, W3, W4, W5, W6, W7, W8, W9, W10⟩
  obtain ⟨ha, hi⟩ := hs c t Y σ hY hσ
  iapply ((bodyAt m t).ok (defs₀ (F := F)) Variants.none c none Set.univ (entry m Y σ) .ret _)
  rw [own_split m c t (entry m Y σ) rfl, own_split m c t ((bodyAt m t).run (entry m Y σ)).2 (hk t _)]
  isplitl [Ht W0 W1 W2 W3 W4 W5 W6 W7 W8 W9 W10 Hs]
  · isplitl [Ht]; · iexact Ht
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    iexact Hs
  iintro ⟨Ht, W0, W1, W2, W3, W4, W5, W6, W7, W8, W9, W10, Hs⟩
  rw [wp_ret]; imodintro
  isplitl [Hs Hp Ht]
  · isplitl [Hs]
    · iexists (step m t (entry m Y σ)); isplitr; · ipureintro; exact hi
      iexact Hs
    isplitl [Hp]; · iexact Hp
    iexact Ht
  isplitl [HO]; · iexact HO
  isplitl [W0]
  · iexists (unwins (step m t (entry m Y σ)) 0)
    isplitr; · ipureintro; exact ha 0
    iexact W0
  isplitl [W1]
  · iexists (unwins (step m t (entry m Y σ)) 1)
    isplitr; · ipureintro; exact ha 1
    iexact W1
  isplitl [W2]
  · iexists (unwins (step m t (entry m Y σ)) 2)
    isplitr; · ipureintro; exact ha 2
    iexact W2
  isplitl [W3]
  · iexists (unwins (step m t (entry m Y σ)) 3)
    isplitr; · ipureintro; exact ha 3
    iexact W3
  isplitl [W4]
  · iexists (unwins (step m t (entry m Y σ)) 4)
    isplitr; · ipureintro; exact ha 4
    iexact W4
  isplitl [W5]
  · iexists (unwins (step m t (entry m Y σ)) 5)
    isplitr; · ipureintro; exact ha 5
    iexact W5
  isplitl [W6]
  · iexists (unwins (step m t (entry m Y σ)) 6)
    isplitr; · ipureintro; exact ha 6
    iexact W6
  isplitl [W7]
  · iexists (unwins (step m t (entry m Y σ)) 7)
    isplitr; · ipureintro; exact ha 7
    iexact W7
  isplitl [W8]
  · iexists (unwins (step m t (entry m Y σ)) 8)
    isplitr; · ipureintro; exact ha 8
    iexact W8
  isplitl [W9]
  · iexists (unwins (step m t (entry m Y σ)) 9)
    isplitr; · ipureintro; exact ha 9
    iexact W9
  iexists (unwins (step m t (entry m Y σ)) 10)
  isplitr; · ipureintro; exact ha 10
  iexact W10

theorem hmain : Pipeline.HMainP (Ix := Unit) (Name := ℕ) (U := UR sig nD τ) (Lvl := ℕ) (pcfgs (F := F)) 0 defs₀ Variants.none m (main (F := F)) (V m) :=
  Pipeline.hmainP_prefix pcfgs 0 defs₀ Variants.none m main hostOps0 hostOps0_sub ⟨rfl, rfl, rfl, rfl, rfl⟩ main_chain

/-- A buffer the host operations do not write is as at launch. -/
theorem V_of_ne (c : Dev nD) {b : Ref sig .tc} (h0 : b ≠ main_v0) (h1 : b ≠ main_v1) (h2 : b ≠ main_v2) (h3 : b ≠ main_v3) (h4 : b ≠ main_v4) :
    V m c b = m ((c.tc : Thread nD τ).loc b) := by
  unfold V
  simp only [StableHlo.after_cons, StableHlo.after_nil]
  rw [StableHlo.reshape_result_ne _ _ _ _ _ _ _ h4, StableHlo.reshape_result_ne _ _ _ _ _ _ _ h3, StableHlo.reshape_result_ne _ _ _ _ _ _ _ h2,
    StableHlo.unary_result_ne (τ := τ) (x := main_arg1) (y := main_v1) _ _ _ _ h1, StableHlo.unary_result_ne (τ := τ) (x := main_arg0) (y := main_v0) _ _ _ _ h0]

theorem V_pre (c : Dev nD) (k : Fin 1) : V m c (pre0.ref k) = (adm m 0).1 k := by
  obtain rfl : c = 0 := Subsingleton.elim _ _
  obtain rfl : k = 0 := Subsingleton.elim _ _
  exact V_of_ne m 0 (b := main_arg8) (by decide) (by decide) (by decide) (by decide) (by decide)

theorem prefHeld_eq (c : Dev nD) : (Pipeline.ΦT (U := UR sig nD τ) pre0 (adm m 0).1 c : sProp 𝕄) = table m c := by
  unfold Pipeline.ΦT Pipeline.prefHeld
  rw [show (Finset.univ : Finset (Fin 1)) = {0} from by decide, bigSep_singleton]
  rfl

set_option backward.isDefEq.respectTransparency.types false in
/-- The run of the kernel: it ends, with every array as the proof's data says and every other buffer as at the entry. -/
theorem run (hk : Keeps m) (hs : StepOk m aft Inv) (h0 : ∀ σ, Inv 0 σ) :
    θ_run defs (onTc (τ := τ) (main (F := F))) (s₀ m ρ)
      (fun r => Pipeline.RDat.FramePost (cfgA m) (rdat m aft Inv) (V m) r ∧ r.2.sem = fun _ => 0) :=
  RDat.θ_run_frameP_track (Q' := _) pcfgs (adm m) 0 launch0 defs₀ Variants.none (rdat m aft Inv) m ρ main
    (hbody := bodyOb m aft Inv hk hs)
    (hshare := fun c w => by unfold RDat.share; split <;> rfl) (howed := fun _ _ => rfl)
    (V := V m) (hmain := hmain m) (hA := fun _ _ => rfl) (hpf := V_pre m)
    (hin := fun c => by
      show _ ⊢ iprop((∃ σ : St fam F, ⌜Inv 0 σ⌝ ∗ scratch c σ) ∗ (∃ r, prngReg c r) ∗ table m c)
      rw [← prefHeld_eq]
      unfold Pipeline.ΦA
      rw [scopedRest0_eq]
      unfold scratch
      iintro ⟨⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩, ⟨%f10, S10⟩, ⟨%f11, S11⟩, ⟨%f12, S12⟩⟩, Hp⟩, Ht⟩
      isplitr [Hp Ht]
      · iexists (fun
          | .cum => f0
          | .ecs => f1
          | .dw => f2
          | .gd => f3
          | .bcol => f4
          | .ct => f5
          | .bm => f6
          | .cbt => f7
          | .mask => f8
          | .e => f9
          | .xw => f10
          | .st => f11
          | .sb => f12
          | .lens => lens0 m
          | .hs => fun _ => (Scalar.ofBits .f32 0x00000000#32 : F _)
          | .dd => fun _ => (Scalar.ofBits .f32 0x00000000#32 : F _)
          | .aa => fun _ => (Scalar.ofBits .f32 0x00000000#32 : F _)
          | .dt => fun _ => (Scalar.ofBits .f32 0x00000000#32 : F _)
          | .bb => fun _ => (Scalar.ofBits .bf16 0x0000#16 : F _)
          | .cc => fun _ => (Scalar.ofBits .bf16 0x0000#16 : F _)
          | .x => fun _ => (Scalar.ofBits .bf16 0x0000#16 : F _)
          | .hc => fun _ => (Scalar.ofBits .fp8e4m3 0x00#8 : F _)
          | .y => fun _ => (Scalar.ofBits .bf16 0x0000#16 : F _)
          | .fc => fun _ => (Scalar.ofBits .fp8e4m3 0x00#8 : F _)
          | .fs => fun _ => (Scalar.ofBits .f32 0x00000000#32 : F _)
          : St fam F)
        isplitr; · ipureintro; exact h0 _
        isplitl [S0]; · iapply (Entails.of_eq (owns_whole (Val := Elt F) (Ix := Unit) (Name := ℕ) (U := UR sig nD τ) (Lvl := ℕ) (c.tc : Thread nD τ) cc0_scratch0 fullShare f0).symm); iexact S0
        isplitl [S1]; · iapply (Entails.of_eq (owns_whole (Val := Elt F) (Ix := Unit) (Name := ℕ) (U := UR sig nD τ) (Lvl := ℕ) (c.tc : Thread nD τ) cc0_scratch1 fullShare f1).symm); iexact S1
        isplitl [S2]; · iapply (Entails.of_eq (owns_whole (Val := Elt F) (Ix := Unit) (Name := ℕ) (U := UR sig nD τ) (Lvl := ℕ) (c.tc : Thread nD τ) cc0_scratch2 fullShare f2).symm); iexact S2
        isplitl [S3]; · iapply (Entails.of_eq (owns_whole (Val := Elt F) (Ix := Unit) (Name := ℕ) (U := UR sig nD τ) (Lvl := ℕ) (c.tc : Thread nD τ) cc0_scratch3 fullShare f3).symm); iexact S3
        isplitl [S4]; · iapply (Entails.of_eq (owns_whole (Val := Elt F) (Ix := Unit) (Name := ℕ) (U := UR sig nD τ) (Lvl := ℕ) (c.tc : Thread nD τ) cc0_scratch4 fullShare f4).symm); iexact S4
        isplitl [S5]; · iapply (Entails.of_eq (owns_whole (Val := Elt F) (Ix := Unit) (Name := ℕ) (U := UR sig nD τ) (Lvl := ℕ) (c.tc : Thread nD τ) cc0_scratch5 fullShare f5).symm); iexact S5
        isplitl [S6]; · iapply (Entails.of_eq (owns_whole (Val := Elt F) (Ix := Unit) (Name := ℕ) (U := UR sig nD τ) (Lvl := ℕ) (c.tc : Thread nD τ) cc0_scratch6 fullShare f6).symm); iexact S6
        isplitl [S7]; · iapply (Entails.of_eq (owns_whole (Val := Elt F) (Ix := Unit) (Name := ℕ) (U := UR sig nD τ) (Lvl := ℕ) (c.tc : Thread nD τ) cc0_scratch7 fullShare f7).symm); iexact S7
        isplitl [S8]; · iapply (Entails.of_eq (owns_whole (Val := Elt F) (Ix := Unit) (Name := ℕ) (U := UR sig nD τ) (Lvl := ℕ) (c.tc : Thread nD τ) cc0_scratch8 fullShare f8).symm); iexact S8
        isplitl [S9]; · iapply (Entails.of_eq (owns_whole (Val := Elt F) (Ix := Unit) (Name := ℕ) (U := UR sig nD τ) (Lvl := ℕ) (c.tc : Thread nD τ) cc0_scratch9 fullShare f9).symm); iexact S9
        isplitl [S10]; · iapply (Entails.of_eq (owns_whole (Val := Elt F) (Ix := Unit) (Name := ℕ) (U := UR sig nD τ) (Lvl := ℕ) (c.tc : Thread nD τ) cc0_scratch10 fullShare f10).symm); iexact S10
        isplitl [S11]; · iapply (Entails.of_eq (owns_whole (Val := Elt F) (Ix := Unit) (Name := ℕ) (U := UR sig nD τ) (Lvl := ℕ) (c.tc : Thread nD τ) cc0_scratch11 fullShare f11).symm); iexact S11
        iapply (Entails.of_eq (owns_whole (Val := Elt F) (Ix := Unit) (Name := ℕ) (U := UR sig nD τ) (Lvl := ℕ) (c.tc : Thread nD τ) cc0_scratch12 fullShare f12).symm); iexact S12
      isplitl [Hp]; · iexact Hp
      iexact Ht)
    (hout := fun c => by
      show iprop((∃ σ : St fam F, ⌜Inv _ σ⌝ ∗ scratch c σ) ∗ (∃ r, prngReg c r) ∗ table m c) ⊢ _
      unfold Pipeline.ΦA
      rw [scopedRest0_eq]
      unfold scratch
      iintro ⟨⟨%σ, -, S0, S1, S2, S3, S4, S5, S6, S7, S8, S9, S10, S11, S12⟩, Hp, -⟩
      isplitr [Hp]
      · isplitl [S0]; · iexists _; iapply (Entails.of_eq (owns_whole (Val := Elt F) (Ix := Unit) (Name := ℕ) (U := UR sig nD τ) (Lvl := ℕ) (c.tc : Thread nD τ) cc0_scratch0 fullShare _)); iexact S0
        isplitl [S1]; · iexists _; iapply (Entails.of_eq (owns_whole (Val := Elt F) (Ix := Unit) (Name := ℕ) (U := UR sig nD τ) (Lvl := ℕ) (c.tc : Thread nD τ) cc0_scratch1 fullShare _)); iexact S1
        isplitl [S2]; · iexists _; iapply (Entails.of_eq (owns_whole (Val := Elt F) (Ix := Unit) (Name := ℕ) (U := UR sig nD τ) (Lvl := ℕ) (c.tc : Thread nD τ) cc0_scratch2 fullShare _)); iexact S2
        isplitl [S3]; · iexists _; iapply (Entails.of_eq (owns_whole (Val := Elt F) (Ix := Unit) (Name := ℕ) (U := UR sig nD τ) (Lvl := ℕ) (c.tc : Thread nD τ) cc0_scratch3 fullShare _)); iexact S3
        isplitl [S4]; · iexists _; iapply (Entails.of_eq (owns_whole (Val := Elt F) (Ix := Unit) (Name := ℕ) (U := UR sig nD τ) (Lvl := ℕ) (c.tc : Thread nD τ) cc0_scratch4 fullShare _)); iexact S4
        isplitl [S5]; · iexists _; iapply (Entails.of_eq (owns_whole (Val := Elt F) (Ix := Unit) (Name := ℕ) (U := UR sig nD τ) (Lvl := ℕ) (c.tc : Thread nD τ) cc0_scratch5 fullShare _)); iexact S5
        isplitl [S6]; · iexists _; iapply (Entails.of_eq (owns_whole (Val := Elt F) (Ix := Unit) (Name := ℕ) (U := UR sig nD τ) (Lvl := ℕ) (c.tc : Thread nD τ) cc0_scratch6 fullShare _)); iexact S6
        isplitl [S7]; · iexists _; iapply (Entails.of_eq (owns_whole (Val := Elt F) (Ix := Unit) (Name := ℕ) (U := UR sig nD τ) (Lvl := ℕ) (c.tc : Thread nD τ) cc0_scratch7 fullShare _)); iexact S7
        isplitl [S8]; · iexists _; iapply (Entails.of_eq (owns_whole (Val := Elt F) (Ix := Unit) (Name := ℕ) (U := UR sig nD τ) (Lvl := ℕ) (c.tc : Thread nD τ) cc0_scratch8 fullShare _)); iexact S8
        isplitl [S9]; · iexists _; iapply (Entails.of_eq (owns_whole (Val := Elt F) (Ix := Unit) (Name := ℕ) (U := UR sig nD τ) (Lvl := ℕ) (c.tc : Thread nD τ) cc0_scratch9 fullShare _)); iexact S9
        isplitl [S10]; · iexists _; iapply (Entails.of_eq (owns_whole (Val := Elt F) (Ix := Unit) (Name := ℕ) (U := UR sig nD τ) (Lvl := ℕ) (c.tc : Thread nD τ) cc0_scratch10 fullShare _)); iexact S10
        isplitl [S11]; · iexists _; iapply (Entails.of_eq (owns_whole (Val := Elt F) (Ix := Unit) (Name := ℕ) (U := UR sig nD τ) (Lvl := ℕ) (c.tc : Thread nD τ) cc0_scratch11 fullShare _)); iexact S11
        iexists _; iapply (Entails.of_eq (owns_whole (Val := Elt F) (Ix := Unit) (Name := ℕ) (U := UR sig nD τ) (Lvl := ℕ) (c.tc : Thread nD τ) cc0_scratch12 fullShare _)); iexact S12
      iexact Hp)
    (hQ' := fun _ h => h)

/-- A buffer that is no window's array, and no host result, is after the run as at launch. -/
theorem rest_eq {r : PUnit × MemSt nD τ sig (Elt F)} (h : Pipeline.RDat.FramePost (cfgA m) (rdat m aft Inv) (V m) r) (c : Dev nD)
    (b : Ref sig .tc) (hb : b.isScoped = false) (ha : ∀ w, (spec0 w).arr.view.ref ≠ b)
    (h0 : b ≠ main_v0) (h1 : b ≠ main_v1) (h2 : b ≠ main_v2) (h3 : b ≠ main_v3) (h4 : b ≠ main_v4) :
    r.2.mem ((c.tc : Thread nD τ).loc b) = m ((c.tc : Thread nD τ).loc b) :=
  ((h c).2 b (Pipeline.mem_restRefs_of b hb ha)).trans (V_of_ne m c h0 h1 h2 h3 h4)

/-- The arguments are after the run as at launch. -/
theorem args_eq {r : PUnit × MemSt nD τ sig (Elt F)} (h : Pipeline.RDat.FramePost (cfgA m) (rdat m aft Inv) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨rest_eq m aft Inv h c main_arg0 rfl (by decide) (by decide) (by decide) (by decide) (by decide) (by decide),
    rest_eq m aft Inv h c main_arg1 rfl (by decide) (by decide) (by decide) (by decide) (by decide) (by decide),
    rest_eq m aft Inv h c main_arg2 rfl (by decide) (by decide) (by decide) (by decide) (by decide) (by decide),
    rest_eq m aft Inv h c main_arg3 rfl (by decide) (by decide) (by decide) (by decide) (by decide) (by decide),
    rest_eq m aft Inv h c main_arg4 rfl (by decide) (by decide) (by decide) (by decide) (by decide) (by decide),
    (RDat.FramePost.arr_in h c 1 rfl).trans (V_of_ne m c (b := main_arg5) (by decide) (by decide) (by decide) (by decide) (by decide)),
    (RDat.FramePost.arr_in h c 7 rfl).trans (V_of_ne m c (b := main_arg6) (by decide) (by decide) (by decide) (by decide) (by decide)),
    (RDat.FramePost.arr_in h c 0 rfl).trans (V_of_ne m c (b := main_arg7) (by decide) (by decide) (by decide) (by decide) (by decide)),
    rest_eq m aft Inv h c main_arg8 rfl (by decide) (by decide) (by decide) (by decide) (by decide) (by decide)⟩

end Cert.Ssd.KernelIdeal

end
-- ==== Proof.FrameIdeal.lean ====
/-
  The idealized kernel: it terminates, leaves its arguments unchanged and every semaphore counter at zero.
-/
module

public import proofs.«01_k».proof.Proof.Keep
public import proofs.«01_k».proof.Proof.LaunchIdeal

@[expose] public section

noncomputable section

namespace Cert.Ssd.KernelIdeal

open Cert.KernelIdeal Cert.KernelIdeal.Gen
open Idealize.ShloMosaic Idealize.ShloMosaic.TcCoe Idealize.SL.Sem

variable {F : FTy → Type} [FloatOps F] [Named F]
variable (m : (ℓ : Loc nD τ sig) → Idealize.ShloMosaic.Buf (Elt F) ℓ) (ρ : Dev nD → PrngReg)

/-- The body keeps the table of lengths. -/
theorem keeps : Keeps m := fun t σ => (bodyA_writes (memsAt m t) (wholeAt m t) ((grid0.coords t) 0) ((grid0.coords t) 1) L).keeps σ .lens rfl

/-- Nothing is asked of what the body leaves. -/
theorem anyOk : StepOk m (fun _ _ _ _ => True) (fun _ _ => True) := fun _ _ _ _ _ _ => ⟨fun _ => trivial, trivial⟩

theorem frame : θ_run defs (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run _ _ _).mono (fun _ h => ⟨fun c => args_eq m _ _ h.1 c, h.2⟩) (run m ρ _ _ (keeps m) (anyOk m) (fun _ => trivial))

end Cert.Ssd.KernelIdeal

end
-- ==== Proof.Read.lean ====
/-
  The vector values of the kernel's body, read at an index over the extended reals.
-/
module

public import proofs.«01_k».proof.Proof.Steps
public import Idealize.ShloMosaic.Lib.Pointwise
public import Idealize.ShloMosaic.Lib.BitcastPair

@[expose] public section

set_option maxRecDepth 16384

noncomputable section

namespace Cert.Ssd

open Idealize.ShloMosaic
open Cert.Kernel hiding Facts Facts₀
open Cert.Kernel.Gen

theorem y128V_apply (x : FVec Ideal S64x128 .bf16) (wt : FVec Ideal S128x128 .bf16) (er : FVec Ideal S1x128 .f32) (e : Vec Ideal S64x128 .f32)
    (d : Elt Ideal .f32) (p : Fin 64) (l : Fin 128) :
    y128V (F := Ideal) x wt er e d (ix4 0 0 p l)
      = (∑ k : Fin 128, x (ix2 p k) * wt (ix2 k l)) + e (ix2 p l) * er (ix2 0 l) + d * x (ix2 p l) := by
  pointwise [y128V]

theorem y256V_apply (x : FVec Ideal S64x256 .bf16) (wt : FVec Ideal S256x256 .bf16) (er : FVec Ideal S1x256 .f32) (e : Vec Ideal S64x256 .f32)
    (d : Elt Ideal .f32) (p : Fin 64) (l : Fin 256) :
    y256V (F := Ideal) x wt er e d (ix4 0 0 p l)
      = (∑ k : Fin 256, x (ix2 p k) * wt (ix2 k l)) + e (ix2 p l) * er (ix2 0 l) + d * x (ix2 p l) := by
  pointwise [y256V]

theorem er128V_apply (ecs : Vec Ideal S1x1x128 .f32) (s : Elt Ideal .f32) (l : Fin 128) :
    er128V (F := Ideal) ecs s (ix2 0 l) = ecs (ix3 0 0 l) * s := by
  pointwise [er128V]
theorem er256V_apply (ecs : Vec Ideal S1x1x256 .f32) (s : Elt Ideal .f32) (l : Fin 256) :
    er256V (F := Ideal) ecs s (ix2 0 l) = ecs (ix3 0 0 l) * s := by
  pointwise [er256V]

theorem x128V_apply (lv : IVec S64x128 1) (x : Vec Ideal S1x1x64x128 .bf16) (p : Fin 64) (l : Fin 128) :
    x128V (F := Ideal) lv x (ix2 p l) = if lv (ix2 p l) = 1#1 then x (ix4 0 0 p l) else 0 := by
  pointwise [x128V]
  rfl
theorem x256V_apply (lv : IVec S64x128 1) (x : Vec Ideal S1x1x64x256 .bf16) (p : Fin 64) (l : Fin 256) :
    x256V (F := Ideal) lv x (ix2 p l) = if h : l.val < 128 then x (ix4 0 0 p l) else
      if lv (ix2 p ⟨l.val - 128, by omega⟩) = 1#1 then x (ix4 0 0 p l) else 0 := by
  pointwise [x256V]
  split
  · rfl
  · rw [show (⟨128 + (l.val - 128), by omega⟩ : Fin 256) = l from Fin.ext (by show 128 + (l.val - 128) = l.val; omega)]
    rfl
theorem x384V_apply (lv : IVec S64x128 1) (x : Vec Ideal S1x1x64x384 .bf16) (p : Fin 64) (l : Fin 384) :
    x384V (F := Ideal) lv x (ix2 p l) = if h : l.val < 256 then x (ix4 0 0 p l) else
      if lv (ix2 p ⟨l.val - 256, by omega⟩) = 1#1 then x (ix4 0 0 p l) else 0 := by
  pointwise [x384V]
  split
  · rfl
  · rw [show (⟨256 + (l.val - 256), by omega⟩ : Fin 384) = l from Fin.ext (by show 256 + (l.val - 256) = l.val; omega)]
    rfl
theorem liveV_apply (n lo : BitVec 32) (p : Fin 64) (l : Fin 128) :
    liveV n lo (ix2 p l) = if (BitVec.ofNat 32 l.val + lo).slt n then 1#1 else 0#1 := by
  pointwise [liveV]
  show BitVec.ofBool _ = _
  cases h : (BitVec.ofNat 32 l.val + lo).slt n <;> simp [IntOp.addi, h]
theorem wV_apply (bcol : Vec Ideal S1x128x1 .f32) (cum : Vec Ideal S1x1x128 .f32) (cb : Vec Ideal S128x128 .f32) (s l : Fin 128) :
    wV (F := Ideal) bcol cum cb (ix2 s l) = cb (ix2 s l) * Ideal.exp2 (cum (ix3 0 0 l) - bcol (ix3 0 s 0)) := by
  pointwise [wV]
  rfl
theorem w4V_apply (w00 w01 w11 : FVec Ideal S128x128 .bf16) (s l : Fin 256) :
    w4V (F := Ideal) w00 w01 w11 (ix2 s l) =
      if hs : s.val < 128 then if hl : l.val < 128 then w00 (ix2 ⟨s, hs⟩ ⟨l, hl⟩) else w01 (ix2 ⟨s, hs⟩ ⟨l.val - 128, by omega⟩)
      else if hl : l.val < 128 then 0 else w11 (ix2 ⟨s.val - 128, by omega⟩ ⟨l.val - 128, by omega⟩) := by
  pointwise [w4V]
theorem xw384V_apply (x : FVec Ideal S64x384 .bf16) (dw : Vec Ideal S1x1x384 .f32) (p : Fin 64) (l : Fin 384) :
    xw384V (F := Ideal) x dw (ix2 p l) = x (ix2 p l) * dw (ix3 0 0 l) := by
  pointwise [xw384V]
theorem codesV_apply (v : Vec Ideal S1x4x64x128 .fp8e4m3) (i : Fin 4) (p : Fin 64) (n : Fin 128) :
    codesV (F := Ideal) v (ix2 ⟨64 * i.val + p.val, by omega⟩ n) = v (ix4 0 i p n) := by
  pointwise [codesV]
theorem entryV_apply (hc : Vec Ideal S1x1x64x128 .fp8e4m3) (s : Elt Ideal .f32) (p : Fin 64) (n : Fin 128) :
    entryV (F := Ideal) hc s (ix2 p n) = hc (ix4 0 0 p n) * s := by
  pointwise [entryV]
theorem stepV_apply (i : Fin 4) (gd : Vec Ideal S1x1x1x128 .f32) (s : FVec Ideal S64x128 .f32) (u : FVec Ideal S256x128 .f32) (p : Fin 64) (n : Fin 128) :
    stepV (F := Ideal) i gd s u (ix2 p n) = gd (ix4 0 0 0 n) * s (ix2 p n) + u (ix2 ⟨64 * i.val + p.val, by omega⟩ n) := by
  pointwise [stepV]
theorem z128V_apply (p : Fin 64) (l : Fin 128) : z128V (F := Ideal) (ix4 0 0 p l) = 0 := by
  pointwise [z128V]
theorem z256V_apply (p : Fin 64) (l : Fin 256) : z256V (F := Ideal) (ix4 0 0 p l) = 0 := by
  pointwise [z256V]

theorem word_toInt {a : Nat} (ha : a < 2 ^ 31) : (BitVec.ofNat 32 a).toInt = a := by
  rw [BitVec.toInt_eq_toNat_cond, BitVec.toNat_ofNat, Nat.mod_eq_of_lt (by omega)]
  split <;> omega

theorem le_iff_word {a b : Nat} (ha : a < 2 ^ 31) (hb : b < 2 ^ 31) : (BitVec.ofNat 32 a).sle (BitVec.ofNat 32 b) = decide (a ≤ b) := by
  rw [BitVec.sle_eq_decide, word_toInt ha, word_toInt hb, decide_eq_decide]
  omega

theorem lt_iff_word {a : Nat} {n : BitVec 32} (ha : a < 2 ^ 31) (hn : n.toNat < 2 ^ 31) : (BitVec.ofNat 32 a).slt n = decide (a < n.toNat) := by
  have : n.toInt = n.toNat := by rw [BitVec.toInt_eq_toNat_cond]; split <;> omega
  rw [BitVec.slt_eq_decide, word_toInt ha, this, decide_eq_decide]
  omega

theorem maskV_apply (r : Fin 64) (l : Fin 128) :
    maskV (ix2 r l) = (if 2 * r.val ≤ l.val then 65535#32 else 0#32) ||| (if 2 * r.val + 1 ≤ l.val then 4294901760#32 else 0#32) := by
  pointwise [maskV]
  have e1 : IntOp.muli (BitVec.ofNat 32 r.val) 2#32 = BitVec.ofNat 32 (2 * r.val) := by
    rw [mul_comm]; exact (BitVec.ofNat_mul ..).symm
  have e2 : IntOp.addi (IntOp.muli (BitVec.ofNat 32 r.val) 2#32) 1#32 = BitVec.ofNat 32 (2 * r.val + 1) := by
    rw [e1]; exact (BitVec.ofNat_add ..).symm
  rw [e2, e1]
  have hr := r.isLt; have hl := l.isLt
  have c1 : IntOp.cmpi .sge (BitVec.ofNat 32 l.val) (BitVec.ofNat 32 (2 * r.val)) = BitVec.ofBool (decide (2 * r.val ≤ l.val)) := by
    rw [← le_iff_word (by omega) (by omega)]; rfl
  have c2 : IntOp.cmpi .sge (BitVec.ofNat 32 l.val) (BitVec.ofNat 32 (2 * r.val + 1)) = BitVec.ofBool (decide (2 * r.val + 1 ≤ l.val)) := by
    rw [← le_iff_word (by omega) (by omega)]; rfl
  rw [c1, c2]
  by_cases h1 : 2 * r.val ≤ l.val <;> by_cases h2 : 2 * r.val + 1 ≤ l.val <;> simp [h1, h2, Scalar.select, IntOp.ori]

/-- The mask keeps a tile's entries on and above the diagonal. -/
theorem causalV_apply (v : FVec Ideal S128x128 .bf16) (s l : Fin 128) :
    causalV (F := Ideal) maskV v (ix2 s l) = if s ≤ l then v (ix2 s l) else 0 := by
  pointwise [causalV]
  rw [bitcast_32_16]
  have hi : bitcasts_S64x128_w32_S128x128_w16.srcIdx (ix2 s l) (S128x128.row (ix2 s l) / 2) (fun a ha => by
        have := bitcasts_S64x128_w32_S128x128_w16.pos_lt (ix2 s l) 0 (by decide) a ha; omega) = ix2 ⟨s.val / 2, by omega⟩ l := by
    funext a; fin_cases a <;> rfl
  rw [hi, maskV_apply]
  rw [show S128x128.row (ix2 s l) = s.val from rfl]
  rcases Nat.mod_two_eq_zero_or_one s.val with h | h
  · by_cases h1 : s ≤ l
    · have h1' : 2 * (s.val / 2) ≤ l.val := by have : s.val ≤ l.val := h1; omega
      by_cases h2 : 2 * (s.val / 2) + 1 ≤ l.val <;> simp [h, h1, h1', h2, Scalar.select, IntOp.cmpi] <;> decide
    · have h1' : ¬ 2 * (s.val / 2) ≤ l.val := fun h' => h1 (show s.val ≤ l.val by omega)
      have h2 : ¬ 2 * (s.val / 2) + 1 ≤ l.val := by omega
      simp [h, h1, h1', h2, Scalar.select, IntOp.cmpi]
  · by_cases h1 : s ≤ l
    · have h1' : 2 * (s.val / 2) + 1 ≤ l.val := by have : s.val ≤ l.val := h1; omega
      have h2 : 2 * (s.val / 2) ≤ l.val := by omega
      simp [h, h1, h1', h2, Scalar.select, IntOp.cmpi]
    · have h1' : ¬ 2 * (s.val / 2) + 1 ≤ l.val := fun h' => h1 (show s.val ≤ l.val by omega)
      by_cases h2 : 2 * (s.val / 2) ≤ l.val <;> simp [h, h1, h1', h2, Scalar.select, IntOp.cmpi] <;> decide

end Cert.Ssd

end
-- ==== Proof.Spec.lean ====
/-
  The scan over the extended reals: what the outputs are, in terms of the inputs. A sequence of 384 positions
  is taken in a chunk of 256 and a chunk of 128; a chunk sees its own positions through the decays between them,
  and all before it through the state at its entry.
-/
module

public import Idealize.ShloMosaic.PureOps.Ideal

@[expose] public section

noncomputable section

namespace Cert.Ssd

open Idealize.ShloMosaic

/-- The inputs. -/
structure Data where
  /-- Inputs by batch, head, channel, position. -/
  x : Fin 5 → Fin 48 → Fin 64 → Fin 384 → EReal
  /-- Step sizes. -/
  dt : Fin 5 → Fin 48 → Fin 384 → EReal
  /-- Decay rates. -/
  a : Fin 48 → EReal
  B : Fin 5 → Fin 384 → Fin 128 → EReal
  C : Fin 5 → Fin 384 → Fin 128 → EReal
  /-- Skip weights. -/
  d : Fin 48 → EReal
  /-- The entry state's codes. -/
  c : Fin 5 → Fin 48 → Fin 64 → Fin 128 → EReal
  /-- and its scales. -/
  s : Fin 5 → Fin 48 → EReal
  /-- The sequences' lengths. -/
  n : Fin 5 → BitVec 32

/-- The positions of the two chunks. -/
abbrev p0 (l : Fin 256) : Fin 384 := ⟨l.val, by omega⟩
abbrev p1 (l : Fin 128) : Fin 384 := ⟨256 + l.val, by omega⟩

namespace Data

variable (D : Data) (b : Fin 5) (h : Fin 48) (p : Fin 64)

/-- Position `l` lies before the sequence's end. -/
def live (l : Fin 384) : Prop := l.val < (D.n b).toNat

instance (l : Fin 384) : Decidable (D.live b l) := inferInstanceAs (Decidable (_ < _))

/-- The inputs, zero past the sequence's end. -/
def x' (l : Fin 384) : EReal := if D.live b l then D.x b h p l else 0
def dt' (l : Fin 384) : EReal := if D.live b l then D.dt b h l else 0
def B' (l : Fin 384) (n : Fin 128) : EReal := if D.live b l then D.B b l n else 0
def C' (l : Fin 384) (n : Fin 128) : EReal := if D.live b l then D.C b l n else 0

/-- The running sums of a chunk. -/
def cs0 (l : Fin 256) : EReal := ∑ s : Fin 256, if s ≤ l then D.dt' b h (p0 s) * D.a h else 0
def cs1 (l : Fin 128) : EReal := ∑ s : Fin 128, if s ≤ l then D.dt' b h (p1 s) * D.a h else 0

/-- B at one position against C at another. -/
def cb (s l : Fin 384) : EReal := ∑ n : Fin 128, D.B' b s n * D.C' b l n

/-- How a chunk's position `l` sees its position `s`. -/
def w0 (s l : Fin 256) : EReal :=
  if s ≤ l then D.cb b (p0 s) (p0 l) * (Ideal.exp (D.cs0 b h l - D.cs0 b h s) * D.dt' b h (p0 s)) else 0
def w1 (s l : Fin 128) : EReal :=
  if s ≤ l then D.cb b (p1 s) (p1 l) * (Ideal.exp (D.cs1 b h l - D.cs1 b h s) * D.dt' b h (p1 s)) else 0

/-- The weight of a position of the first chunk in the state at the chunk's end. -/
def dw (s : Fin 256) : EReal := Ideal.exp (D.cs0 b h 255 - D.cs0 b h s) * D.dt' b h (p0 s)

/-- The same of the second chunk. -/
def dw1 (s : Fin 128) : EReal := Ideal.exp (D.cs1 b h 127 - D.cs1 b h s) * D.dt' b h (p1 s)

/-- The entry codes against C. -/
def e0 (l : Fin 384) : EReal := ∑ n : Fin 128, D.c b h p n * D.C' b l n
/-- The state after the first chunk. -/
def st (n : Fin 128) : EReal :=
  Ideal.exp (D.cs0 b h 255) * (D.c b h p n * D.s b h) + ∑ s : Fin 256, D.x' b h p (p0 s) * D.dw b h s * D.B' b (p0 s) n
/-- That state against C. -/
def e1 (l : Fin 128) : EReal := ∑ n : Fin 128, D.st b h p n * D.C' b (p1 l) n

/-- The outputs of the first chunk. -/
def y0 (l : Fin 256) : EReal :=
  (∑ s : Fin 256, D.x' b h p (p0 s) * D.w0 b h s l) + D.e0 b h p (p0 l) * (Ideal.exp (D.cs0 b h l) * D.s b h)
    + D.d h * D.x' b h p (p0 l)
/-- The outputs of the second. -/
def y1 (l : Fin 128) : EReal :=
  (∑ s : Fin 128, D.x' b h p (p1 s) * D.w1 b h s l) + D.e1 b h p l * Ideal.exp (D.cs1 b h l) + D.d h * D.x' b h p (p1 l)
/-- The outputs. -/
def y (l : Fin 384) : EReal := if hl : l.val < 256 then D.y0 b h p ⟨l.val, hl⟩ else D.y1 b h p ⟨l.val - 256, by omega⟩

/-- The state after the second chunk. -/
def fin (n : Fin 128) : EReal :=
  Ideal.exp (D.cs1 b h 127) * D.st b h p n + ∑ s : Fin 128, D.x' b h p (p1 s) * D.dw1 b h s * D.B' b (p1 s) n

/-- What is asked of the inputs: step sizes finite and not negative, decay rates finite, lengths within the sequence. -/
structure Tame : Prop where
  dt : ∀ b h l, ∃ r : ℝ, 0 ≤ r ∧ D.dt b h l = r
  a : ∀ h, ∃ r : ℝ, D.a h = r
  n : ∀ b, (D.n b).toNat ≤ 384

variable {D} (hD : D.Tame)
include hD

theorem Tame.dt' (l : Fin 384) : ∃ r : ℝ, 0 ≤ r ∧ D.dt' b h l = r := by
  unfold Data.dt'
  split
  · exact hD.dt b h l
  · exact ⟨0, le_refl _, rfl⟩

theorem Tame.da (l : Fin 384) : ∃ r : ℝ, D.dt' b h l * D.a h = r := by
  obtain ⟨r, -, hr⟩ := hD.dt' b h l
  obtain ⟨a, ha⟩ := hD.a h
  exact ⟨r * a, by rw [hr, ha, EReal.coe_mul]⟩

omit hD in
theorem real_sum {ι : Type} (t : Finset ι) (f : ι → EReal) (hf : ∀ i, ∃ r : ℝ, f i = r) : ∃ r : ℝ, ∑ i ∈ t, f i = r := by
  choose g hg using hf
  exact ⟨∑ i ∈ t, g i, by simp only [hg]; exact (map_sum (⟨⟨Real.toEReal, rfl⟩, EReal.coe_add⟩ : ℝ →+ EReal) g t).symm⟩

theorem Tame.cs0 (l : Fin 256) : ∃ r : ℝ, D.cs0 b h l = r := by
  refine real_sum _ _ fun s => ?_
  split
  · exact hD.da b h (p0 s)
  · exact ⟨0, rfl⟩
theorem Tame.cs1 (l : Fin 128) : ∃ r : ℝ, D.cs1 b h l = r := by
  refine real_sum _ _ fun s => ?_
  split
  · exact hD.da b h (p1 s)
  · exact ⟨0, rfl⟩

omit hD

/-! ## Powers of two -/

/-- One over the logarithm of two. -/
abbrev L2 : EReal := (((Real.log 2)⁻¹ : ℝ) : EReal)

theorem exp2_real (c : ℝ) : Ideal.exp2 ((c : EReal) * L2) = Ideal.exp (c : EReal) := by
  rw [← EReal.coe_mul]
  show ((Real.rpow 2 (c * (Real.log 2)⁻¹) : ℝ) : EReal) = (Real.exp c : EReal)
  have h2 : Real.log 2 ≠ 0 := (Real.log_pos (by norm_num)).ne'
  rw [show Real.rpow 2 (c * (Real.log 2)⁻¹) = (2 : ℝ) ^ (c * (Real.log 2)⁻¹) from rfl, Real.rpow_def_of_pos (by norm_num)]
  congr 2
  field_simp

/-- The exponent of a difference of running sums. -/
theorem exp2_sub (c c' : ℝ) : Ideal.exp2 ((c : EReal) * L2 - (c' : EReal) * L2) = Ideal.exp ((c : EReal) - c') := by
  rw [← EReal.coe_sub, ← exp2_real, EReal.coe_sub]
  congr 1
  rw [← EReal.coe_mul, ← EReal.coe_mul, ← EReal.coe_sub, ← EReal.coe_sub, ← EReal.coe_mul, sub_mul]

/-- The step size folded into the exponent. -/
theorem exp2_fold (c c' : ℝ) {t : ℝ} (ht : 0 ≤ t) :
    Ideal.exp2 ((c : EReal) * L2 - ((c' : EReal) * L2 - Ideal.log (t : EReal) * L2)) = Ideal.exp ((c : EReal) - c') * t := by
  have h2 : (0 : ℝ) < (Real.log 2)⁻¹ := inv_pos.2 (Real.log_pos (by norm_num))
  rcases ht.eq_or_lt with rfl | ht
  · have : Ideal.log ((0 : ℝ) : EReal) = ⊥ := by show (if (0 : ℝ) ≤ 0 then (⊥ : EReal) else _) = ⊥; rw [if_pos le_rfl]
    rw [this, EReal.bot_mul_coe_of_pos h2, ← EReal.coe_mul, ← EReal.coe_mul, EReal.coe_sub_bot, EReal.sub_top]
    rw [Ideal.exp2_bot, EReal.coe_zero, mul_zero]
  · have : Ideal.log (t : EReal) = (Real.log t : EReal) := by show (if t ≤ 0 then (⊥ : EReal) else _) = _; rw [if_neg (not_le.2 ht)]
    rw [this, ← EReal.coe_mul, ← EReal.coe_mul, ← EReal.coe_mul, ← EReal.coe_sub, ← EReal.coe_sub, ← EReal.coe_sub]
    have e : c * (Real.log 2)⁻¹ - (c' * (Real.log 2)⁻¹ - Real.log t * (Real.log 2)⁻¹) = (c - c' + Real.log t) * (Real.log 2)⁻¹ := by ring
    rw [e, EReal.coe_mul, exp2_real]
    show ((Real.exp (c - c' + Real.log t) : ℝ) : EReal) = ((Real.exp (c - c') : ℝ) : EReal) * t
    rw [Real.exp_add, Real.exp_log ht, EReal.coe_mul]

/-- Splitting a finite value in three adds nothing to the first part. -/
theorem sub_self_real (c : ℝ) : (c : EReal) - c = 0 := by rw [← EReal.coe_sub, sub_self]; rfl

end Data

end Cert.Ssd

end
-- ==== Proof.ReadTab.lean ====
/-
  The values of a batch's tables, read at an index over the extended reals.
-/
module

public import proofs.«01_k».proof.Proof.Read
public import proofs.«01_k».proof.Proof.Spec

@[expose] public section

set_option maxRecDepth 16384

noncomputable section

namespace Cert.Ssd

open Idealize.ShloMosaic
open Cert.Kernel hiding Facts Facts₀
open Cert.Kernel.Gen

/-- A choice by a comparison of a position with the length. -/
theorem select_lt {α : Type} {l : Nat} {n : BitVec 32} (hl : l < 2 ^ 31) (hn : n.toNat ≤ 384) (a b : α) :
    Scalar.select (IntOp.cmpi .slt (BitVec.ofNat 32 l) n) a b = if l < n.toNat then a else b := by
  show (if BitVec.ofBool ((BitVec.ofNat 32 l).slt n) = 1 then a else b) = _
  rw [lt_iff_word hl (by omega)]
  by_cases h : l < n.toNat <;> simp [h]

theorem dtV_apply {n : BitVec 32} (hn : n.toNat ≤ 384) (dt : Vec Ideal S1x48x384 .f32) (h : Fin 48) (l : Fin 384) :
    dtV (F := Ideal) n dt (ix2 h l) = if l.val < n.toNat then dt (ix3 0 h l) else 0 := by
  pointwise [dtV]
  rw [select_lt (by omega) hn]
theorem bcV_apply {n : BitVec 32} (hn : n.toNat ≤ 384) (v : Vec Ideal S1x384x128 .bf16) (l : Fin 384) (k : Fin 128) :
    bcV (F := Ideal) n v (ix2 l k) = if l.val < n.toNat then v (ix3 0 l k) else 0 := by
  pointwise [bcV]
  rw [select_lt (by omega) hn]
theorem aV_apply (a : Vec Ideal S1x48 .f32) (h : Fin 48) : aV (F := Ideal) a (ix2 h 0) = a (ix2 0 h) := by
  pointwise [aV]
  have e : ∀ x : Fin 48, Scalar.select (IntOp.cmpi .eq (BitVec.ofNat 32 h.val) (BitVec.ofNat 32 x.val)) (a (ix2 0 x)) 0
      = if h = x then a (ix2 0 x) else 0 := fun x => by
    have hx := x.isLt; have hh := h.isLt
    by_cases hc : h = x
    · subst hc; simp [Scalar.select, IntOp.cmpi]
    · rw [if_neg hc]
      have : BitVec.ofNat 32 h.val ≠ BitVec.ofNat 32 x.val := fun e => hc (Fin.ext (by
        have := congrArg BitVec.toNat e
        rwa [BitVec.toNat_ofNat, BitVec.toNat_ofNat, Nat.mod_eq_of_lt (by omega), Nat.mod_eq_of_lt (by omega)] at this))
      have h' : (BitVec.ofNat 32 h.val == BitVec.ofNat 32 x.val) = false := by simpa using this
      show (if BitVec.ofBool (BitVec.ofNat 32 h.val == BitVec.ofNat 32 x.val) = 1 then _ else _) = _
      rw [h']; rfl
  rw [Finset.sum_congr rfl fun x _ => e x, Finset.sum_ite_eq, if_pos (Finset.mem_univ _)]
theorem daV_apply (d : FVec Ideal S48x384 .f32) (a : FVec Ideal S48x1 .f32) (h : Fin 48) (l : Fin 384) :
    daV (F := Ideal) d a (ix2 h l) = d (ix2 h l) * a (ix2 h 0) := by
  pointwise [daV]
theorem hiV_apply (v : FVec Ideal S48x384 .f32) (h : Fin 48) (l : Fin 384) : hiV (F := Ideal) v (ix2 h l) = v (ix2 h l) := by
  pointwise [hiV]
theorem midV_apply (v : FVec Ideal S48x384 .f32) (h : Fin 48) (l : Fin 384) : midV (F := Ideal) v (ix2 h l) = v (ix2 h l) - v (ix2 h l) := by
  pointwise [midV, hiV]
theorem loV_apply (v : FVec Ideal S48x384 .f32) (h : Fin 48) (l : Fin 384) :
    loV (F := Ideal) v (ix2 h l) = (v (ix2 h l) - v (ix2 h l)) - (v (ix2 h l) - v (ix2 h l)) := by
  pointwise [loV, midV, hiV]
theorem triV_apply (s l : Fin 256) : triV (F := Ideal) (ix2 s l) = if s ≤ l then 1 else 0 := by
  pointwise [triV]
  have hs := s.isLt; have hl := l.isLt
  show (((BitVec.setWidth 32 (BitVec.ofBool ((BitVec.ofNat 32 s.val).sle (BitVec.ofNat 32 l.val)))).toInt : ℝ) : EReal) = _
  rw [le_iff_word (by omega) (by omega)]
  by_cases h : s ≤ l
  · have h' : s.val ≤ l.val := h
    simp [h, h']
  · have h' : ¬ s.val ≤ l.val := h
    simp [h, h']
theorem lgV_apply (L : EReal) (d : FVec Ideal S48x384 .f32) (h : Fin 48) (l : Fin 384) :
    lgV (F := Ideal) L d (ix2 h l) = Ideal.log (d (ix2 h l)) * L := by
  pointwise [lgV]
theorem cs0V_read (L : EReal) (v : FVec Ideal S48x384 .f32) (h : Fin 48) (l : Fin 256) :
    cs0V (F := Ideal) L v (ix2 h l) = ((∑ s : Fin 256, loV v (ix2 h (p0 s)) * triV (ix2 s l)) + (∑ s : Fin 256, midV v (ix2 h (p0 s)) * triV (ix2 s l))
      + (∑ s : Fin 256, hiV v (ix2 h (p0 s)) * triV (ix2 s l))) * L := by
  pointwise [cs0V]
theorem cs1V_read (L : EReal) (v : FVec Ideal S48x384 .f32) (h : Fin 48) (l : Fin 128) :
    cs1V (F := Ideal) L v (ix2 h l) = ((∑ s : Fin 128, loV v (ix2 h (p1 s)) * triV (ix2 ⟨s.val, by omega⟩ ⟨l.val, by omega⟩))
      + (∑ s : Fin 128, midV v (ix2 h (p1 s)) * triV (ix2 ⟨s.val, by omega⟩ ⟨l.val, by omega⟩))
      + (∑ s : Fin 128, hiV v (ix2 h (p1 s)) * triV (ix2 ⟨s.val, by omega⟩ ⟨l.val, by omega⟩))) * L := by
  pointwise [cs1V]

/-- A sum against the ones on and above the diagonal. -/
theorem sum_tri {k : Nat} (f : Fin k → EReal) (l : Fin k) : ∑ s : Fin k, f s * (if s ≤ l then 1 else 0) = ∑ s : Fin k, if s ≤ l then f s else 0 :=
  Finset.sum_congr rfl fun s _ => by split <;> simp

/-- A finite value's second and third parts are zero. -/
theorem parts_zero {v : EReal} (hv : ∃ r : ℝ, v = r) : v - v = 0 := by obtain ⟨r, rfl⟩ := hv; exact Data.sub_self_real r

theorem cs0V_apply (L : EReal) (v : FVec Ideal S48x384 .f32) (hv : ∀ h l, ∃ r : ℝ, v (ix2 h l) = r) (h : Fin 48) (l : Fin 256) :
    cs0V (F := Ideal) L v (ix2 h l) = (∑ s : Fin 256, if s ≤ l then v (ix2 h (p0 s)) else 0) * L := by
  rw [cs0V_read]
  simp only [loV_apply, midV_apply, hiV_apply, triV_apply, parts_zero (hv _ _), sub_zero, zero_mul, Finset.sum_const_zero, zero_add, sum_tri]
theorem cs1V_apply (L : EReal) (v : FVec Ideal S48x384 .f32) (hv : ∀ h l, ∃ r : ℝ, v (ix2 h l) = r) (h : Fin 48) (l : Fin 128) :
    cs1V (F := Ideal) L v (ix2 h l) = (∑ s : Fin 128, if s ≤ l then v (ix2 h (p1 s)) else 0) * L := by
  rw [cs1V_read]
  have e : ∀ s : Fin 128, ((⟨s.val, by omega⟩ : Fin 256) ≤ ⟨l.val, by omega⟩) = (s ≤ l) := fun s => rfl
  simp only [loV_apply, midV_apply, hiV_apply, triV_apply, parts_zero (hv _ _), sub_zero, zero_mul, Finset.sum_const_zero, zero_add, e, sum_tri]

theorem dw0V_apply (cs : FVec Ideal S48x256 .f32) (d : FVec Ideal S48x384 .f32) (h : Fin 48) (l : Fin 256) :
    dw0V (F := Ideal) cs d (ix2 h l) = Ideal.exp2 (cs (ix2 h 255) - cs (ix2 h l)) * d (ix2 h (p0 l)) := by
  pointwise [dw0V]
  rfl
theorem dw1V_apply (cs : FVec Ideal S48x128 .f32) (d : FVec Ideal S48x384 .f32) (h : Fin 48) (l : Fin 128) :
    dw1V (F := Ideal) cs d (ix2 h l) = Ideal.exp2 (cs (ix2 h 127) - cs (ix2 h l)) * d (ix2 h (p1 l)) := by
  pointwise [dw1V]
  rfl
theorem gdV_apply (v : FVec Ideal S48x1 .f32) (g : Fin 3) (j : Fin 16) (k : Fin 128) :
    gdV (F := Ideal) v (ix4 g 0 j k) = Ideal.exp2 (v (ix2 ⟨16 * g.val + j.val, by omega⟩ 0)) := by
  pointwise [gdV]
  rw [show (⟨g.val * 16 + j.val, by omega⟩ : Fin 48) = ⟨16 * g.val + j.val, by omega⟩ from Fin.ext (by show g.val * 16 + j.val = 16 * g.val + j.val; omega)]
  rfl
theorem colV_apply (v : FVec Ideal S16x128 .f32) (s : Fin 128) (j : Fin 16) :
    colV (F := Ideal) v (ix3 0 s ⟨j.val, by omega⟩) = v (ix2 j s) := by
  pointwise [colV]
theorem ctV_apply (v : FVec Ideal S384x128 .bf16) (k : Fin 128) (l : Fin 384) : ctV (F := Ideal) v (ix2 k l) = v (ix2 l k) := by
  pointwise [ctV]
theorem cbt0V_apply (bm cm : FVec Ideal S384x128 .bf16) (s l : Fin 256) :
    cbt0V (F := Ideal) bm cm (ix2 s l) = ∑ k : Fin 128, bm (ix2 (p0 s) k) * cm (ix2 (p0 l) k) := by
  pointwise [cbt0V]
theorem cbt1V_apply (bm cm : FVec Ideal S384x128 .bf16) (s l : Fin 128) :
    cbt1V (F := Ideal) bm cm (ix2 s l) = ∑ k : Fin 128, bm (ix2 (p1 s) k) * cm (ix2 (p1 l) k) := by
  pointwise [cbt1V]

end Cert.Ssd

end
-- ==== Proof.Boxes.lean ====
/-
  Boxes of a buffer, loaded and stored, read at one index; and four pieces in a row.
-/
module

public import proofs.«01_k».proof.Proof.Keep

@[expose] public section

set_option maxRecDepth 16384

noncomputable section

namespace Cert.Ssd

open Idealize.ShloMosaic Idealize.ShloMosaic.TcCoe Idealize.SL.Sem
open Cert.Kernel hiding Facts Facts₀
open Cert.Kernel.Gen

/-- A box stored, read inside it. -/
theorem overlay_in {s : Shape} {α : Type} {off size : Fin s.rank → Nat} {inb : ∀ a, off a + size a ≤ s.size a} {X : s.Idx → α}
    {w : (⟨s.rank, size⟩ : Shape).Idx → α} (i : s.Idx) (j : (⟨s.rank, size⟩ : Shape).Idx) (h : ∀ a, (i a).val = off a + (j a).val) :
    (Rect.unit off size inb).overlay X w i = w j := by
  have e : i = (Rect.unit off size inb).emb j := by
    funext a; apply Fin.ext; rw [Rect.emb_apply]; show (i a).val = off a + 1 * (j a).val; rw [h a, one_mul]
  rw [e]; exact Rect.overlay_emb ..

/-- A box stored, read outside it. -/
theorem overlay_out {s : Shape} {α : Type} {off size : Fin s.rank → Nat} {inb : ∀ a, off a + size a ≤ s.size a} {X : s.Idx → α}
    {w : (⟨s.rank, size⟩ : Shape).Idx → α} (i : s.Idx) (a : Fin s.rank) (h : (i a).val < off a ∨ off a + size a ≤ (i a).val) :
    (Rect.unit off size inb).overlay X w i = X i := by
  refine Rect.overlay_of_not_mem _ _ _ fun hm => ?_
  obtain ⟨j, hj⟩ := (Rect.unit off size inb).exists_idx_of_mem hm
  have e := Rect.emb_apply (Rect.unit off size inb) j a
  rw [show (Rect.unit off size inb).emb j = i from hj] at e
  have e' : (i a).val = off a + 1 * (j a).val := e
  have hlt : (j a).val < size a := (j a).isLt
  omega

variable {nD : Nat} {τ : Topo} {sig : RefSig} {F : FTy → Type} [FloatOps F] {Λ : Labels} {mr : Mems fam sig} {hw : ∀ k, (mr k).IsWhole}
variable {α β : Type}

theorem ld_at {k off size inb h} {hv : fam.sp k = .vmem} {σ : St fam F} (j : (⟨(fam.sh k).rank, size⟩ : Shape).Idx) (i : (fam.sh k).Idx)
    (hij : ∀ a, (i a).val = off a + (j a).val) :
    ((ld (nD := nD) (τ := τ) (F := F) (Λ := Λ) mr k off size inb h hv).run σ).1 j = σ k i := by
  show σ k ((Rect.unit off size inb).emb j) = σ k i
  congr 1
  funext a; apply Fin.ext; rw [Rect.emb_apply]; show off a + 1 * (j a).val = (i a).val; rw [hij a, one_mul]

theorem ldw_at {k off size inb h1 hv hp} {σ : St fam F} (i : (fam.sh k).Idx) (h : ∀ a, (i a).val = off a) (hs : ∀ a, size a = 1) :
    ((ldw (nD := nD) (τ := τ) (F := F) (Λ := Λ) mr k off size inb h1 hv hp).run σ).1 = σ k i := by
  show σ k ((Rect.unit off size inb).emb (Shape.Idx.first (h1.symm ▸ Nat.one_pos))) = σ k i
  congr 1
  funext a; apply Fin.ext; rw [Rect.emb_apply]
  have hlt : ((Shape.Idx.first (s := ⟨(fam.sh k).rank, size⟩) (h1.symm ▸ Nat.one_pos)) a).val < size a := Fin.isLt _
  rw [hs a] at hlt
  show off a + 1 * ((Shape.Idx.first (s := ⟨(fam.sh k).rank, size⟩) (h1.symm ▸ Nat.one_pos)) a).val = (i a).val
  rw [h a]; omega

theorem over32_in {k off size inb h w hv he hr} {σ : St fam F} (i : (fam.sh k).Idx) (j : (⟨(fam.sh k).rank, size⟩ : Shape).Idx)
    (hij : ∀ a, (i a).val = off a + (j a).val) :
    ((over32 (nD := nD) (τ := τ) (F := F) (Λ := Λ) mr k off size inb h w hv he hr).run σ).2 k i = w j := by
  show St.set (G := fam) σ k ((Rect.unit off size inb).overlay (σ k) w) k i = w j
  unfold St.set
  rw [Function.update_self]
  exact overlay_in i j hij

theorem overp_in {k off size inb h hp w hv hr} {σ : St fam F} (i : (fam.sh k).Idx) (j : (⟨(fam.sh k).rank, size⟩ : Shape).Idx)
    (hij : ∀ a, (i a).val = off a + (j a).val) :
    ((overp (nD := nD) (τ := τ) (F := F) (Λ := Λ) mr hw k off size inb h hp w hv hr).run σ).2 k i = w j := by
  show St.set (G := fam) σ k ((Rect.unit off size inb).overlay (σ k) w) k i = w j
  unfold St.set
  rw [Function.update_self]
  exact overlay_in i j hij

theorem over32_out {k off size inb h w hv he hr} {σ : St fam F} (i : (fam.sh k).Idx) (a : Fin (fam.sh k).rank)
    (ho : (i a).val < off a ∨ off a + size a ≤ (i a).val) :
    ((over32 (nD := nD) (τ := τ) (F := F) (Λ := Λ) mr k off size inb h w hv he hr).run σ).2 k i = σ k i := by
  show St.set (G := fam) σ k ((Rect.unit off size inb).overlay (σ k) w) k i = σ k i
  unfold St.set
  rw [Function.update_self]
  exact overlay_out i a ho

theorem overp_out {k off size inb h hp w hv hr} {σ : St fam F} (i : (fam.sh k).Idx) (a : Fin (fam.sh k).rank)
    (ho : (i a).val < off a ∨ off a + size a ≤ (i a).val) :
    ((overp (nD := nD) (τ := τ) (F := F) (Λ := Λ) mr hw k off size inb h hp w hv hr).run σ).2 k i = σ k i := by
  show St.set (G := fam) σ k ((Rect.unit off size inb).overlay (σ k) w) k i = σ k i
  unfold St.set
  rw [Function.update_self]
  exact overlay_out i a ho

/-- Four pieces that keep `P`, each bringing about its own `R`, which the others leave alone. -/
theorem four_spec {m : Fin 4 → Piece nD τ F Λ mr α} (P : St fam F → Prop) (R : Fin 4 → α → St fam F → Prop)
    (h : ∀ i σ, P σ → P ((m i).run σ).2 ∧ R i ((m i).run σ).1 ((m i).run σ).2)
    (hk : ∀ i i' a σ, i ≠ i' → P σ → R i a σ → R i a ((m i').run σ).2) (σ : St fam F) (h0 : P σ) :
    P ((four mr m).run σ).2 ∧ ∀ i, R i (((four mr m).run σ).1 i) ((four mr m).run σ).2 := by
  obtain ⟨P1, R0⟩ := h 0 σ h0
  obtain ⟨P2, R1⟩ := h 1 _ P1
  obtain ⟨P3, R2⟩ := h 2 _ P2
  obtain ⟨P4, R3⟩ := h 3 _ P3
  refine ⟨P4, fun i => ?_⟩
  match i with
  | 0 => exact hk 0 3 _ _ (by decide) P3 (hk 0 2 _ _ (by decide) P2 (hk 0 1 _ _ (by decide) P1 R0))
  | 1 => exact hk 1 3 _ _ (by decide) P3 (hk 1 2 _ _ (by decide) P2 R1)
  | 2 => exact hk 2 3 _ _ (by decide) P3 R2
  | 3 => exact R3

/-- The piece leaves the elements of buffer `k` at the indices of `s` alone. -/
structure Leave (k : Buf) (s : (fam.sh k).Idx → Prop) (m : Piece nD τ F Λ mr α) : Prop where
  leaves : ∀ (σ : St fam F) i, s i → (m.run σ).2 k i = σ k i

namespace Leave

variable {k : Buf} {s : (fam.sh k).Idx → Prop}

theorem pure (a : α) : Leave k s (Pure.pure a : Piece nD τ F Λ mr α) := ⟨fun _ _ _ => rfl⟩
theorem bind {m : Piece nD τ F Λ mr α} {f : α → Piece nD τ F Λ mr β} (h : Leave k s m) (h' : ∀ a, Leave k s (f a)) :
    Leave k s (m >>= f) := ⟨fun σ i hi => ((h' (m.run σ).1).leaves (m.run σ).2 i hi).trans (h.leaves σ i hi)⟩
theorem of_writes {wr : Buf → Bool} {m : Piece nD τ F Λ mr α} (h : Writes wr m) (hk : wr k = false) : Leave k s m :=
  ⟨fun σ i _ => congrFun (h.keeps σ k hk) i⟩
theorem four {m : Fin 4 → Piece nD τ F Λ mr α} (h : ∀ i, Leave k s (m i)) : Leave k s (four mr m) :=
  bind (h 0) fun _ => bind (h 1) fun _ => bind (h 2) fun _ => bind (h 3) fun _ => pure _

end Leave

end Cert.Ssd

end
-- ==== Proof.Tab.lean ====
/-
  The tables of a batch: what each holds, and that the preparation makes them so.
-/
module

public import proofs.«01_k».proof.Proof.ReadTab
public import proofs.«01_k».proof.Proof.Boxes

@[expose] public section

set_option maxRecDepth 16384

noncomputable section

namespace Cert.Ssd

open Idealize.ShloMosaic Idealize.ShloMosaic.TcCoe Idealize.SL.Sem
open Cert.Kernel hiding Facts Facts₀
open Cert.Kernel.Gen

variable {nD : Nat} {τ : Topo} {sig : RefSig} {Λ : Labels} {mr : Mems fam sig} {hw : ∀ k, (mr k).IsWhole}

/-- Head `j` of block `g`. -/
abbrev hh (g : Fin 3) (j : Fin 16) : Fin 48 := ⟨16 * g.val + j.val, by omega⟩

/-- A tile's lane `j`. -/
abbrev ln (j : Fin 16) : Fin 128 := ⟨j.val, by omega⟩

/-- The tables of batch `b`. -/
structure Tab (D : Data) (b : Fin 5) (σ : St fam Ideal) : Prop where
  cum0 : ∀ g j l, (σ .cum : FVec Ideal S3x16x384 .f32) (ix3 g j (p0 l)) = D.cs0 b (hh g j) l * Data.L2
  cum1 : ∀ g j l, (σ .cum : FVec Ideal S3x16x384 .f32) (ix3 g j (p1 l)) = D.cs1 b (hh g j) l * Data.L2
  ecs0 : ∀ g j l, (σ .ecs : FVec Ideal S3x16x384 .f32) (ix3 g j (p0 l)) = Ideal.exp (D.cs0 b (hh g j) l)
  ecs1 : ∀ g j l, (σ .ecs : FVec Ideal S3x16x384 .f32) (ix3 g j (p1 l)) = Ideal.exp (D.cs1 b (hh g j) l)
  dw : ∀ g j l, (σ .dw : FVec Ideal S3x16x384 .f32) (ix3 g j (p0 l)) = D.dw b (hh g j) l
  gd : ∀ g j k, (σ .gd : FVec Ideal S3x2x16x128 .f32) (ix4 g 0 j k) = Ideal.exp (D.cs0 b (hh g j) 255)
  dw1 : ∀ g j l, (σ .dw : FVec Ideal S3x16x384 .f32) (ix3 g j (p1 l)) = D.dw1 b (hh g j) l
  gd1 : ∀ g j k, (σ .gd : FVec Ideal S3x2x16x128 .f32) (ix4 g 1 j k) = Ideal.exp (D.cs1 b (hh g j) 127)
  bcol0 : ∀ g j l, (σ .bcol : FVec Ideal S3x384x128 .f32) (ix3 g (p0 l) (ln j))
    = D.cs0 b (hh g j) l * Data.L2 - Ideal.log (D.dt' b (hh g j) (p0 l)) * Data.L2
  bcol1 : ∀ g j l, (σ .bcol : FVec Ideal S3x384x128 .f32) (ix3 g (p1 l) (ln j))
    = D.cs1 b (hh g j) l * Data.L2 - Ideal.log (D.dt' b (hh g j) (p1 l)) * Data.L2
  ct : ∀ k l, (σ .ct : FVec Ideal S128x384 .bf16) (ix2 k l) = D.C' b l k
  bm : ∀ l k, (σ .bm : FVec Ideal S384x128 .bf16) (ix2 l k) = D.B' b l k
  cbt0 : ∀ s l, (σ .cbt : FVec Ideal S384x256 .f32) (ix2 (p0 s) l) = D.cb b (p0 s) (p0 l)
  cbt1 : ∀ s l : Fin 128, (σ .cbt : FVec Ideal S384x256 .f32) (ix2 (p1 s) ⟨l.val, by omega⟩) = D.cb b (p1 s) (p1 l)

section Shapes

/-- Splitting the heads into blocks. -/
theorem heads256 (v : FVec Ideal S48x256 .f32) (g : Fin 3) (j : Fin 16) (l : Fin 256) :
    shapeCast S3x16x256 (shapeCast S3x16x256 v shapeCasts_S48x256_S3x16x256) shapeCasts_S3x16x256_S3x16x256 (ix3 g j l) = v (ix2 (hh g j) l) := by
  pointwise []
  rw [show (⟨g.val * 16 + j.val, by omega⟩ : Fin 48) = hh g j from Fin.ext (by show g.val * 16 + j.val = 16 * g.val + j.val; omega)]
theorem heads128 (v : FVec Ideal S48x128 .f32) (g : Fin 3) (j : Fin 16) (l : Fin 128) :
    shapeCast S3x16x128 (shapeCast S3x16x128 v shapeCasts_S48x128_S3x16x128) shapeCasts_S3x16x128_S3x16x128 (ix3 g j l) = v (ix2 (hh g j) l) := by
  pointwise []
  rw [show (⟨g.val * 16 + j.val, by omega⟩ : Fin 48) = hh g j from Fin.ext (by show g.val * 16 + j.val = 16 * g.val + j.val; omega)]

end Shapes

section Reads

variable (L : EReal) (d da : FVec Ideal S48x384 .f32) (σ : St fam Ideal)

/-- After the tables of both chunks. -/
abbrev tabs : St fam Ideal :=
  ((tab1A (nD := nD) (τ := τ) (F := Ideal) (Λ := Λ) mr L d da).run ((tab0A (nD := nD) (τ := τ) (F := Ideal) (Λ := Λ) mr L d da).run σ).2).2

theorem tabs_keep (k : Buf) (hk : wrTab k = false) : (tabs (nD := nD) (τ := τ) (Λ := Λ) (mr := mr) L d da σ) k = σ k := by
  have h0 : Writes wrTab (tab0A (nD := nD) (τ := τ) (F := Ideal) (Λ := Λ) mr L d da) := by
    unfold tab0A
    repeat' first | exact Writes.over32 rfl | refine Writes.bind (Writes.over32 rfl) fun _ => ?_
  have h1 : Writes wrTab (tab1A (nD := nD) (τ := τ) (F := Ideal) (Λ := Λ) mr L d da) := by
    unfold tab1A
    repeat' first | exact Writes.over32 rfl | refine Writes.bind (Writes.over32 rfl) fun _ => ?_
  exact (h1.keeps _ k hk).trans (h0.keeps _ k hk)

theorem tabs_cum : (tabs (nD := nD) (τ := τ) (Λ := Λ) (mr := mr) L d da σ) .cum
    = (Rect.unit (s := S3x16x384) ![0, 0, 256] S3x16x128.size inb_S3x16x384_S3x16x128_0_0_256).overlay
      ((Rect.unit (s := S3x16x384) ![0, 0, 0] S3x16x256.size inb_S3x16x384_S3x16x256_0_0_0).overlay (σ .cum)
        (shapeCast S3x16x256 (shapeCast S3x16x256 (cs0V L da) shapeCasts_S48x256_S3x16x256) shapeCasts_S3x16x256_S3x16x256))
      (shapeCast S3x16x128 (shapeCast S3x16x128 (cs1V L da) shapeCasts_S48x128_S3x16x128) shapeCasts_S3x16x128_S3x16x128) := rfl

theorem tabs_ecs : (tabs (nD := nD) (τ := τ) (Λ := Λ) (mr := mr) L d da σ) .ecs
    = ((Rect.unit (s := S3x16x384) ![0, 0, 256] S3x16x128.size inb_S3x16x384_S3x16x128_0_0_256).overlay ((Rect.unit (s := S3x16x384) ![0, 0, 0] S3x16x256.size inb_S3x16x384_S3x16x256_0_0_0).overlay (σ .ecs)
      (shapeCast S3x16x256 (shapeCast S3x16x256 (exp2 (cs0V L da)) shapeCasts_S48x256_S3x16x256) shapeCasts_S3x16x256_S3x16x256))
      (shapeCast S3x16x128 (shapeCast S3x16x128 (exp2 (cs1V L da)) shapeCasts_S48x128_S3x16x128) shapeCasts_S3x16x128_S3x16x128)) := rfl

theorem tabs_dw : (tabs (nD := nD) (τ := τ) (Λ := Λ) (mr := mr) L d da σ) .dw
    = ((Rect.unit (s := S3x16x384) ![0, 0, 256] S3x16x128.size inb_S3x16x384_S3x16x128_0_0_256).overlay ((Rect.unit (s := S3x16x384) ![0, 0, 0] S3x16x256.size inb_S3x16x384_S3x16x256_0_0_0).overlay (σ .dw)
      (shapeCast S3x16x256 (shapeCast S3x16x256 (dw0V (cs0V L da) d) shapeCasts_S48x256_S3x16x256) shapeCasts_S3x16x256_S3x16x256))
      (shapeCast S3x16x128 (shapeCast S3x16x128 (dw1V (cs1V L da) d) shapeCasts_S48x128_S3x16x128) shapeCasts_S3x16x128_S3x16x128)) := rfl

theorem tabs_gd : (tabs (nD := nD) (τ := τ) (Λ := Λ) (mr := mr) L d da σ) .gd
    = ((Rect.unit (s := S3x2x16x128) ![0, 1, 0, 0] S3x1x16x128.size inb_S3x2x16x128_S3x1x16x128_0_1_0_0).overlay ((Rect.unit (s := S3x2x16x128) ![0, 0, 0, 0] S3x1x16x128.size inb_S3x2x16x128_S3x1x16x128_0_0_0_0).overlay (σ .gd)
      (gdV (extractStridedSlice S48x1 ![0, 255] (cs0V L da) slices_S48x256_o0_255_S48x1)))
      (gdV (extractStridedSlice S48x1 ![0, 127] (cs1V L da) slices_S48x128_o0_127_S48x1))) := rfl

theorem tabs_bcol : (tabs (nD := nD) (τ := τ) (Λ := Λ) (mr := mr) L d da σ) .bcol
    = ((Rect.unit (s := S3x384x128) ![2, 256, 0] S1x128x128.size inb_S3x384x128_S1x128x128_2_256_0).overlay ((Rect.unit (s := S3x384x128) ![1, 256, 0] S1x128x128.size inb_S3x384x128_S1x128x128_1_256_0).overlay ((Rect.unit (s := S3x384x128) ![0, 256, 0] S1x128x128.size inb_S3x384x128_S1x128x128_0_256_0).overlay ((Rect.unit (s := S3x384x128) ![2, 128, 0] S1x128x128.size inb_S3x384x128_S1x128x128_2_128_0).overlay ((Rect.unit (s := S3x384x128) ![1, 128, 0] S1x128x128.size inb_S3x384x128_S1x128x128_1_128_0).overlay ((Rect.unit (s := S3x384x128) ![0, 128, 0] S1x128x128.size inb_S3x384x128_S1x128x128_0_128_0).overlay ((Rect.unit (s := S3x384x128) ![2, 0, 0] S1x128x128.size inb_S3x384x128_S1x128x128_2_0_0).overlay ((Rect.unit (s := S3x384x128) ![1, 0, 0] S1x128x128.size inb_S3x384x128_S1x128x128_1_0_0).overlay ((Rect.unit (s := S3x384x128) ![0, 0, 0] S1x128x128.size inb_S3x384x128_S1x128x128_0_0_0).overlay (σ .bcol)
      (colV (extractStridedSlice S16x128 ![0, 0] (subf (cs0V L da) (extractStridedSlice S48x256 ![0, 0] (lgV L d) slices_S48x384_o0_0_S48x256)) slices_S48x256_o0_0_S16x128)))
      (colV (extractStridedSlice S16x128 ![16, 0] (subf (cs0V L da) (extractStridedSlice S48x256 ![0, 0] (lgV L d) slices_S48x384_o0_0_S48x256)) slices_S48x256_o16_0_S16x128)))
      (colV (extractStridedSlice S16x128 ![32, 0] (subf (cs0V L da) (extractStridedSlice S48x256 ![0, 0] (lgV L d) slices_S48x384_o0_0_S48x256)) slices_S48x256_o32_0_S16x128)))
      (colV (extractStridedSlice S16x128 ![0, 128] (subf (cs0V L da) (extractStridedSlice S48x256 ![0, 0] (lgV L d) slices_S48x384_o0_0_S48x256)) slices_S48x256_o0_128_S16x128)))
      (colV (extractStridedSlice S16x128 ![16, 128] (subf (cs0V L da) (extractStridedSlice S48x256 ![0, 0] (lgV L d) slices_S48x384_o0_0_S48x256)) slices_S48x256_o16_128_S16x128)))
      (colV (extractStridedSlice S16x128 ![32, 128] (subf (cs0V L da) (extractStridedSlice S48x256 ![0, 0] (lgV L d) slices_S48x384_o0_0_S48x256)) slices_S48x256_o32_128_S16x128)))
      (colV (extractStridedSlice S16x128 ![0, 0] (subf (cs1V L da) (extractStridedSlice S48x128 ![0, 256] (lgV L d) slices_S48x384_o0_256_S48x128)) slices_S48x128_o0_0_S16x128)))
      (colV (extractStridedSlice S16x128 ![16, 0] (subf (cs1V L da) (extractStridedSlice S48x128 ![0, 256] (lgV L d) slices_S48x384_o0_256_S48x128)) slices_S48x128_o16_0_S16x128)))
      (colV (extractStridedSlice S16x128 ![32, 0] (subf (cs1V L da) (extractStridedSlice S48x128 ![0, 256] (lgV L d) slices_S48x384_o0_256_S48x128)) slices_S48x128_o32_0_S16x128))) := rfl

variable {D : Data} {b : Fin 5} (hD : D.Tame) (hd : ∀ h l, d (ix2 h l) = D.dt' b h l) (hda : ∀ h l, da (ix2 h l) = D.dt' b h l * D.a h)
include hD hda

theorem cs0V_tab (h : Fin 48) (l : Fin 256) : cs0V L da (ix2 h l) = D.cs0 b h l * L := by
  rw [cs0V_apply L da (fun h l => by rw [hda]; exact hD.da b h l)]
  simp only [hda]; rfl
theorem cs1V_tab (h : Fin 48) (l : Fin 128) : cs1V L da (ix2 h l) = D.cs1 b h l * L := by
  rw [cs1V_apply L da (fun h l => by rw [hda]; exact hD.da b h l)]
  simp only [hda]; rfl

/-! A table of rows, read in the first chunk and in the second. -/
omit hD hda in
theorem rows_lo {Y : FVec Ideal S3x16x384 .f32} {w0 : FVec Ideal S3x16x256 .f32} {w1 : FVec Ideal S3x16x128 .f32} (g : Fin 3) (j : Fin 16) (l : Fin 256) :
    (Rect.unit (s := S3x16x384) ![0, 0, 256] S3x16x128.size inb_S3x16x384_S3x16x128_0_0_256).overlay
      ((Rect.unit (s := S3x16x384) ![0, 0, 0] S3x16x256.size inb_S3x16x384_S3x16x256_0_0_0).overlay Y w0) w1 (ix3 g j (p0 l)) = w0 (ix3 g j l) := by
  rw [overlay_out (ix3 g j (p0 l)) (2 : Fin 3) (Or.inl l.isLt)]
  exact overlay_in (ix3 g j (p0 l)) (ix3 g j l) (lit3 (Nat.zero_add _).symm (Nat.zero_add _).symm (Nat.zero_add _).symm)
omit hD hda in
theorem rows_hi {Y : FVec Ideal S3x16x384 .f32} {w1 : FVec Ideal S3x16x128 .f32} (g : Fin 3) (j : Fin 16) (l : Fin 128) :
    (Rect.unit (s := S3x16x384) ![0, 0, 256] S3x16x128.size inb_S3x16x384_S3x16x128_0_0_256).overlay Y w1 (ix3 g j (p1 l)) = w1 (ix3 g j l) :=
  overlay_in (ix3 g j (p1 l)) (ix3 g j l) (lit3 (Nat.zero_add _).symm (Nat.zero_add _).symm rfl)

theorem tabs_cum_lo (g : Fin 3) (j : Fin 16) (l : Fin 256) : ((tabs (nD := nD) (τ := τ) (Λ := Λ) (mr := mr) Data.L2 d da σ) .cum : FVec Ideal S3x16x384 .f32) (ix3 g j (p0 l)) = D.cs0 b (hh g j) l * Data.L2 := by
  rw [tabs_cum, rows_lo, heads256, cs0V_tab _ da hD hda]
theorem tabs_cum_hi (g : Fin 3) (j : Fin 16) (l : Fin 128) : ((tabs (nD := nD) (τ := τ) (Λ := Λ) (mr := mr) Data.L2 d da σ) .cum : FVec Ideal S3x16x384 .f32) (ix3 g j (p1 l)) = D.cs1 b (hh g j) l * Data.L2 := by
  rw [tabs_cum, rows_hi, heads128, cs1V_tab _ da hD hda]
theorem tabs_ecs_lo (g : Fin 3) (j : Fin 16) (l : Fin 256) : ((tabs (nD := nD) (τ := τ) (Λ := Λ) (mr := mr) Data.L2 d da σ) .ecs : FVec Ideal S3x16x384 .f32) (ix3 g j (p0 l)) = Ideal.exp (D.cs0 b (hh g j) l) := by
  rw [tabs_ecs, rows_lo, heads256]
  show Ideal.exp2 (cs0V Data.L2 da (ix2 (hh g j) l)) = _
  obtain ⟨c, hc⟩ := hD.cs0 b (hh g j) l
  rw [cs0V_tab _ da hD hda, hc, Data.exp2_real]
theorem tabs_ecs_hi (g : Fin 3) (j : Fin 16) (l : Fin 128) : ((tabs (nD := nD) (τ := τ) (Λ := Λ) (mr := mr) Data.L2 d da σ) .ecs : FVec Ideal S3x16x384 .f32) (ix3 g j (p1 l)) = Ideal.exp (D.cs1 b (hh g j) l) := by
  rw [tabs_ecs, rows_hi, heads128]
  show Ideal.exp2 (cs1V Data.L2 da (ix2 (hh g j) l)) = _
  obtain ⟨c, hc⟩ := hD.cs1 b (hh g j) l
  rw [cs1V_tab _ da hD hda, hc, Data.exp2_real]
include hd in
theorem tabs_dw_lo (g : Fin 3) (j : Fin 16) (l : Fin 256) : ((tabs (nD := nD) (τ := τ) (Λ := Λ) (mr := mr) Data.L2 d da σ) .dw : FVec Ideal S3x16x384 .f32) (ix3 g j (p0 l)) = D.dw b (hh g j) l := by
  rw [tabs_dw, rows_lo, heads256, dw0V_apply, cs0V_tab _ da hD hda, cs0V_tab _ da hD hda, hd]
  obtain ⟨c, hc⟩ := hD.cs0 b (hh g j) 255
  obtain ⟨c', hc'⟩ := hD.cs0 b (hh g j) l
  unfold Data.dw
  rw [hc, hc', Data.exp2_sub]
theorem tabs_gd_lo (g : Fin 3) (j : Fin 16) (k : Fin 128) : ((tabs (nD := nD) (τ := τ) (Λ := Λ) (mr := mr) Data.L2 d da σ) .gd : FVec Ideal S3x2x16x128 .f32) (ix4 g 0 j k) = Ideal.exp (D.cs0 b (hh g j) 255) := by
  rw [tabs_gd, overlay_out (ix4 g (0 : Fin 2) j k) (1 : Fin 4) (Or.inl Nat.one_pos)]
  rw [overlay_in (ix4 g (0 : Fin 2) j k) (ix4 g (0 : Fin 1) j k) (lit4 (Nat.zero_add _).symm rfl (Nat.zero_add _).symm (Nat.zero_add _).symm)]
  rw [gdV_apply]
  have e : extractStridedSlice S48x1 ![0, 255] (cs0V Data.L2 da) slices_S48x256_o0_255_S48x1 (ix2 (hh g j) 0) = cs0V Data.L2 da (ix2 (hh g j) 255) := by
    pointwise []
  obtain ⟨c, hc⟩ := hD.cs0 b (hh g j) 255
  rw [e, cs0V_tab _ da hD hda, hc, Data.exp2_real]

theorem tabs_gd_hi (g : Fin 3) (j : Fin 16) (k : Fin 128) : ((tabs (nD := nD) (τ := τ) (Λ := Λ) (mr := mr) Data.L2 d da σ) .gd : FVec Ideal S3x2x16x128 .f32) (ix4 g 1 j k) = Ideal.exp (D.cs1 b (hh g j) 127) := by
  rw [tabs_gd]
  rw [overlay_in (ix4 g (1 : Fin 2) j k) (ix4 g (0 : Fin 1) j k) (lit4 (Nat.zero_add _).symm rfl (Nat.zero_add _).symm (Nat.zero_add _).symm)]
  rw [gdV_apply]
  have e : extractStridedSlice S48x1 ![0, 127] (cs1V Data.L2 da) slices_S48x128_o0_127_S48x1 (ix2 (hh g j) 0) = cs1V Data.L2 da (ix2 (hh g j) 127) := by
    pointwise []
  obtain ⟨c, hc⟩ := hD.cs1 b (hh g j) 127
  rw [e, cs1V_tab _ da hD hda, hc, Data.exp2_real]
include hd in
theorem tabs_dw_hi (g : Fin 3) (j : Fin 16) (l : Fin 128) : ((tabs (nD := nD) (τ := τ) (Λ := Λ) (mr := mr) Data.L2 d da σ) .dw : FVec Ideal S3x16x384 .f32) (ix3 g j (p1 l)) = D.dw1 b (hh g j) l := by
  rw [tabs_dw, rows_hi, heads128, dw1V_apply, cs1V_tab _ da hD hda, cs1V_tab _ da hD hda, hd]
  obtain ⟨c, hc⟩ := hD.cs1 b (hh g j) 127
  obtain ⟨c', hc'⟩ := hD.cs1 b (hh g j) l
  unfold Data.dw1
  rw [hc, hc', Data.exp2_sub]

omit hD hda in
theorem col_0_0 (cs : FVec Ideal S48x256 .f32) (lg : FVec Ideal S48x384 .f32) (s : Fin 128) (j : Fin 16) :
    colV (F := Ideal) (extractStridedSlice S16x128 ![0, 0] (subf cs (extractStridedSlice S48x256 ![0, 0] lg slices_S48x384_o0_0_S48x256)) slices_S48x256_o0_0_S16x128) (ix3 0 s (ln j))
      = cs (ix2 (hh 0 j) (⟨s.val, by omega⟩ : Fin 256)) - lg (ix2 (hh 0 j) (p0 (⟨s.val, by omega⟩ : Fin 256))) := by
  rw [colV_apply]
  pointwise []
  rw [show hh 0 j = (⟨j.val, by omega⟩ : Fin 48) from Fin.ext (by show 16 * 0 + j.val = j.val; omega)]
omit hD hda in
theorem col_1_0 (cs : FVec Ideal S48x256 .f32) (lg : FVec Ideal S48x384 .f32) (s : Fin 128) (j : Fin 16) :
    colV (F := Ideal) (extractStridedSlice S16x128 ![16, 0] (subf cs (extractStridedSlice S48x256 ![0, 0] lg slices_S48x384_o0_0_S48x256)) slices_S48x256_o16_0_S16x128) (ix3 0 s (ln j))
      = cs (ix2 (hh 1 j) (⟨s.val, by omega⟩ : Fin 256)) - lg (ix2 (hh 1 j) (p0 (⟨s.val, by omega⟩ : Fin 256))) := by
  rw [colV_apply]
  pointwise []
  rw [show hh 1 j = (⟨16 + j.val, by omega⟩ : Fin 48) from Fin.ext (by show 16 * 1 + j.val = 16 + j.val; omega)]
omit hD hda in
theorem col_2_0 (cs : FVec Ideal S48x256 .f32) (lg : FVec Ideal S48x384 .f32) (s : Fin 128) (j : Fin 16) :
    colV (F := Ideal) (extractStridedSlice S16x128 ![32, 0] (subf cs (extractStridedSlice S48x256 ![0, 0] lg slices_S48x384_o0_0_S48x256)) slices_S48x256_o32_0_S16x128) (ix3 0 s (ln j))
      = cs (ix2 (hh 2 j) (⟨s.val, by omega⟩ : Fin 256)) - lg (ix2 (hh 2 j) (p0 (⟨s.val, by omega⟩ : Fin 256))) := by
  rw [colV_apply]
  pointwise []
  rw [show hh 2 j = (⟨32 + j.val, by omega⟩ : Fin 48) from Fin.ext (by show 16 * 2 + j.val = 32 + j.val; omega)]
omit hD hda in
theorem col_0_128 (cs : FVec Ideal S48x256 .f32) (lg : FVec Ideal S48x384 .f32) (s : Fin 128) (j : Fin 16) :
    colV (F := Ideal) (extractStridedSlice S16x128 ![0, 128] (subf cs (extractStridedSlice S48x256 ![0, 0] lg slices_S48x384_o0_0_S48x256)) slices_S48x256_o0_128_S16x128) (ix3 0 s (ln j))
      = cs (ix2 (hh 0 j) (⟨128 + s.val, by omega⟩ : Fin 256)) - lg (ix2 (hh 0 j) (p0 (⟨128 + s.val, by omega⟩ : Fin 256))) := by
  rw [colV_apply]
  pointwise []
  rw [show hh 0 j = (⟨j.val, by omega⟩ : Fin 48) from Fin.ext (by show 16 * 0 + j.val = j.val; omega)]
omit hD hda in
theorem col_1_128 (cs : FVec Ideal S48x256 .f32) (lg : FVec Ideal S48x384 .f32) (s : Fin 128) (j : Fin 16) :
    colV (F := Ideal) (extractStridedSlice S16x128 ![16, 128] (subf cs (extractStridedSlice S48x256 ![0, 0] lg slices_S48x384_o0_0_S48x256)) slices_S48x256_o16_128_S16x128) (ix3 0 s (ln j))
      = cs (ix2 (hh 1 j) (⟨128 + s.val, by omega⟩ : Fin 256)) - lg (ix2 (hh 1 j) (p0 (⟨128 + s.val, by omega⟩ : Fin 256))) := by
  rw [colV_apply]
  pointwise []
  rw [show hh 1 j = (⟨16 + j.val, by omega⟩ : Fin 48) from Fin.ext (by show 16 * 1 + j.val = 16 + j.val; omega)]
omit hD hda in
theorem col_2_128 (cs : FVec Ideal S48x256 .f32) (lg : FVec Ideal S48x384 .f32) (s : Fin 128) (j : Fin 16) :
    colV (F := Ideal) (extractStridedSlice S16x128 ![32, 128] (subf cs (extractStridedSlice S48x256 ![0, 0] lg slices_S48x384_o0_0_S48x256)) slices_S48x256_o32_128_S16x128) (ix3 0 s (ln j))
      = cs (ix2 (hh 2 j) (⟨128 + s.val, by omega⟩ : Fin 256)) - lg (ix2 (hh 2 j) (p0 (⟨128 + s.val, by omega⟩ : Fin 256))) := by
  rw [colV_apply]
  pointwise []
  rw [show hh 2 j = (⟨32 + j.val, by omega⟩ : Fin 48) from Fin.ext (by show 16 * 2 + j.val = 32 + j.val; omega)]
omit hD hda in
theorem col_0_256 (cs : FVec Ideal S48x128 .f32) (lg : FVec Ideal S48x384 .f32) (s : Fin 128) (j : Fin 16) :
    colV (F := Ideal) (extractStridedSlice S16x128 ![0, 0] (subf cs (extractStridedSlice S48x128 ![0, 256] lg slices_S48x384_o0_256_S48x128)) slices_S48x128_o0_0_S16x128) (ix3 0 s (ln j))
      = cs (ix2 (hh 0 j) s) - lg (ix2 (hh 0 j) (p1 s)) := by
  rw [colV_apply]
  pointwise []
  rw [show hh 0 j = (⟨j.val, by omega⟩ : Fin 48) from Fin.ext (by show 16 * 0 + j.val = j.val; omega)]
omit hD hda in
theorem col_1_256 (cs : FVec Ideal S48x128 .f32) (lg : FVec Ideal S48x384 .f32) (s : Fin 128) (j : Fin 16) :
    colV (F := Ideal) (extractStridedSlice S16x128 ![16, 0] (subf cs (extractStridedSlice S48x128 ![0, 256] lg slices_S48x384_o0_256_S48x128)) slices_S48x128_o16_0_S16x128) (ix3 0 s (ln j))
      = cs (ix2 (hh 1 j) s) - lg (ix2 (hh 1 j) (p1 s)) := by
  rw [colV_apply]
  pointwise []
  rw [show hh 1 j = (⟨16 + j.val, by omega⟩ : Fin 48) from Fin.ext (by show 16 * 1 + j.val = 16 + j.val; omega)]
omit hD hda in
theorem col_2_256 (cs : FVec Ideal S48x128 .f32) (lg : FVec Ideal S48x384 .f32) (s : Fin 128) (j : Fin 16) :
    colV (F := Ideal) (extractStridedSlice S16x128 ![32, 0] (subf cs (extractStridedSlice S48x128 ![0, 256] lg slices_S48x384_o0_256_S48x128)) slices_S48x128_o32_0_S16x128) (ix3 0 s (ln j))
      = cs (ix2 (hh 2 j) s) - lg (ix2 (hh 2 j) (p1 s)) := by
  rw [colV_apply]
  pointwise []
  rw [show hh 2 j = (⟨32 + j.val, by omega⟩ : Fin 48) from Fin.ext (by show 16 * 2 + j.val = 32 + j.val; omega)]
include hd in
theorem tabs_bcol_0_0 (s : Fin 128) (j : Fin 16) : ((tabs (nD := nD) (τ := τ) (Λ := Λ) (mr := mr) Data.L2 d da σ) .bcol : FVec Ideal S3x384x128 .f32) (ix3 (0 : Fin 3) (p0 (⟨s.val, by omega⟩ : Fin 256)) (ln j))
    = D.cs0 b (hh 0 j) (⟨s.val, by omega⟩ : Fin 256) * Data.L2 - Ideal.log (D.dt' b (hh 0 j) (p0 (⟨s.val, by omega⟩ : Fin 256))) * Data.L2 := by
  rw [tabs_bcol]
  rw [overlay_out (ix3 (0 : Fin 3) (p0 (⟨s.val, by omega⟩ : Fin 256)) (ln j)) (0 : Fin 3) (Or.inl (show 0 < 2 by decide))]
  rw [overlay_out (ix3 (0 : Fin 3) (p0 (⟨s.val, by omega⟩ : Fin 256)) (ln j)) (0 : Fin 3) (Or.inl (show 0 < 1 by decide))]
  rw [overlay_out (ix3 (0 : Fin 3) (p0 (⟨s.val, by omega⟩ : Fin 256)) (ln j)) (1 : Fin 3) (Or.inl (show s.val < 256 by omega))]
  rw [overlay_out (ix3 (0 : Fin 3) (p0 (⟨s.val, by omega⟩ : Fin 256)) (ln j)) (0 : Fin 3) (Or.inl (show 0 < 2 by decide))]
  rw [overlay_out (ix3 (0 : Fin 3) (p0 (⟨s.val, by omega⟩ : Fin 256)) (ln j)) (0 : Fin 3) (Or.inl (show 0 < 1 by decide))]
  rw [overlay_out (ix3 (0 : Fin 3) (p0 (⟨s.val, by omega⟩ : Fin 256)) (ln j)) (1 : Fin 3) (Or.inl (show s.val < 128 by omega))]
  rw [overlay_out (ix3 (0 : Fin 3) (p0 (⟨s.val, by omega⟩ : Fin 256)) (ln j)) (0 : Fin 3) (Or.inl (show 0 < 2 by decide))]
  rw [overlay_out (ix3 (0 : Fin 3) (p0 (⟨s.val, by omega⟩ : Fin 256)) (ln j)) (0 : Fin 3) (Or.inl (show 0 < 1 by decide))]
  rw [overlay_in (ix3 (0 : Fin 3) (p0 (⟨s.val, by omega⟩ : Fin 256)) (ln j)) (ix3 (0 : Fin 1) s (ln j)) (lit3 rfl (Nat.zero_add _).symm (Nat.zero_add _).symm)]
  rw [col_0_0, lgV_apply, cs0V_tab _ da hD hda, hd]
include hd in
theorem tabs_bcol_1_0 (s : Fin 128) (j : Fin 16) : ((tabs (nD := nD) (τ := τ) (Λ := Λ) (mr := mr) Data.L2 d da σ) .bcol : FVec Ideal S3x384x128 .f32) (ix3 (1 : Fin 3) (p0 (⟨s.val, by omega⟩ : Fin 256)) (ln j))
    = D.cs0 b (hh 1 j) (⟨s.val, by omega⟩ : Fin 256) * Data.L2 - Ideal.log (D.dt' b (hh 1 j) (p0 (⟨s.val, by omega⟩ : Fin 256))) * Data.L2 := by
  rw [tabs_bcol]
  rw [overlay_out (ix3 (1 : Fin 3) (p0 (⟨s.val, by omega⟩ : Fin 256)) (ln j)) (0 : Fin 3) (Or.inl (show 1 < 2 by decide))]
  rw [overlay_out (ix3 (1 : Fin 3) (p0 (⟨s.val, by omega⟩ : Fin 256)) (ln j)) (1 : Fin 3) (Or.inl (show s.val < 256 by omega))]
  rw [overlay_out (ix3 (1 : Fin 3) (p0 (⟨s.val, by omega⟩ : Fin 256)) (ln j)) (0 : Fin 3) (Or.inr (show 0 + 1 ≤ 1 by decide))]
  rw [overlay_out (ix3 (1 : Fin 3) (p0 (⟨s.val, by omega⟩ : Fin 256)) (ln j)) (0 : Fin 3) (Or.inl (show 1 < 2 by decide))]
  rw [overlay_out (ix3 (1 : Fin 3) (p0 (⟨s.val, by omega⟩ : Fin 256)) (ln j)) (1 : Fin 3) (Or.inl (show s.val < 128 by omega))]
  rw [overlay_out (ix3 (1 : Fin 3) (p0 (⟨s.val, by omega⟩ : Fin 256)) (ln j)) (0 : Fin 3) (Or.inr (show 0 + 1 ≤ 1 by decide))]
  rw [overlay_out (ix3 (1 : Fin 3) (p0 (⟨s.val, by omega⟩ : Fin 256)) (ln j)) (0 : Fin 3) (Or.inl (show 1 < 2 by decide))]
  rw [overlay_in (ix3 (1 : Fin 3) (p0 (⟨s.val, by omega⟩ : Fin 256)) (ln j)) (ix3 (0 : Fin 1) s (ln j)) (lit3 rfl (Nat.zero_add _).symm (Nat.zero_add _).symm)]
  rw [col_1_0, lgV_apply, cs0V_tab _ da hD hda, hd]
include hd in
theorem tabs_bcol_2_0 (s : Fin 128) (j : Fin 16) : ((tabs (nD := nD) (τ := τ) (Λ := Λ) (mr := mr) Data.L2 d da σ) .bcol : FVec Ideal S3x384x128 .f32) (ix3 (2 : Fin 3) (p0 (⟨s.val, by omega⟩ : Fin 256)) (ln j))
    = D.cs0 b (hh 2 j) (⟨s.val, by omega⟩ : Fin 256) * Data.L2 - Ideal.log (D.dt' b (hh 2 j) (p0 (⟨s.val, by omega⟩ : Fin 256))) * Data.L2 := by
  rw [tabs_bcol]
  rw [overlay_out (ix3 (2 : Fin 3) (p0 (⟨s.val, by omega⟩ : Fin 256)) (ln j)) (1 : Fin 3) (Or.inl (show s.val < 256 by omega))]
  rw [overlay_out (ix3 (2 : Fin 3) (p0 (⟨s.val, by omega⟩ : Fin 256)) (ln j)) (0 : Fin 3) (Or.inr (show 1 + 1 ≤ 2 by decide))]
  rw [overlay_out (ix3 (2 : Fin 3) (p0 (⟨s.val, by omega⟩ : Fin 256)) (ln j)) (0 : Fin 3) (Or.inr (show 0 + 1 ≤ 2 by decide))]
  rw [overlay_out (ix3 (2 : Fin 3) (p0 (⟨s.val, by omega⟩ : Fin 256)) (ln j)) (1 : Fin 3) (Or.inl (show s.val < 128 by omega))]
  rw [overlay_out (ix3 (2 : Fin 3) (p0 (⟨s.val, by omega⟩ : Fin 256)) (ln j)) (0 : Fin 3) (Or.inr (show 1 + 1 ≤ 2 by decide))]
  rw [overlay_out (ix3 (2 : Fin 3) (p0 (⟨s.val, by omega⟩ : Fin 256)) (ln j)) (0 : Fin 3) (Or.inr (show 0 + 1 ≤ 2 by decide))]
  rw [overlay_in (ix3 (2 : Fin 3) (p0 (⟨s.val, by omega⟩ : Fin 256)) (ln j)) (ix3 (0 : Fin 1) s (ln j)) (lit3 rfl (Nat.zero_add _).symm (Nat.zero_add _).symm)]
  rw [col_2_0, lgV_apply, cs0V_tab _ da hD hda, hd]
include hd in
theorem tabs_bcol_0_128 (s : Fin 128) (j : Fin 16) : ((tabs (nD := nD) (τ := τ) (Λ := Λ) (mr := mr) Data.L2 d da σ) .bcol : FVec Ideal S3x384x128 .f32) (ix3 (0 : Fin 3) (p0 (⟨128 + s.val, by omega⟩ : Fin 256)) (ln j))
    = D.cs0 b (hh 0 j) (⟨128 + s.val, by omega⟩ : Fin 256) * Data.L2 - Ideal.log (D.dt' b (hh 0 j) (p0 (⟨128 + s.val, by omega⟩ : Fin 256))) * Data.L2 := by
  rw [tabs_bcol]
  rw [overlay_out (ix3 (0 : Fin 3) (p0 (⟨128 + s.val, by omega⟩ : Fin 256)) (ln j)) (0 : Fin 3) (Or.inl (show 0 < 2 by decide))]
  rw [overlay_out (ix3 (0 : Fin 3) (p0 (⟨128 + s.val, by omega⟩ : Fin 256)) (ln j)) (0 : Fin 3) (Or.inl (show 0 < 1 by decide))]
  rw [overlay_out (ix3 (0 : Fin 3) (p0 (⟨128 + s.val, by omega⟩ : Fin 256)) (ln j)) (1 : Fin 3) (Or.inl (show 128 + s.val < 256 by omega))]
  rw [overlay_out (ix3 (0 : Fin 3) (p0 (⟨128 + s.val, by omega⟩ : Fin 256)) (ln j)) (0 : Fin 3) (Or.inl (show 0 < 2 by decide))]
  rw [overlay_out (ix3 (0 : Fin 3) (p0 (⟨128 + s.val, by omega⟩ : Fin 256)) (ln j)) (0 : Fin 3) (Or.inl (show 0 < 1 by decide))]
  rw [overlay_in (ix3 (0 : Fin 3) (p0 (⟨128 + s.val, by omega⟩ : Fin 256)) (ln j)) (ix3 (0 : Fin 1) s (ln j)) (lit3 rfl rfl (Nat.zero_add _).symm)]
  rw [col_0_128, lgV_apply, cs0V_tab _ da hD hda, hd]
include hd in
theorem tabs_bcol_1_128 (s : Fin 128) (j : Fin 16) : ((tabs (nD := nD) (τ := τ) (Λ := Λ) (mr := mr) Data.L2 d da σ) .bcol : FVec Ideal S3x384x128 .f32) (ix3 (1 : Fin 3) (p0 (⟨128 + s.val, by omega⟩ : Fin 256)) (ln j))
    = D.cs0 b (hh 1 j) (⟨128 + s.val, by omega⟩ : Fin 256) * Data.L2 - Ideal.log (D.dt' b (hh 1 j) (p0 (⟨128 + s.val, by omega⟩ : Fin 256))) * Data.L2 := by
  rw [tabs_bcol]
  rw [overlay_out (ix3 (1 : Fin 3) (p0 (⟨128 + s.val, by omega⟩ : Fin 256)) (ln j)) (0 : Fin 3) (Or.inl (show 1 < 2 by decide))]
  rw [overlay_out (ix3 (1 : Fin 3) (p0 (⟨128 + s.val, by omega⟩ : Fin 256)) (ln j)) (1 : Fin 3) (Or.inl (show 128 + s.val < 256 by omega))]
  rw [overlay_out (ix3 (1 : Fin 3) (p0 (⟨128 + s.val, by omega⟩ : Fin 256)) (ln j)) (0 : Fin 3) (Or.inr (show 0 + 1 ≤ 1 by decide))]
  rw [overlay_out (ix3 (1 : Fin 3) (p0 (⟨128 + s.val, by omega⟩ : Fin 256)) (ln j)) (0 : Fin 3) (Or.inl (show 1 < 2 by decide))]
  rw [overlay_in (ix3 (1 : Fin 3) (p0 (⟨128 + s.val, by omega⟩ : Fin 256)) (ln j)) (ix3 (0 : Fin 1) s (ln j)) (lit3 rfl rfl (Nat.zero_add _).symm)]
  rw [col_1_128, lgV_apply, cs0V_tab _ da hD hda, hd]
include hd in
theorem tabs_bcol_2_128 (s : Fin 128) (j : Fin 16) : ((tabs (nD := nD) (τ := τ) (Λ := Λ) (mr := mr) Data.L2 d da σ) .bcol : FVec Ideal S3x384x128 .f32) (ix3 (2 : Fin 3) (p0 (⟨128 + s.val, by omega⟩ : Fin 256)) (ln j))
    = D.cs0 b (hh 2 j) (⟨128 + s.val, by omega⟩ : Fin 256) * Data.L2 - Ideal.log (D.dt' b (hh 2 j) (p0 (⟨128 + s.val, by omega⟩ : Fin 256))) * Data.L2 := by
  rw [tabs_bcol]
  rw [overlay_out (ix3 (2 : Fin 3) (p0 (⟨128 + s.val, by omega⟩ : Fin 256)) (ln j)) (1 : Fin 3) (Or.inl (show 128 + s.val < 256 by omega))]
  rw [overlay_out (ix3 (2 : Fin 3) (p0 (⟨128 + s.val, by omega⟩ : Fin 256)) (ln j)) (0 : Fin 3) (Or.inr (show 1 + 1 ≤ 2 by decide))]
  rw [overlay_out (ix3 (2 : Fin 3) (p0 (⟨128 + s.val, by omega⟩ : Fin 256)) (ln j)) (0 : Fin 3) (Or.inr (show 0 + 1 ≤ 2 by decide))]
  rw [overlay_in (ix3 (2 : Fin 3) (p0 (⟨128 + s.val, by omega⟩ : Fin 256)) (ln j)) (ix3 (0 : Fin 1) s (ln j)) (lit3 rfl rfl (Nat.zero_add _).symm)]
  rw [col_2_128, lgV_apply, cs0V_tab _ da hD hda, hd]
include hd in
theorem tabs_bcol_0_256 (s : Fin 128) (j : Fin 16) : ((tabs (nD := nD) (τ := τ) (Λ := Λ) (mr := mr) Data.L2 d da σ) .bcol : FVec Ideal S3x384x128 .f32) (ix3 (0 : Fin 3) (p1 s) (ln j))
    = D.cs1 b (hh 0 j) s * Data.L2 - Ideal.log (D.dt' b (hh 0 j) (p1 s)) * Data.L2 := by
  rw [tabs_bcol]
  rw [overlay_out (ix3 (0 : Fin 3) (p1 s) (ln j)) (0 : Fin 3) (Or.inl (show 0 < 2 by decide))]
  rw [overlay_out (ix3 (0 : Fin 3) (p1 s) (ln j)) (0 : Fin 3) (Or.inl (show 0 < 1 by decide))]
  rw [overlay_in (ix3 (0 : Fin 3) (p1 s) (ln j)) (ix3 (0 : Fin 1) s (ln j)) (lit3 rfl rfl (Nat.zero_add _).symm)]
  rw [col_0_256, lgV_apply, cs1V_tab _ da hD hda, hd]
include hd in
theorem tabs_bcol_1_256 (s : Fin 128) (j : Fin 16) : ((tabs (nD := nD) (τ := τ) (Λ := Λ) (mr := mr) Data.L2 d da σ) .bcol : FVec Ideal S3x384x128 .f32) (ix3 (1 : Fin 3) (p1 s) (ln j))
    = D.cs1 b (hh 1 j) s * Data.L2 - Ideal.log (D.dt' b (hh 1 j) (p1 s)) * Data.L2 := by
  rw [tabs_bcol]
  rw [overlay_out (ix3 (1 : Fin 3) (p1 s) (ln j)) (0 : Fin 3) (Or.inl (show 1 < 2 by decide))]
  rw [overlay_in (ix3 (1 : Fin 3) (p1 s) (ln j)) (ix3 (0 : Fin 1) s (ln j)) (lit3 rfl rfl (Nat.zero_add _).symm)]
  rw [col_1_256, lgV_apply, cs1V_tab _ da hD hda, hd]
include hd in
theorem tabs_bcol_2_256 (s : Fin 128) (j : Fin 16) : ((tabs (nD := nD) (τ := τ) (Λ := Λ) (mr := mr) Data.L2 d da σ) .bcol : FVec Ideal S3x384x128 .f32) (ix3 (2 : Fin 3) (p1 s) (ln j))
    = D.cs1 b (hh 2 j) s * Data.L2 - Ideal.log (D.dt' b (hh 2 j) (p1 s)) * Data.L2 := by
  rw [tabs_bcol]
  rw [overlay_in (ix3 (2 : Fin 3) (p1 s) (ln j)) (ix3 (0 : Fin 1) s (ln j)) (lit3 rfl rfl (Nat.zero_add _).symm)]
  rw [col_2_256, lgV_apply, cs1V_tab _ da hD hda, hd]

include hd in
theorem tabs_bcol_lo (g : Fin 3) (j : Fin 16) (l : Fin 256) : ((tabs (nD := nD) (τ := τ) (Λ := Λ) (mr := mr) Data.L2 d da σ) .bcol : FVec Ideal S3x384x128 .f32) (ix3 g (p0 l) (ln j))
    = D.cs0 b (hh g j) l * Data.L2 - Ideal.log (D.dt' b (hh g j) (p0 l)) * Data.L2 := by
  by_cases h : l.val < 128
  · have e : l = (⟨(⟨l.val, h⟩ : Fin 128).val, by omega⟩ : Fin 256) := rfl
    match g with
    | 0 => exact tabs_bcol_0_0 d da σ hD hd hda ⟨l.val, h⟩ j
    | 1 => exact tabs_bcol_1_0 d da σ hD hd hda ⟨l.val, h⟩ j
    | 2 => exact tabs_bcol_2_0 d da σ hD hd hda ⟨l.val, h⟩ j
  · have e : l = (⟨128 + (⟨l.val - 128, by omega⟩ : Fin 128).val, by omega⟩ : Fin 256) := Fin.ext (by show l.val = 128 + (l.val - 128); omega)
    rw [e]
    match g with
    | 0 => exact tabs_bcol_0_128 d da σ hD hd hda _ j
    | 1 => exact tabs_bcol_1_128 d da σ hD hd hda _ j
    | 2 => exact tabs_bcol_2_128 d da σ hD hd hda _ j
include hd in
theorem tabs_bcol_hi (g : Fin 3) (j : Fin 16) (l : Fin 128) : ((tabs (nD := nD) (τ := τ) (Λ := Λ) (mr := mr) Data.L2 d da σ) .bcol : FVec Ideal S3x384x128 .f32) (ix3 g (p1 l) (ln j))
    = D.cs1 b (hh g j) l * Data.L2 - Ideal.log (D.dt' b (hh g j) (p1 l)) * Data.L2 := by
  match g with
  | 0 => exact tabs_bcol_0_256 d da σ hD hd hda l j
  | 1 => exact tabs_bcol_1_256 d da σ hD hd hda l j
  | 2 => exact tabs_bcol_2_256 d da σ hD hd hda l j

end Reads

section Bc

variable (bm cm : FVec Ideal S384x128 .bf16) (σ : St fam Ideal) {D : Data} {b : Fin 5} (hb : ∀ l k, bm (ix2 l k) = D.B' b l k) (hc : ∀ l k, cm (ix2 l k) = D.C' b l k)

theorem bc_bm : ((tabBCA (nD := nD) (τ := τ) (F := Ideal) (Λ := Λ) mr hw bm cm).run σ).2 .bm = (Rect.unit (s := S384x128) ![0, 0] S384x128.size inb_S384x128_S384x128_0_0).overlay (σ .bm) (shapeCast S384x128 bm shapeCasts_S384x128_S384x128) := rfl
theorem bc_ct : ((tabBCA (nD := nD) (τ := τ) (F := Ideal) (Λ := Λ) mr hw bm cm).run σ).2 .ct = (Rect.unit (s := S128x384) ![0, 0] S128x384.size inb_S128x384_S128x384_0_0).overlay (σ .ct) (shapeCast S128x384 (ctV cm) shapeCasts_S128x384_S128x384) := rfl
theorem bc_cbt : ((tabBCA (nD := nD) (τ := τ) (F := Ideal) (Λ := Λ) mr hw bm cm).run σ).2 .cbt = (Rect.unit (s := S384x256) ![256, 0] S128x128.size inb_S384x256_S128x128_256_0).overlay
    ((Rect.unit (s := S384x256) ![0, 0] S256x256.size inb_S384x256_S256x256_0_0).overlay (σ .cbt) (shapeCast S256x256 (cbt0V bm cm) shapeCasts_S256x256_S256x256))
    (shapeCast S128x128 (cbt1V bm cm) shapeCasts_S128x128_S128x128) := rfl

include hb in
theorem bc_bm_at (l : Fin 384) (k : Fin 128) : (((tabBCA (nD := nD) (τ := τ) (F := Ideal) (Λ := Λ) mr hw bm cm).run σ).2 .bm : FVec Ideal S384x128 .bf16) (ix2 l k) = D.B' b l k := by
  rw [bc_bm, overlay_in (ix2 l k) (ix2 l k) (lit2 (Nat.zero_add _).symm (Nat.zero_add _).symm), ← hb]
  pointwise []
include hc in
theorem bc_ct_at (k : Fin 128) (l : Fin 384) : (((tabBCA (nD := nD) (τ := τ) (F := Ideal) (Λ := Λ) mr hw bm cm).run σ).2 .ct : FVec Ideal S128x384 .bf16) (ix2 k l) = D.C' b l k := by
  rw [bc_ct, overlay_in (ix2 k l) (ix2 k l) (lit2 (Nat.zero_add _).symm (Nat.zero_add _).symm), ← hc]
  pointwise [ctV]
include hb hc
theorem bc_cbt_lo (s l : Fin 256) : (((tabBCA (nD := nD) (τ := τ) (F := Ideal) (Λ := Λ) mr hw bm cm).run σ).2 .cbt : FVec Ideal S384x256 .f32) (ix2 (p0 s) l) = D.cb b (p0 s) (p0 l) := by
  rw [bc_cbt, overlay_out (ix2 (p0 s) l) (0 : Fin 2) (Or.inl s.isLt)]
  rw [overlay_in (ix2 (p0 s) l) (ix2 s l) (lit2 (Nat.zero_add _).symm (Nat.zero_add _).symm)]
  have e : shapeCast S256x256 (cbt0V bm cm) shapeCasts_S256x256_S256x256 (ix2 s l) = cbt0V bm cm (ix2 s l) := by pointwise []
  rw [e, cbt0V_apply]
  simp only [hb, hc]; rfl
theorem bc_cbt_hi (s l : Fin 128) : (((tabBCA (nD := nD) (τ := τ) (F := Ideal) (Λ := Λ) mr hw bm cm).run σ).2 .cbt : FVec Ideal S384x256 .f32) (ix2 (p1 s) (⟨l.val, by omega⟩ : Fin 256)) = D.cb b (p1 s) (p1 l) := by
  rw [bc_cbt, overlay_in (ix2 (p1 s) (⟨l.val, by omega⟩ : Fin 256)) (ix2 s l) (lit2 rfl (Nat.zero_add _).symm)]
  have e : shapeCast S128x128 (cbt1V bm cm) shapeCasts_S128x128_S128x128 (ix2 s l) = cbt1V bm cm (ix2 s l) := by pointwise []
  rw [e, cbt1V_apply]
  simp only [hb, hc]; rfl

end Bc

set_option maxHeartbeats 1600000 in
/-- The preparation makes the tables. -/
theorem prepareA_tab {D : Data} {b : Fin 5} (hD : D.Tame) (σ : St fam Ideal)
    (hdt : ∀ h l, (σ .dt : FVec Ideal S1x48x384 .f32) (ix3 0 h l) = D.dt b h l) (ha : ∀ h, (σ .aa : FVec Ideal S1x48 .f32) (ix2 0 h) = D.a h)
    (hb : ∀ l k, (σ .bb : FVec Ideal S1x384x128 .bf16) (ix3 0 l k) = D.B b l k)
    (hc : ∀ l k, (σ .cc : FVec Ideal S1x384x128 .bf16) (ix3 0 l k) = D.C b l k) :
    Tab D b ((prepareA (nD := nD) (τ := τ) (F := Ideal) (Λ := Λ) mr hw Data.L2 (D.n b)).run σ).2 := by
  obtain ⟨v, hv⟩ : ∃ v, v = ((ld (nD := nD) (τ := τ) (F := Ideal) (Λ := Λ) mr .dt ![0, 0, 0] S1x48x384.size inb_S1x48x384_S1x48x384_0_0_0 h_S1x48x384).run σ).1 := ⟨_, rfl⟩
  obtain ⟨w, hw'⟩ : ∃ v, v = ((ld (nD := nD) (τ := τ) (F := Ideal) (Λ := Λ) mr .aa ![0, 0] S1x48.size inb_S1x48_S1x48_0_0 h_S1x48).run σ).1 := ⟨_, rfl⟩
  have hd : ∀ h l, dtV (F := Ideal) (D.n b) v (ix2 h l) = D.dt' b h l := fun h l => by
    rw [dtV_apply (hD.n b), hv, ld_at (mr := mr) (k := .dt) (ix3 0 h l) (ix3 (0 : Fin 1) h l) (lit3 rfl (Nat.zero_add _).symm (Nat.zero_add _).symm), hdt]; rfl
  have hda : ∀ h l, daV (F := Ideal) (dtV (F := Ideal) (D.n b) v) (aV w) (ix2 h l) = D.dt' b h l * D.a h := fun h l => by
    rw [daV_apply, hd, aV_apply, hw', ld_at (mr := mr) (k := .aa) (ix2 0 h) (ix2 (0 : Fin 1) h) (lit2 rfl (Nat.zero_add _).symm), ha]
  obtain ⟨σ', hσ'⟩ : ∃ σ', σ' = tabs (nD := nD) (τ := τ) (Λ := Λ) (mr := mr) Data.L2 (dtV (F := Ideal) (D.n b) v) (daV (F := Ideal) (dtV (F := Ideal) (D.n b) v) (aV w)) σ := ⟨_, rfl⟩
  have eb : σ' .bb = σ .bb := by rw [hσ']; exact tabs_keep _ _ _ σ _ rfl
  have ec : σ' .cc = σ .cc := by rw [hσ']; exact tabs_keep _ _ _ σ _ rfl
  obtain ⟨bv, hbv⟩ : ∃ v, v = ((ld (nD := nD) (τ := τ) (F := Ideal) (Λ := Λ) mr .bb ![0, 0, 0] S1x384x128.size inb_S1x384x128_S1x384x128_0_0_0 h_S1x384x128).run σ').1 := ⟨_, rfl⟩
  obtain ⟨cv, hcv⟩ : ∃ v, v = ((ld (nD := nD) (τ := τ) (F := Ideal) (Λ := Λ) mr .cc ![0, 0, 0] S1x384x128.size inb_S1x384x128_S1x384x128_0_0_0 h_S1x384x128).run σ').1 := ⟨_, rfl⟩
  have hB : ∀ l k, bcV (F := Ideal) (D.n b) bv (ix2 l k) = D.B' b l k := fun l k => by
    rw [bcV_apply (hD.n b), hbv, ld_at (mr := mr) (k := .bb) (ix3 0 l k) (ix3 (0 : Fin 1) l k) (lit3 rfl (Nat.zero_add _).symm (Nat.zero_add _).symm), eb, hb]; rfl
  have hC : ∀ l k, bcV (F := Ideal) (D.n b) cv (ix2 l k) = D.C' b l k := fun l k => by
    rw [bcV_apply (hD.n b), hcv, ld_at (mr := mr) (k := .cc) (ix3 0 l k) (ix3 (0 : Fin 1) l k) (lit3 rfl (Nat.zero_add _).symm (Nat.zero_add _).symm), ec, hc]; rfl
  have er : ((prepareA (nD := nD) (τ := τ) (F := Ideal) (Λ := Λ) mr hw Data.L2 (D.n b)).run σ).2
      = ((tabBCA (nD := nD) (τ := τ) (F := Ideal) (Λ := Λ) mr hw (bcV (F := Ideal) (D.n b) bv) (bcV (F := Ideal) (D.n b) cv)).run σ').2 := by
    rw [hbv, hcv, hσ', hv, hw']; rfl
  rw [er]
  have keep : ∀ k : Buf, k ≠ .bm → k ≠ .ct → k ≠ .cbt →
      ((tabBCA (nD := nD) (τ := τ) (F := Ideal) (Λ := Λ) mr hw (bcV (F := Ideal) (D.n b) bv) (bcV (F := Ideal) (D.n b) cv)).run σ').2 k = σ' k := by
    intro k h1 h2 h3
    cases k <;> first | rfl | exact absurd rfl h1 | exact absurd rfl h2 | exact absurd rfl h3
  refine ⟨fun g j l => ?_, fun g j l => ?_, fun g j l => ?_, fun g j l => ?_, fun g j l => ?_, fun g j l => ?_, fun g j l => ?_, fun g j l => ?_, fun g j l => ?_, fun g j l => ?_,
    bc_ct_at _ _ σ' hC, bc_bm_at _ _ σ' hB, bc_cbt_lo _ _ σ' hB hC, bc_cbt_hi _ _ σ' hB hC⟩
  all_goals rw [keep _ (by decide) (by decide) (by decide), hσ']
  · exact tabs_cum_lo _ _ σ hD hda g j l
  · exact tabs_cum_hi _ _ σ hD hda g j l
  · exact tabs_ecs_lo _ _ σ hD hda g j l
  · exact tabs_ecs_hi _ _ σ hD hda g j l
  · exact tabs_dw_lo _ _ σ hD hd hda g j l
  · exact tabs_gd_lo _ _ σ hD hda g j l
  · exact tabs_dw_hi _ _ σ hD hd hda g j l
  · exact tabs_gd_hi _ _ σ hD hda g j l
  · exact tabs_bcol_lo _ _ σ hD hd hda g j l
  · exact tabs_bcol_hi _ _ σ hD hd hda g j l

end Cert.Ssd

end
-- ==== Proof.Parts.lean ====
/-
  The parts of a step: inputs, weights and outputs of a head, given the tables.
-/
module

public import proofs.«01_k».proof.Proof.Tab

@[expose] public section

set_option maxRecDepth 16384

noncomputable section

namespace Cert.Ssd

open Idealize.ShloMosaic Idealize.ShloMosaic.TcCoe Idealize.SL.Sem
open Cert.Kernel hiding Facts Facts₀
open Cert.Kernel.Gen

variable {nD : Nat} {τ : Topo} {sig : RefSig} {Λ : Labels} {mr : Mems fam sig} {hw : ∀ k, (mr k).IsWhole} {α β : Type}

section Run

variable {F : FTy → Type} [FloatOps F]

theorem run_bind (m : Piece nD τ F Λ mr α) (f : α → Piece nD τ F Λ mr β) (σ : St fam F) :
    (m >>= f).run σ = (f (m.run σ).1).run (m.run σ).2 := rfl
theorem run_pure (a : α) (σ : St fam F) : (Pure.pure a : Piece nD τ F Λ mr α).run σ = (a, σ) := rfl
theorem run_ld {k off size inb h} {hv : fam.sp k = .vmem} {σ : St fam F} :
    ((ld (nD := nD) (τ := τ) (F := F) (Λ := Λ) mr k off size inb h hv).run σ).2 = σ := rfl
theorem run_ldw {k off size inb h1 hv hp} {σ : St fam F} :
    ((ldw (nD := nD) (τ := τ) (F := F) (Λ := Λ) mr k off size inb h1 hv hp).run σ).2 = σ := rfl

end Run

/-- The tables of batch `b` and the inputs of its block `g`. -/
structure Ok (D : Data) (b : Fin 5) (g : Fin 3) (σ : St fam Ideal) : Prop extends Tab D b σ where
  x : ∀ j p l, (σ .x : FVec Ideal S1x16x64x384 .bf16) (ix4 0 j p l) = D.x b (hh g j) p l
  hc : ∀ j p n, (σ .hc : FVec Ideal S1x16x64x128 .fp8e4m3) (ix4 0 j p n) = D.c b (hh g j) p n
  hs : ∀ h, (σ .hs : FVec Ideal S5x48 .f32) (ix2 b h) = D.s b h
  dd : ∀ h, (σ .dd : FVec Ideal S48 .f32) (ix1 h) = D.d h

variable {D : Data} {b : Fin 5} {g : Fin 3} {σ σ' : St fam Ideal}

theorem Tab.of_eq (h : ∀ k, wrTab k = true → σ' k = σ k) (H : Tab D b σ) : Tab D b σ' := by
  constructor
  · rw [h .cum rfl]; exact H.cum0
  · rw [h .cum rfl]; exact H.cum1
  · rw [h .ecs rfl]; exact H.ecs0
  · rw [h .ecs rfl]; exact H.ecs1
  · rw [h .dw rfl]; exact H.dw
  · rw [h .gd rfl]; exact H.gd
  · rw [h .dw rfl]; exact H.dw1
  · rw [h .gd rfl]; exact H.gd1
  · rw [h .bcol rfl]; exact H.bcol0
  · rw [h .bcol rfl]; exact H.bcol1
  · rw [h .ct rfl]; exact H.ct
  · rw [h .bm rfl]; exact H.bm
  · rw [h .cbt rfl]; exact H.cbt0
  · rw [h .cbt rfl]; exact H.cbt1

theorem Ok.of_eq (h : ∀ k, wrStep k = false → σ' k = σ k) (H : Ok D b g σ) : Ok D b g σ' := by
  refine ⟨H.toTab.of_eq fun k hk => h k (by cases k <;> first | rfl | cases hk), ?_, ?_, ?_, ?_⟩
  · rw [h .x rfl]; exact H.x
  · rw [h .hc rfl]; exact H.hc
  · rw [h .hs rfl]; exact H.hs
  · rw [h .dd rfl]; exact H.dd

theorem Ok.step {m : Piece nD τ Ideal Λ mr α} (hm : Writes wrStep m) (H : Ok D b g σ) : Ok D b g (m.run σ).2 := H.of_eq (hm.keeps σ)

section Words

variable (j : Fin 16) (H : Ok D b g σ)
include H

theorem ld_dd : ((ldw (nD := nD) (τ := τ) (F := Ideal) (Λ := Λ) mr .dd ![hIx g j] S1.size (in_d g j) numel1_S1).run σ).1 = D.d (hh g j) :=
  (ldw_at (k := .dd) (ix1 (hh g j)) (fun a => by fin_cases a; exact (hIx_eq g j).symm) (fun a => by fin_cases a; rfl)).trans (H.dd _)
theorem ld_hs : ((ldw (nD := nD) (τ := τ) (F := Ideal) (Λ := Λ) mr .hs ![bIx b, hIx g j] S1x1.size (in_hs b g j) numel1_S1x1).run σ).1 = D.s b (hh g j) :=
  (ldw_at (k := .hs) (off := ![bIx b, hIx g j]) (ix2 b (hh g j)) (lit2 (bIx_eq b).symm (hIx_eq g j).symm) (lit2 rfl rfl)).trans (H.hs _)

end Words

section Weights

variable (hD : D.Tame) (H : Ok D b g σ) (j : Fin 16)
include hD H

/-- A weight: the product with the step size folded in. -/
theorem w0_val (s l : Fin 256) :
    D.cb b (p0 s) (p0 l) * Ideal.exp2 (D.cs0 b (hh g j) l * Data.L2 - (D.cs0 b (hh g j) s * Data.L2 - Ideal.log (D.dt' b (hh g j) (p0 s)) * Data.L2))
      = D.cb b (p0 s) (p0 l) * (Ideal.exp (D.cs0 b (hh g j) l - D.cs0 b (hh g j) s) * D.dt' b (hh g j) (p0 s)) := by
  obtain ⟨c, hc⟩ := hD.cs0 b (hh g j) l
  obtain ⟨c', hc'⟩ := hD.cs0 b (hh g j) s
  obtain ⟨t, ht, ht'⟩ := hD.dt' b (hh g j) (p0 s)
  rw [hc, hc', ht', Data.exp2_fold c c' ht]
theorem w1_val (s l : Fin 128) :
    D.cb b (p1 s) (p1 l) * Ideal.exp2 (D.cs1 b (hh g j) l * Data.L2 - (D.cs1 b (hh g j) s * Data.L2 - Ideal.log (D.dt' b (hh g j) (p1 s)) * Data.L2))
      = D.cb b (p1 s) (p1 l) * (Ideal.exp (D.cs1 b (hh g j) l - D.cs1 b (hh g j) s) * D.dt' b (hh g j) (p1 s)) := by
  obtain ⟨c, hc⟩ := hD.cs1 b (hh g j) l
  obtain ⟨c', hc'⟩ := hD.cs1 b (hh g j) s
  obtain ⟨t, ht, ht'⟩ := hD.dt' b (hh g j) (p1 s)
  rw [hc, hc', ht', Data.exp2_fold c c' ht]

/-- The positions of the first chunk's two tiles. -/
abbrev ta (l : Fin 128) : Fin 256 := ⟨l.val, by omega⟩
abbrev tb (l : Fin 128) : Fin 256 := ⟨128 + l.val, by omega⟩

theorem w1A_val (s l : Fin 128) : ((w1A (nD := nD) (τ := τ) (F := Ideal) (Λ := Λ) mr g maskV j).run σ).1 (ix2 s l) = D.w0 b (hh g j) (ta s) (ta l) := by
  unfold w1A
  simp only [run_bind, run_pure, run_ld]
  rw [causalV_apply, wV_apply]
  rw [ld_at (k := .bcol) (off := ![gIx g, 0, j.val]) (ix3 (0 : Fin 1) s (0 : Fin 1)) (ix3 g (p0 (ta s)) (ln j)) (lit3 (gIx_eq g).symm (Nat.zero_add _).symm rfl), H.bcol0]
  rw [ld_at (k := .cum) (off := ![gIx g, j.val, 0]) (ix3 (0 : Fin 1) (0 : Fin 1) l) (ix3 g j (p0 (ta l))) (lit3 (gIx_eq g).symm rfl (Nat.zero_add _).symm), H.cum0]
  rw [ld_at (k := .cbt) (ix2 s l) (ix2 (p0 (ta s)) (ta l)) (lit2 (Nat.zero_add _).symm (Nat.zero_add _).symm), H.cbt0]
  rw [w0_val hD H]
  rfl

theorem w3A_val (s l : Fin 128) : ((w3A (nD := nD) (τ := τ) (F := Ideal) (Λ := Λ) mr g maskV j).run σ).1 (ix2 s l) = D.w1 b (hh g j) s l := by
  unfold w3A
  simp only [run_bind, run_pure, run_ld]
  rw [causalV_apply, wV_apply]
  rw [ld_at (k := .bcol) (off := ![gIx g, 256, j.val]) (ix3 (0 : Fin 1) s (0 : Fin 1)) (ix3 g (p1 s) (ln j)) (lit3 (gIx_eq g).symm rfl rfl), H.bcol1]
  rw [ld_at (k := .cum) (off := ![gIx g, j.val, 256]) (ix3 (0 : Fin 1) (0 : Fin 1) l) (ix3 g j (p1 l)) (lit3 (gIx_eq g).symm rfl rfl), H.cum1]
  rw [ld_at (k := .cbt) (ix2 s l) (ix2 (p1 s) (⟨l.val, by omega⟩ : Fin 256)) (lit2 rfl (Nat.zero_add _).symm), H.cbt1]
  rw [w1_val hD H]
  rfl

theorem w2A_val (s l : Fin 256) : ((w2A (nD := nD) (τ := τ) (F := Ideal) (Λ := Λ) mr g maskV j).run σ).1 (ix2 s l) = D.w0 b (hh g j) s l := by
  unfold w2A
  simp only [run_bind, run_pure, run_ld]
  rw [w4V_apply]
  have hb0 : ∀ s : Fin 128, ((ld (nD := nD) (τ := τ) (F := Ideal) (Λ := Λ) mr .bcol ![gIx g, 0, j.val] S1x128x1.size (in_bcol g j 0 (by omega)) h_S1x128x1).run σ).1 (ix3 0 s 0)
      = D.cs0 b (hh g j) (ta s) * Data.L2 - Ideal.log (D.dt' b (hh g j) (p0 (ta s))) * Data.L2 := fun s =>
    (ld_at (k := .bcol) (off := ![gIx g, 0, j.val]) (ix3 (0 : Fin 1) s (0 : Fin 1)) (ix3 g (p0 (ta s)) (ln j)) (lit3 (gIx_eq g).symm (Nat.zero_add _).symm rfl)).trans (H.bcol0 ..)
  have hb1 : ∀ s : Fin 128, ((ld (nD := nD) (τ := τ) (F := Ideal) (Λ := Λ) mr .bcol ![gIx g, 128, j.val] S1x128x1.size (in_bcol g j 128 (by omega)) h_S1x128x1).run σ).1 (ix3 0 s 0)
      = D.cs0 b (hh g j) (tb s) * Data.L2 - Ideal.log (D.dt' b (hh g j) (p0 (tb s))) * Data.L2 := fun s =>
    (ld_at (k := .bcol) (off := ![gIx g, 128, j.val]) (ix3 (0 : Fin 1) s (0 : Fin 1)) (ix3 g (p0 (tb s)) (ln j)) (lit3 (gIx_eq g).symm rfl rfl)).trans (H.bcol0 ..)
  have hc0 : ∀ l : Fin 128, ((ld (nD := nD) (τ := τ) (F := Ideal) (Λ := Λ) mr .cum ![gIx g, j.val, 0] S1x1x128.size (in_row g j 0 128 (by omega)) h_S1x1x128).run σ).1 (ix3 0 0 l)
      = D.cs0 b (hh g j) (ta l) * Data.L2 := fun l =>
    (ld_at (k := .cum) (off := ![gIx g, j.val, 0]) (ix3 (0 : Fin 1) (0 : Fin 1) l) (ix3 g j (p0 (ta l))) (lit3 (gIx_eq g).symm rfl (Nat.zero_add _).symm)).trans (H.cum0 ..)
  have hc1 : ∀ l : Fin 128, ((ld (nD := nD) (τ := τ) (F := Ideal) (Λ := Λ) mr .cum ![gIx g, j.val, 128] S1x1x128.size (in_row g j 128 128 (by omega)) h_S1x1x128).run σ).1 (ix3 0 0 l)
      = D.cs0 b (hh g j) (tb l) * Data.L2 := fun l =>
    (ld_at (k := .cum) (off := ![gIx g, j.val, 128]) (ix3 (0 : Fin 1) (0 : Fin 1) l) (ix3 g j (p0 (tb l))) (lit3 (gIx_eq g).symm rfl rfl)).trans (H.cum0 ..)
  have le : ∀ s l : Fin 256, D.w0 b (hh g j) s l = if s.val ≤ l.val then D.cb b (p0 s) (p0 l) * Ideal.exp2 (D.cs0 b (hh g j) l * Data.L2 - (D.cs0 b (hh g j) s * Data.L2 - Ideal.log (D.dt' b (hh g j) (p0 s)) * Data.L2)) else 0 := by
    intro s l; rw [w0_val hD H]; rfl
  by_cases hs : s.val < 128 <;> by_cases hl : l.val < 128
  · obtain ⟨s', rfl⟩ : ∃ s', s = ta s' := ⟨⟨s.val, hs⟩, rfl⟩
    obtain ⟨l', rfl⟩ : ∃ l', l = ta l' := ⟨⟨l.val, hl⟩, rfl⟩
    rw [dif_pos hs, dif_pos hl, causalV_apply, wV_apply, hb0, hc0,
      ld_at (k := .cbt) (ix2 s' l') (ix2 (p0 (ta s')) (ta l')) (lit2 (Nat.zero_add _).symm (Nat.zero_add _).symm), H.cbt0, le]
    rfl
  · obtain ⟨s', rfl⟩ : ∃ s', s = ta s' := ⟨⟨s.val, hs⟩, rfl⟩
    obtain ⟨l', rfl⟩ : ∃ l', l = tb l' := ⟨⟨l.val - 128, by omega⟩, Fin.ext (by show l.val = 128 + (l.val - 128); omega)⟩
    have e : (⟨(tb l').val - 128, by omega⟩ : Fin 128) = l' := Fin.ext (by show 128 + l'.val - 128 = l'.val; omega)
    rw [dif_pos hs, dif_neg hl, e, wV_apply, hb0, hc1,
      ld_at (k := .cbt) (ix2 s' l') (ix2 (p0 (ta s')) (tb l')) (lit2 (Nat.zero_add _).symm rfl), H.cbt0, le,
      if_pos (show (ta s').val ≤ (tb l').val by show s'.val ≤ 128 + l'.val; omega)]
  · obtain ⟨l', rfl⟩ : ∃ l', l = ta l' := ⟨⟨l.val, hl⟩, rfl⟩
    rw [dif_neg hs, dif_pos hl, le, if_neg (by omega)]
  · obtain ⟨s', rfl⟩ : ∃ s', s = tb s' := ⟨⟨s.val - 128, by omega⟩, Fin.ext (by show s.val = 128 + (s.val - 128); omega)⟩
    obtain ⟨l', rfl⟩ : ∃ l', l = tb l' := ⟨⟨l.val - 128, by omega⟩, Fin.ext (by show l.val = 128 + (l.val - 128); omega)⟩
    have e : (⟨(tb l').val - 128, by omega⟩ : Fin 128) = l' := Fin.ext (by show 128 + l'.val - 128 = l'.val; omega)
    have e' : (⟨(tb s').val - 128, by omega⟩ : Fin 128) = s' := Fin.ext (by show 128 + s'.val - 128 = s'.val; omega)
    rw [dif_neg hs, dif_neg hl, e, e', causalV_apply, wV_apply, hb1, hc1,
      ld_at (k := .cbt) (ix2 s' l') (ix2 (p0 (tb s')) (tb l')) (lit2 rfl rfl), H.cbt0, le]
    have : (s' ≤ l') = ((tb s').val ≤ (tb l').val) := propext ⟨fun h => by show 128 + s'.val ≤ 128 + l'.val; have : s'.val ≤ l'.val := h; omega,
      fun h => by have : 128 + s'.val ≤ 128 + l'.val := h; show s'.val ≤ l'.val; omega⟩
    simp only [this]

end Weights

section Inputs

variable (H : Ok D b g σ) (j : Fin 16)
include H

theorem x128A_val (hn : (D.n b).toNat ≤ 128) (p : Fin 64) (l : Fin 128) :
    ((x128A (nD := nD) (τ := τ) (F := Ideal) (Λ := Λ) mr hw g (liveV (D.n b) 0#32) j).run σ).1 (ix2 p l) = D.x' b (hh g j) p (p0 (ta l)) := by
  unfold x128A
  simp only [run_bind, run_pure, run_ld]
  rw [x128V_apply, liveV_apply, BitVec.add_zero, lt_iff_word (by omega) (by omega),
    ld_at (k := .x) (ix4 0 0 p l) (ix4 0 j p (p0 (ta l))) (lit4 rfl rfl (Nat.zero_add _).symm (Nat.zero_add _).symm), H.x]
  unfold Data.x' Data.live
  by_cases h : l.val < (D.n b).toNat <;> simp [h]

theorem x256A_val (h1 : 128 < (D.n b).toNat) (hn : (D.n b).toNat ≤ 256) (p : Fin 64) (l : Fin 256) :
    ((x256A (nD := nD) (τ := τ) (F := Ideal) (Λ := Λ) mr hw g (liveV (D.n b) 128#32) j).run σ).1 (ix2 p l) = D.x' b (hh g j) p (p0 l) := by
  unfold x256A
  simp only [run_bind, run_pure, run_ld]
  rw [x256V_apply, ld_at (k := .x) (ix4 0 0 p l) (ix4 0 j p (p0 l)) (lit4 rfl rfl (Nat.zero_add _).symm (Nat.zero_add _).symm), H.x]
  unfold Data.x'
  by_cases hl : l.val < 128
  · rw [dif_pos hl, if_pos (show D.live b _ from show l.val < _ by omega)]
  · rw [dif_neg hl, liveV_apply]
    have e : BitVec.ofNat 32 (l.val - 128) + 128#32 = BitVec.ofNat 32 l.val := by rw [← BitVec.ofNat_add]; congr 1; omega
    rw [e, lt_iff_word (by omega) (by omega)]
    unfold Data.live
    by_cases h : l.val < (D.n b).toNat <;> simp [h]

theorem x384A_val (h1 : 256 < (D.n b).toNat) (hn : (D.n b).toNat ≤ 384) (p : Fin 64) (l : Fin 384) :
    ((x384A (nD := nD) (τ := τ) (F := Ideal) (Λ := Λ) mr hw g (liveV (D.n b) 256#32) j).run σ).1 (ix2 p l) = D.x' b (hh g j) p l := by
  unfold x384A
  simp only [run_bind, run_pure, run_ld]
  rw [x384V_apply, ld_at (k := .x) (ix4 0 0 p l) (ix4 0 j p l) (lit4 rfl rfl (Nat.zero_add _).symm (Nat.zero_add _).symm), H.x]
  unfold Data.x'
  by_cases hl : l.val < 256
  · rw [dif_pos hl, if_pos (show D.live b _ from show l.val < _ by omega)]
  · rw [dif_neg hl, liveV_apply]
    have e : BitVec.ofNat 32 (l.val - 256) + 256#32 = BitVec.ofNat 32 l.val := by rw [← BitVec.ofNat_add]; congr 1; omega
    rw [e, lt_iff_word (by omega) (by omega)]
    unfold Data.live
    by_cases h : l.val < (D.n b).toNat <;> simp [h]

end Inputs

end Cert.Ssd

end
-- ==== Proof.Dead.lean ====
/-
  Past a sequence's end every output is zero, whatever the decays are.
-/
module

public import proofs.«01_k».proof.Proof.Spec

@[expose] public section

noncomputable section

namespace Cert.Ssd.Data

open Idealize.ShloMosaic

variable (D : Data) (b : Fin 5) (h : Fin 48) (p : Fin 64)

theorem C'_dead {l : Fin 384} (hl : ¬ D.live b l) (n : Fin 128) : D.C' b l n = 0 := if_neg hl
theorem x'_dead {l : Fin 384} (hl : ¬ D.live b l) : D.x' b h p l = 0 := if_neg hl
theorem cb_dead (s : Fin 384) {l : Fin 384} (hl : ¬ D.live b l) : D.cb b s l = 0 := by
  unfold cb; simp only [D.C'_dead b hl, mul_zero, Finset.sum_const_zero]
theorem e0_dead {l : Fin 384} (hl : ¬ D.live b l) : D.e0 b h p l = 0 := by
  unfold e0; simp only [D.C'_dead b hl, mul_zero, Finset.sum_const_zero]
theorem e1_dead {l : Fin 128} (hl : ¬ D.live b (p1 l)) : D.e1 b h p l = 0 := by
  unfold e1; simp only [D.C'_dead b hl, mul_zero, Finset.sum_const_zero]
theorem y0_dead {l : Fin 256} (hl : ¬ D.live b (p0 l)) : D.y0 b h p l = 0 := by
  unfold y0 w0
  simp only [D.cb_dead b _ hl, D.e0_dead b h p hl, D.x'_dead b h p hl, zero_mul, mul_zero, ite_self, Finset.sum_const_zero, add_zero]
theorem y1_dead {l : Fin 128} (hl : ¬ D.live b (p1 l)) : D.y1 b h p l = 0 := by
  unfold y1 w1
  simp only [D.cb_dead b _ hl, D.e1_dead b h p hl, D.x'_dead b h p hl, zero_mul, mul_zero, ite_self, Finset.sum_const_zero, add_zero]

theorem y_dead {l : Fin 384} (hl : ¬ D.live b l) : D.y b h p l = 0 := by
  unfold y
  split
  · exact D.y0_dead b h p hl
  · rename_i h'
    refine D.y1_dead b h p ?_
    rw [show (p1 ⟨l.val - 256, by omega⟩ : Fin 384) = l from Fin.ext (by show 256 + (l.val - 256) = l.val; omega)]
    exact hl

/-- The outputs of the first chunk, and of the second. -/
theorem y_lo (l : Fin 256) : D.y b h p (p0 l) = D.y0 b h p l := dif_pos l.isLt
theorem y_hi (l : Fin 128) : D.y b h p (p1 l) = D.y1 b h p l := by
  unfold y
  rw [dif_neg (show ¬ (p1 l).val < 256 by show ¬ 256 + l.val < 256; omega)]
  congr 1
  exact Fin.ext (by show 256 + l.val - 256 = l.val; omega)

/-- A sequence that ends in the first chunk leaves the state as that chunk made it. -/
theorem fin_short (hn : (D.n b).toNat ≤ 256) (n : Fin 128) : D.fin b h p n = D.st b h p n := by
  have hl : ∀ l : Fin 128, ¬ D.live b (p1 l) := fun l hl => by
    have : 256 + l.val < (D.n b).toNat := hl
    omega
  have hc : D.cs1 b h 127 = 0 := by
    unfold cs1 dt'
    simp only [hl, if_false, zero_mul, ite_self, Finset.sum_const_zero]
  unfold fin
  simp only [hc, D.x'_dead b h p (hl _), zero_mul, Finset.sum_const_zero, add_zero]
  rw [show Ideal.exp 0 = 1 from by show ((Real.exp 0 : ℝ) : EReal) = 1; rw [Real.exp_zero]; rfl, one_mul]
/-- One that ends in the first tile is fed by that tile alone. -/
theorem feed_short (hn : (D.n b).toNat ≤ 128) (n : Fin 128) :
    ∑ s : Fin 256, D.x' b h p (p0 s) * D.dw b h s * D.B' b (p0 s) n
      = ∑ s : Fin 128, D.x' b h p (p0 ⟨s.val, by omega⟩) * D.dw b h ⟨s.val, by omega⟩ * D.B' b (p0 ⟨s.val, by omega⟩) n := by
  have e := Fin.sum_univ_add (a := 128) (b := 128) (M := EReal) fun s => D.x' b h p (p0 s) * D.dw b h s * D.B' b (p0 s) n
  refine e.trans ?_
  have z : ∀ s : Fin 128, D.x' b h p (p0 (Fin.natAdd 128 s)) * D.dw b h (Fin.natAdd 128 s) * D.B' b (p0 (Fin.natAdd 128 s)) n = 0 := fun s => by
    have : ¬ D.live b (p0 (Fin.natAdd 128 s)) := fun hl => by
      have : 128 + s.val < (D.n b).toNat := hl
      omega
    rw [D.x'_dead b h p this, zero_mul, zero_mul]
  rw [Finset.sum_congr rfl fun s _ => z s, Finset.sum_const_zero, add_zero]
  rfl

/-- Positions of the first tile see none of the second. -/
theorem sum_half (l : Fin 128) (f : Fin 256 → EReal) :
    ∑ s : Fin 256, f s * D.w0 b h s ⟨l.val, by omega⟩ = ∑ s : Fin 128, f ⟨s.val, by omega⟩ * D.w0 b h ⟨s.val, by omega⟩ ⟨l.val, by omega⟩ := by
  have e := Fin.sum_univ_add (a := 128) (b := 128) (M := EReal) fun s => f s * D.w0 b h s ⟨l.val, by omega⟩
  refine e.trans ?_
  have z : ∀ s : Fin 128, f (Fin.natAdd 128 s) * D.w0 b h (Fin.natAdd 128 s) ⟨l.val, by omega⟩ = 0 := fun s => by
    have : ¬ (Fin.natAdd 128 s : Fin 256) ≤ ⟨l.val, by omega⟩ := fun hle => by
      have : 128 + s.val ≤ l.val := hle
      omega
    unfold w0
    rw [if_neg this, mul_zero]
  rw [Finset.sum_congr rfl fun s _ => z s, Finset.sum_const_zero, add_zero]
  rfl

end Cert.Ssd.Data

end
-- ==== Proof.Group.lean ====
/-
  Four heads of a step: their outputs, in each of the three cases of live tiles.
-/
module

public import proofs.«01_k».proof.Proof.Parts
public import proofs.«01_k».proof.Proof.Dead

@[expose] public section

set_option maxRecDepth 16384

noncomputable section

namespace Cert.Ssd

open Idealize.ShloMosaic Idealize.ShloMosaic.TcCoe Idealize.SL.Sem
open Cert.Kernel hiding Facts Facts₀
open Cert.Kernel.Gen

variable {nD : Nat} {τ : Topo} {sig : RefSig} {Λ : Labels} {mr : Mems fam sig} {hw : ∀ k, (mr k).IsWhole} {α β : Type}

/-! ## Which buffers the parts write -/

/-- The entry's. -/
def wrE : Buf → Bool
  | .e => true
  | _ => false
/-- The weighted inputs'. -/
def wrX : Buf → Bool
  | .xw => true
  | _ => false
/-- The states' and the codes'. -/
def wrQ : Buf → Bool
  | .st | .sb | .fc | .fs => true
  | _ => false
/-- The states' alone. -/
def wrS : Buf → Bool
  | .st => true
  | _ => false
/-- The outputs'. -/
def wrY : Buf → Bool
  | .y => true
  | _ => false

theorem wrE_step {k : Buf} (h : wrStep k = false) : wrE k = false := by cases k <;> first | rfl | cases h
theorem wrX_step {k : Buf} (h : wrStep k = false) : wrX k = false := by cases k <;> first | rfl | cases h
theorem wrQ_step {k : Buf} (h : wrStep k = false) : wrQ k = false := by cases k <;> first | rfl | cases h
theorem wrY_step {k : Buf} (h : wrStep k = false) : wrY k = false := by cases k <;> first | rfl | cases h

section Writes

variable (mr hw) (b : Fin 5) (g : Fin 3) (q : Fin 4)

theorem entry128A_wr : Writes wrE (entry128A (nD := nD) (τ := τ) (F := Ideal) (Λ := Λ) mr q) := .bind .ld fun _ => .bind .ld fun _ => .over32 rfl
theorem entry256A_wr : Writes wrE (entry256A (nD := nD) (τ := τ) (F := Ideal) (Λ := Λ) mr q) := .bind .ld fun _ => .bind .ld fun _ => .over32 rfl
theorem entryLastA_wr : Writes wrE (entryLastA (nD := nD) (τ := τ) (F := Ideal) (Λ := Λ) mr q) := .bind .ld fun _ => .bind .ld fun _ => .over32 rfl
theorem x128A_wr (live : IVec S64x128 1) (j : Fin 16) : Writes wrX (x128A (nD := nD) (τ := τ) (F := Ideal) (Λ := Λ) mr hw g live j) :=
  .bind .ld fun _ => .bind .ld fun _ => .bind (.overp rfl) fun _ => .pure _
theorem x256A_wr (live : IVec S64x128 1) (j : Fin 16) : Writes wrX (x256A (nD := nD) (τ := τ) (F := Ideal) (Λ := Λ) mr hw g live j) :=
  .bind .ld fun _ => .bind .ld fun _ => .bind (.overp rfl) fun _ => .pure _
theorem x384A_wr (live : IVec S64x128 1) (j : Fin 16) : Writes wrX (x384A (nD := nD) (τ := τ) (F := Ideal) (Λ := Λ) mr hw g live j) :=
  .bind .ld fun _ => .bind .ld fun _ => .bind (.overp rfl) fun _ => .pure _
theorem state0A_wr (u : FVec Ideal S256x128 .f32) (i : Fin 4) : Writes wrQ (state0A (nD := nD) (τ := τ) (F := Ideal) (Λ := Λ) mr b g q u i) :=
  .bind .ld fun _ => .bind .ldw fun _ => .bind .ld fun _ => .bind (.over32 rfl) fun _ => .pure _
theorem state0A_st (u : FVec Ideal S256x128 .f32) (i : Fin 4) : Writes wrS (state0A (nD := nD) (τ := τ) (F := Ideal) (Λ := Λ) mr b g q u i) :=
  .bind .ld fun _ => .bind .ldw fun _ => .bind .ld fun _ => .bind (.over32 rfl) fun _ => .pure _
theorem state1A_st (u : FVec Ideal S256x128 .f32) (i : Fin 4) : Writes wrS (state1A (nD := nD) (τ := τ) (F := Ideal) (Λ := Λ) mr g q u i) :=
  .bind .ld fun _ => .bind .ld fun _ => .over32 rfl
theorem state0sA_wr (u : FVec Ideal S256x128 .f32) (i : Fin 4) : Writes wrQ (state0sA (nD := nD) (τ := τ) (F := Ideal) (Λ := Λ) mr hw b g q u i) :=
  .bind (state0A_wr mr b g q u i) fun _ => .overp rfl
theorem state1A_wr (u : FVec Ideal S256x128 .f32) (i : Fin 4) : Writes wrQ (state1A (nD := nD) (τ := τ) (F := Ideal) (Λ := Λ) mr g q u i) :=
  .bind .ld fun _ => .bind .ld fun _ => .over32 rfl
theorem quantA_wr (j : Fin 16) : Writes wrQ (quantA (nD := nD) (τ := τ) (F := Ideal) (Λ := Λ) mr hw b g j) :=
  .bind .ld fun _ => .bind (.overp rfl) fun _ => .bind .ld fun _ => .over32 rfl
theorem y128A_wr (x : FVec Ideal S64x128 .bf16) (wt : FVec Ideal S128x128 .bf16) (j : Fin 16) :
    Writes wrY (y128A (nD := nD) (τ := τ) (F := Ideal) (Λ := Λ) mr hw b g x wt j) :=
  .bind .ldw fun _ => .bind .ld fun _ => .bind .ldw fun _ => .bind .ld fun _ => .bind (.overp rfl) fun _ => .pure _
theorem y256A_wr (x : FVec Ideal S64x256 .bf16) (wt : FVec Ideal S256x256 .bf16) (j : Fin 16) :
    Writes wrY (y256A (nD := nD) (τ := τ) (F := Ideal) (Λ := Λ) mr hw b g x wt j) :=
  .bind .ldw fun _ => .bind .ld fun _ => .bind .ldw fun _ => .bind .ld fun _ => .bind (.overp rfl) fun _ => .pure _
theorem yLastA_wr (x : FVec Ideal S64x128 .bf16) (wt : FVec Ideal S128x128 .bf16) (d : Elt Ideal .f32) (j : Fin 16) :
    Writes wrY (yLastA (nD := nD) (τ := τ) (F := Ideal) (Λ := Λ) mr hw g x wt d j) :=
  .bind .ld fun _ => .bind .ld fun _ => .overp rfl

end Writes

/-! ## Products -/

theorem mm128 (a : FVec Ideal S256x128 .bf16) (c : FVec Ideal S128x128 .bf16) (r : Fin 256) (l : Fin 128) :
    matmul (F := Ideal) dot_S256x128_S128x128_S256x128_1_0_0_1_n_n none a c (constant S256x128 .f32 0x00000000#32) (ix2 r l)
      = ∑ n : Fin 128, a (ix2 r n) * c (ix2 n l) := by
  pointwise []
theorem mm128c (a : FVec Ideal S256x128 .bf16) (c : FVec Ideal S128x128 .bf16) (r : Fin 256) (l : Fin 128) :
    shapeCast S256x128 (matmul (F := Ideal) dot_S256x128_S128x128_S256x128_1_0_0_1_n_n none a c (constant S256x128 .f32 0x00000000#32)) shapeCasts_S256x128_S256x128 (ix2 r l)
      = ∑ n : Fin 128, a (ix2 r n) * c (ix2 n l) := by
  pointwise []
theorem mm256c (a : FVec Ideal S256x128 .bf16) (c : FVec Ideal S128x256 .bf16) (r : Fin 256) (l : Fin 256) :
    shapeCast S256x256 (matmul (F := Ideal) dot_S256x128_S128x256_S256x256_1_0_0_1_n_n none a c (constant S256x256 .f32 0x00000000#32)) shapeCasts_S256x256_S256x256 (ix2 r l)
      = ∑ n : Fin 128, a (ix2 r n) * c (ix2 n l) := by
  pointwise []
theorem mmfeed (a : FVec Ideal S256x256 .bf16) (c : FVec Ideal S256x128 .bf16) (r : Fin 256) (n : Fin 128) :
    matmul (F := Ideal) dot_S256x256_S256x128_S256x128_1_0_0_1_n_n none a c (constant S256x128 .f32 0x00000000#32) (ix2 r n)
      = ∑ s : Fin 256, a (ix2 r s) * c (ix2 s n) := by
  pointwise []

/-- Channel `p` of head `j`, of channel rows of all heads. -/
abbrev rr (j : Fin 16) (p : Fin 64) : Fin 1024 := ⟨64 * j.val + p.val, by omega⟩
/-- The same among the rows of a group. -/
abbrev rg (i : Fin 4) (p : Fin 64) : Fin 256 := ⟨64 * i.val + p.val, by omega⟩

theorem rr_rg (q i : Fin 4) (p : Fin 64) : (rr (hd q i) p).val = 256 * q.val + (rg i p).val := by
  show 64 * (4 * q.val + i.val) + p.val = 256 * q.val + (64 * i.val + p.val); omega

variable {D : Data} {b : Fin 5} {g : Fin 3} {q : Fin 4} {σ σ' : St fam Ideal}

/-- The entry of a group's heads, over the first `W` positions. -/
def E0 (D : Data) (b : Fin 5) (g : Fin 3) (q : Fin 4) (W : Nat) (σ : St fam Ideal) : Prop :=
  ∀ i p (l : Fin 384), l.val < W → (σ .e : FVec Ideal S1024x384 .f32) (ix2 (rr (hd q i) p) l) = D.e0 b (hh g (hd q i)) p l
/-- The second chunk's. -/
def E1 (D : Data) (b : Fin 5) (g : Fin 3) (q : Fin 4) (σ : St fam Ideal) : Prop :=
  ∀ i p (l : Fin 128), (σ .e : FVec Ideal S1024x384 .f32) (ix2 (rr (hd q i) p) (p1 l)) = D.e1 b (hh g (hd q i)) p l
/-- The outputs of head `j`. -/
def Y (D : Data) (b : Fin 5) (g : Fin 3) (j : Fin 16) (σ : St fam Ideal) : Prop :=
  ∀ p l, (σ .y : FVec Ideal S1x16x64x384 .bf16) (ix4 0 j p l) = D.y b (hh g j) p l

theorem E0.of_eq {W : Nat} (h : σ' .e = σ .e) (H : E0 D b g q W σ) : E0 D b g q W σ' := fun i p l hl => by rw [h]; exact H i p l hl
theorem E1.of_eq (h : σ' .e = σ .e) (H : E1 D b g q σ) : E1 D b g q σ' := fun i p l => by rw [h]; exact H i p l

section Entry

variable (H : Ok D b g σ)
include H

theorem codes_at (i : Fin 4) (p : Fin 64) (n : Fin 128) :
    codesV (F := Ideal) ((ld (nD := nD) (τ := τ) (F := Ideal) (Λ := Λ) mr .hc ![0, 4 * q.val, 0, 0] S1x4x64x128.size (in_group q) h_S1x4x64x128).run σ).1 (ix2 (rg i p) n)
      = D.c b (hh g (hd q i)) p n := by
  rw [codesV_apply, ld_at (k := .hc) (off := ![0, 4 * q.val, 0, 0]) (ix4 (0 : Fin 1) i p n) (ix4 0 (hd q i) p n)
    (lit4 rfl rfl (Nat.zero_add _).symm (Nat.zero_add _).symm), H.hc]

theorem entry128A_val : E0 D b g q 128 ((entry128A (nD := nD) (τ := τ) (F := Ideal) (Λ := Λ) mr q).run σ).2 := by
  intro i p l hl
  unfold entry128A
  simp only [run_bind, run_ld]
  rw [over32_in (k := .e) (off := ![256 * q.val, 0]) (ix2 (rr (hd q i) p) l) (ix2 (rg i p) (⟨l.val, hl⟩ : Fin 128)) (lit2 (rr_rg q i p) (Nat.zero_add _).symm), mm128c]
  unfold Data.e0
  refine Finset.sum_congr rfl fun n _ => ?_
  rw [codes_at H, ld_at (k := .ct) (off := ![0, 0]) (ix2 n (⟨l.val, hl⟩ : Fin 128)) (ix2 n l) (lit2 (Nat.zero_add _).symm (Nat.zero_add _).symm), H.ct]

theorem entry256A_val : E0 D b g q 256 ((entry256A (nD := nD) (τ := τ) (F := Ideal) (Λ := Λ) mr q).run σ).2 := by
  intro i p l hl
  unfold entry256A
  simp only [run_bind, run_ld]
  rw [over32_in (k := .e) (off := ![256 * q.val, 0]) (ix2 (rr (hd q i) p) l) (ix2 (rg i p) (⟨l.val, hl⟩ : Fin 256)) (lit2 (rr_rg q i p) (Nat.zero_add _).symm), mm256c]
  unfold Data.e0
  refine Finset.sum_congr rfl fun n _ => ?_
  rw [codes_at H, ld_at (k := .ct) (off := ![0, 0]) (ix2 n (⟨l.val, hl⟩ : Fin 256)) (ix2 n l) (lit2 (Nat.zero_add _).symm (Nat.zero_add _).symm), H.ct]

/-- The states kept in bf16, of a group's heads. -/
def SB (D : Data) (b : Fin 5) (g : Fin 3) (j : Fin 16) (σ : St fam Ideal) : Prop :=
  ∀ p n, (σ .sb : FVec Ideal S1024x128 .bf16) (ix2 (rr j p) n) = D.st b (hh g j) p n
/-- The weighted inputs of head `j`. -/
def XW (D : Data) (b : Fin 5) (g : Fin 3) (j : Fin 16) (σ : St fam Ideal) : Prop :=
  ∀ p (l : Fin 256), (σ .xw : FVec Ideal S1024x384 .bf16) (ix2 (rr j p) (p0 l)) = D.x' b (hh g j) p (p0 l) * D.dw b (hh g j) l

theorem entryLastA_val (hs : ∀ i, SB D b g (hd q i) σ) : E1 D b g q ((entryLastA (nD := nD) (τ := τ) (F := Ideal) (Λ := Λ) mr q).run σ).2 := by
  intro i p l
  unfold entryLastA
  simp only [run_bind, run_ld]
  rw [over32_in (k := .e) (off := ![256 * q.val, 256]) (ix2 (rr (hd q i) p) (p1 l)) (ix2 (rg i p) l) (lit2 (rr_rg q i p) rfl), mm128c]
  unfold Data.e1
  refine Finset.sum_congr rfl fun n _ => ?_
  rw [ld_at (k := .sb) (off := ![256 * q.val, 0]) (ix2 (rg i p) n) (ix2 (rr (hd q i) p) n) (lit2 (rr_rg q i p) (Nat.zero_add _).symm), hs i]
  rw [ld_at (k := .ct) (off := ![0, 256]) (ix2 n l) (ix2 n (p1 l)) (lit2 (Nat.zero_add _).symm rfl), H.ct]

omit H in
theorem entryLastA_keeps (he : E0 D b g q 256 σ) : E0 D b g q 256 ((entryLastA (nD := nD) (τ := τ) (F := Ideal) (Λ := Λ) mr q).run σ).2 := by
  intro i p l hl
  unfold entryLastA
  simp only [run_bind, run_ld]
  rw [over32_out (k := .e) (off := ![256 * q.val, 256]) (ix2 (rr (hd q i) p) l) (1 : Fin 2) (Or.inl hl)]
  exact he i p l hl

theorem feed256A_val (hx : ∀ i, XW D b g (hd q i) σ) (i : Fin 4) (p : Fin 64) (n : Fin 128) :
    ((feed256A (nD := nD) (τ := τ) (F := Ideal) (Λ := Λ) mr q).run σ).1 (ix2 (rg i p) n)
      = ∑ s : Fin 256, D.x' b (hh g (hd q i)) p (p0 s) * D.dw b (hh g (hd q i)) s * D.B' b (p0 s) n := by
  unfold feed256A
  simp only [run_bind, run_ld, run_pure]
  rw [mmfeed]
  refine Finset.sum_congr rfl fun s _ => ?_
  rw [ld_at (k := .xw) (off := ![256 * q.val, 0]) (ix2 (rg i p) s) (ix2 (rr (hd q i) p) (p0 s)) (lit2 (rr_rg q i p) (Nat.zero_add _).symm), hx i]
  rw [ld_at (k := .bm) (off := ![0, 0]) (ix2 s n) (ix2 (p0 s) n) (lit2 (Nat.zero_add _).symm (Nat.zero_add _).symm), H.bm]

theorem x384A_xw (hn1 : 256 < (D.n b).toNat) (hn : (D.n b).toNat ≤ 384) (j : Fin 16) :
    XW D b g j ((x384A (nD := nD) (τ := τ) (F := Ideal) (Λ := Λ) mr hw g (liveV (D.n b) 256#32) j).run σ).2 := by
  intro p l
  have hv := x384A_val (nD := nD) (τ := τ) (Λ := Λ) (mr := mr) (hw := hw) H j hn1 hn p (p0 l)
  unfold x384A at hv ⊢
  simp only [run_bind, run_ld, run_pure] at hv ⊢
  rw [overp_in (k := .xw) (off := ![64 * j.val, 0]) (ix2 (rr j p) (p0 l)) (ix2 p (p0 l)) (lit2 rfl (Nat.zero_add _).symm), xw384V_apply, hv]
  rw [ld_at (k := .dw) (off := ![gIx g, j.val, 0]) (ix3 (0 : Fin 1) (0 : Fin 1) (p0 l)) (ix3 g j (p0 l)) (lit3 (gIx_eq g).symm rfl (Nat.zero_add _).symm), H.dw]

omit H in
theorem x384A_keeps {live : IVec S64x128 1} {j j' : Fin 16} (hj : j ≠ j') (hx : XW D b g j σ) :
    XW D b g j ((x384A (nD := nD) (τ := τ) (F := Ideal) (Λ := Λ) mr hw g live j').run σ).2 := by
  intro p l
  unfold x384A
  simp only [run_bind, run_ld, run_pure]
  have hj' : j.val ≠ j'.val := fun h => hj (Fin.ext h)
  rw [overp_out (k := .xw) (off := ![64 * j'.val, 0]) (size := S64x384.size) (ix2 (rr j p) (p0 l)) (0 : Fin 2)
    (show 64 * j.val + p.val < 64 * j'.val ∨ 64 * j'.val + 64 ≤ 64 * j.val + p.val by omega)]
  exact hx p l

theorem state0A_val (u : FVec Ideal S256x128 .f32) (i : Fin 4) (hu : ∀ p n, u (ix2 (rg i p) n)
      = ∑ s : Fin 256, D.x' b (hh g (hd q i)) p (p0 s) * D.dw b (hh g (hd q i)) s * D.B' b (p0 s) n) (p : Fin 64) (n : Fin 128) :
    ((state0A (nD := nD) (τ := τ) (F := Ideal) (Λ := Λ) mr b g q u i).run σ).1 (ix2 p n) = D.st b (hh g (hd q i)) p n := by
  unfold state0A
  simp only [run_bind, run_ld, run_ldw, run_pure]
  rw [stepV_apply, entryV_apply, ld_hs (hd q i) H, hu]
  rw [ld_at (k := .hc) (off := ![0, (hd q i).val, 0, 0]) (ix4 (0 : Fin 1) (0 : Fin 1) p n) (ix4 0 (hd q i) p n)
    (lit4 rfl rfl (Nat.zero_add _).symm (Nat.zero_add _).symm), H.hc]
  rw [ld_at (k := .gd) (off := ![gIx g, 0, (hd q i).val, 0]) (ix4 (0 : Fin 1) (0 : Fin 1) (0 : Fin 1) n) (ix4 g (0 : Fin 2) (hd q i) n)
    (lit4 (gIx_eq g).symm rfl rfl (Nat.zero_add _).symm), H.gd]
  rfl

theorem state0sA_val (u : FVec Ideal S256x128 .f32) (i : Fin 4) (hu : ∀ p n, u (ix2 (rg i p) n)
      = ∑ s : Fin 256, D.x' b (hh g (hd q i)) p (p0 s) * D.dw b (hh g (hd q i)) s * D.B' b (p0 s) n) :
    SB D b g (hd q i) ((state0sA (nD := nD) (τ := τ) (F := Ideal) (Λ := Λ) mr hw b g q u i).run σ).2 := by
  intro p n
  unfold state0sA
  simp only [run_bind]
  rw [overp_in (k := .sb) (off := ![64 * (hd q i).val, 0]) (ix2 (rr (hd q i) p) n) (ix2 p n) (lit2 rfl (Nat.zero_add _).symm)]
  rw [← state0A_val (nD := nD) (τ := τ) (Λ := Λ) (mr := mr) H u i hu p n]
  pointwise []

omit H in
theorem state0sA_keeps {u : FVec Ideal S256x128 .f32} {i : Fin 4} {j : Fin 16} (hj : j ≠ hd q i) (hs : SB D b g j σ) :
    SB D b g j ((state0sA (nD := nD) (τ := τ) (F := Ideal) (Λ := Λ) mr hw b g q u i).run σ).2 := by
  intro p n
  unfold state0sA
  simp only [run_bind]
  have hj' : j.val ≠ (hd q i).val := fun h => hj (Fin.ext h)
  rw [overp_out (k := .sb) (off := ![64 * (hd q i).val, 0]) (size := S64x128.size) (ix2 (rr j p) n) (0 : Fin 2)
    (show 64 * j.val + p.val < 64 * (hd q i).val ∨ 64 * (hd q i).val + 64 ≤ 64 * j.val + p.val by omega)]
  rw [(state0A_st mr b g q u i).keeps σ .sb rfl]
  exact hs p n

end Entry

end Cert.Ssd

end
-- ==== Proof.GroupY.lean ====
/-
  The outputs of a head, and of the four heads of a group.
-/
module

public import proofs.«01_k».proof.Proof.Group

@[expose] public section

set_option maxRecDepth 16384

noncomputable section

namespace Cert.Ssd

open Idealize.ShloMosaic Idealize.ShloMosaic.TcCoe Idealize.SL.Sem
open Cert.Kernel hiding Facts Facts₀
open Cert.Kernel.Gen

variable {nD : Nat} {τ : Topo} {sig : RefSig} {Λ : Labels} {mr : Mems fam sig} {hw : ∀ k, (mr k).IsWhole} {α β : Type}
variable {D : Data} {b : Fin 5} {g : Fin 3} {q : Fin 4} {σ σ' : St fam Ideal}

/-- The outputs of head `j` up to position `W`. -/
def YW (D : Data) (b : Fin 5) (g : Fin 3) (j : Fin 16) (W : Nat) (σ : St fam Ideal) : Prop :=
  ∀ p (l : Fin 384), l.val < W → (σ .y : FVec Ideal S1x16x64x384 .bf16) (ix4 0 j p l) = D.y b (hh g j) p l

section Head

variable (H : Ok D b g σ) (i : Fin 4)
include H

theorem y128A_val (he : E0 D b g q 128 σ) (x : FVec Ideal S64x128 .bf16) (hx : ∀ p l, x (ix2 p l) = D.x' b (hh g (hd q i)) p (p0 (ta l)))
    (wt : FVec Ideal S128x128 .bf16) (hwt : ∀ s l, wt (ix2 s l) = D.w0 b (hh g (hd q i)) (ta s) (ta l)) :
    YW D b g (hd q i) 128 ((y128A (nD := nD) (τ := τ) (F := Ideal) (Λ := Λ) mr hw b g x wt (hd q i)).run σ).2 := by
  intro p l hl
  obtain ⟨l', rfl⟩ : ∃ l', l = p0 (ta l') := ⟨⟨l.val, hl⟩, rfl⟩
  unfold y128A
  simp only [run_bind, run_ld, run_ldw, run_pure]
  rw [overp_in (k := .y) (off := ![0, (hd q i).val, 0, 0]) (ix4 0 (hd q i) p (p0 (ta l'))) (ix4 (0 : Fin 1) (0 : Fin 1) p l')
    (lit4 rfl rfl (Nat.zero_add _).symm (Nat.zero_add _).symm)]
  rw [y128V_apply, er128V_apply, ld_dd (hd q i) H, ld_hs (hd q i) H]
  rw [ld_at (k := .ecs) (off := ![gIx g, (hd q i).val, 0]) (ix3 (0 : Fin 1) (0 : Fin 1) l') (ix3 g (hd q i) (p0 (ta l'))) (lit3 (gIx_eq g).symm rfl (Nat.zero_add _).symm), H.ecs0]
  rw [ld_at (k := .e) (off := ![64 * (hd q i).val, 0]) (ix2 p l') (ix2 (rr (hd q i) p) (p0 (ta l'))) (lit2 rfl (Nat.zero_add _).symm), he i p _ l'.isLt]
  rw [D.y_lo, hx]
  unfold Data.y0
  rw [D.sum_half b (hh g (hd q i)) l' fun s => D.x' b (hh g (hd q i)) p (p0 s)]
  simp only [hx, hwt]

theorem y256A_val (he : E0 D b g q 256 σ) (x : FVec Ideal S64x256 .bf16) (hx : ∀ p l, x (ix2 p l) = D.x' b (hh g (hd q i)) p (p0 l))
    (wt : FVec Ideal S256x256 .bf16) (hwt : ∀ s l, wt (ix2 s l) = D.w0 b (hh g (hd q i)) s l) :
    YW D b g (hd q i) 256 ((y256A (nD := nD) (τ := τ) (F := Ideal) (Λ := Λ) mr hw b g x wt (hd q i)).run σ).2 := by
  intro p l hl
  obtain ⟨l', rfl⟩ : ∃ l', l = p0 l' := ⟨⟨l.val, hl⟩, rfl⟩
  unfold y256A
  simp only [run_bind, run_ld, run_ldw, run_pure]
  rw [overp_in (k := .y) (off := ![0, (hd q i).val, 0, 0]) (ix4 0 (hd q i) p (p0 l')) (ix4 (0 : Fin 1) (0 : Fin 1) p l')
    (lit4 rfl rfl (Nat.zero_add _).symm (Nat.zero_add _).symm)]
  rw [y256V_apply, er256V_apply, ld_dd (hd q i) H, ld_hs (hd q i) H]
  rw [ld_at (k := .ecs) (off := ![gIx g, (hd q i).val, 0]) (ix3 (0 : Fin 1) (0 : Fin 1) l') (ix3 g (hd q i) (p0 l')) (lit3 (gIx_eq g).symm rfl (Nat.zero_add _).symm), H.ecs0]
  rw [ld_at (k := .e) (off := ![64 * (hd q i).val, 0]) (ix2 p l') (ix2 (rr (hd q i) p) (p0 l')) (lit2 rfl (Nat.zero_add _).symm), he i p _ l'.isLt]
  rw [D.y_lo, hx]
  unfold Data.y0
  simp only [hx, hwt]

omit H in
theorem y256A_d (H : Ok D b g σ) (x : FVec Ideal S64x256 .bf16) (wt : FVec Ideal S256x256 .bf16) :
    ((y256A (nD := nD) (τ := τ) (F := Ideal) (Λ := Λ) mr hw b g x wt (hd q i)).run σ).1 = D.d (hh g (hd q i)) := by
  unfold y256A
  simp only [run_bind, run_ld, run_ldw, run_pure]
  exact ld_dd (hd q i) H

theorem yLastA_val (he : E1 D b g q σ) (hy : YW D b g (hd q i) 256 σ) (x : FVec Ideal S64x128 .bf16) (hx : ∀ p l, x (ix2 p l) = D.x' b (hh g (hd q i)) p (p1 l))
    (wt : FVec Ideal S128x128 .bf16) (hwt : ∀ s l, wt (ix2 s l) = D.w1 b (hh g (hd q i)) s l) :
    Y D b g (hd q i) ((yLastA (nD := nD) (τ := τ) (F := Ideal) (Λ := Λ) mr hw g x wt (D.d (hh g (hd q i))) (hd q i)).run σ).2 := by
  intro p l
  unfold yLastA
  simp only [run_bind, run_ld, run_ldw, run_pure]
  by_cases hl : l.val < 256
  · rw [overp_out (k := .y) (off := ![0, (hd q i).val, 0, 256]) (ix4 0 (hd q i) p l) (3 : Fin 4) (Or.inl hl)]
    exact hy p l hl
  obtain ⟨l', rfl⟩ : ∃ l', l = p1 l' := ⟨⟨l.val - 256, by omega⟩, Fin.ext (by show l.val = 256 + (l.val - 256); omega)⟩
  rw [overp_in (k := .y) (off := ![0, (hd q i).val, 0, 256]) (ix4 0 (hd q i) p (p1 l')) (ix4 (0 : Fin 1) (0 : Fin 1) p l')
    (lit4 rfl rfl (Nat.zero_add _).symm rfl)]
  have er : shapeCast S1x128 ((ld (nD := nD) (τ := τ) (F := Ideal) (Λ := Λ) mr .ecs ![gIx g, (hd q i).val, 256] S1x1x128.size (in_row g (hd q i) 256 128 (by omega)) h_S1x1x128).run σ).1
      shapeCasts_S1x1x128_S1x128 (ix2 0 l') = Ideal.exp (D.cs1 b (hh g (hd q i)) l') := by
    have e : ∀ v : FVec Ideal S1x1x128 .f32, shapeCast S1x128 v shapeCasts_S1x1x128_S1x128 (ix2 0 l') = v (ix3 0 0 l') := fun v => by pointwise []
    rw [e]
    exact (ld_at (k := .ecs) (off := ![gIx g, (hd q i).val, 256]) (ix3 (0 : Fin 1) (0 : Fin 1) l') (ix3 g (hd q i) (p1 l')) (lit3 (gIx_eq g).symm rfl rfl)).trans (H.ecs1 ..)
  rw [y128V_apply, er]
  rw [ld_at (k := .e) (off := ![64 * (hd q i).val, 256]) (ix2 p l') (ix2 (rr (hd q i) p) (p1 l')) (lit2 rfl rfl), he i p]
  rw [D.y_hi, hx]
  unfold Data.y1
  simp only [hx, hwt]

end Head

/-! ## What the outputs of one head leave alone -/

/-- The outputs of the other heads. -/
abbrev others (j : Fin 16) : (fam.sh .y).Idx → Prop := fun i => ((i : S1x16x64x384.Idx) 1).val ≠ j.val

theorem leave_y {off size : Fin 4 → Nat} {inb h hp w hv hr} (j : Fin 16) (h1 : off 1 = j.val) (h2 : size 1 = 1) :
    Leave .y (others j) (overp (nD := nD) (τ := τ) (F := Ideal) (Λ := Λ) mr hw .y off size inb h hp w hv hr) :=
  ⟨fun σ i hi => overp_out (k := .y) i (1 : Fin 4) (by
    have hi' : ((i : S1x16x64x384.Idx) 1).val ≠ j.val := hi
    show ((i : S1x16x64x384.Idx) 1).val < off 1 ∨ off 1 + size 1 ≤ ((i : S1x16x64x384.Idx) 1).val
    rw [h1, h2]; omega)⟩

theorem y128A_leave (x : FVec Ideal S64x128 .bf16) (wt : FVec Ideal S128x128 .bf16) (j : Fin 16) :
    Leave .y (others j) (y128A (nD := nD) (τ := τ) (F := Ideal) (Λ := Λ) mr hw b g x wt j) :=
  .bind (.of_writes (wr := wrE) .ldw rfl) fun _ => .bind (.of_writes (wr := wrE) .ld rfl) fun _ => .bind (.of_writes (wr := wrE) .ldw rfl) fun _ =>
    .bind (.of_writes (wr := wrE) .ld rfl) fun _ => .bind (leave_y j rfl rfl) fun _ => .pure _
theorem y256A_leave (x : FVec Ideal S64x256 .bf16) (wt : FVec Ideal S256x256 .bf16) (j : Fin 16) :
    Leave .y (others j) (y256A (nD := nD) (τ := τ) (F := Ideal) (Λ := Λ) mr hw b g x wt j) :=
  .bind (.of_writes (wr := wrE) .ldw rfl) fun _ => .bind (.of_writes (wr := wrE) .ld rfl) fun _ => .bind (.of_writes (wr := wrE) .ldw rfl) fun _ =>
    .bind (.of_writes (wr := wrE) .ld rfl) fun _ => .bind (leave_y j rfl rfl) fun _ => .pure _
theorem yLastA_leave (x : FVec Ideal S64x128 .bf16) (wt : FVec Ideal S128x128 .bf16) (d : Elt Ideal .f32) (j : Fin 16) :
    Leave .y (others j) (yLastA (nD := nD) (τ := τ) (F := Ideal) (Λ := Λ) mr hw g x wt d j) :=
  .bind (.of_writes (wr := wrE) .ld rfl) fun _ => .bind (.of_writes (wr := wrE) .ld rfl) fun _ => leave_y j rfl rfl

/-- The end of a step of one live tile, for one head. -/
def end1A (mr : Mems fam sig) (hw : ∀ k, (mr k).IsWhole) (b : Fin 5) (g : Fin 3) (mask : Vec Ideal S64x128 .i32) (x : FVec Ideal S64x128 .bf16) (j : Fin 16) :
    Piece nD τ Ideal Λ mr PUnit := do
  let wt ← w1A mr g mask j
  let _ ← y128A mr hw b g x wt j
  overp mr hw .y ![0, j.val, 0, 128] S1x1x64x256.size (in_head j 128 256 384 64 (by omega)) h_S1x1x64x256 (pk_y1z j) (z256V (F := Ideal))
/-- Of two. -/
def end2A (mr : Mems fam sig) (hw : ∀ k, (mr k).IsWhole) (b : Fin 5) (g : Fin 3) (mask : Vec Ideal S64x128 .i32) (x : FVec Ideal S64x256 .bf16) (j : Fin 16) :
    Piece nD τ Ideal Λ mr PUnit := do
  let wt ← w2A mr g mask j
  let _ ← y256A mr hw b g x wt j
  overp mr hw .y ![0, j.val, 0, 256] S1x1x64x128.size (in_head j 256 128 384 64 (by omega)) h_S1x1x64x128 (pk_y3 j) (z128V (F := Ideal))
/-- Of three. -/
def end3A (mr : Mems fam sig) (hw : ∀ k, (mr k).IsWhole) (b : Fin 5) (g : Fin 3) (mask : Vec Ideal S64x128 .i32) (x : FVec Ideal S64x384 .bf16) (j : Fin 16) :
    Piece nD τ Ideal Λ mr PUnit := do
  let wt ← w2A mr g mask j
  let w' ← w3A mr g mask j
  let d ← y256A mr hw b g (extractStridedSlice S64x256 ![0, 0] x slices_S64x384_o0_0_S64x256) wt j
  yLastA mr hw g (extractStridedSlice S64x128 ![0, 256] x slices_S64x384_o0_256_S64x128) w' d j

section Ends

variable (mask : Vec Ideal S64x128 .i32)

theorem end1A_wr (x : FVec Ideal S64x128 .bf16) (j : Fin 16) : Writes wrY (end1A (nD := nD) (τ := τ) (Λ := Λ) mr hw b g mask x j) :=
  .bind (w1A_writes ..) fun _ => .bind (y128A_wr ..) fun _ => .overp rfl
theorem end2A_wr (x : FVec Ideal S64x256 .bf16) (j : Fin 16) : Writes wrY (end2A (nD := nD) (τ := τ) (Λ := Λ) mr hw b g mask x j) :=
  .bind (w2A_writes ..) fun _ => .bind (y256A_wr ..) fun _ => .overp rfl
theorem end3A_wr (x : FVec Ideal S64x384 .bf16) (j : Fin 16) : Writes wrY (end3A (nD := nD) (τ := τ) (Λ := Λ) mr hw b g mask x j) :=
  .bind (w2A_writes ..) fun _ => .bind (w3A_writes ..) fun _ => .bind (y256A_wr ..) fun _ => yLastA_wr ..

theorem end1A_leave (x : FVec Ideal S64x128 .bf16) (j : Fin 16) : Leave .y (others j) (end1A (nD := nD) (τ := τ) (Λ := Λ) mr hw b g mask x j) :=
  .bind (.of_writes (wr := wrE) (w1A_writes ..) rfl) fun _ => .bind (y128A_leave ..) fun _ => leave_y j rfl rfl
theorem end2A_leave (x : FVec Ideal S64x256 .bf16) (j : Fin 16) : Leave .y (others j) (end2A (nD := nD) (τ := τ) (Λ := Λ) mr hw b g mask x j) :=
  .bind (.of_writes (wr := wrE) (w2A_writes ..) rfl) fun _ => .bind (y256A_leave ..) fun _ => leave_y j rfl rfl
theorem end3A_leave (x : FVec Ideal S64x384 .bf16) (j : Fin 16) : Leave .y (others j) (end3A (nD := nD) (τ := τ) (Λ := Λ) mr hw b g mask x j) :=
  .bind (.of_writes (wr := wrE) (w2A_writes ..) rfl) fun _ => .bind (.of_writes (wr := wrE) (w3A_writes ..) rfl) fun _ => .bind (y256A_leave ..) fun _ => yLastA_leave ..

theorem w1A_same (j : Fin 16) : ((w1A (nD := nD) (τ := τ) (F := Ideal) (Λ := Λ) mr g mask j).run σ).2 = σ := rfl
theorem w2A_same (j : Fin 16) : ((w2A (nD := nD) (τ := τ) (F := Ideal) (Λ := Λ) mr g mask j).run σ).2 = σ := rfl
theorem w3A_same (j : Fin 16) : ((w3A (nD := nD) (τ := τ) (F := Ideal) (Λ := Λ) mr g mask j).run σ).2 = σ := rfl

variable (hD : D.Tame) (H : Ok D b g σ) (i : Fin 4)
include hD H

theorem end1A_val (hn : (D.n b).toNat ≤ 128) (he : E0 D b g q 128 σ) (x : FVec Ideal S64x128 .bf16) (hx : ∀ p l, x (ix2 p l) = D.x' b (hh g (hd q i)) p (p0 (ta l))) :
    Y D b g (hd q i) ((end1A (nD := nD) (τ := τ) (Λ := Λ) mr hw b g maskV x (hd q i)).run σ).2 := by
  intro p l
  unfold end1A
  simp only [run_bind, w1A_same]
  by_cases hl : l.val < 128
  · rw [overp_out (k := .y) (off := ![0, (hd q i).val, 0, 128]) (ix4 0 (hd q i) p l) (3 : Fin 4) (Or.inl hl)]
    exact y128A_val H i he x hx _ (fun s l => w1A_val hD H (hd q i) s l) p l hl
  · rw [overp_in (k := .y) (off := ![0, (hd q i).val, 0, 128]) (ix4 0 (hd q i) p l) (ix4 (0 : Fin 1) (0 : Fin 1) p (⟨l.val - 128, by omega⟩ : Fin 256))
      (lit4 rfl rfl (Nat.zero_add _).symm (by show l.val = 128 + (l.val - 128); omega)), z256V_apply, D.y_dead]
    show ¬ l.val < (D.n b).toNat
    omega

theorem end2A_val (hn : (D.n b).toNat ≤ 256) (he : E0 D b g q 256 σ) (x : FVec Ideal S64x256 .bf16) (hx : ∀ p l, x (ix2 p l) = D.x' b (hh g (hd q i)) p (p0 l)) :
    Y D b g (hd q i) ((end2A (nD := nD) (τ := τ) (Λ := Λ) mr hw b g maskV x (hd q i)).run σ).2 := by
  intro p l
  unfold end2A
  simp only [run_bind, w2A_same]
  by_cases hl : l.val < 256
  · rw [overp_out (k := .y) (off := ![0, (hd q i).val, 0, 256]) (ix4 0 (hd q i) p l) (3 : Fin 4) (Or.inl hl)]
    exact y256A_val H i he x hx _ (fun s l => w2A_val hD H (hd q i) s l) p l hl
  · rw [overp_in (k := .y) (off := ![0, (hd q i).val, 0, 256]) (ix4 0 (hd q i) p l) (ix4 (0 : Fin 1) (0 : Fin 1) p (⟨l.val - 256, by omega⟩ : Fin 128))
      (lit4 rfl rfl (Nat.zero_add _).symm (by show l.val = 256 + (l.val - 256); omega)), z128V_apply, D.y_dead]
    show ¬ l.val < (D.n b).toNat
    omega

theorem end3A_val (he : E0 D b g q 256 σ) (he' : E1 D b g q σ) (x : FVec Ideal S64x384 .bf16) (hx : ∀ p l, x (ix2 p l) = D.x' b (hh g (hd q i)) p l) :
    Y D b g (hd q i) ((end3A (nD := nD) (τ := τ) (Λ := Λ) mr hw b g maskV x (hd q i)).run σ).2 := by
  unfold end3A
  simp only [run_bind, w2A_same, w3A_same]
  rw [y256A_d i H]
  have hw2 := fun s l => w2A_val (nD := nD) (τ := τ) (Λ := Λ) (mr := mr) hD H (hd q i) s l
  have hw3 := fun s l => w3A_val (nD := nD) (τ := τ) (Λ := Λ) (mr := mr) hD H (hd q i) s l
  have hx0 : ∀ p l, extractStridedSlice S64x256 ![0, 0] x slices_S64x384_o0_0_S64x256 (ix2 p l) = D.x' b (hh g (hd q i)) p (p0 l) := fun p l => by
    rw [← hx]; pointwise []
  have hx1 : ∀ p l, extractStridedSlice S64x128 ![0, 256] x slices_S64x384_o0_256_S64x128 (ix2 p l) = D.x' b (hh g (hd q i)) p (p1 l) := fun p l => by
    rw [← hx]; pointwise []
  have hwr := y256A_wr (nD := nD) (τ := τ) (Λ := Λ) mr hw b g (extractStridedSlice S64x256 ![0, 0] x slices_S64x384_o0_0_S64x256)
    ((w2A (nD := nD) (τ := τ) (F := Ideal) (Λ := Λ) mr g maskV (hd q i)).run σ).1 (hd q i)
  exact yLastA_val (H.step (hwr.mono fun _ => wrY_step)) i (he'.of_eq (hwr.keeps σ .e rfl))
    (y256A_val H i he _ hx0 _ hw2) _ hx1 _ hw3

end Ends

end Cert.Ssd

end
-- ==== Proof.StepY.lean ====
/-
  A step: the outputs of its sixteen heads, the mask and the tables after it.
-/
module

public import proofs.«01_k».proof.Proof.GroupY

@[expose] public section

set_option maxRecDepth 16384

noncomputable section

namespace Cert.Ssd

open Idealize.ShloMosaic Idealize.ShloMosaic.TcCoe Idealize.SL.Sem
open Cert.Kernel hiding Facts Facts₀
open Cert.Kernel.Gen

variable {nD : Nat} {τ : Topo} {sig : RefSig} {Λ : Labels} {mr : Mems fam sig} {hw : ∀ k, (mr k).IsWhole} {α β : Type}
variable {D : Data} {b : Fin 5} {g : Fin 3} {q : Fin 4} {σ σ' : St fam Ideal}

theorem hd_ne {q i i' : Fin 4} (h : i ≠ i') : hd q i ≠ hd q i' := fun e => h (Fin.ext (by
  have e' : 4 * q.val + i.val = 4 * q.val + i'.val := congrArg Fin.val e
  omega))

/-- A piece that leaves head `j`'s outputs keeps what is known of them. -/
theorem Y.leave {m : Piece nD τ Ideal Λ mr α} {j j' : Fin 16} (hm : Leave .y (others j') m) (h : j ≠ j') (H : Y D b g j σ) : Y D b g j (m.run σ).2 :=
  fun p l => (hm.leaves σ (ix4 0 j p l) (fun e => h (Fin.ext e))).trans (H p l)

theorem group1A_val (hD : D.Tame) (H : Ok D b g σ) (hn : (D.n b).toNat ≤ 128) (i : Fin 4) :
    Y D b g (hd q i) ((group1A (nD := nD) (τ := τ) (F := Ideal) (Λ := Λ) mr hw b g q (liveV (D.n b) 0#32) maskV).run σ).2 := by
  have e : group1A (nD := nD) (τ := τ) (F := Ideal) (Λ := Λ) mr hw b g q (liveV (D.n b) 0#32) maskV = (do
      entry128A mr q
      let xs ← four mr fun i => x128A mr hw g (liveV (D.n b) 0#32) (hd q i)
      let u ← feed128A mr q
      let _ ← four mr fun i => state0A mr b g q u i
      let _ ← four mr fun i => quantA mr hw b g (hd q i)
      let _ ← four mr fun i => end1A mr hw b g maskV (xs i) (hd q i)
      pure ⟨⟩) := rfl
  rw [e]
  simp only [run_bind, run_pure]
  have w1 := entry128A_wr (nD := nD) (τ := τ) (Λ := Λ) mr q
  have H1 := H.step (w1.mono fun _ => wrE_step)
  have E1 := entry128A_val (nD := nD) (τ := τ) (Λ := Λ) (mr := mr) (q := q) H
  obtain ⟨⟨H2, E2⟩, X⟩ := four_spec (m := fun i => x128A (nD := nD) (τ := τ) (Λ := Λ) mr hw g (liveV (D.n b) 0#32) (hd q i))
    (fun σ => Ok D b g σ ∧ E0 D b g q 128 σ) (fun i x _ => ∀ p l, x (ix2 p l) = D.x' b (hh g (hd q i)) p (p0 (ta l)))
    (fun i σ h => ⟨⟨h.1.step ((x128A_wr mr hw g _ _).mono fun _ => wrX_step), h.2.of_eq ((x128A_wr mr hw g _ _).keeps σ .e rfl)⟩, x128A_val h.1 (hd q i) hn⟩)
    (fun _ _ _ _ _ _ h => h) _ ⟨H1, E1⟩
  refine (four_spec (fun σ => Ok D b g σ ∧ E0 D b g q 128 σ) (fun i _ σ => Y D b g (hd q i) σ)
    (fun i σ h => ⟨⟨h.1.step ((end1A_wr maskV _ _).mono fun _ => wrY_step), h.2.of_eq ((end1A_wr maskV _ _).keeps σ .e rfl)⟩, end1A_val hD h.1 i hn h.2 _ (X i)⟩)
    (fun i i' a σ hne h hy => hy.leave (end1A_leave maskV _ _) (hd_ne hne)) _ ?_).2 i
  have w3 : Writes wrQ (four mr fun i => quantA (nD := nD) (τ := τ) (F := Ideal) (Λ := Λ) mr hw b g (hd q i)) := .four fun i => quantA_wr mr hw b g (hd q i)
  have w4 : ∀ u, Writes wrQ (four mr fun i => state0A (nD := nD) (τ := τ) (F := Ideal) (Λ := Λ) mr b g q u i) := fun u => .four fun i => state0A_wr mr b g q u i
  have w5 : Writes wrQ (feed128A (nD := nD) (τ := τ) (F := Ideal) (Λ := Λ) mr q) := .bind .ld fun _ => .bind .ld fun _ => .pure _
  exact ⟨((H2.step (w5.mono fun _ => wrQ_step)).step ((w4 _).mono fun _ => wrQ_step)).step (w3.mono fun _ => wrQ_step),
    ((E2.of_eq (w5.keeps _ .e rfl)).of_eq ((w4 _).keeps _ .e rfl)).of_eq (w3.keeps _ .e rfl)⟩

theorem group2A_val (hD : D.Tame) (H : Ok D b g σ) (hn1 : 128 < (D.n b).toNat) (hn : (D.n b).toNat ≤ 256) (i : Fin 4) :
    Y D b g (hd q i) ((group2A (nD := nD) (τ := τ) (F := Ideal) (Λ := Λ) mr hw b g q (liveV (D.n b) 128#32) maskV).run σ).2 := by
  have e : group2A (nD := nD) (τ := τ) (F := Ideal) (Λ := Λ) mr hw b g q (liveV (D.n b) 128#32) maskV = (do
      entry256A mr q
      let xs ← four mr fun i => x256A mr hw g (liveV (D.n b) 128#32) (hd q i)
      let u ← feed256A mr q
      let _ ← four mr fun i => state0A mr b g q u i
      let _ ← four mr fun i => quantA mr hw b g (hd q i)
      let _ ← four mr fun i => end2A mr hw b g maskV (xs i) (hd q i)
      pure ⟨⟩) := rfl
  rw [e]
  simp only [run_bind, run_pure]
  have w1 := entry256A_wr (nD := nD) (τ := τ) (Λ := Λ) mr q
  have H1 := H.step (w1.mono fun _ => wrE_step)
  have E1 := entry256A_val (nD := nD) (τ := τ) (Λ := Λ) (mr := mr) (q := q) H
  obtain ⟨⟨H2, E2⟩, X⟩ := four_spec (m := fun i => x256A (nD := nD) (τ := τ) (Λ := Λ) mr hw g (liveV (D.n b) 128#32) (hd q i))
    (fun σ => Ok D b g σ ∧ E0 D b g q 256 σ) (fun i x _ => ∀ p l, x (ix2 p l) = D.x' b (hh g (hd q i)) p (p0 l))
    (fun i σ h => ⟨⟨h.1.step ((x256A_wr mr hw g _ _).mono fun _ => wrX_step), h.2.of_eq ((x256A_wr mr hw g _ _).keeps σ .e rfl)⟩, x256A_val h.1 (hd q i) hn1 hn⟩)
    (fun _ _ _ _ _ _ h => h) _ ⟨H1, E1⟩
  refine (four_spec (fun σ => Ok D b g σ ∧ E0 D b g q 256 σ) (fun i _ σ => Y D b g (hd q i) σ)
    (fun i σ h => ⟨⟨h.1.step ((end2A_wr maskV _ _).mono fun _ => wrY_step), h.2.of_eq ((end2A_wr maskV _ _).keeps σ .e rfl)⟩, end2A_val hD h.1 i hn h.2 _ (X i)⟩)
    (fun i i' a σ hne h hy => hy.leave (end2A_leave maskV _ _) (hd_ne hne)) _ ?_).2 i
  have w3 : Writes wrQ (four mr fun i => quantA (nD := nD) (τ := τ) (F := Ideal) (Λ := Λ) mr hw b g (hd q i)) := .four fun i => quantA_wr mr hw b g (hd q i)
  have w4 : ∀ u, Writes wrQ (four mr fun i => state0A (nD := nD) (τ := τ) (F := Ideal) (Λ := Λ) mr b g q u i) := fun u => .four fun i => state0A_wr mr b g q u i
  have w5 : Writes wrQ (feed256A (nD := nD) (τ := τ) (F := Ideal) (Λ := Λ) mr q) := .bind .ld fun _ => .bind .ld fun _ => .pure _
  exact ⟨((H2.step (w5.mono fun _ => wrQ_step)).step ((w4 _).mono fun _ => wrQ_step)).step (w3.mono fun _ => wrQ_step),
    ((E2.of_eq (w5.keeps _ .e rfl)).of_eq ((w4 _).keeps _ .e rfl)).of_eq (w3.keeps _ .e rfl)⟩

theorem group3A_val (hD : D.Tame) (H : Ok D b g σ) (hn1 : 256 < (D.n b).toNat) (i : Fin 4) :
    Y D b g (hd q i) ((group3A (nD := nD) (τ := τ) (F := Ideal) (Λ := Λ) mr hw b g q (liveV (D.n b) 256#32) maskV).run σ).2 := by
  have hn := hD.n b
  have e : group3A (nD := nD) (τ := τ) (F := Ideal) (Λ := Λ) mr hw b g q (liveV (D.n b) 256#32) maskV = (do
      entry256A mr q
      let xs ← four mr fun i => x384A mr hw g (liveV (D.n b) 256#32) (hd q i)
      let u ← feed256A mr q
      let _ ← four mr fun i => state0sA mr hw b g q u i
      let u' ← feedLastA mr q
      let _ ← four mr fun i => state1A mr g q u' i
      entryLastA mr q
      let _ ← four mr fun i => quantA mr hw b g (hd q i)
      let _ ← four mr fun i => end3A mr hw b g maskV (xs i) (hd q i)
      pure ⟨⟩) := rfl
  rw [e]
  simp only [run_bind, run_pure]
  have w1 := entry256A_wr (nD := nD) (τ := τ) (Λ := Λ) mr q
  have H1 := H.step (w1.mono fun _ => wrE_step)
  have E1 := entry256A_val (nD := nD) (τ := τ) (Λ := Λ) (mr := mr) (q := q) H
  obtain ⟨⟨H2, E2⟩, X⟩ := four_spec (m := fun i => x384A (nD := nD) (τ := τ) (Λ := Λ) mr hw g (liveV (D.n b) 256#32) (hd q i))
    (fun σ => Ok D b g σ ∧ E0 D b g q 256 σ) (fun i x σ => (∀ p l, x (ix2 p l) = D.x' b (hh g (hd q i)) p l) ∧ XW D b g (hd q i) σ)
    (fun i σ h => ⟨⟨h.1.step ((x384A_wr mr hw g _ _).mono fun _ => wrX_step), h.2.of_eq ((x384A_wr mr hw g _ _).keeps σ .e rfl)⟩,
      x384A_val h.1 (hd q i) hn1 hn, x384A_xw h.1 hn1 hn (hd q i)⟩)
    (fun _ _ _ _ hne _ h => ⟨h.1, x384A_keeps (hd_ne hne) h.2⟩) _ ⟨H1, E1⟩
  have w5 : Writes wrQ (feed256A (nD := nD) (τ := τ) (F := Ideal) (Λ := Λ) mr q) := .bind .ld fun _ => .bind .ld fun _ => .pure _
  have U := feed256A_val (nD := nD) (τ := τ) (Λ := Λ) (mr := mr) (q := q) H2 fun i => (X i).2
  obtain ⟨⟨H3, E3⟩, S⟩ := four_spec (m := fun i => state0sA (nD := nD) (τ := τ) (F := Ideal) (Λ := Λ) mr hw b g q _ i)
    (fun σ => Ok D b g σ ∧ E0 D b g q 256 σ) (fun i _ σ => SB D b g (hd q i) σ)
    (fun i σ h => ⟨⟨h.1.step ((state0sA_wr mr hw b g q _ i).mono fun _ => wrQ_step), h.2.of_eq ((state0sA_wr mr hw b g q _ i).keeps σ .e rfl)⟩,
      state0sA_val h.1 _ i (U i)⟩)
    (fun _ _ _ _ hne _ h => state0sA_keeps (hd_ne hne) h) _ ⟨H2.step (w5.mono fun _ => wrQ_step), E2.of_eq (w5.keeps _ .e rfl)⟩
  have w6 : Writes wrS (feedLastA (nD := nD) (τ := τ) (F := Ideal) (Λ := Λ) mr q) := .bind .ld fun _ => .bind .ld fun _ => .pure _
  have w7 : ∀ u, Writes wrS (four mr fun i => state1A (nD := nD) (τ := τ) (F := Ideal) (Λ := Λ) mr g q u i) := fun u => .four fun i => state1A_st mr g q u i
  have wS : ∀ k, wrStep k = false → wrS k = false := by intro k h; cases k <;> first | rfl | cases h
  have H4 := fun u => (H3.step (w6.mono wS)).step ((w7 u).mono wS)
  have E4 := fun u => (E3.of_eq (w6.keeps _ .e rfl)).of_eq ((w7 u).keeps _ .e rfl)
  have w8 := entryLastA_wr (nD := nD) (τ := τ) (Λ := Λ) mr q
  have H5 := fun u => (H4 u).step (w8.mono fun _ => wrE_step)
  have E5 := fun u => entryLastA_keeps (nD := nD) (τ := τ) (Λ := Λ) (mr := mr) (q := q) (E4 u)
  have L5 := fun u => entryLastA_val (nD := nD) (τ := τ) (Λ := Λ) (mr := mr) (q := q) (H4 u) fun i p n =>
    (congrFun (((w7 u).keeps _ .sb rfl).trans (w6.keeps _ .sb rfl)) _).trans (S i p n)
  refine (four_spec (fun σ => Ok D b g σ ∧ E0 D b g q 256 σ ∧ Cert.Ssd.E1 D b g q σ) (fun i _ σ => Y D b g (hd q i) σ)
    (fun i σ h => ⟨⟨h.1.step ((end3A_wr maskV _ _).mono fun _ => wrY_step), h.2.1.of_eq ((end3A_wr maskV _ _).keeps σ .e rfl),
      h.2.2.of_eq ((end3A_wr maskV _ _).keeps σ .e rfl)⟩, end3A_val hD h.1 i h.2.1 h.2.2 _ (X i).1⟩)
    (fun i i' a σ hne h hy => hy.leave (end3A_leave maskV _ _) (hd_ne hne)) _ ?_).2 i
  have w3 : Writes wrQ (four mr fun i => quantA (nD := nD) (τ := τ) (F := Ideal) (Λ := Λ) mr hw b g (hd q i)) := .four fun i => quantA_wr mr hw b g (hd q i)
  exact ⟨(H5 _).step (w3.mono fun _ => wrQ_step), (E5 _).of_eq (w3.keeps _ .e rfl), (L5 _).of_eq (w3.keeps _ .e rfl)⟩

/-! ## What a group leaves alone -/

/-- The outputs of the other groups. -/
abbrev otherGroups (q : Fin 4) : (fam.sh .y).Idx → Prop := fun i => ∀ k : Fin 4, ((i : S1x16x64x384.Idx) 1).val ≠ (hd q k).val

theorem leave_group {m : Piece nD τ Ideal Λ mr α} {k : Fin 4} (hm : Leave .y (others (hd q k)) m) : Leave .y (otherGroups q) m :=
  ⟨fun σ i hi => hm.leaves σ i (hi k)⟩

theorem leave_wr {wr : Buf → Bool} {m : Piece nD τ Ideal Λ mr α} (hm : Writes wr m) (h : wr .y = false) : Leave .y (otherGroups q) m := .of_writes hm h

theorem group1A_leave (live : IVec S64x128 1) (mask : Vec Ideal S64x128 .i32) :
    Leave .y (otherGroups q) (group1A (nD := nD) (τ := τ) (F := Ideal) (Λ := Λ) mr hw b g q live mask) :=
  .bind (leave_wr (entry128A_wr mr q) rfl) fun _ => .bind (leave_wr (Writes.four fun i => x128A_wr mr hw g live (hd q i)) rfl) fun xs =>
  .bind (leave_wr (wr := wrE) (.bind .ld fun _ => .bind .ld fun _ => .pure _) rfl) fun u =>
  .bind (leave_wr (Writes.four fun i => state0A_wr mr b g q u i) rfl) fun _ => .bind (leave_wr (Writes.four fun i => quantA_wr mr hw b g (hd q i)) rfl) fun _ =>
  .bind (Leave.four fun i => leave_group (end1A_leave mask (xs i) (hd q i))) fun _ => .pure _
theorem group2A_leave (live : IVec S64x128 1) (mask : Vec Ideal S64x128 .i32) :
    Leave .y (otherGroups q) (group2A (nD := nD) (τ := τ) (F := Ideal) (Λ := Λ) mr hw b g q live mask) :=
  .bind (leave_wr (entry256A_wr mr q) rfl) fun _ => .bind (leave_wr (Writes.four fun i => x256A_wr mr hw g live (hd q i)) rfl) fun xs =>
  .bind (leave_wr (wr := wrE) (.bind .ld fun _ => .bind .ld fun _ => .pure _) rfl) fun u =>
  .bind (leave_wr (Writes.four fun i => state0A_wr mr b g q u i) rfl) fun _ => .bind (leave_wr (Writes.four fun i => quantA_wr mr hw b g (hd q i)) rfl) fun _ =>
  .bind (Leave.four fun i => leave_group (end2A_leave mask (xs i) (hd q i))) fun _ => .pure _
theorem group3A_leave (live : IVec S64x128 1) (mask : Vec Ideal S64x128 .i32) :
    Leave .y (otherGroups q) (group3A (nD := nD) (τ := τ) (F := Ideal) (Λ := Λ) mr hw b g q live mask) :=
  .bind (leave_wr (entry256A_wr mr q) rfl) fun _ => .bind (leave_wr (Writes.four fun i => x384A_wr mr hw g live (hd q i)) rfl) fun xs =>
  .bind (leave_wr (wr := wrE) (.bind .ld fun _ => .bind .ld fun _ => .pure _) rfl) fun u =>
  .bind (leave_wr (Writes.four fun i => state0sA_wr mr hw b g q u i) rfl) fun _ =>
  .bind (leave_wr (wr := wrE) (.bind .ld fun _ => .bind .ld fun _ => .pure _) rfl) fun u' =>
  .bind (leave_wr (Writes.four fun i => state1A_wr mr g q u' i) rfl) fun _ => .bind (leave_wr (entryLastA_wr mr q) rfl) fun _ =>
  .bind (leave_wr (Writes.four fun i => quantA_wr mr hw b g (hd q i)) rfl) fun _ =>
  .bind (Leave.four fun i => leave_group (end3A_leave mask (xs i) (hd q i))) fun _ => .pure _

/-- Four groups make the sixteen heads. -/
theorem groups_val {m : Fin 4 → Piece nD τ Ideal Λ mr PUnit} (hm : ∀ q, Writes wrStep (m q)) (hl : ∀ q, Leave .y (otherGroups q) (m q))
    (hv : ∀ q σ, Ok D b g σ → ∀ i, Y D b g (hd q i) ((m q).run σ).2) (H : Ok D b g σ) (j : Fin 16) :
    Y D b g j ((four mr m).run σ).2 := by
  have h := (four_spec (fun σ => Ok D b g σ) (fun q _ σ => ∀ i, Y D b g (hd q i) σ)
    (fun q σ h => ⟨h.step (hm q), hv q σ h⟩)
    (fun q q' a σ hne _ hy i p l => ((hl q').leaves σ (ix4 0 (hd q i) p l) (fun k e => hne (Fin.ext (by
      have e' : 4 * q.val + i.val = 4 * q'.val + k.val := e
      omega)))).trans (hy i p l)) σ H).2 ⟨j.val / 4, by omega⟩ ⟨j.val % 4, by omega⟩
  rw [show hd ⟨j.val / 4, by omega⟩ ⟨j.val % 4, by omega⟩ = j from Fin.ext (by show 4 * (j.val / 4) + j.val % 4 = j.val; omega)] at h
  exact h

section Step

variable (hD : D.Tame) (H : Ok D b g σ) (hmask : σ .mask = maskV)
include hD H hmask

omit hD H in
theorem ld_mask : ((ld (nD := nD) (τ := τ) (F := Ideal) (Λ := Λ) mr .mask ![0, 0] S64x128.size inb_S64x128_S64x128_0_0 h_S64x128).run σ).1 = maskV := by
  have h : ∀ (r : Fin 64) (l : Fin 128), ((ld (nD := nD) (τ := τ) (F := Ideal) (Λ := Λ) mr .mask ![0, 0] S64x128.size inb_S64x128_S64x128_0_0 h_S64x128).run σ).1 (ix2 r l) = maskV (ix2 r l) :=
    fun r l => (ld_at (k := .mask) (off := ![0, 0]) (ix2 r l) (ix2 r l) (lit2 (Nat.zero_add _).symm (Nat.zero_add _).symm)).trans (congrFun hmask _)
  funext j
  exact (congrArg _ (eq_ix2 (n0 := 64) (n1 := 128) j)).trans ((h _ _).trans (congrArg maskV (eq_ix2 (n0 := 64) (n1 := 128) j).symm))

theorem step1A_val (hn : (D.n b).toNat ≤ 128) (j : Fin 16) : Y D b g j ((step1A (nD := nD) (τ := τ) (F := Ideal) (Λ := Λ) mr hw b g (D.n b)).run σ).2 := by
  unfold step1A
  simp only [run_bind, run_pure, run_ld, ld_mask hmask]
  exact groups_val (fun q => group1A_writes mr hw b g q _ _) (fun q => group1A_leave _ _) (fun q σ h i => group1A_val hD h hn i) H j
theorem step2A_val (hn1 : 128 < (D.n b).toNat) (hn : (D.n b).toNat ≤ 256) (j : Fin 16) :
    Y D b g j ((step2A (nD := nD) (τ := τ) (F := Ideal) (Λ := Λ) mr hw b g (D.n b)).run σ).2 := by
  unfold step2A
  simp only [run_bind, run_pure, run_ld, ld_mask hmask]
  exact groups_val (fun q => group2A_writes mr hw b g q _ _) (fun q => group2A_leave _ _) (fun q σ h i => group2A_val hD h hn1 hn i) H j
theorem step3A_val (hn1 : 256 < (D.n b).toNat) (j : Fin 16) :
    Y D b g j ((step3A (nD := nD) (τ := τ) (F := Ideal) (Λ := Λ) mr hw b g (D.n b)).run σ).2 := by
  unfold step3A
  simp only [run_bind, run_pure, run_ld, ld_mask hmask]
  exact groups_val (fun q => group3A_writes mr hw b g q _ _) (fun q => group3A_leave _ _) (fun q σ h i => group3A_val hD h hn1 i) H j

end Step

end Cert.Ssd

end
-- ==== Proof.Quant.lean ====
/-
  The quantiser of a state: its largest magnitude over 448, the power of two it is scaled by, its codes.
  Here the exponent is counted as the program counts it.
-/
module

public import proofs.«01_k».proof.Proof.Spec
public import Idealize.ShloMosaic.PureOps.Vector
public import Idealize.ShloMosaic.PureOps.Reduce

@[expose] public section

noncomputable section

namespace Cert.Ssd

open Idealize.ShloMosaic

/-- The largest magnitude. -/
def amax (f : Fin 64 → Fin 128 → EReal) : EReal :=
  Finset.fold max (Ideal.ofBits .f32 4286578688#32) (fun x : Fin 64 × Fin 128 => FloatOps.absf (F := Ideal) (φ := .f32) (f x.1 x.2)) Finset.univ
/-- The same, times the word nearest to 1/448. -/
def mag (f : Fin 64 → Fin 128 → EReal) : EReal := amax f * Ideal.ofBits .f32 991054117#32

/-- The power of two whose exponent field is `e`. -/
def field (e : BitVec 32) : EReal := Ideal.ofBits .f32 (IntOp.shli .vector e 23#32)
/-- The largest exponent field whose power of two is not above `v`. -/
def top (v : EReal) : BitVec 32 :=
  Finset.fold IntOp.maxsi (2147483648#32)
    (fun x : Fin 1 × Fin 256 => if field (BitVec.ofNat 32 x.2.val) ≤ v then BitVec.ofNat 32 x.2.val else 0#32) Finset.univ
/-- The exponent of the scale. -/
def expo (v : EReal) : BitVec 32 := if v = 0 then 0#32 else IntOp.subi (top v) 126#32
/-- The scale, and one over it. -/
def scale (v : EReal) : EReal := field (IntOp.addi (expo v) 127#32)
def unscale (v : EReal) : EReal := field (IntOp.subi 127#32 (expo v))
/-- A code. -/
def code (v s : EReal) : EReal := min (Ideal.ofBits .f32 1138753536#32) (max (Ideal.ofBits .f32 3286237184#32) (s * unscale v))

end Cert.Ssd

end
-- ==== Proof.GroupQ.lean ====
/-
  Four heads of a step: their final states and what they are quantised to.
-/
module

public import proofs.«01_k».proof.Proof.GroupY
public import proofs.«01_k».proof.Proof.Quant

@[expose] public section

set_option maxRecDepth 16384

noncomputable section

namespace Cert.Ssd

open Idealize.ShloMosaic Idealize.ShloMosaic.TcCoe Idealize.SL.Sem
open Cert.Kernel hiding Facts Facts₀
open Cert.Kernel.Gen

variable {nD : Nat} {τ : Topo} {sig : RefSig} {Λ : Labels} {mr : Mems fam sig} {hw : ∀ k, (mr k).IsWhole} {α β : Type}

/-! ## Reading the quantiser -/

theorem amaxV_apply (s : FVec Ideal S64x128 .f32) : amaxV (F := Ideal) s (ix2 0 0) = mag fun p n => s (ix2 p n) := by
  pointwise [amaxV]
  rfl
theorem expoV_apply (v : FVec Ideal S1x1 .f32) : expoV (F := Ideal) v (ix2 0 0) = expo (v (ix2 0 0)) := by
  pointwise [expoV]
  rfl
theorem quantV_apply (s : FVec Ideal S64x128 .f32) (e : IVec S1x1 32) (p : Fin 64) (n : Fin 128) :
    quantV (F := Ideal) s e (ix2 p n) = min (Ideal.ofBits .f32 1138753536#32) (max (Ideal.ofBits .f32 3286237184#32)
      (s (ix2 p n) * field (IntOp.subi 127#32 (e (ix2 0 0))))) := by
  pointwise [quantV, unscaleV]
  rfl

theorem hBv_eq : ∀ (g : Fin 3) (j : Fin 16), hBv g j = BitVec.ofNat 32 (hh g j).val := by decide +kernel
theorem word_eq48 : ∀ h h' : Fin 48, IntOp.cmpi .eq (BitVec.ofNat 32 h.val) (BitVec.ofNat 32 h'.val) = if h = h' then 1#1 else 0#1 := by decide +kernel
theorem word_eq5 : ∀ h h' : Fin 5, IntOp.cmpi .eq (BitVec.ofNat 32 h.val) (BitVec.ofNat 32 h'.val) = if h = h' then 1#1 else 0#1 := by decide +kernel

theorem putV_apply (b : Fin 5) (g : Fin 3) (j : Fin 16) (e : IVec S1x1 32) (o : FVec Ideal S5x48 .f32) (b' : Fin 5) (h : Fin 48) :
    putV (F := Ideal) b g j e o (ix2 b' h) = if b' = b ∧ h = hh g j then field (IntOp.addi (e (ix2 0 0)) 127#32) else o (ix2 b' h) := by
  pointwise [putV, scaleV, atV]
  rw [hBv_eq, word_eq48, word_eq5]
  by_cases hb : b' = b
  · by_cases hh' : h = hh g j
    · rw [if_pos hb, if_pos hh', if_pos ⟨hb, hh'⟩]; rfl
    · rw [if_pos hb, if_neg hh', if_neg fun h => hh' h.2]; rfl
  · by_cases hh' : h = hh g j
    · rw [if_neg hb, if_pos hh', if_neg fun h => hb h.1]; rfl
    · rw [if_neg hb, if_neg hh', if_neg fun h => hb h.1]; rfl

theorem row_out (v : FVec Ideal S64x128 .f32) (p : Fin 64) (n : Fin 128) :
    shapeCast S1x64x128 v shapeCasts_S64x128_S1x64x128 (ix3 0 p n) = v (ix2 p n) := by
  pointwise []
theorem row_in (v : FVec Ideal S1x64x128 .f32) (p : Fin 64) (n : Fin 128) :
    shapeCast S64x128 v shapeCasts_S1x64x128_S64x128 (ix2 p n) = v (ix3 0 p n) := by
  pointwise []
theorem fc_out (v : FVec Ideal S64x128 .fp8e4m3) (p : Fin 64) (n : Fin 128) :
    shapeCast S1x1x64x128 v shapeCasts_S64x128_S1x1x64x128 (ix4 0 0 p n) = v (ix2 p n) := by
  pointwise []
theorem xw128V_apply (x : FVec Ideal S64x128 .bf16) (dw : Vec Ideal S1x1x128 .f32) (p : Fin 64) (l : Fin 128) :
    xw128V (F := Ideal) x dw (ix2 p l) = x (ix2 p l) * dw (ix3 0 0 l) := by
  pointwise [xw128V]
theorem xw256V_apply (x : FVec Ideal S64x256 .bf16) (dw : Vec Ideal S1x1x256 .f32) (p : Fin 64) (l : Fin 256) :
    xw256V (F := Ideal) x dw (ix2 p l) = x (ix2 p l) * dw (ix3 0 0 l) := by
  pointwise [xw256V]

/-! ## The states -/

variable {D : Data} {b : Fin 5} {g : Fin 3} {q : Fin 4} {σ σ' : St fam Ideal}

/-- Head `j`'s state is the one after the first chunk. -/
def ST (D : Data) (b : Fin 5) (g : Fin 3) (j : Fin 16) (σ : St fam Ideal) : Prop :=
  ∀ p n, (σ .st : FVec Ideal S16x64x128 .f32) (ix3 j p n) = D.st b (hh g j) p n
/-- It is the final one. -/
def FIN (D : Data) (b : Fin 5) (g : Fin 3) (j : Fin 16) (σ : St fam Ideal) : Prop :=
  ∀ p n, (σ .st : FVec Ideal S16x64x128 .f32) (ix3 j p n) = D.fin b (hh g j) p n
/-- Head `j`'s codes and scale. -/
def Q (D : Data) (b : Fin 5) (g : Fin 3) (j : Fin 16) (σ : St fam Ideal) : Prop :=
  (∀ p n, (σ .fc : FVec Ideal S1x16x64x128 .fp8e4m3) (ix4 0 j p n) = code (mag (D.fin b (hh g j))) (D.fin b (hh g j) p n))
    ∧ (σ .fs : FVec Ideal S5x48 .f32) (ix2 b (hh g j)) = scale (mag (D.fin b (hh g j)))
/-- The weighted inputs of head `j` over the first tile, and over the last. -/
def XW0 (D : Data) (b : Fin 5) (g : Fin 3) (j : Fin 16) (σ : St fam Ideal) : Prop :=
  ∀ p (l : Fin 128), (σ .xw : FVec Ideal S1024x384 .bf16) (ix2 (rr j p) (p0 ⟨l.val, by omega⟩)) = D.x' b (hh g j) p (p0 ⟨l.val, by omega⟩) * D.dw b (hh g j) ⟨l.val, by omega⟩
def XW1 (D : Data) (b : Fin 5) (g : Fin 3) (j : Fin 16) (σ : St fam Ideal) : Prop :=
  ∀ p (l : Fin 128), (σ .xw : FVec Ideal S1024x384 .bf16) (ix2 (rr j p) (p1 l)) = D.x' b (hh g j) p (p1 l) * D.dw1 b (hh g j) l

theorem ST.of_eq {j : Fin 16} (h : σ' .st = σ .st) (H : ST D b g j σ) : ST D b g j σ' := fun p n => by rw [h]; exact H p n
theorem FIN.of_eq {j : Fin 16} (h : σ' .st = σ .st) (H : FIN D b g j σ) : FIN D b g j σ' := fun p n => by rw [h]; exact H p n
theorem Q.of_eq {j : Fin 16} (h : σ' .fc = σ .fc) (h' : σ' .fs = σ .fs) (H : Q D b g j σ) : Q D b g j σ' :=
  ⟨fun p n => by rw [h]; exact H.1 p n, by rw [h']; exact H.2⟩
theorem XW1.of_eq {j : Fin 16} (h : σ' .xw = σ .xw) (H : XW1 D b g j σ) : XW1 D b g j σ' := fun p n => by rw [h]; exact H p n

theorem hd_ne' {q i i' : Fin 4} (h : i ≠ i') : hd q i ≠ hd q i' := fun e => h (Fin.ext (by
  have e' : 4 * q.val + i.val = 4 * q.val + i'.val := congrArg Fin.val e
  omega))

/-- Rows of the states outside head `j'`'s. -/
theorem state0A_keeps {u : FVec Ideal S256x128 .f32} {i : Fin 4} {j : Fin 16} (hj : j ≠ hd q i) (p : Fin 64) (n : Fin 128) :
    (((state0A (nD := nD) (τ := τ) (F := Ideal) (Λ := Λ) mr b g q u i).run σ).2 .st : FVec Ideal S16x64x128 .f32) (ix3 j p n) = (σ .st : FVec Ideal S16x64x128 .f32) (ix3 j p n) := by
  unfold state0A
  simp only [run_bind, run_ld, run_ldw, run_pure]
  have hj' : j.val ≠ (hd q i).val := fun h => hj (Fin.ext h)
  exact over32_out (k := .st) (off := ![(hd q i).val, 0, 0]) (size := S1x64x128.size) (ix3 j p n) (0 : Fin 3)
    (show j.val < (hd q i).val ∨ (hd q i).val + 1 ≤ j.val by omega)
theorem state1A_keeps {u : FVec Ideal S256x128 .f32} {i : Fin 4} {j : Fin 16} (hj : j ≠ hd q i) (p : Fin 64) (n : Fin 128) :
    (((state1A (nD := nD) (τ := τ) (F := Ideal) (Λ := Λ) mr g q u i).run σ).2 .st : FVec Ideal S16x64x128 .f32) (ix3 j p n) = (σ .st : FVec Ideal S16x64x128 .f32) (ix3 j p n) := by
  unfold state1A
  simp only [run_bind, run_ld]
  have hj' : j.val ≠ (hd q i).val := fun h => hj (Fin.ext h)
  exact over32_out (k := .st) (off := ![(hd q i).val, 0, 0]) (size := S1x64x128.size) (ix3 j p n) (0 : Fin 3)
    (show j.val < (hd q i).val ∨ (hd q i).val + 1 ≤ j.val by omega)

theorem state0sA_st (u : FVec Ideal S256x128 .f32) (i : Fin 4) :
    ((state0sA (nD := nD) (τ := τ) (F := Ideal) (Λ := Λ) mr hw b g q u i).run σ).2 .st = ((state0A (nD := nD) (τ := τ) (F := Ideal) (Λ := Λ) mr b g q u i).run σ).2 .st := by
  unfold state0sA
  simp only [run_bind]
  exact (Writes.overp (wr := fun k => match k with | .sb => true | _ => false) rfl).keeps _ .st rfl

section States

variable (H : Ok D b g σ)
include H

theorem state0A_ST (u : FVec Ideal S256x128 .f32) (i : Fin 4) (hu : ∀ p n, u (ix2 (rg i p) n)
      = ∑ s : Fin 256, D.x' b (hh g (hd q i)) p (p0 s) * D.dw b (hh g (hd q i)) s * D.B' b (p0 s) n) :
    ST D b g (hd q i) ((state0A (nD := nD) (τ := τ) (F := Ideal) (Λ := Λ) mr b g q u i).run σ).2 := by
  intro p n
  have h := state0A_val (nD := nD) (τ := τ) (Λ := Λ) (mr := mr) H u i hu p n
  unfold state0A at h ⊢
  simp only [run_bind, run_ld, run_ldw, run_pure] at h ⊢
  rw [over32_in (k := .st) (off := ![(hd q i).val, 0, 0]) (ix3 (hd q i) p n) (ix3 (0 : Fin 1) p n) (lit3 rfl (Nat.zero_add _).symm (Nat.zero_add _).symm)]
  exact (row_out _ p n).trans h

theorem state1A_FIN (u : FVec Ideal S256x128 .f32) (i : Fin 4) (hu : ∀ p n, u (ix2 (rg i p) n)
      = ∑ s : Fin 128, D.x' b (hh g (hd q i)) p (p1 s) * D.dw1 b (hh g (hd q i)) s * D.B' b (p1 s) n) (hs : ST D b g (hd q i) σ) :
    FIN D b g (hd q i) ((state1A (nD := nD) (τ := τ) (F := Ideal) (Λ := Λ) mr g q u i).run σ).2 := by
  intro p n
  unfold state1A
  simp only [run_bind, run_ld]
  rw [over32_in (k := .st) (off := ![(hd q i).val, 0, 0]) (ix3 (hd q i) p n) (ix3 (0 : Fin 1) p n) (lit3 rfl (Nat.zero_add _).symm (Nat.zero_add _).symm)]
  refine (row_out _ p n).trans ?_
  rw [stepV_apply, hu, row_in]
  rw [ld_at (k := .st) (off := ![(hd q i).val, 0, 0]) (ix3 (0 : Fin 1) p n) (ix3 (hd q i) p n) (lit3 rfl (Nat.zero_add _).symm (Nat.zero_add _).symm), hs]
  rw [ld_at (k := .gd) (off := ![gIx g, 1, (hd q i).val, 0]) (ix4 (0 : Fin 1) (0 : Fin 1) (0 : Fin 1) n) (ix4 g (1 : Fin 2) (hd q i) n)
    (lit4 (gIx_eq g).symm rfl rfl (Nat.zero_add _).symm), H.gd1]
  rfl

theorem x128A_xw (hn : (D.n b).toNat ≤ 128) (j : Fin 16) :
    XW0 D b g j ((x128A (nD := nD) (τ := τ) (F := Ideal) (Λ := Λ) mr hw g (liveV (D.n b) 0#32) j).run σ).2 := by
  intro p l
  have hv := x128A_val (nD := nD) (τ := τ) (Λ := Λ) (mr := mr) (hw := hw) H j hn p l
  unfold x128A at hv ⊢
  simp only [run_bind, run_ld, run_pure] at hv ⊢
  rw [overp_in (k := .xw) (off := ![64 * j.val, 0]) (ix2 (rr j p) (p0 ⟨l.val, by omega⟩)) (ix2 p l) (lit2 rfl (Nat.zero_add _).symm), xw128V_apply, hv]
  rw [ld_at (k := .dw) (off := ![gIx g, j.val, 0]) (ix3 (0 : Fin 1) (0 : Fin 1) l) (ix3 g j (p0 ⟨l.val, by omega⟩)) (lit3 (gIx_eq g).symm rfl (Nat.zero_add _).symm), H.dw]

theorem x256A_xw (hn1 : 128 < (D.n b).toNat) (hn : (D.n b).toNat ≤ 256) (j : Fin 16) :
    XW D b g j ((x256A (nD := nD) (τ := τ) (F := Ideal) (Λ := Λ) mr hw g (liveV (D.n b) 128#32) j).run σ).2 := by
  intro p l
  have hv := x256A_val (nD := nD) (τ := τ) (Λ := Λ) (mr := mr) (hw := hw) H j hn1 hn p l
  unfold x256A at hv ⊢
  simp only [run_bind, run_ld, run_pure] at hv ⊢
  rw [overp_in (k := .xw) (off := ![64 * j.val, 0]) (ix2 (rr j p) (p0 l)) (ix2 p l) (lit2 rfl (Nat.zero_add _).symm), xw256V_apply, hv]
  rw [ld_at (k := .dw) (off := ![gIx g, j.val, 0]) (ix3 (0 : Fin 1) (0 : Fin 1) l) (ix3 g j (p0 l)) (lit3 (gIx_eq g).symm rfl (Nat.zero_add _).symm), H.dw]

theorem x384A_xw1 (hn1 : 256 < (D.n b).toNat) (hn : (D.n b).toNat ≤ 384) (j : Fin 16) :
    XW1 D b g j ((x384A (nD := nD) (τ := τ) (F := Ideal) (Λ := Λ) mr hw g (liveV (D.n b) 256#32) j).run σ).2 := by
  intro p l
  have hv := x384A_val (nD := nD) (τ := τ) (Λ := Λ) (mr := mr) (hw := hw) H j hn1 hn p (p1 l)
  unfold x384A at hv ⊢
  simp only [run_bind, run_ld, run_pure] at hv ⊢
  rw [overp_in (k := .xw) (off := ![64 * j.val, 0]) (ix2 (rr j p) (p1 l)) (ix2 p (p1 l)) (lit2 rfl (Nat.zero_add _).symm), xw384V_apply, hv]
  rw [ld_at (k := .dw) (off := ![gIx g, j.val, 0]) (ix3 (0 : Fin 1) (0 : Fin 1) (p1 l)) (ix3 g j (p1 l)) (lit3 (gIx_eq g).symm rfl (Nat.zero_add _).symm), H.dw1]

theorem feed128A_val (hn : (D.n b).toNat ≤ 128) (hx : ∀ i, XW0 D b g (hd q i) σ) (i : Fin 4) (p : Fin 64) (n : Fin 128) :
    ((feed128A (nD := nD) (τ := τ) (F := Ideal) (Λ := Λ) mr q).run σ).1 (ix2 (rg i p) n)
      = ∑ s : Fin 256, D.x' b (hh g (hd q i)) p (p0 s) * D.dw b (hh g (hd q i)) s * D.B' b (p0 s) n := by
  rw [D.feed_short b _ p hn]
  unfold feed128A
  simp only [run_bind, run_ld, run_pure]
  rw [mm128]
  refine Finset.sum_congr rfl fun s _ => ?_
  rw [ld_at (k := .xw) (off := ![256 * q.val, 0]) (ix2 (rg i p) s) (ix2 (rr (hd q i) p) (p0 ⟨s.val, by omega⟩)) (lit2 (rr_rg q i p) (Nat.zero_add _).symm), hx i]
  rw [ld_at (k := .bm) (off := ![0, 0]) (ix2 s n) (ix2 (p0 ⟨s.val, by omega⟩) n) (lit2 (Nat.zero_add _).symm (Nat.zero_add _).symm), H.bm]

theorem feedLastA_val (hx : ∀ i, XW1 D b g (hd q i) σ) (i : Fin 4) (p : Fin 64) (n : Fin 128) :
    ((feedLastA (nD := nD) (τ := τ) (F := Ideal) (Λ := Λ) mr q).run σ).1 (ix2 (rg i p) n)
      = ∑ s : Fin 128, D.x' b (hh g (hd q i)) p (p1 s) * D.dw1 b (hh g (hd q i)) s * D.B' b (p1 s) n := by
  unfold feedLastA
  simp only [run_bind, run_ld, run_pure]
  rw [mm128]
  refine Finset.sum_congr rfl fun s _ => ?_
  rw [ld_at (k := .xw) (off := ![256 * q.val, 256]) (ix2 (rg i p) s) (ix2 (rr (hd q i) p) (p1 s)) (lit2 (rr_rg q i p) rfl), hx i]
  rw [ld_at (k := .bm) (off := ![256, 0]) (ix2 s n) (ix2 (p1 s) n) (lit2 rfl (Nat.zero_add _).symm), H.bm]

end States

theorem x384A_keeps1 {live : IVec S64x128 1} {j j' : Fin 16} (hj : j ≠ j') (hx : XW1 D b g j σ) :
    XW1 D b g j ((x384A (nD := nD) (τ := τ) (F := Ideal) (Λ := Λ) mr hw g live j').run σ).2 := by
  intro p l
  unfold x384A
  simp only [run_bind, run_ld, run_pure]
  have hj' : j.val ≠ j'.val := fun h => hj (Fin.ext h)
  rw [overp_out (k := .xw) (off := ![64 * j'.val, 0]) (size := S64x384.size) (ix2 (rr j p) (p1 l)) (0 : Fin 2)
    (show 64 * j.val + p.val < 64 * j'.val ∨ 64 * j'.val + 64 ≤ 64 * j.val + p.val by omega)]
  exact hx p l
theorem x256A_keeps {live : IVec S64x128 1} {j j' : Fin 16} (hj : j ≠ j') (hx : XW D b g j σ) :
    XW D b g j ((x256A (nD := nD) (τ := τ) (F := Ideal) (Λ := Λ) mr hw g live j').run σ).2 := by
  intro p l
  unfold x256A
  simp only [run_bind, run_ld, run_pure]
  have hj' : j.val ≠ j'.val := fun h => hj (Fin.ext h)
  rw [overp_out (k := .xw) (off := ![64 * j'.val, 0]) (size := S64x256.size) (ix2 (rr j p) (p0 l)) (0 : Fin 2)
    (show 64 * j.val + p.val < 64 * j'.val ∨ 64 * j'.val + 64 ≤ 64 * j.val + p.val by omega)]
  exact hx p l
theorem x128A_keeps {live : IVec S64x128 1} {j j' : Fin 16} (hj : j ≠ j') (hx : XW0 D b g j σ) :
    XW0 D b g j ((x128A (nD := nD) (τ := τ) (F := Ideal) (Λ := Λ) mr hw g live j').run σ).2 := by
  intro p l
  unfold x128A
  simp only [run_bind, run_ld, run_pure]
  have hj' : j.val ≠ j'.val := fun h => hj (Fin.ext h)
  rw [overp_out (k := .xw) (off := ![64 * j'.val, 0]) (size := S64x128.size) (ix2 (rr j p) (p0 ⟨l.val, by omega⟩)) (0 : Fin 2)
    (show 64 * j.val + p.val < 64 * j'.val ∨ 64 * j'.val + 64 ≤ 64 * j.val + p.val by omega)]
  exact hx p l

/-! ## The quantiser -/

/-- The codes outside head `j`'s. -/
abbrev fcOthers (j : Fin 16) : (fam.sh .fc).Idx → Prop := fun i => ((i : S1x16x64x128.Idx) 1).val ≠ j.val
/-- The scales but the one of batch `b`, head `h`. -/
abbrev fsOthers (b : Fin 5) (h : Fin 48) : (fam.sh .fs).Idx → Prop := fun i => ¬ ((i : S5x48.Idx) 0 = b ∧ (i : S5x48.Idx) 1 = h)

/-- A store to the codes leaves the states alone; one to the scales leaves both. -/
theorem quantA_fc (j : Fin 16) : Leave .fc (fcOthers j) (quantA (nD := nD) (τ := τ) (F := Ideal) (Λ := Λ) mr hw b g j) := ⟨fun σ i hi => by
  unfold quantA
  simp only [run_bind, run_ld]
  rw [(Writes.over32 (wr := fun k => match k with | .fs => true | _ => false) rfl).keeps _ .fc rfl]
  have hi' : ((i : S1x16x64x128.Idx) 1).val ≠ j.val := hi
  exact overp_out (k := .fc) (off := ![0, j.val, 0, 0]) (size := S1x1x64x128.size) i (1 : Fin 4)
    (show ((i : S1x16x64x128.Idx) 1).val < j.val ∨ j.val + 1 ≤ ((i : S1x16x64x128.Idx) 1).val by omega)⟩

theorem quantA_fs_at (j : Fin 16) (σ : St fam Ideal) (b' : Fin 5) (h : Fin 48) :
    (((quantA (nD := nD) (τ := τ) (F := Ideal) (Λ := Λ) mr hw b g j).run σ).2 .fs : FVec Ideal S5x48 .f32) (ix2 b' h)
      = if b' = b ∧ h = hh g j then scale (mag fun p n => (σ .st : FVec Ideal S16x64x128 .f32) (ix3 j p n)) else (σ .fs : FVec Ideal S5x48 .f32) (ix2 b' h) := by
  unfold quantA
  simp only [run_bind, run_ld]
  rw [over32_in (k := .fs) (off := ![0, 0]) (ix2 b' h) (ix2 b' h) (lit2 (Nat.zero_add _).symm (Nat.zero_add _).symm), putV_apply, expoV_apply, amaxV_apply]
  refine if_congr Iff.rfl ?_ ?_
  · show scale _ = scale _
    refine congrArg (fun f => scale (mag f)) (funext fun p => funext fun n => ?_)
    rw [row_in, ld_at (k := .st) (off := ![j.val, 0, 0]) (ix3 (0 : Fin 1) p n) (ix3 j p n) (lit3 rfl (Nat.zero_add _).symm (Nat.zero_add _).symm)]
  · rw [ld_at (k := .fs) (off := ![0, 0]) (ix2 b' h) (ix2 b' h) (lit2 (Nat.zero_add _).symm (Nat.zero_add _).symm)]
    exact congrFun ((Writes.overp (wr := fun k => match k with | .fc => true | _ => false) rfl).keeps _ .fs rfl) _

theorem quantA_fs (j : Fin 16) : Leave .fs (fsOthers b (hh g j)) (quantA (nD := nD) (τ := τ) (F := Ideal) (Λ := Λ) mr hw b g j) := ⟨fun σ i hi => by
  obtain ⟨b', h, rfl⟩ : ∃ (b' : Fin 5) (h : Fin 48), i = ix2 b' h := ⟨_, _, eq_ix2 (n0 := 5) (n1 := 48) i⟩
  exact (quantA_fs_at j σ b' h).trans (if_neg hi)⟩

theorem quantA_st (j : Fin 16) : ((quantA (nD := nD) (τ := τ) (F := Ideal) (Λ := Λ) mr hw b g j).run σ).2 .st = σ .st :=
  Writes.keeps (wr := fun k => match k with | .fc => true | .fs => true | _ => false)
    (.bind .ld fun _ => .bind (.overp rfl) fun _ => .bind .ld fun _ => .over32 rfl) σ .st rfl

theorem quantA_val (j : Fin 16) (H : FIN D b g j σ) : Q D b g j ((quantA (nD := nD) (τ := τ) (F := Ideal) (Λ := Λ) mr hw b g j).run σ).2 := by
  have e : (fun p n => (σ .st : FVec Ideal S16x64x128 .f32) (ix3 j p n)) = D.fin b (hh g j) := funext fun p => funext fun n => H p n
  refine ⟨fun p n => ?_, (quantA_fs_at j σ b (hh g j)).trans ((if_pos ⟨rfl, rfl⟩).trans (by rw [e]))⟩
  unfold quantA
  simp only [run_bind, run_ld]
  rw [(Writes.over32 (wr := fun k => match k with | .fs => true | _ => false) rfl).keeps _ .fc rfl]
  rw [overp_in (k := .fc) (off := ![0, j.val, 0, 0]) (ix4 (0 : Fin 1) j p n) (ix4 (0 : Fin 1) (0 : Fin 1) p n) (lit4 rfl rfl (Nat.zero_add _).symm (Nat.zero_add _).symm)]
  refine (fc_out _ p n).trans ?_
  have r : ∀ p n, shapeCast S64x128 ((ld (nD := nD) (τ := τ) (F := Ideal) (Λ := Λ) mr .st ![j.val, 0, 0] S1x64x128.size (in_st j) h_S1x64x128).run σ).1 shapeCasts_S1x64x128_S64x128 (ix2 p n)
      = D.fin b (hh g j) p n := fun p n => by
    rw [row_in, ld_at (k := .st) (off := ![j.val, 0, 0]) (ix3 (0 : Fin 1) p n) (ix3 j p n) (lit3 rfl (Nat.zero_add _).symm (Nat.zero_add _).symm), H]
  rw [quantV_apply, expoV_apply, amaxV_apply, r]
  simp only [r]
  rfl

theorem Q.keep {j j' : Fin 16} (h : j ≠ j') (H : Q D b g j σ) : Q D b g j ((quantA (nD := nD) (τ := τ) (F := Ideal) (Λ := Λ) mr hw b g j').run σ).2 := by
  have hj : j.val ≠ j'.val := fun e => h (Fin.ext e)
  refine ⟨fun p n => ((quantA_fc j').leaves σ (ix4 0 j p n) hj).trans (H.1 p n), ((quantA_fs j').leaves σ (ix2 b (hh g j)) fun e => ?_).trans H.2⟩
  have : 16 * g.val + j.val = 16 * g.val + j'.val := congrArg Fin.val (show hh g j = hh g j' from e.2)
  omega

/-- Four heads quantised. -/
theorem quants_val (H : ∀ i, FIN D b g (hd q i) σ) (i : Fin 4) :
    Q D b g (hd q i) ((four mr fun i => quantA (nD := nD) (τ := τ) (F := Ideal) (Λ := Λ) mr hw b g (hd q i)).run σ).2 :=
  (four_spec (fun σ => ∀ i, FIN D b g (hd q i) σ) (fun i _ σ => Q D b g (hd q i) σ)
    (fun i σ h => ⟨fun i' => (h i').of_eq (quantA_st _), quantA_val _ (h i)⟩)
    (fun _ _ _ _ hne _ h => h.keep (hd_ne' hne)) σ H).2 i

end Cert.Ssd

end
-- ==== Proof.StepQ.lean ====
/-
  A step: the codes and the scales of its sixteen heads.
-/
module

public import proofs.«01_k».proof.Proof.StepY
public import proofs.«01_k».proof.Proof.GroupQ

@[expose] public section

set_option maxRecDepth 16384

noncomputable section

namespace Cert.Ssd

open Idealize.ShloMosaic Idealize.ShloMosaic.TcCoe Idealize.SL.Sem
open Cert.Kernel hiding Facts Facts₀
open Cert.Kernel.Gen

variable {nD : Nat} {τ : Topo} {sig : RefSig} {Λ : Labels} {mr : Mems fam sig} {hw : ∀ k, (mr k).IsWhole} {α β : Type}
variable {D : Data} {b : Fin 5} {g : Fin 3} {q : Fin 4} {σ σ' : St fam Ideal}

theorem ST.fin {j : Fin 16} (hn : (D.n b).toNat ≤ 256) (H : ST D b g j σ) : FIN D b g j σ :=
  fun p n => (H p n).trans (D.fin_short b (hh g j) p hn n).symm

/-- Four heads' states after the second chunk: each is stepped once, and until then is the one after the first. -/
theorem states1_val (H : Ok D b g σ) {u : FVec Ideal S256x128 .f32} (hu : ∀ i p n, u (ix2 (rg i p) n)
      = ∑ s : Fin 128, D.x' b (hh g (hd q i)) p (p1 s) * D.dw1 b (hh g (hd q i)) s * D.B' b (p1 s) n) (hs : ∀ i, ST D b g (hd q i) σ) (i : Fin 4) :
    FIN D b g (hd q i) ((four mr fun i => state1A (nD := nD) (τ := τ) (F := Ideal) (Λ := Λ) mr g q u i).run σ).2 := by
  have st : ∀ i {σ}, Ok D b g σ → Ok D b g ((state1A (nD := nD) (τ := τ) (F := Ideal) (Λ := Λ) mr g q u i).run σ).2 := fun i σ h =>
    h.step ((state1A_wr mr g q _ i).mono fun _ => wrQ_step)
  have kS : ∀ (i i' : Fin 4), i ≠ i' → ∀ {σ}, ST D b g (hd q i) σ → ST D b g (hd q i) ((state1A (nD := nD) (τ := τ) (F := Ideal) (Λ := Λ) mr g q u i').run σ).2 :=
    fun i i' hne σ h p n => (state1A_keeps (hd_ne hne) p n).trans (h p n)
  have kF : ∀ (i i' : Fin 4), i ≠ i' → ∀ {σ}, FIN D b g (hd q i) σ → FIN D b g (hd q i) ((state1A (nD := nD) (τ := τ) (F := Ideal) (Λ := Λ) mr g q u i').run σ).2 :=
    fun i i' hne σ h p n => (state1A_keeps (hd_ne hne) p n).trans (h p n)
  have A0 := st 0 H
  have A1 := st 1 A0
  have A2 := st 2 A1
  have F0 := state1A_FIN (mr := mr) (nD := nD) (τ := τ) (Λ := Λ) H u 0 (hu 0) (hs 0)
  have F1 := state1A_FIN (mr := mr) (nD := nD) (τ := τ) (Λ := Λ) A0 u 1 (hu 1) (kS 1 0 (by decide) (hs 1))
  have F2 := state1A_FIN (mr := mr) (nD := nD) (τ := τ) (Λ := Λ) A1 u 2 (hu 2) (kS 2 1 (by decide) (kS 2 0 (by decide) (hs 2)))
  have F3 := state1A_FIN (mr := mr) (nD := nD) (τ := τ) (Λ := Λ) A2 u 3 (hu 3) (kS 3 2 (by decide) (kS 3 1 (by decide) (kS 3 0 (by decide) (hs 3))))
  fin_cases i
  · exact kF 0 3 (by decide) (kF 0 2 (by decide) (kF 0 1 (by decide) F0))
  · exact kF 1 3 (by decide) (kF 1 2 (by decide) F1)
  · exact kF 2 3 (by decide) F2
  · exact F3

theorem group1A_Q (H : Ok D b g σ) (hn : (D.n b).toNat ≤ 128) (i : Fin 4) (mask : Vec Ideal S64x128 .i32) :
    Q D b g (hd q i) ((group1A (nD := nD) (τ := τ) (F := Ideal) (Λ := Λ) mr hw b g q (liveV (D.n b) 0#32) mask).run σ).2 := by
  have e : group1A (nD := nD) (τ := τ) (F := Ideal) (Λ := Λ) mr hw b g q (liveV (D.n b) 0#32) mask = (do
      entry128A mr q
      let xs ← four mr fun i => x128A mr hw g (liveV (D.n b) 0#32) (hd q i)
      let u ← feed128A mr q
      let _ ← four mr fun i => state0A mr b g q u i
      let _ ← four mr fun i => quantA mr hw b g (hd q i)
      let _ ← four mr fun i => end1A mr hw b g mask (xs i) (hd q i)
      pure ⟨⟩) := rfl
  rw [e]
  simp only [run_bind, run_pure]
  have H1 := H.step ((entry128A_wr (nD := nD) (τ := τ) (Λ := Λ) mr q).mono fun _ => wrE_step)
  obtain ⟨H2, X⟩ := four_spec (m := fun i => x128A (nD := nD) (τ := τ) (Λ := Λ) mr hw g (liveV (D.n b) 0#32) (hd q i))
    (fun σ => Ok D b g σ) (fun i _ σ => XW0 D b g (hd q i) σ)
    (fun i σ h => ⟨h.step ((x128A_wr mr hw g _ _).mono fun _ => wrX_step), x128A_xw h hn (hd q i)⟩)
    (fun _ _ _ _ hne _ h => x128A_keeps (hd_ne hne) h) _ H1
  have w5 : Writes wrQ (feed128A (nD := nD) (τ := τ) (F := Ideal) (Λ := Λ) mr q) := .bind .ld fun _ => .bind .ld fun _ => .pure _
  have U := feed128A_val (nD := nD) (τ := τ) (Λ := Λ) (mr := mr) (q := q) H2 hn X
  obtain ⟨H3, S⟩ := four_spec (m := fun i => state0A (nD := nD) (τ := τ) (F := Ideal) (Λ := Λ) mr b g q _ i)
    (fun σ => Ok D b g σ) (fun i _ σ => ST D b g (hd q i) σ)
    (fun i σ h => ⟨h.step ((state0A_wr mr b g q _ i).mono fun _ => wrQ_step), state0A_ST h _ i (U i)⟩)
    (fun _ _ _ _ hne _ h => fun p n => (state0A_keeps (hd_ne hne) p n).trans (h p n)) _ (H2.step (w5.mono fun _ => wrQ_step))
  have R := quants_val (nD := nD) (τ := τ) (Λ := Λ) (mr := mr) (hw := hw) (fun i => (S i).fin (by omega)) i
  have wy := fun (xs : Fin 4 → FVec Ideal S64x128 .bf16) => Writes.four (mr := mr) fun i => end1A_wr (nD := nD) (τ := τ) (Λ := Λ) (mr := mr) (hw := hw) (b := b) (g := g) mask (xs i) (hd q i)
  refine Q.of_eq ?_ ?_ R
  · exact (wy _).keeps _ .fc rfl
  · exact (wy _).keeps _ .fs rfl

theorem group2A_Q (H : Ok D b g σ) (hn1 : 128 < (D.n b).toNat) (hn : (D.n b).toNat ≤ 256) (i : Fin 4) (mask : Vec Ideal S64x128 .i32) :
    Q D b g (hd q i) ((group2A (nD := nD) (τ := τ) (F := Ideal) (Λ := Λ) mr hw b g q (liveV (D.n b) 128#32) mask).run σ).2 := by
  have e : group2A (nD := nD) (τ := τ) (F := Ideal) (Λ := Λ) mr hw b g q (liveV (D.n b) 128#32) mask = (do
      entry256A mr q
      let xs ← four mr fun i => x256A mr hw g (liveV (D.n b) 128#32) (hd q i)
      let u ← feed256A mr q
      let _ ← four mr fun i => state0A mr b g q u i
      let _ ← four mr fun i => quantA mr hw b g (hd q i)
      let _ ← four mr fun i => end2A mr hw b g mask (xs i) (hd q i)
      pure ⟨⟩) := rfl
  rw [e]
  simp only [run_bind, run_pure]
  have H1 := H.step ((entry256A_wr (nD := nD) (τ := τ) (Λ := Λ) mr q).mono fun _ => wrE_step)
  obtain ⟨H2, X⟩ := four_spec (m := fun i => x256A (nD := nD) (τ := τ) (Λ := Λ) mr hw g (liveV (D.n b) 128#32) (hd q i))
    (fun σ => Ok D b g σ) (fun i _ σ => XW D b g (hd q i) σ)
    (fun i σ h => ⟨h.step ((x256A_wr mr hw g _ _).mono fun _ => wrX_step), x256A_xw h hn1 hn (hd q i)⟩)
    (fun _ _ _ _ hne _ h => x256A_keeps (hd_ne hne) h) _ H1
  have w5 : Writes wrQ (feed256A (nD := nD) (τ := τ) (F := Ideal) (Λ := Λ) mr q) := .bind .ld fun _ => .bind .ld fun _ => .pure _
  have U := feed256A_val (nD := nD) (τ := τ) (Λ := Λ) (mr := mr) (q := q) H2 X
  obtain ⟨H3, S⟩ := four_spec (m := fun i => state0A (nD := nD) (τ := τ) (F := Ideal) (Λ := Λ) mr b g q _ i)
    (fun σ => Ok D b g σ) (fun i _ σ => ST D b g (hd q i) σ)
    (fun i σ h => ⟨h.step ((state0A_wr mr b g q _ i).mono fun _ => wrQ_step), state0A_ST h _ i (U i)⟩)
    (fun _ _ _ _ hne _ h => fun p n => (state0A_keeps (hd_ne hne) p n).trans (h p n)) _ (H2.step (w5.mono fun _ => wrQ_step))
  have R := quants_val (nD := nD) (τ := τ) (Λ := Λ) (mr := mr) (hw := hw) (fun i => (S i).fin hn) i
  have wy := fun (xs : Fin 4 → FVec Ideal S64x256 .bf16) => Writes.four (mr := mr) fun i => end2A_wr (nD := nD) (τ := τ) (Λ := Λ) (mr := mr) (hw := hw) (b := b) (g := g) mask (xs i) (hd q i)
  refine Q.of_eq ?_ ?_ R
  · exact (wy _).keeps _ .fc rfl
  · exact (wy _).keeps _ .fs rfl

theorem group3A_Q (H : Ok D b g σ) (hn1 : 256 < (D.n b).toNat) (hn : (D.n b).toNat ≤ 384) (i : Fin 4) (mask : Vec Ideal S64x128 .i32) :
    Q D b g (hd q i) ((group3A (nD := nD) (τ := τ) (F := Ideal) (Λ := Λ) mr hw b g q (liveV (D.n b) 256#32) mask).run σ).2 := by
  have e : group3A (nD := nD) (τ := τ) (F := Ideal) (Λ := Λ) mr hw b g q (liveV (D.n b) 256#32) mask = (do
      entry256A mr q
      let xs ← four mr fun i => x384A mr hw g (liveV (D.n b) 256#32) (hd q i)
      let u ← feed256A mr q
      let _ ← four mr fun i => state0sA mr hw b g q u i
      let u' ← feedLastA mr q
      let _ ← four mr fun i => state1A mr g q u' i
      entryLastA mr q
      let _ ← four mr fun i => quantA mr hw b g (hd q i)
      let _ ← four mr fun i => end3A mr hw b g mask (xs i) (hd q i)
      pure ⟨⟩) := rfl
  rw [e]
  simp only [run_bind, run_pure]
  have H1 := H.step ((entry256A_wr (nD := nD) (τ := τ) (Λ := Λ) mr q).mono fun _ => wrE_step)
  obtain ⟨H2, X⟩ := four_spec (m := fun i => x384A (nD := nD) (τ := τ) (Λ := Λ) mr hw g (liveV (D.n b) 256#32) (hd q i))
    (fun σ => Ok D b g σ) (fun i _ σ => XW D b g (hd q i) σ ∧ XW1 D b g (hd q i) σ)
    (fun i σ h => ⟨h.step ((x384A_wr mr hw g _ _).mono fun _ => wrX_step), x384A_xw h hn1 hn (hd q i), x384A_xw1 h hn1 hn (hd q i)⟩)
    (fun _ _ _ _ hne _ h => ⟨x384A_keeps (hd_ne hne) h.1, x384A_keeps1 (hd_ne hne) h.2⟩) _ H1
  have w5 : Writes wrQ (feed256A (nD := nD) (τ := τ) (F := Ideal) (Λ := Λ) mr q) := .bind .ld fun _ => .bind .ld fun _ => .pure _
  have U := feed256A_val (nD := nD) (τ := τ) (Λ := Λ) (mr := mr) (q := q) H2 fun i => (X i).1
  have X2 := fun i => XW1.of_eq (w5.keeps _ .xw rfl) (X i).2
  obtain ⟨⟨H3, X3⟩, S⟩ := four_spec (m := fun i => state0sA (nD := nD) (τ := τ) (F := Ideal) (Λ := Λ) mr hw b g q _ i)
    (fun σ => Ok D b g σ ∧ ∀ i, XW1 D b g (hd q i) σ) (fun i _ σ => ST D b g (hd q i) σ)
    (fun i σ h => ⟨⟨h.1.step ((state0sA_wr mr hw b g q _ i).mono fun _ => wrQ_step), fun i' => (h.2 i').of_eq ((state0sA_wr mr hw b g q _ i).keeps σ .xw rfl)⟩,
      (state0A_ST h.1 _ i (U i)).of_eq (state0sA_st _ i)⟩)
    (fun _ i' _ σ hne _ h => ST.of_eq (state0sA_st _ i') fun p n => (state0A_keeps (hd_ne hne) p n).trans (h p n)) _ ⟨H2.step (w5.mono fun _ => wrQ_step), X2⟩
  have w6 : Writes wrY (feedLastA (nD := nD) (τ := τ) (F := Ideal) (Λ := Λ) mr q) := .bind .ld fun _ => .bind .ld fun _ => .pure _
  have U1 := feedLastA_val (nD := nD) (τ := τ) (Λ := Λ) (mr := mr) (q := q) H3 X3
  have S1 := states1_val (nD := nD) (τ := τ) (Λ := Λ) (mr := mr) (H3.step (w6.mono fun _ => wrY_step)) U1 fun i => (S i).of_eq (w6.keeps _ .st rfl)
  have R := quants_val (nD := nD) (τ := τ) (Λ := Λ) (mr := mr) (hw := hw) (fun i => (S1 i).of_eq ((entryLastA_wr (nD := nD) (τ := τ) (Λ := Λ) mr q).keeps _ .st rfl)) i
  have wy := fun (xs : Fin 4 → FVec Ideal S64x384 .bf16) => Writes.four (mr := mr) fun i => end3A_wr (nD := nD) (τ := τ) (Λ := Λ) (mr := mr) (hw := hw) (b := b) (g := g) mask (xs i) (hd q i)
  refine Q.of_eq ?_ ?_ R
  · exact (wy _).keeps _ .fc rfl
  · exact (wy _).keeps _ .fs rfl

/-! ## What a group leaves alone -/

section Leaves

variable {k : Buf} {s : (fam.sh k).Idx → Prop} (hk : k = .fc ∨ k = .fs)
  (hq : ∀ i : Fin 4, Leave k s (quantA (nD := nD) (τ := τ) (F := Ideal) (Λ := Λ) mr hw b g (hd q i))) (live : IVec S64x128 1) (mask : Vec Ideal S64x128 .i32)
include hk

theorem leave_q {wr : Buf → Bool} {m : Piece nD τ Ideal Λ mr α} (hm : Writes wr m) (h1 : wr .fc = false) (h2 : wr .fs = false) : Leave k s m :=
  .of_writes hm (by rcases hk with rfl | rfl <;> assumption)

include hq

theorem group1A_leaveQ : Leave k s (group1A (nD := nD) (τ := τ) (F := Ideal) (Λ := Λ) mr hw b g q live mask) :=
  .bind (leave_q hk (entry128A_wr mr q) rfl rfl) fun _ => .bind (leave_q hk (Writes.four fun i => x128A_wr mr hw g live (hd q i)) rfl rfl) fun xs =>
  .bind (leave_q hk (wr := wrE) (.bind .ld fun _ => .bind .ld fun _ => .pure _) rfl rfl) fun u =>
  .bind (leave_q hk (Writes.four fun i => state0A_st mr b g q u i) rfl rfl) fun _ => .bind (Leave.four hq) fun _ =>
  .bind (leave_q hk (Writes.four fun i => end1A_wr mask (xs i) (hd q i)) rfl rfl) fun _ => .pure _
theorem group2A_leaveQ : Leave k s (group2A (nD := nD) (τ := τ) (F := Ideal) (Λ := Λ) mr hw b g q live mask) :=
  .bind (leave_q hk (entry256A_wr mr q) rfl rfl) fun _ => .bind (leave_q hk (Writes.four fun i => x256A_wr mr hw g live (hd q i)) rfl rfl) fun xs =>
  .bind (leave_q hk (wr := wrE) (.bind .ld fun _ => .bind .ld fun _ => .pure _) rfl rfl) fun u =>
  .bind (leave_q hk (Writes.four fun i => state0A_st mr b g q u i) rfl rfl) fun _ => .bind (Leave.four hq) fun _ =>
  .bind (leave_q hk (Writes.four fun i => end2A_wr mask (xs i) (hd q i)) rfl rfl) fun _ => .pure _
theorem group3A_leaveQ : Leave k s (group3A (nD := nD) (τ := τ) (F := Ideal) (Λ := Λ) mr hw b g q live mask) :=
  .bind (leave_q hk (entry256A_wr mr q) rfl rfl) fun _ => .bind (leave_q hk (Writes.four fun i => x384A_wr mr hw g live (hd q i)) rfl rfl) fun xs =>
  .bind (leave_q hk (wr := wrE) (.bind .ld fun _ => .bind .ld fun _ => .pure _) rfl rfl) fun u =>
  .bind (leave_q hk (wr := fun k => match k with | .st => true | .sb => true | _ => false)
    (Writes.four fun i => .bind (.bind .ld fun _ => .bind .ldw fun _ => .bind .ld fun _ => .bind (.over32 rfl) fun _ => .pure _) fun _ => .overp rfl) rfl rfl) fun _ =>
  .bind (leave_q hk (wr := wrE) (.bind .ld fun _ => .bind .ld fun _ => .pure _) rfl rfl) fun u' =>
  .bind (leave_q hk (Writes.four fun i => state1A_st mr g q u' i) rfl rfl) fun _ => .bind (leave_q hk (entryLastA_wr mr q) rfl rfl) fun _ => .bind (Leave.four hq) fun _ =>
  .bind (leave_q hk (Writes.four fun i => end3A_wr mask (xs i) (hd q i)) rfl rfl) fun _ => .pure _

end Leaves

/-- The codes of the other groups, their scales, and the scales of other batches and blocks. -/
abbrev fcGroups (q : Fin 4) : (fam.sh .fc).Idx → Prop := fun i => ∀ k : Fin 4, fcOthers (hd q k) i
abbrev fsGroups (b : Fin 5) (g : Fin 3) (q : Fin 4) : (fam.sh .fs).Idx → Prop := fun i => ∀ k : Fin 4, fsOthers b (hh g (hd q k)) i
abbrev fsGroup (b : Fin 5) (g : Fin 3) : (fam.sh .fs).Idx → Prop := fun i => ∀ j : Fin 16, fsOthers b (hh g j) i

theorem quant_fcs (i : Fin 4) : Leave .fc (fcGroups q) (quantA (nD := nD) (τ := τ) (F := Ideal) (Λ := Λ) mr hw b g (hd q i)) :=
  ⟨fun σ x hx => (quantA_fc (hd q i)).leaves σ x (hx i)⟩
theorem quant_fss (i : Fin 4) : Leave .fs (fsGroups b g q) (quantA (nD := nD) (τ := τ) (F := Ideal) (Λ := Λ) mr hw b g (hd q i)) :=
  ⟨fun σ x hx => (quantA_fs (hd q i)).leaves σ x (hx i)⟩
theorem quant_fs1 (i : Fin 4) : Leave .fs (fsGroup b g) (quantA (nD := nD) (τ := τ) (F := Ideal) (Λ := Λ) mr hw b g (hd q i)) :=
  ⟨fun σ x hx => (quantA_fs (hd q i)).leaves σ x (hx (hd q i))⟩

/-- Four groups make the sixteen heads. -/
theorem groups_Q {m : Fin 4 → Piece nD τ Ideal Λ mr PUnit} (hm : ∀ q, Writes wrStep (m q)) (hc : ∀ q, Leave .fc (fcGroups q) (m q))
    (hs : ∀ q, Leave .fs (fsGroups b g q) (m q)) (hv : ∀ q σ, Ok D b g σ → ∀ i, Q D b g (hd q i) ((m q).run σ).2) (H : Ok D b g σ) (j : Fin 16) :
    Q D b g j ((four mr m).run σ).2 := by
  have h := (four_spec (fun σ => Ok D b g σ) (fun q _ σ => ∀ i, Q D b g (hd q i) σ)
    (fun q σ h => ⟨h.step (hm q), hv q σ h⟩)
    (fun q q' a σ hne _ hy i => ⟨fun p n => ((hc q').leaves σ (ix4 0 (hd q i) p n) (fun k e => hne (Fin.ext (by
      have e' : 4 * q.val + i.val = 4 * q'.val + k.val := e
      omega)))).trans ((hy i).1 p n), ((hs q').leaves σ (ix2 b (hh g (hd q i))) (fun k e => hne (Fin.ext (by
      have e' : 16 * g.val + (4 * q.val + i.val) = 16 * g.val + (4 * q'.val + k.val) := congrArg Fin.val (show hh g (hd q i) = hh g (hd q' k) from e.2)
      omega)))).trans (hy i).2⟩) σ H).2 ⟨j.val / 4, by omega⟩ ⟨j.val % 4, by omega⟩
  rw [show hd ⟨j.val / 4, by omega⟩ ⟨j.val % 4, by omega⟩ = j from Fin.ext (by show 4 * (j.val / 4) + j.val % 4 = j.val; omega)] at h
  exact h

section Step

variable (H : Ok D b g σ)
include H

theorem step1A_Q (hn : (D.n b).toNat ≤ 128) (j : Fin 16) : Q D b g j ((step1A (nD := nD) (τ := τ) (F := Ideal) (Λ := Λ) mr hw b g (D.n b)).run σ).2 := by
  unfold step1A
  simp only [run_bind, run_pure, run_ld]
  exact groups_Q (fun q => group1A_writes mr hw b g q _ _) (fun q => group1A_leaveQ (.inl rfl) quant_fcs _ _) (fun q => group1A_leaveQ (.inr rfl) quant_fss _ _)
    (fun q σ h i => group1A_Q h hn i _) H j
theorem step2A_Q (hn1 : 128 < (D.n b).toNat) (hn : (D.n b).toNat ≤ 256) (j : Fin 16) :
    Q D b g j ((step2A (nD := nD) (τ := τ) (F := Ideal) (Λ := Λ) mr hw b g (D.n b)).run σ).2 := by
  unfold step2A
  simp only [run_bind, run_pure, run_ld]
  exact groups_Q (fun q => group2A_writes mr hw b g q _ _) (fun q => group2A_leaveQ (.inl rfl) quant_fcs _ _) (fun q => group2A_leaveQ (.inr rfl) quant_fss _ _)
    (fun q σ h i => group2A_Q h hn1 hn i _) H j
theorem step3A_Q (hn : (D.n b).toNat ≤ 384) (hn1 : 256 < (D.n b).toNat) (j : Fin 16) :
    Q D b g j ((step3A (nD := nD) (τ := τ) (F := Ideal) (Λ := Λ) mr hw b g (D.n b)).run σ).2 := by
  unfold step3A
  simp only [run_bind, run_pure, run_ld]
  exact groups_Q (fun q => group3A_writes mr hw b g q _ _) (fun q => group3A_leaveQ (.inl rfl) quant_fcs _ _) (fun q => group3A_leaveQ (.inr rfl) quant_fss _ _)
    (fun q σ h i => group3A_Q h hn1 hn i _) H j

end Step

/-- A step keeps the scales of other batches and blocks. -/
theorem step1A_fs (n : BitVec 32) : Leave .fs (fsGroup b g) (step1A (nD := nD) (τ := τ) (F := Ideal) (Λ := Λ) mr hw b g n) := ⟨fun σ i hi => by
  unfold step1A
  simp only [run_bind, run_pure, run_ld]
  exact (Leave.four fun q => group1A_leaveQ (.inr rfl) quant_fs1 _ _).leaves σ i hi⟩
theorem step2A_fs (n : BitVec 32) : Leave .fs (fsGroup b g) (step2A (nD := nD) (τ := τ) (F := Ideal) (Λ := Λ) mr hw b g n) := ⟨fun σ i hi => by
  unfold step2A
  simp only [run_bind, run_pure, run_ld]
  exact (Leave.four fun q => group2A_leaveQ (.inr rfl) quant_fs1 _ _).leaves σ i hi⟩
theorem step3A_fs (n : BitVec 32) : Leave .fs (fsGroup b g) (step3A (nD := nD) (τ := τ) (F := Ideal) (Λ := Λ) mr hw b g n) := ⟨fun σ i hi => by
  unfold step3A
  simp only [run_bind, run_pure, run_ld]
  exact (Leave.four fun q => group3A_leaveQ (.inr rfl) quant_fs1 _ _).leaves σ i hi⟩

end Cert.Ssd

end
-- ==== Proof.Whole.lean ====
/-
  The body's function: the outputs, the codes and the scales of its sixteen heads, the mask and the tables after it.
-/
module

public import proofs.«01_k».proof.Proof.StepQ

@[expose] public section

set_option maxRecDepth 16384

noncomputable section

namespace Cert.Ssd

open Idealize.ShloMosaic Idealize.ShloMosaic.TcCoe Idealize.SL.Sem
open Cert.Kernel hiding Facts Facts₀
open Cert.Kernel.Gen

variable {nD : Nat} {τ : Topo} {sig : RefSig} {Λ : Labels} {mr : Mems fam sig} {hw : ∀ k, (mr k).IsWhole} {α β : Type}
variable {D : Data} {b : Fin 5} {g : Fin 3} {q : Fin 4} {σ σ' : St fam Ideal}

/-! ## The body -/

theorem cond3_eq : ∀ k : Fin 385, k0_cond3 (BitVec.ofNat 32 k.val) = 1#1 ↔ k.val ≤ 128 := by decide +kernel
theorem cond4_eq : ∀ k : Fin 385, k0_cond4 (BitVec.ofNat 32 k.val) = 1#1 ↔ 128 < k.val ∧ k.val ≤ 256 := by decide +kernel
theorem cond5_eq : ∀ k : Fin 385, k0_cond5 (BitVec.ofNat 32 k.val) = 1#1 ↔ 256 < k.val := by decide +kernel
theorem first_eq : ∀ (b : Fin 5) (g : Fin 3), first b g = 1#1 ↔ b = 0 ∧ g = 0 := by decide +kernel
theorem fresh_eq : ∀ g : Fin 3, fresh g = 1#1 ↔ g = 0 := by decide +kernel

theorem st_mask_fs {off size inb h w hv he hr} : ((st32 (nD := nD) (τ := τ) (F := Ideal) (Λ := Λ) mr .fs off size inb h w hv he hr).run σ).2 .mask = σ .mask :=
  (Writes.st32 (wr := fun k => match k with | .fs => true | _ => false) rfl).keeps σ .mask rfl

theorem st32_at {k off size inb h w hv he hr} (i : (fam.sh k).Idx) (j : (⟨(fam.sh k).rank, size⟩ : Shape).Idx)
    (hij : ∀ a, (i a).val = off a + (j a).val) :
    ((st32 (nD := nD) (τ := τ) (F := Ideal) (Λ := Λ) mr k off size inb h w hv he hr).run σ).2 k i = w j := by
  show St.set (G := fam) σ k ((Rect.unit off size inb).overlay (σ k) w) k i = w j
  unfold St.set
  rw [Function.update_self]
  exact overlay_in i j hij

theorem initA_mask : ((initA (nD := nD) (τ := τ) (F := Ideal) (Λ := Λ) mr).run σ).2 .mask = maskV := by
  unfold initA
  simp only [run_bind, run_ld, st_mask_fs]
  funext j
  exact st32_at (k := .mask) (off := ![0, 0]) j j (lit2 (Nat.zero_add _).symm (Nat.zero_add _).symm)

/-- The windows at batch `b`, block `g`. -/
structure Wins (D : Data) (b : Fin 5) (g : Fin 3) (σ : St fam Ideal) : Prop where
  n : (σ .lens : S5.Idx → BitVec 32) (ix1 b) = D.n b
  dt : ∀ h l, (σ .dt : FVec Ideal S1x48x384 .f32) (ix3 0 h l) = D.dt b h l
  a : ∀ h, (σ .aa : FVec Ideal S1x48 .f32) (ix2 0 h) = D.a h
  B : ∀ l k, (σ .bb : FVec Ideal S1x384x128 .bf16) (ix3 0 l k) = D.B b l k
  C : ∀ l k, (σ .cc : FVec Ideal S1x384x128 .bf16) (ix3 0 l k) = D.C b l k
  x : ∀ j p l, (σ .x : FVec Ideal S1x16x64x384 .bf16) (ix4 0 j p l) = D.x b (hh g j) p l
  hc : ∀ j p n, (σ .hc : FVec Ideal S1x16x64x128 .fp8e4m3) (ix4 0 j p n) = D.c b (hh g j) p n
  hs : ∀ h, (σ .hs : FVec Ideal S5x48 .f32) (ix2 b h) = D.s b h
  dd : ∀ h, (σ .dd : FVec Ideal S48 .f32) (ix1 h) = D.d h

theorem ite_run {c : Prop} [Decidable c] {m : Piece nD τ Ideal Λ mr PUnit} : ((Act.ite c m).run σ).2 = if c then (m.run σ).2 else σ := by
  show (if c then m.run σ else (⟨⟩, σ)).2 = _
  split <;> rfl

theorem leave_ite {k : Buf} {s : (fam.sh k).Idx → Prop} {c : Prop} [Decidable c] {m : Piece nD τ Ideal Λ mr PUnit} (h : Leave k s m) : Leave k s (Act.ite c m) :=
  ⟨fun σ i hi => by
    rw [ite_run]
    split
    · exact h.leaves σ i hi
    · rfl⟩

theorem bodyA_val (hD : D.Tame) (W : Wins D b g σ) (hmask : ¬ (b = 0 ∧ g = 0) → σ .mask = maskV) (htab : g ≠ 0 → Tab D b σ) :
    (∀ j, Y D b g j ((bodyA (nD := nD) (τ := τ) (F := Ideal) (Λ := Λ) mr hw b g Data.L2).run σ).2)
      ∧ ((bodyA (nD := nD) (τ := τ) (F := Ideal) (Λ := Λ) mr hw b g Data.L2).run σ).2 .mask = maskV
      ∧ Tab D b ((bodyA (nD := nD) (τ := τ) (F := Ideal) (Λ := Λ) mr hw b g Data.L2).run σ).2
      ∧ (∀ j, Q D b g j ((bodyA (nD := nD) (τ := τ) (F := Ideal) (Λ := Λ) mr hw b g Data.L2).run σ).2)
      ∧ (¬ (b = 0 ∧ g = 0) → ∀ i, fsGroup b g i → ((bodyA (nD := nD) (τ := τ) (F := Ideal) (Λ := Λ) mr hw b g Data.L2).run σ).2 .fs i = σ .fs i) := by
  have en : ((ldw (nD := nD) (τ := τ) (F := Ideal) (Λ := Λ) mr .lens ![bIx b] S1.size (in_lens b) numel1_S1).run σ).1 = D.n b :=
    (ldw_at (k := .lens) (off := ![bIx b]) (ix1 b) (fun a => by fin_cases a; exact (bIx_eq b).symm) (fun a => by fin_cases a; rfl)).trans W.n
  unfold bodyA
  simp only [run_bind, run_ldw, en]
  -- the mask
  obtain ⟨σ1, h1⟩ : ∃ s, s = ((Act.ite (first b g = 1#1) (initA (nD := nD) (τ := τ) (F := Ideal) (Λ := Λ) mr)).run σ).2 := ⟨_, rfl⟩
  have k1 : ∀ k, wrInit k = false → σ1 k = σ k := fun k hk => by rw [h1]; exact (Writes.ite (initA_writes mr)).keeps σ k hk
  have M1 : σ1 .mask = maskV := by
    rw [h1, ite_run]
    split
    · exact initA_mask
    · rename_i h; exact hmask fun h' => h ((first_eq b g).2 h')
  rw [← h1]
  -- the tables
  obtain ⟨σ2, h2⟩ : ∃ s, s = ((Act.ite (fresh g = 1#1) (prepareA (nD := nD) (τ := τ) (F := Ideal) (Λ := Λ) mr hw Data.L2 (D.n b))).run σ1).2 := ⟨_, rfl⟩
  have k2 : ∀ k, wrTab k = false → σ2 k = σ1 k := fun k hk => by rw [h2]; exact (Writes.ite (prepareA_writes mr hw _ _)).keeps σ1 k hk
  have T2 : Tab D b σ2 := by
    rw [h2, ite_run]
    split
    · refine prepareA_tab hD σ1 ?_ ?_ ?_ ?_
      · rw [k1 .dt rfl]; exact W.dt
      · rw [k1 .aa rfl]; exact W.a
      · rw [k1 .bb rfl]; exact W.B
      · rw [k1 .cc rfl]; exact W.C
    · rename_i h
      exact (htab fun h' => h ((fresh_eq g).2 h')).of_eq fun k hk => k1 k (by cases k <;> first | rfl | cases hk)
  rw [← h2]
  have M2 : σ2 .mask = maskV := (k2 .mask rfl).trans M1
  have O2 : Ok D b g σ2 := by
    refine ⟨T2, ?_, ?_, ?_, ?_⟩
    · rw [k2 .x rfl, k1 .x rfl]; exact W.x
    · rw [k2 .hc rfl, k1 .hc rfl]; exact W.hc
    · rw [k2 .hs rfl, k1 .hs rfl]; exact W.hs
    · rw [k2 .dd rfl, k1 .dd rfl]; exact W.dd
  -- the step
  have s1 := step1A_writes (nD := nD) (τ := τ) (F := Ideal) (Λ := Λ) mr hw b g (D.n b)
  have s2 := step2A_writes (nD := nD) (τ := τ) (F := Ideal) (Λ := Λ) mr hw b g (D.n b)
  have s3 := step3A_writes (nD := nD) (τ := τ) (F := Ideal) (Λ := Λ) mr hw b g (D.n b)
  have hn := hD.n b
  have nn : D.n b = BitVec.ofNat 32 (⟨(D.n b).toNat, by omega⟩ : Fin 385).val := (BitVec.ofNat_toNat ..).symm ▸ (BitVec.setWidth_eq _).symm
  have c3 := cond3_eq ⟨(D.n b).toNat, by omega⟩
  have c4 := cond4_eq ⟨(D.n b).toNat, by omega⟩
  have c5 := cond5_eq ⟨(D.n b).toNat, by omega⟩
  rw [← nn] at c3 c4 c5
  refine ⟨fun j => ?_, ?_, ?_, fun j => ?_, fun hf i hi => ?_⟩
  · rw [ite_run, ite_run, ite_run]
    by_cases a1 : (D.n b).toNat ≤ 128
    · rw [if_neg (fun h => by have : 256 < (D.n b).toNat := c5.1 h; omega), if_neg (fun h => by have : 128 < (D.n b).toNat ∧ (D.n b).toNat ≤ 256 := c4.1 h; omega), if_pos (c3.2 a1)]
      exact step1A_val hD O2 M2 a1 j
    by_cases a2 : (D.n b).toNat ≤ 256
    · rw [if_neg (fun h => by have : 256 < (D.n b).toNat := c5.1 h; omega), if_pos (c4.2 ⟨show 128 < (D.n b).toNat by omega, a2⟩), if_neg (fun h => by have : (D.n b).toNat ≤ 128 := c3.1 h; omega)]
      exact step2A_val hD O2 M2 (by omega) a2 j
    · rw [if_pos (c5.2 (show 256 < (D.n b).toNat by omega)), if_neg (fun h => by have : 128 < (D.n b).toNat ∧ (D.n b).toNat ≤ 256 := c4.1 h; omega), if_neg (fun h => by have : (D.n b).toNat ≤ 128 := c3.1 h; omega)]
      exact step3A_val hD O2 M2 (by omega) j
  · rw [(Writes.ite s3).keeps _ .mask rfl, (Writes.ite s2).keeps _ .mask rfl, (Writes.ite s1).keeps _ .mask rfl, M2]
  · exact (((O2.step (Writes.ite s1)).step (Writes.ite s2)).step (Writes.ite s3)).toTab
  · rw [ite_run, ite_run, ite_run]
    by_cases a1 : (D.n b).toNat ≤ 128
    · rw [if_neg (fun h => by have : 256 < (D.n b).toNat := c5.1 h; omega), if_neg (fun h => by have : 128 < (D.n b).toNat ∧ (D.n b).toNat ≤ 256 := c4.1 h; omega), if_pos (c3.2 a1)]
      exact step1A_Q O2 a1 j
    by_cases a2 : (D.n b).toNat ≤ 256
    · rw [if_neg (fun h => by have : 256 < (D.n b).toNat := c5.1 h; omega), if_pos (c4.2 ⟨show 128 < (D.n b).toNat by omega, a2⟩), if_neg (fun h => by have : (D.n b).toNat ≤ 128 := c3.1 h; omega)]
      exact step2A_Q O2 (by omega) a2 j
    · rw [if_pos (c5.2 (show 256 < (D.n b).toNat by omega)), if_neg (fun h => by have : 128 < (D.n b).toNat ∧ (D.n b).toNat ≤ 256 := c4.1 h; omega), if_neg (fun h => by have : (D.n b).toNat ≤ 128 := c3.1 h; omega)]
      exact step3A_Q O2 hn (by omega) j
  · have e1 : σ1 .fs = σ .fs := by rw [h1, ite_run, if_neg fun h => hf ((first_eq b g).1 h)]
    rw [(leave_ite (step3A_fs (D.n b))).leaves _ i hi, (leave_ite (step2A_fs (D.n b))).leaves _ i hi, (leave_ite (step1A_fs (D.n b))).leaves _ i hi, k2 .fs rfl, e1]

end Cert.Ssd

end
-- ==== Proof.Args.lean ====
/-
  The scan's inputs as the program's arguments, and what the precondition says of them.
-/
module

public import proofs.«01_k».proof.Proof.ReadTab
public import proofs.«01_k».proof.Pre_tame

@[expose] public section

set_option maxRecDepth 16384

noncomputable section

namespace Cert.Ssd

open Idealize.ShloMosaic

/-- The inputs, from the arguments in their order. -/
def Data.of (x : FVec Ideal Pre_tame.S5x384x48x64 .bf16) (dt : FVec Ideal Pre_tame.S5x384x48 .f32) (a : FVec Ideal Pre_tame.S48 .f32)
    (B C : FVec Ideal Pre_tame.S5x384x1x128 .bf16) (d : FVec Ideal Pre_tame.S48 .f32) (c : FVec Ideal Pre_tame.S5x48x64x128 .fp8e4m3)
    (s : FVec Ideal Pre_tame.S5x48 .f32) (n : IVec Pre_tame.S5 32) : Data where
  x b h p l := x (ix4 b l h p)
  dt b h l := dt (ix3 b l h)
  a h := a (ix1 h)
  B b l k := B (ix4 b l 0 k)
  C b l k := C (ix4 b l 0 k)
  d h := d (ix1 h)
  c b h p k := c (ix4 b h p k)
  s b h := s (ix2 b h)
  n b := n (ix1 b)

instance preTameFacts : Cert.Pre_tame.Facts := by constructor <;> decide +kernel

/-- The bits of infinity. -/
theorem inf_eq : Ideal.ofBits .f32 2139095040#32 = (⊤ : EReal) := by simp [Ideal.ofBits, Ideal.ieee]

section

variable {x : FVec Ideal Pre_tame.S5x384x48x64 .bf16} {dt : FVec Ideal Pre_tame.S5x384x48 .f32} {a : FVec Ideal Pre_tame.S48 .f32}
    {B C : FVec Ideal Pre_tame.S5x384x1x128 .bf16} {d : FVec Ideal Pre_tame.S48 .f32} {c : FVec Ideal Pre_tame.S5x48x64x128 .fp8e4m3}
    {s : FVec Ideal Pre_tame.S5x48 .f32} {n : IVec Pre_tame.S5 32}

theorem tame_of (h0 : (Cert.Pre_tame.fn (F := Ideal) x dt a B C d c s n).1 = fun _ => 1#1)
    (h1 : (Cert.Pre_tame.fn (F := Ideal) x dt a B C d c s n).2.1 = fun _ => 1#1)
    (h2 : (Cert.Pre_tame.fn (F := Ideal) x dt a B C d c s n).2.2 = fun _ => 1#1) : (Data.of x dt a B C d c s n).Tame := by
  refine ⟨fun b h l => ?_, fun h => ?_, fun b => ?_⟩
  · have e := congrFun h0 (ix3 b l h)
    simp only [Cert.Pre_tame.fn] at e
    pointwise at e
    rw [inf_eq] at e
    change BitVec.ofBool _ &&& BitVec.ofBool _ = 1#1 at e
    show ∃ r : ℝ, 0 ≤ r ∧ dt (ix3 b l h) = r
    generalize dt (ix3 b l h) = v at e ⊢
    have e2 : 0 ≤ v ∧ v < (⊤ : EReal) := by
      by_cases a1 : 0 ≤ v <;> by_cases a2 : v < (⊤ : EReal) <;> simp [a1, a2] at e ⊢
    induction v using EReal.rec with
    | bot => exact absurd e2.1 (by simp)
    | top => exact absurd e2.2 (by simp)
    | coe r => exact ⟨r, by exact_mod_cast e2.1, rfl⟩
  · have e := congrFun h1 (ix1 h)
    simp only [Cert.Pre_tame.fn] at e
    pointwise at e
    rw [inf_eq] at e
    show ∃ r : ℝ, a (ix1 h) = r
    generalize a (ix1 h) = v at e ⊢
    have e2 : max v (-v) < (⊤ : EReal) := by
      by_contra a1
      have : decide (FloatOps.absf (F := Ideal) (φ := .f32) v < (⊤ : EReal)) = false := decide_eq_false a1
      rw [this] at e
      cases e
    induction v using EReal.rec with
    | bot => exact absurd e2 (by simp)
    | top => exact absurd e2 (by simp)
    | coe r => exact ⟨r, rfl⟩
  · have e := congrFun h2 (ix1 b)
    simp only [Cert.Pre_tame.fn] at e
    pointwise at e
    show (n (ix1 b)).toNat ≤ 384
    generalize n (ix1 b) = v at e ⊢
    change BitVec.ofBool ((0#32).sle v) &&& BitVec.ofBool (v.sle 384#32) = 1#1 at e
    have e2 : (0#32).sle v = true ∧ v.sle 384#32 = true := by
      cases h1 : (0#32).sle v <;> cases h2 : v.sle 384#32 <;> simp [h1, h2] at e ⊢
    rw [BitVec.sle_eq_decide, BitVec.sle_eq_decide, decide_eq_true_eq, decide_eq_true_eq] at e2
    have h0 : (0#32).toInt = 0 := by decide
    have h3 : (384#32).toInt = 384 := by decide
    rw [h0, h3, BitVec.toInt_eq_toNat_cond] at e2
    have := v.isLt
    split at e2 <;> omega

end

end Cert.Ssd

end
-- ==== Proof.RunY.lean ====
/-
  The idealized kernel's launch: what each window holds at a point, and the outputs after the run.
-/
module

public import proofs.«01_k».proof.Proof.Whole
public import proofs.«01_k».proof.Proof.FrameIdeal
public import proofs.«01_k».proof.Proof.Args
public import Idealize.ShloMosaic.Lib.Pipeline.ArrRel
public import Idealize.ShloMosaic.Lib.Pipeline.ValueKit

@[expose] public section

set_option maxRecDepth 16384

noncomputable section

namespace Cert.Ssd.KernelIdeal

open Cert.KernelIdeal Cert.KernelIdeal.Gen
open Idealize.ShloMosaic Idealize.ShloMosaic.TcCoe Idealize.SL.Sem

variable (m : (ℓ : Loc nD τ sig) → Idealize.ShloMosaic.Buf (Elt Ideal) ℓ)
variable (aft : (w : Fin 11) → Fin grid0.N → (Y X : (spec0 w).block.Idx → Elt Ideal (spec0 w).elt) → Prop)
  (Inv : Fin (grid0.N + 1) → St fam Ideal → Prop)

/-- The batch and the block of sixteen heads of a point. -/
abbrev bt (t : Fin grid0.N) : Fin 5 := (grid0.coords t) 0
abbrev gt (t : Fin grid0.N) : Fin 3 := (grid0.coords t) 1

theorem bt_val : ∀ t : Fin grid0.N, (bt t).val = t.val / 3 := by decide +kernel
theorem gt_val : ∀ t : Fin grid0.N, (gt t).val = t.val % 3 := by decide +kernel
theorem ix_0 : ∀ t : Fin grid0.N, cc0_transform_0 (grid0.coords t) = ![0, 0] := by decide +kernel
theorem ix_1 : ∀ t : Fin grid0.N, cc0_transform_1 (grid0.coords t) = ![0] := by decide +kernel
theorem ix_2 : ∀ t : Fin grid0.N, cc0_transform_2 (grid0.coords t) = ![0, 0] := by decide +kernel
theorem ix_3 : ∀ t : Fin grid0.N, cc0_transform_3 (grid0.coords t) = ![(bt t).val, 0, 0] := by decide +kernel
theorem ix_4 : ∀ t : Fin grid0.N, cc0_transform_4 (grid0.coords t) = ![(bt t).val, 0, 0] := by decide +kernel
theorem ix_5 : ∀ t : Fin grid0.N, cc0_transform_5 (grid0.coords t) = ![(bt t).val, 0, 0] := by decide +kernel
theorem ix_6 : ∀ t : Fin grid0.N, cc0_transform_6 (grid0.coords t) = ![(bt t).val, (gt t).val, 0, 0] := by decide +kernel
theorem ix_7 : ∀ t : Fin grid0.N, cc0_transform_7 (grid0.coords t) = ![(bt t).val, (gt t).val, 0, 0] := by decide +kernel
theorem ix_8 : ∀ t : Fin grid0.N, cc0_transform_8 (grid0.coords t) = ![(bt t).val, (gt t).val, 0, 0] := by decide +kernel
theorem ix_9 : ∀ t : Fin grid0.N, cc0_transform_9 (grid0.coords t) = ![(bt t).val, (gt t).val, 0, 0] := by decide +kernel
theorem ix_10 : ∀ t : Fin grid0.N, cc0_transform_10 (grid0.coords t) = ![0, 0] := by decide +kernel

theorem fetched_0 (c : Dev nD) (t : Fin grid0.N) (d) (b : Fin 5) (h : Fin 48) :
    (rdat m aft Inv c).fetched 0 t d (ix2 b h) = V m c main_arg7 (ix2 b h) := by
  show V m c main_arg7 ((((cfgA m).win 0).blk t).view.emb (ix2 b h)) = _
  refine congrArg (V m c main_arg7) (funext fun a => Fin.ext ?_)
  refine (Pipeline.Window.rect_emb_val ((cfgA m).win 0) t (ix2 b h) a).trans ?_
  show cc0_transform_0 (grid0.coords t) a * S5x48.size a + ((ix2 b h : S5x48.Idx) a).val = _
  rw [ix_0 t]
  fin_cases a
  · show 0 * 5 + b.val = b.val; omega
  · show 0 * 48 + h.val = h.val; omega

theorem fetched_1 (c : Dev nD) (t : Fin grid0.N) (d) (h : Fin 48) :
    (rdat m aft Inv c).fetched 1 t d (ix1 h) = V m c main_arg5 (ix1 h) := by
  show V m c main_arg5 ((((cfgA m).win 1).blk t).view.emb (ix1 h)) = _
  refine congrArg (V m c main_arg5) (funext fun a => Fin.ext ?_)
  refine (Pipeline.Window.rect_emb_val ((cfgA m).win 1) t (ix1 h) a).trans ?_
  show cc0_transform_1 (grid0.coords t) a * S48.size a + ((ix1 h : S48.Idx) a).val = _
  rw [ix_1 t]
  fin_cases a
  · show 0 * 48 + h.val = h.val; omega

theorem fetched_2 (c : Dev nD) (t : Fin grid0.N) (d) (h : Fin 48) :
    (rdat m aft Inv c).fetched 2 t d (ix2 0 h) = V m c main_v2 (ix2 0 h) := by
  show V m c main_v2 ((((cfgA m).win 2).blk t).view.emb (ix2 0 h)) = _
  refine congrArg (V m c main_v2) (funext fun a => Fin.ext ?_)
  refine (Pipeline.Window.rect_emb_val ((cfgA m).win 2) t (ix2 0 h) a).trans ?_
  show cc0_transform_2 (grid0.coords t) a * S1x48.size a + ((ix2 0 h : S1x48.Idx) a).val = _
  rw [ix_2 t]
  fin_cases a
  · show 0 * 1 + 0 = 0; omega
  · show 0 * 48 + h.val = h.val; omega

theorem fetched_3 (c : Dev nD) (t : Fin grid0.N) (d) (h : Fin 48) (l : Fin 384) :
    (rdat m aft Inv c).fetched 3 t d (ix3 0 h l) = V m c main_v1 (ix3 (bt t) h l) := by
  show V m c main_v1 ((((cfgA m).win 3).blk t).view.emb (ix3 0 h l)) = _
  refine congrArg (V m c main_v1) (funext fun a => Fin.ext ?_)
  refine (Pipeline.Window.rect_emb_val ((cfgA m).win 3) t (ix3 0 h l) a).trans ?_
  show cc0_transform_3 (grid0.coords t) a * S1x48x384.size a + ((ix3 0 h l : S1x48x384.Idx) a).val = _
  rw [ix_3 t]
  fin_cases a
  · show (bt t).val * 1 + 0 = (bt t).val; omega
  · show 0 * 48 + h.val = h.val; omega
  · show 0 * 384 + l.val = l.val; omega

theorem fetched_4 (c : Dev nD) (t : Fin grid0.N) (d) (l : Fin 384) (k : Fin 128) :
    (rdat m aft Inv c).fetched 4 t d (ix3 0 l k) = V m c main_v3 (ix3 (bt t) l k) := by
  show V m c main_v3 ((((cfgA m).win 4).blk t).view.emb (ix3 0 l k)) = _
  refine congrArg (V m c main_v3) (funext fun a => Fin.ext ?_)
  refine (Pipeline.Window.rect_emb_val ((cfgA m).win 4) t (ix3 0 l k) a).trans ?_
  show cc0_transform_4 (grid0.coords t) a * S1x384x128.size a + ((ix3 0 l k : S1x384x128.Idx) a).val = _
  rw [ix_4 t]
  fin_cases a
  · show (bt t).val * 1 + 0 = (bt t).val; omega
  · show 0 * 384 + l.val = l.val; omega
  · show 0 * 128 + k.val = k.val; omega

theorem fetched_5 (c : Dev nD) (t : Fin grid0.N) (d) (l : Fin 384) (k : Fin 128) :
    (rdat m aft Inv c).fetched 5 t d (ix3 0 l k) = V m c main_v4 (ix3 (bt t) l k) := by
  show V m c main_v4 ((((cfgA m).win 5).blk t).view.emb (ix3 0 l k)) = _
  refine congrArg (V m c main_v4) (funext fun a => Fin.ext ?_)
  refine (Pipeline.Window.rect_emb_val ((cfgA m).win 5) t (ix3 0 l k) a).trans ?_
  show cc0_transform_5 (grid0.coords t) a * S1x384x128.size a + ((ix3 0 l k : S1x384x128.Idx) a).val = _
  rw [ix_5 t]
  fin_cases a
  · show (bt t).val * 1 + 0 = (bt t).val; omega
  · show 0 * 384 + l.val = l.val; omega
  · show 0 * 128 + k.val = k.val; omega

theorem fetched_6 (c : Dev nD) (t : Fin grid0.N) (d) (j : Fin 16) (p : Fin 64) (l : Fin 384) :
    (rdat m aft Inv c).fetched 6 t d (ix4 0 j p l) = V m c main_v0 (ix4 (bt t) (hh (gt t) j) p l) := by
  show V m c main_v0 ((((cfgA m).win 6).blk t).view.emb (ix4 0 j p l)) = _
  refine congrArg (V m c main_v0) (funext fun a => Fin.ext ?_)
  refine (Pipeline.Window.rect_emb_val ((cfgA m).win 6) t (ix4 0 j p l) a).trans ?_
  show cc0_transform_6 (grid0.coords t) a * S1x16x64x384.size a + ((ix4 0 j p l : S1x16x64x384.Idx) a).val = _
  rw [ix_6 t]
  fin_cases a
  · show (bt t).val * 1 + 0 = (bt t).val; omega
  · show (gt t).val * 16 + j.val = 16 * (gt t).val + j.val; omega
  · show 0 * 64 + p.val = p.val; omega
  · show 0 * 384 + l.val = l.val; omega

theorem fetched_7 (c : Dev nD) (t : Fin grid0.N) (d) (j : Fin 16) (p : Fin 64) (l : Fin 128) :
    (rdat m aft Inv c).fetched 7 t d (ix4 0 j p l) = V m c main_arg6 (ix4 (bt t) (hh (gt t) j) p l) := by
  show V m c main_arg6 ((((cfgA m).win 7).blk t).view.emb (ix4 0 j p l)) = _
  refine congrArg (V m c main_arg6) (funext fun a => Fin.ext ?_)
  refine (Pipeline.Window.rect_emb_val ((cfgA m).win 7) t (ix4 0 j p l) a).trans ?_
  show cc0_transform_7 (grid0.coords t) a * S1x16x64x128.size a + ((ix4 0 j p l : S1x16x64x128.Idx) a).val = _
  rw [ix_7 t]
  fin_cases a
  · show (bt t).val * 1 + 0 = (bt t).val; omega
  · show (gt t).val * 16 + j.val = 16 * (gt t).val + j.val; omega
  · show 0 * 64 + p.val = p.val; omega
  · show 0 * 128 + l.val = l.val; omega

/-- Where an element of the outputs' block lies in the array. -/
theorem emb_8 (t : Fin grid0.N) (j : Fin 16) (p : Fin 64) (l : Fin 384) :
    (((cfgA m).win 8).blk t).view.emb (ix4 0 j p l) = (ix4 (bt t) (hh (gt t) j) p l : S5x48x64x384.Idx) := by
  refine funext fun a => Fin.ext ?_
  refine (Pipeline.Window.rect_emb_val ((cfgA m).win 8) t (ix4 0 j p l) a).trans ?_
  show cc0_transform_8 (grid0.coords t) a * S1x16x64x384.size a + ((ix4 0 j p l : S1x16x64x384.Idx) a).val = _
  rw [ix_8 t]
  fin_cases a
  · show (bt t).val * 1 + 0 = (bt t).val; omega
  · show (gt t).val * 16 + j.val = 16 * (gt t).val + j.val; omega
  · show 0 * 64 + p.val = p.val; omega
  · show 0 * 384 + l.val = l.val; omega

/-- Where one of the codes' block does, and of the scales'. -/
theorem emb_9 (t : Fin grid0.N) (j : Fin 16) (p : Fin 64) (n : Fin 128) :
    (((cfgA m).win 9).blk t).view.emb (ix4 0 j p n) = (ix4 (bt t) (hh (gt t) j) p n : S5x48x64x128.Idx) := by
  refine funext fun a => Fin.ext ?_
  refine (Pipeline.Window.rect_emb_val ((cfgA m).win 9) t (ix4 0 j p n) a).trans ?_
  show cc0_transform_9 (grid0.coords t) a * S1x16x64x128.size a + ((ix4 0 j p n : S1x16x64x128.Idx) a).val = _
  rw [ix_9 t]
  fin_cases a
  · show (bt t).val * 1 + 0 = (bt t).val; omega
  · show (gt t).val * 16 + j.val = 16 * (gt t).val + j.val; omega
  · show 0 * 64 + p.val = p.val; omega
  · show 0 * 128 + n.val = n.val; omega
theorem emb_10 (t : Fin grid0.N) (b : Fin 5) (h : Fin 48) :
    (((cfgA m).win 10).blk t).view.emb (ix2 b h) = (ix2 b h : S5x48.Idx) := by
  refine funext fun a => Fin.ext ?_
  refine (Pipeline.Window.rect_emb_val ((cfgA m).win 10) t (ix2 b h) a).trans ?_
  show cc0_transform_10 (grid0.coords t) a * S5x48.size a + ((ix2 b h : S5x48.Idx) a).val = _
  rw [ix_10 t]
  fin_cases a
  · show 0 * 5 + b.val = b.val; omega
  · show 0 * 48 + h.val = h.val; omega

/-! ## The host operations before it -/

theorem V_0 (c : Dev nD) (b : Fin 5) (h : Fin 48) (p : Fin 64) (l : Fin 384) :
    V m c main_v0 (ix4 b h p l) = m ((c.tc : Thread nD τ).loc main_arg0) (ix4 b l h p) := by
  unfold V; entry_read; pointwise
theorem V_1 (c : Dev nD) (b : Fin 5) (h : Fin 48) (l : Fin 384) :
    V m c main_v1 (ix3 b h l) = m ((c.tc : Thread nD τ).loc main_arg1) (ix3 b l h) := by
  unfold V; entry_read; pointwise
theorem V_2 (c : Dev nD) (h : Fin 48) :
    V m c main_v2 (ix2 0 h) = m ((c.tc : Thread nD τ).loc main_arg2) (ix1 h) := by
  unfold V; entry_read; pointwise
theorem V_3 (c : Dev nD) (b : Fin 5) (l : Fin 384) (k : Fin 128) :
    V m c main_v3 (ix3 b l k) = m ((c.tc : Thread nD τ).loc main_arg3) (ix4 b l 0 k) := by
  unfold V; entry_read; pointwise
theorem V_4 (c : Dev nD) (b : Fin 5) (l : Fin 384) (k : Fin 128) :
    V m c main_v4 (ix3 b l k) = m ((c.tc : Thread nD τ).loc main_arg4) (ix4 b l 0 k) := by
  unfold V; entry_read; pointwise

/-! ## The inputs -/

/-- The scan's inputs, from the arguments. -/
def data (c : Dev nD) : Data :=
  Data.of (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))

attribute [local irreducible] code scale mag Data.fin Data.y

/-- What the body leaves in each window: the inputs as found, the outputs and the codes of its batch and heads, the scales
    of the points up to this one. -/
def aftY (D : Data) : (w : Fin 11) → Fin grid0.N → (Y X : (spec0 w).block.Idx → Elt Ideal (spec0 w).elt) → Prop
  | 0, _, Y, X => X = Y
  | 1, _, Y, X => X = Y
  | 2, _, Y, X => X = Y
  | 3, _, Y, X => X = Y
  | 4, _, Y, X => X = Y
  | 5, _, Y, X => X = Y
  | 6, _, Y, X => X = Y
  | 7, _, Y, X => X = Y
  | 8, t, _, X => ∀ (j : Fin 16) (p : Fin 64) (l : Fin 384), X (ix4 0 j p l) = D.y (bt t) (hh (gt t) j) p l
  | 9, t, _, X => ∀ (j : Fin 16) (p : Fin 64) (n : Fin 128), X (ix4 0 j p n) = code (mag (D.fin (bt t) (hh (gt t) j))) (D.fin (bt t) (hh (gt t) j) p n)
  | 10, t, _, X => ∀ (b : Fin 5) (h : Fin 48), 3 * b.val + h.val / 16 ≤ t.val → X (ix2 b h) = scale (mag (D.fin b h))
  | ⟨_ + 11, h⟩, _, _, _ => absurd h (Nat.not_lt.2 (Nat.le_add_left _ _))

/-- Between points: the mask, and the tables of the batch of the point before. -/
def InvY (D : Data) (t : Fin (grid0.N + 1)) (σ : St fam Ideal) : Prop :=
  t.val ≠ 0 → σ .mask = maskV ∧ ∀ b : Fin 5, b.val = (t.val - 1) / 3 → Tab D b σ

/-- The tables at zero: the index maps do not read them. -/
def tables₀ : pre0.Contents (Elt Ideal) := fun
  | ⟨0, _⟩ => (fun _ => (0#32 : BitVec 32))
  | ⟨_ + 1, h⟩ => absurd h (Nat.not_lt.2 (Nat.le_add_left _ _))
def adm₀ : (p : Fin 1) → (pcfgs (F := Ideal) p).Adm := fun _ => ⟨tables₀, by show ok0 (F := Ideal) tables₀; unfold ok0; trivial⟩

/-- The scales' block is written back after the last point alone. -/
theorem flush_10 : ∀ t : Fin grid0.N, t.val + 1 < grid0.N → ((Pipeline.pin (pcfgs (F := Ideal)) adm₀ 0).win 10).flush t = false := by decide +kernel

section Wins

variable (D : Data) (c : Dev nD) (t : Fin grid0.N) (Y : (w : Fin 11) → (spec0 w).block.Idx → Elt Ideal (spec0 w).elt) (σ : St fam Ideal)
variable (hY : ∀ w, (rdat m (aftY D) (InvY D) c).Finds w t (Y w))
include hY

theorem finds_0 : ∃ d, Y 0 = (rdat m (aftY D) (InvY D) c).fetched 0 t d :=
  (rdat m (aftY D) (InvY D) c).finds_in_eq_fetched 0 rfl (fun _ _ _ => rfl) (fun _ _ _ h => h) t (Y 0) (hY 0)
theorem finds_1 : ∃ d, Y 1 = (rdat m (aftY D) (InvY D) c).fetched 1 t d :=
  (rdat m (aftY D) (InvY D) c).finds_in_eq_fetched 1 rfl (fun _ _ _ => rfl) (fun _ _ _ h => h) t (Y 1) (hY 1)
theorem finds_2 : ∃ d, Y 2 = (rdat m (aftY D) (InvY D) c).fetched 2 t d :=
  (rdat m (aftY D) (InvY D) c).finds_in_eq_fetched 2 rfl (fun _ _ _ => rfl) (fun _ _ _ h => h) t (Y 2) (hY 2)
theorem finds_3 : ∃ d, Y 3 = (rdat m (aftY D) (InvY D) c).fetched 3 t d :=
  (rdat m (aftY D) (InvY D) c).finds_in_eq_fetched 3 rfl (fun _ _ _ => rfl) (fun _ _ _ h => h) t (Y 3) (hY 3)
theorem finds_4 : ∃ d, Y 4 = (rdat m (aftY D) (InvY D) c).fetched 4 t d :=
  (rdat m (aftY D) (InvY D) c).finds_in_eq_fetched 4 rfl (fun _ _ _ => rfl) (fun _ _ _ h => h) t (Y 4) (hY 4)
theorem finds_5 : ∃ d, Y 5 = (rdat m (aftY D) (InvY D) c).fetched 5 t d :=
  (rdat m (aftY D) (InvY D) c).finds_in_eq_fetched 5 rfl (fun _ _ _ => rfl) (fun _ _ _ h => h) t (Y 5) (hY 5)
theorem finds_6 : ∃ d, Y 6 = (rdat m (aftY D) (InvY D) c).fetched 6 t d :=
  (rdat m (aftY D) (InvY D) c).finds_in_eq_fetched 6 rfl (fun _ _ _ => rfl) (fun _ _ _ h => h) t (Y 6) (hY 6)
theorem finds_7 : ∃ d, Y 7 = (rdat m (aftY D) (InvY D) c).fetched 7 t d :=
  (rdat m (aftY D) (InvY D) c).finds_in_eq_fetched 7 rfl (fun _ _ _ => rfl) (fun _ _ _ h => h) t (Y 7) (hY 7)

omit hY in
theorem keeps_10 (t' : Fin grid0.N) (h : t'.val + 1 < grid0.N) : ((cfgA m).win 10).flush t' = false := flush_10 t' h
/-- The scales' block holds those of the points before. -/
theorem finds_10 (ht : t.val ≠ 0) (b : Fin 5) (h : Fin 48) (hb : 3 * b.val + h.val / 16 < t.val) :
    (Y 10 : FVec Ideal S5x48 .f32) (ix2 b h) = scale (mag (D.fin b h)) := by
  have hk : t.val - 1 + 1 < grid0.N := by
    have : t.val < grid0.N := t.isLt
    omega
  obtain ⟨Y', -, hy⟩ := (((rdat m (aftY D) (InvY D) c).finds_of_pos (w := 10) (t := t) rfl ht (Y 10)).1 (hY 10)).resolve_left
    fun e => Bool.false_ne_true ((keeps_10 m ⟨t.val - 1, _⟩ hk).symm.trans e)
  exact hy b h (by show _ ≤ t.val - 1; omega)

/-- The windows hold their blocks of the arguments. -/
theorem wins_ok (hD : D = data m c) : Wins D (bt t) (gt t) (entry m Y σ) := by
  subst hD
  refine ⟨?_, fun h l => ?_, fun h => ?_, fun l k => ?_, fun l k => ?_, fun j p l => ?_, fun j p n => ?_, fun h => ?_, fun h => ?_⟩
  · obtain rfl : c = 0 := Subsingleton.elim _ _
    rfl
  · obtain ⟨d, e⟩ := finds_3 m _ c t Y hY
    exact (congrFun e (ix3 0 h l)).trans ((fetched_3 m _ _ c t d h l).trans (V_1 m c (bt t) h l))
  · obtain ⟨d, e⟩ := finds_2 m _ c t Y hY
    exact (congrFun e (ix2 0 h)).trans ((fetched_2 m _ _ c t d h).trans (V_2 m c h))
  · obtain ⟨d, e⟩ := finds_4 m _ c t Y hY
    exact (congrFun e (ix3 0 l k)).trans ((fetched_4 m _ _ c t d l k).trans (V_3 m c (bt t) l k))
  · obtain ⟨d, e⟩ := finds_5 m _ c t Y hY
    exact (congrFun e (ix3 0 l k)).trans ((fetched_5 m _ _ c t d l k).trans (V_4 m c (bt t) l k))
  · obtain ⟨d, e⟩ := finds_6 m _ c t Y hY
    exact (congrFun e (ix4 0 j p l)).trans ((fetched_6 m _ _ c t d j p l).trans (V_0 m c (bt t) (hh (gt t) j) p l))
  · obtain ⟨d, e⟩ := finds_7 m _ c t Y hY
    exact (congrFun e (ix4 0 j p n)).trans ((fetched_7 m _ _ c t d j p n).trans
      (congrFun (V_of_ne m c (b := main_arg6) (by decide) (by decide) (by decide) (by decide) (by decide)) _))
  · obtain ⟨d, e⟩ := finds_0 m _ c t Y hY
    exact (congrFun e (ix2 (bt t) h)).trans ((fetched_0 m _ _ c t d (bt t) h).trans
      (congrFun (V_of_ne m c (b := main_arg7) (by decide) (by decide) (by decide) (by decide) (by decide)) _))
  · obtain ⟨d, e⟩ := finds_1 m _ c t Y hY
    exact (congrFun e (ix1 h)).trans ((fetched_1 m _ _ c t d h).trans
      (congrFun (V_of_ne m c (b := main_arg5) (by decide) (by decide) (by decide) (by decide) (by decide)) _))

end Wins

theorem L_eq : (L : Ideal .f32) = Data.L2 := rfl

theorem step_eq (t : Fin grid0.N) (σ : St fam Ideal) :
    step m t σ = ((bodyA (nD := nD) (τ := τ) (F := Ideal) (Λ := Λ₀) (memsAt m t) (wholeAt m t) (bt t) (gt t) Data.L2).run σ).2 := by
  rw [← L_eq]

theorem aftY_of (D : Data) (t : Fin grid0.N) (Y : (w : Fin 11) → (spec0 w).block.Idx → Elt Ideal (spec0 w).elt) (σ : St fam Ideal)
    (h0 : σ .hs = Y 0) (h1 : σ .dd = Y 1) (h2 : σ .aa = Y 2) (h3 : σ .dt = Y 3) (h4 : σ .bb = Y 4) (h5 : σ .cc = Y 5) (h6 : σ .x = Y 6) (h7 : σ .hc = Y 7)
    (h8 : ∀ j, Ssd.Y D (bt t) (gt t) j σ) (h9 : ∀ j, Q D (bt t) (gt t) j σ)
    (h10 : ∀ (b : Fin 5) (h : Fin 48), 3 * b.val + h.val / 16 ≤ t.val → (σ .fs : FVec Ideal S5x48 .f32) (ix2 b h) = scale (mag (D.fin b h))) : ∀ w, aftY D w t (Y w) (unwins σ w)
  | 0 => h0
  | 1 => h1
  | 2 => h2
  | 3 => h3
  | 4 => h4
  | 5 => h5
  | 6 => h6
  | 7 => h7
  | 8 => h8
  | 9 => fun j => (h9 j).1
  | 10 => h10
  | ⟨_ + 11, h⟩ => absurd h (Nat.not_lt.2 (Nat.le_add_left _ _))

/-- The body's function does what is asked of it. -/
theorem stepOk (D : Data) (hD : D.Tame) (h : ∀ c, D = data m c) : StepOk m (aftY D) (InvY D) := by
  intro c t Y σ hY hI
  have W := wins_ok m D c t Y σ hY (h c)
  have hb := bt_val t
  have hg := gt_val t
  have ht0 : ¬ (bt t = 0 ∧ gt t = 0) → t.castSucc.val ≠ 0 := fun hn h0 => hn ⟨Fin.ext (by
    rw [hb]; show t.val / 3 = 0; rw [show t.val = 0 from h0]), Fin.ext (by rw [hg]; show t.val % 3 = 0; rw [show t.val = 0 from h0])⟩
  obtain ⟨σ₀, e0⟩ : ∃ s, s = entry m Y σ := ⟨_, rfl⟩
  have k0 : ∀ k, wrTab k = true ∨ k = .mask → σ₀ k = σ k := fun k hk => by rw [e0]; cases k <;> first | rfl | (rcases hk with hk | hk <;> cases hk)
  have R := bodyA_val (nD := nD) (τ := τ) (Λ := Λ₀) (mr := memsAt m t) (hw := wholeAt m t) (σ := σ₀) hD (e0 ▸ W)
    (fun hn => (k0 .mask (.inr rfl)).trans (hI (ht0 hn)).1)
    (fun hn => by
      have h0 := ht0 fun e => hn e.2
      have T := (hI h0).2 (bt t) (by
        rw [hb]
        show t.val / 3 = (t.val - 1) / 3
        have : t.val % 3 ≠ 0 := fun e => hn (Fin.ext (hg.trans e))
        omega)
      exact T.of_eq fun k hk => k0 k (.inl hk))
  have wr : ∀ k, wrInit k = false → wrTab k = false → wrStep k = false → step m t σ₀ k = σ₀ k := fun k h1 h2 h3 => by
    rw [step_eq]
    exact (bodyA_writes (nD := nD) (τ := τ) (F := Ideal) (Λ := Λ₀) (memsAt m t) (wholeAt m t) (bt t) (gt t) Data.L2).keeps σ₀ k (by show (wrInit k || wrTab k || wrStep k) = false; rw [h1, h2, h3]; rfl)
  rw [← step_eq] at R
  rw [← e0]
  have w : ∀ k, wrInit k = false → wrTab k = false → wrStep k = false → step m t σ₀ k = entry m Y σ k := fun k h1 h2 h3 => (wr k h1 h2 h3).trans (by rw [e0])
  have f0 : σ₀ .fs = Y 10 := by rw [e0]
  have f10 := finds_10 m D c t Y hY
  clear wr
  generalize step m t σ₀ = σ' at R w ⊢
  refine ⟨aftY_of D t Y σ' (w .hs rfl rfl rfl) (w .dd rfl rfl rfl) (w .aa rfl rfl rfl) (w .dt rfl rfl rfl) (w .bb rfl rfl rfl) (w .cc rfl rfl rfl)
    (w .x rfl rfl rfl) (w .hc rfl rfl rfl) R.1 R.2.2.2.1 fun b h hbh => ?_, fun _ => ⟨R.2.1, fun b hb' => ?_⟩⟩
  · by_cases e : b.val = (bt t).val ∧ h.val / 16 = (gt t).val
    · have e1 : b = bt t := Fin.ext e.1
      have e2 : h = hh (gt t) ⟨h.val % 16, by omega⟩ := Fin.ext (by
        have := e.2
        show h.val = 16 * (gt t).val + h.val % 16
        omega)
      rw [e1, e2]
      exact (R.2.2.2.1 _).2
    · have ht : t.val ≠ 0 := fun h0 => e ⟨by rw [hb]; omega, by rw [hg]; omega⟩
      refine (R.2.2.2.2 (fun h0 => ht ?_) (ix2 b h) fun j e' => e ⟨congrArg Fin.val e'.1, ?_⟩).trans ((congrFun f0 (ix2 b h)).trans (f10 ht b h ?_))
      · have z0 : (bt t).val = 0 := congrArg Fin.val h0.1
        have z1 : (gt t).val = 0 := congrArg Fin.val h0.2
        omega
      · have e2 : h.val = 16 * (gt t).val + j.val := congrArg Fin.val (show h = hh (gt t) j from e'.2)
        omega
      · have : h.val < 48 := h.isLt
        omega
  rw [show b = bt t from Fin.ext (hb'.trans (by rw [hb]; rfl))]
  exact R.2.2.1

/-! ## After the run -/

/-- The outputs' blocks cover their array. -/
theorem covers₀ : ((Pipeline.pin (pcfgs (F := Ideal)) adm₀ 0).win 8).Covers := by decide +kernel
theorem covers_8 : ((cfgA m).win 8).Covers := covers₀
theorem covers₁ : ((Pipeline.pin (pcfgs (F := Ideal)) adm₀ 0).win 9).Covers := by decide +kernel
theorem covers_9 : ((cfgA m).win 9).Covers := covers₁
theorem covers₂ : ((Pipeline.pin (pcfgs (F := Ideal)) adm₀ 0).win 10).Covers := by decide +kernel
theorem covers_10 : ((cfgA m).win 10).Covers := covers₂

/-- The outputs after the run. -/
theorem out_eq (D : Data) {r : PUnit × MemSt nD τ sig (Elt Ideal)}
    (h : Pipeline.RDat.FramePost (cfgA m) (rdat m (aftY D) (InvY D)) (V m) r) (c : Dev nD) :
    r.2.mem ((c.tc : Thread nD τ).loc main_v5_0) = fun i : S5x48x64x384.Idx => D.y (i 0) (i 1) (i 2) (i 3) := by
  obtain ⟨after, hL, hA⟩ := Pipeline.RDat.FramePost.exists_exact h c
  refine (hA 8).trans ?_
  refine Pipeline.Dat.arrAt_eq_of_covers ((rdat m (aftY D) (InvY D) c).withAfter after) 8 _ (covers_8 m) fun t hf => ?_
  obtain ⟨Y, -, hy⟩ := hL 8 t hf
  show ∀ y : S1x16x64x384.Idx, after 8 t y = (fun i : S5x48x64x384.Idx => D.y (i 0) (i 1) (i 2) (i 3)) ((((cfgA m).win 8).blk t).view.emb y)
  intro y
  obtain ⟨z, j, p, l, rfl⟩ : ∃ (z : Fin 1) (j : Fin 16) (p : Fin 64) (l : Fin 384), y = ix4 z j p l := ⟨_, _, _, _, eq_ix4 y⟩
  obtain rfl : z = 0 := Subsingleton.elim _ _
  exact (hy j p l).trans (congrArg (fun i : S5x48x64x384.Idx => D.y (i 0) (i 1) (i 2) (i 3)) (emb_8 m t j p l).symm)

/-- The codes after the run. -/
theorem codes_eq (D : Data) {r : PUnit × MemSt nD τ sig (Elt Ideal)}
    (h : Pipeline.RDat.FramePost (cfgA m) (rdat m (aftY D) (InvY D)) (V m) r) (c : Dev nD) :
    r.2.mem ((c.tc : Thread nD τ).loc main_v5_1) = fun i : S5x48x64x128.Idx => code (mag (D.fin (i 0) (i 1))) (D.fin (i 0) (i 1) (i 2) (i 3)) := by
  obtain ⟨after, hL, hA⟩ := Pipeline.RDat.FramePost.exists_exact h c
  refine (hA 9).trans ?_
  refine Pipeline.Dat.arrAt_eq_of_covers ((rdat m (aftY D) (InvY D) c).withAfter after) 9 _ (covers_9 m) fun t hf => ?_
  obtain ⟨Y, -, hy⟩ := hL 9 t hf
  show ∀ y : S1x16x64x128.Idx, after 9 t y = (fun i : S5x48x64x128.Idx => code (mag (D.fin (i 0) (i 1))) (D.fin (i 0) (i 1) (i 2) (i 3))) ((((cfgA m).win 9).blk t).view.emb y)
  intro y
  obtain ⟨z, j, p, l, rfl⟩ : ∃ (z : Fin 1) (j : Fin 16) (p : Fin 64) (l : Fin 128), y = ix4 z j p l := ⟨_, _, _, _, eq_ix4 y⟩
  obtain rfl : z = 0 := Subsingleton.elim _ _
  exact (hy j p l).trans (congrArg (fun i : S5x48x64x128.Idx => code (mag (D.fin (i 0) (i 1))) (D.fin (i 0) (i 1) (i 2) (i 3))) (emb_9 m t j p l).symm)

/-- The scales after the run. -/
theorem scales_eq (D : Data) {r : PUnit × MemSt nD τ sig (Elt Ideal)}
    (h : Pipeline.RDat.FramePost (cfgA m) (rdat m (aftY D) (InvY D)) (V m) r) (c : Dev nD) :
    r.2.mem ((c.tc : Thread nD τ).loc main_v5_2) = fun i : S5x48.Idx => scale (mag (D.fin (i 0) (i 1))) := by
  obtain ⟨after, hL, hA⟩ := Pipeline.RDat.FramePost.exists_exact h c
  refine (hA 10).trans ?_
  refine Pipeline.Dat.arrAt_eq_of_covers ((rdat m (aftY D) (InvY D) c).withAfter after) 10 _ (covers_10 m) fun t hf => ?_
  obtain ⟨Y, -, hy⟩ := hL 10 t hf
  have ht : ¬ t.val + 1 < grid0.N := fun h => Bool.false_ne_true ((keeps_10 m t h).symm.trans hf)
  have hN : grid0.N = 15 := by decide
  show ∀ y : S5x48.Idx, after 10 t y = (fun i : S5x48.Idx => scale (mag (D.fin (i 0) (i 1)))) ((((cfgA m).win 10).blk t).view.emb y)
  intro y
  obtain ⟨b, h, rfl⟩ : ∃ (b : Fin 5) (h : Fin 48), y = ix2 b h := ⟨_, _, eq_ix2 y⟩
  exact (hy b h (by have := b.isLt; have := h.isLt; omega)).trans (congrArg (fun i : S5x48.Idx => scale (mag (D.fin (i 0) (i 1)))) (emb_10 m t b h).symm)

end Cert.Ssd.KernelIdeal

end
-- ==== Proof.RefValue.lean ====
/-
  The reference's result, read at an index: the scan's outputs.
-/
module

public import proofs.«01_k».proof.Proof.Gen.ReferenceIdeal.Run
public import proofs.«01_k».proof.Proof.Args
public import Idealize.ShloMosaic.Lib.Pipeline.ValueKit

@[expose] public section

set_option maxRecDepth 16384

noncomputable section

namespace Cert.Ssd.ReferenceIdeal

open Cert.ReferenceIdeal Cert.ReferenceIdeal.Gen Cert.ReferenceIdeal.Value Idealize.ShloMosaic Idealize.ShloMosaic.TcCoe Idealize.SL.Sem Idealize.ShloMosaic.StableHlo

/-- The buffers the later operations start from hold these inputs. -/
structure Holds (D : Data) (V : Valuation τ sig (Elt Ideal)) : Prop where
  x : ∀ b l h p, (V (Proc.devRef .tc main_arg0) : FVec Ideal S5x384x48x64 .bf16) (ix4 b l h p) = D.x b h p l
  dt : ∀ b l h, (V (Proc.devRef .tc main_arg1) : FVec Ideal S5x384x48 .f32) (ix3 b l h) = D.dt b h l
  a : ∀ h, (V (Proc.devRef .tc main_arg2) : FVec Ideal S48 .f32) (ix1 h) = D.a h
  B : ∀ b l k, (V (Proc.devRef .tc main_arg3) : FVec Ideal S5x384x1x128 .bf16) (ix4 b l 0 k) = D.B b l k
  C : ∀ b l k, (V (Proc.devRef .tc main_arg4) : FVec Ideal S5x384x1x128 .bf16) (ix4 b l 0 k) = D.C b l k
  d : ∀ h, (V (Proc.devRef .tc main_arg5) : FVec Ideal S48 .f32) (ix1 h) = D.d h
  c : ∀ b h p k, (V (Proc.devRef .tc main_v0) : FVec Ideal S5x48x64x128 .bf16) (ix4 b h p k) = D.c b h p k
  s : ∀ b h, (V (Proc.devRef .tc main_arg7) : FVec Ideal S5x48 .f32) (ix2 b h) = D.s b h
  n : ∀ b, (V (Proc.devRef .tc main_arg8) : IVec S5 32) (ix1 b) = D.n b

variable {D : Data} (hD : D.Tame) {V : Valuation τ sig (Elt Ideal)} (H : Holds D V)
include hD H

/-! ## The masked inputs -/

theorem dt_at (b : Fin 5) (l : Fin 384) (h : Fin 48) : (res_main_v8 V : FVec Ideal S5x384x48 .f32) (ix3 b l h) = D.dt' b h l := by
  pointwise [res_main_v8, res_main_v6, id]
  rw [H.n, select_lt (by omega) (hD.n b), H.dt]
  rfl
theorem x_at (b : Fin 5) (l : Fin 384) (h : Fin 48) (p : Fin 64) : (res_main_v10 V : FVec Ideal S5x384x48x64 .bf16) (ix4 b l h p) = D.x' b h p l := by
  pointwise [res_main_v10, res_main_v6]
  rw [H.n, select_lt (by omega) (hD.n b), H.x]
  rfl
theorem B_at (b : Fin 5) (l : Fin 384) (k : Fin 128) : (res_main_v13 V : FVec Ideal S5x384x128 .bf16) (ix3 b l k) = D.B' b l k := by
  pointwise [res_main_v13, res_main_v6]
  rw [H.n, select_lt (by omega) (hD.n b), H.B]
  rfl
theorem C_at (b : Fin 5) (l : Fin 384) (k : Fin 128) : (res_main_v16 V : FVec Ideal S5x384x128 .bf16) (ix3 b l k) = D.C' b l k := by
  pointwise [res_main_v16, res_main_v6]
  rw [H.n, select_lt (by omega) (hD.n b), H.C]
  rfl

/-! ## The chunks -/

theorem x0_at (b : Fin 5) (l : Fin 256) (h : Fin 48) (p : Fin 64) : (res_main_v21 V : FVec Ideal S5x256x48x64 .bf16) (ix4 b l h p) = D.x' b h p (p0 l) := by
  rw [← x_at hD H]
  pointwise [res_main_v21]
theorem dt0_at (b : Fin 5) (l : Fin 256) (h : Fin 48) : (res_main_v22 V : FVec Ideal S5x256x48 .f32) (ix3 b l h) = D.dt' b h (p0 l) := by
  rw [← dt_at hD H]
  pointwise [res_main_v22]
theorem B0_at (b : Fin 5) (l : Fin 256) (k : Fin 128) : (res_main_v23 V : FVec Ideal S5x256x128 .bf16) (ix3 b l k) = D.B' b (p0 l) k := by
  rw [← B_at hD H]
  pointwise [res_main_v23]
theorem C0_at (b : Fin 5) (l : Fin 256) (k : Fin 128) : (res_main_v24 V : FVec Ideal S5x256x128 .bf16) (ix3 b l k) = D.C' b (p0 l) k := by
  rw [← C_at hD H]
  pointwise [res_main_v24]
theorem x1_at (b : Fin 5) (l : Fin 128) (h : Fin 48) (p : Fin 64) : (res_main_v87 V : FVec Ideal S5x128x48x64 .bf16) (ix4 b l h p) = D.x' b h p (p1 l) := by
  rw [← x_at hD H]
  pointwise [res_main_v87]
theorem dt1_at (b : Fin 5) (l : Fin 128) (h : Fin 48) : (res_main_v88 V : FVec Ideal S5x128x48 .f32) (ix3 b l h) = D.dt' b h (p1 l) := by
  rw [← dt_at hD H]
  pointwise [res_main_v88]
theorem C1_at (b : Fin 5) (l : Fin 128) (k : Fin 128) : (res_main_v90 V : FVec Ideal S5x128x128 .bf16) (ix3 b l k) = D.C' b (p1 l) k := by
  rw [← C_at hD H]
  pointwise [res_main_v90]

/-! ## The running sums -/

omit hD H in
/-- A choice by the order of two positions. -/
theorem select_le {α : Type} {s l : Nat} (hs : s < 2 ^ 31) (hl : l < 2 ^ 31) (a b : α) :
    Scalar.select (IntOp.cmpi .sle (BitVec.ofNat 32 s) (BitVec.ofNat 32 l)) a b = if s ≤ l then a else b := by
  show (if BitVec.ofBool ((BitVec.ofNat 32 s).sle (BitVec.ofNat 32 l)) = 1 then a else b) = _
  rw [le_iff_word hs hl]
  by_cases h : s ≤ l <;> simp [h]

theorem cs0_at (b : Fin 5) (h : Fin 48) (l : Fin 256) : (res_main_v38 V : FVec Ideal S5x48x256 .f32) (ix3 b h l) = D.cs0 b h l := by
  pointwise [res_main_v38, res_main_v30, res_main_v25, id]
  refine (show (_ : EReal) = ∑ s : Fin 256, (_ : EReal) from rfl).trans (Finset.sum_congr (M := EReal) rfl fun s _ => ?_)
  rw [select_le (by omega) (by omega), dt0_at hD H, H.a]
  rfl
theorem cs1_at (b : Fin 5) (h : Fin 48) (l : Fin 128) : (res_main_v104 V : FVec Ideal S5x48x128 .f32) (ix3 b h l) = D.cs1 b h l := by
  pointwise [res_main_v104, res_main_v96, res_main_v91, id]
  refine (show (_ : EReal) = ∑ s : Fin 128, (_ : EReal) from rfl).trans (Finset.sum_congr (M := EReal) rfl fun s _ => ?_)
  rw [select_le (by omega) (by omega), dt1_at hD H, H.a]
  rfl

/-! ## The outputs -/

omit hD H in
/-- The bits of minus infinity. -/
theorem ninf_eq : Ideal.ofBits .f32 4286578688#32 = (⊥ : EReal) := by simp [Ideal.ofBits, Ideal.ieee]

omit hD H in
/-- A weight whose exponent is minus infinity past the diagonal is zero there. -/
theorem weight {s l : Nat} (hs : s < 2 ^ 31) (hl : l < 2 ^ 31) (cb e t : EReal) :
    cb * Ideal.exp (Scalar.select (IntOp.cmpi .sle (BitVec.ofNat 32 s) (BitVec.ofNat 32 l)) e (Ideal.ofBits .f32 4286578688#32)) * t
      = if s ≤ l then cb * (Ideal.exp e * t) else 0 := by
  rw [select_le hs hl, ninf_eq]
  split
  · rw [mul_assoc]
  · rw [Ideal.exp_bot, mul_zero, zero_mul]

omit hD H in
theorem cb_comm (D : Data) (b : Fin 5) (s l : Fin 384) : (∑ k, D.C' b l k * D.B' b s k) = D.cb b s l :=
  Finset.sum_congr rfl fun _ _ => mul_comm _ _

/-- What a chunk's positions give: chunk 0. -/
theorem local0 (b : Fin 5) (h : Fin 48) (p : Fin 64) (l : Fin 256)
    {X : FVec Ideal S5x256x48x64 .bf16} {T₀ : FVec Ideal S5x256x48 .f32} {B₀ : FVec Ideal S5x256x128 .bf16} {C₀ : FVec Ideal S5x256x128 .bf16} {R₀ : FVec Ideal S5x48x256 .f32}
    (h21 : X = res_main_v21 V) (h22 : T₀ = res_main_v22 V) (h23 : B₀ = res_main_v23 V) (h24 : C₀ = res_main_v24 V) (h38 : R₀ = res_main_v38 V) :
    (∑ s : Fin 256, (X (ix4 b s h p) : EReal) *
        (((∑ k : Fin 128, (C₀ (ix3 b l k) : EReal) * B₀ (ix3 b s k)) : EReal) *
          Ideal.exp (Scalar.select (IntOp.cmpi .sle (BitVec.ofNat 32 s.val) (BitVec.ofNat 32 l.val))
            ((R₀ (ix3 b h l) : EReal) - R₀ (ix3 b h s)) (Ideal.ofBits .f32 4286578688#32)) *
          T₀ (ix3 b s h)))
      = ∑ s : Fin 256, D.x' b h p (p0 s) * D.w0 b h s l := by
  subst h21 h22 h23 h24 h38
  refine Finset.sum_congr (M := EReal) rfl fun s _ => ?_
  rw [x0_at hD H, weight (by omega) (by omega), cs0_at hD H, cs0_at hD H, dt0_at hD H]
  unfold Data.w0
  simp only [C0_at hD H, B0_at hD H]
  rw [cb_comm]
  rfl

/-- What a chunk's positions give: chunk 1. -/
theorem local1 (b : Fin 5) (h : Fin 48) (p : Fin 64) (l : Fin 128)
    {B₁ : FVec Ideal S5x384x128 .bf16} {X₁ : FVec Ideal S5x128x48x64 .bf16} {T₁ : FVec Ideal S5x128x48 .f32} {C₁ : FVec Ideal S5x128x128 .bf16} {R₁ : FVec Ideal S5x48x128 .f32}
    (h13 : B₁ = res_main_v13 V) (h87 : X₁ = res_main_v87 V) (h88 : T₁ = res_main_v88 V) (h90 : C₁ = res_main_v90 V) (h104 : R₁ = res_main_v104 V) :
    (∑ s : Fin 128, (X₁ (ix4 b s h p) : EReal) *
        (((∑ k : Fin 128, (C₁ (ix3 b l k) : EReal) * B₁ (ix3 b (p1 s) k)) : EReal) *
          Ideal.exp (Scalar.select (IntOp.cmpi .sle (BitVec.ofNat 32 s.val) (BitVec.ofNat 32 l.val))
            ((R₁ (ix3 b h l) : EReal) - R₁ (ix3 b h s)) (Ideal.ofBits .f32 4286578688#32)) *
          T₁ (ix3 b s h)))
      = ∑ s : Fin 128, D.x' b h p (p1 s) * D.w1 b h s l := by
  subst h13 h87 h88 h90 h104
  refine Finset.sum_congr (M := EReal) rfl fun s _ => ?_
  rw [x1_at hD H, weight (by omega) (by omega), cs1_at hD H, cs1_at hD H, dt1_at hD H]
  unfold Data.w1
  simp only [C1_at hD H, B_at hD H]
  rw [cb_comm]
  rfl

/-- What the first chunk's entry codes give. -/
theorem entry0 (b : Fin 5) (h : Fin 48) (p : Fin 64) (l : Fin 256)
    {C₀ : FVec Ideal S5x256x128 .bf16} {R₀ : FVec Ideal S5x48x256 .f32} {K : FVec Ideal S5x48x64x128 .bf16} {Q : FVec Ideal S5x48 .f32}
    (h24 : C₀ = res_main_v24 V) (h38 : R₀ = res_main_v38 V) (hK : K = V (Proc.devRef .tc main_v0)) (hQ : Q = V (Proc.devRef .tc main_arg7)) :
    ((∑ k : Fin 128, (K (ix4 b h p k) : EReal) * C₀ (ix3 b l k)) : EReal) * Q (ix2 b h)
        * Ideal.exp (R₀ (ix3 b h l))
      = D.e0 b h p (p0 l) * (Ideal.exp (D.cs0 b h l) * D.s b h) := by
  subst h24 h38 hK hQ
  rw [H.s, cs0_at hD H, mul_assoc, mul_comm (D.s b h)]
  unfold Data.e0
  refine congrArg (· * _) (Finset.sum_congr (M := EReal) rfl fun k _ => ?_)
  rw [H.c, C0_at hD H]

/-- What the second chunk's entry state gives. -/
theorem entry1 (b : Fin 5) (h : Fin 48) (p : Fin 64) (l : Fin 128)
    {X : FVec Ideal S5x256x48x64 .bf16} {T₀ : FVec Ideal S5x256x48 .f32} {B₀ : FVec Ideal S5x256x128 .bf16} {R₀ : FVec Ideal S5x48x256 .f32} {C₁ : FVec Ideal S5x128x128 .bf16} {R₁ : FVec Ideal S5x48x128 .f32} {K : FVec Ideal S5x48x64x128 .bf16} {Q : FVec Ideal S5x48 .f32}
    (h21 : X = res_main_v21 V) (h22 : T₀ = res_main_v22 V) (h23 : B₀ = res_main_v23 V) (h38 : R₀ = res_main_v38 V) (h90 : C₁ = res_main_v90 V) (h104 : R₁ = res_main_v104 V) (hK : K = V (Proc.devRef .tc main_v0)) (hQ : Q = V (Proc.devRef .tc main_arg7)) :
    ((∑ n : Fin 128, ((Ideal.exp (R₀ (ix3 b h 255)) *
          ((K (ix4 b h p n) : EReal) * Q (ix2 b h)) +
        ((∑ s : Fin 256, (X (ix4 b s h p) : EReal) *
          (Ideal.exp ((R₀ (ix3 b h 255) : EReal) - R₀ (ix3 b h s)) * T₀ (ix3 b s h)) *
            B₀ (ix3 b s n)) : EReal)) : EReal) * C₁ (ix3 b l n)) : EReal) * Ideal.exp (R₁ (ix3 b h l))
      = D.e1 b h p l * Ideal.exp (D.cs1 b h l) := by
  subst h21 h22 h23 h38 h90 h104 hK hQ
  rw [cs1_at hD H]
  unfold Data.e1
  refine congrArg (· * _) (Finset.sum_congr (M := EReal) rfl fun k _ => ?_)
  rw [C1_at hD H, H.s, H.c, cs0_at hD H]
  refine congrArg (· * _) (congrArg (_ + ·) (Finset.sum_congr (M := EReal) rfl fun s _ => ?_))
  rw [x0_at hD H, cs0_at hD H, dt0_at hD H, B0_at hD H]
  rfl

/-- The outputs before they are rounded. -/
def outV (V : Valuation τ sig (Elt Ideal)) : FVec Ideal S5x48x64x384 .f32 :=
  concatenate S5x48x64x384 3 [⟨S5x48x64x256, (addf (addf (Host.dotGeneral (φ₁ := .bf16) (φ₂ := .bf16) dot_S5x256x48x64_S5x48x256x256_S5x48x64x256_1_3_3_2_02_01 none (res_main_v21 V) (truncf .bf16 (mulf (mulf (broadcastInDim S5x48x256x256 ![0, 1, 2, 3] bcast_S5x1x256x256_S5x48x256x256_0_1_2_3 (broadcastInDim S5x1x256x256 ![0, 2, 3] bcast_S5x256x256_S5x1x256x256_0_2_3 (Host.dotGeneral (φ₁ := .bf16) (φ₂ := .bf16) dot_S5x256x128_S5x256x128_S5x256x256_2_2_1_1_0_0 none (res_main_v24 V) (res_main_v23 V)))) (Host.exp (select (broadcastInDim S5x48x256x256 ![2, 3] bcast_S256x256_S5x48x256x256_2_3 (res_main_v30 V)) (subf (broadcastInDim S5x48x256x256 ![0, 1, 2, 3] bcast_S5x48x256x1_S5x48x256x256_0_1_2_3 (broadcastInDim S5x48x256x1 ![0, 1, 2] bcast_S5x48x256_S5x48x256x1_0_1_2 (res_main_v38 V))) (broadcastInDim S5x48x256x256 ![0, 1, 2, 3] bcast_S5x48x1x256_S5x48x256x256_0_1_2_3 (broadcastInDim S5x48x1x256 ![0, 1, 3] bcast_S5x48x256_S5x48x1x256_0_1_3 (res_main_v38 V)))) (broadcastInDim S5x48x256x256 ![] bcast_S_S5x48x256x256 (id (constant S_ .f32 0xFF800000#32)))))) (broadcastInDim S5x48x256x256 ![0, 1, 2, 3] bcast_S5x48x1x256_S5x48x256x256_0_1_2_3 (broadcastInDim S5x48x1x256 ![0, 1, 3] bcast_S5x48x256_S5x48x1x256_0_1_3 (res_main_v31 V)))) bitsLt_bf16_f32)) (mulf (mulf (Host.dotGeneral (φ₁ := .bf16) (φ₂ := .bf16) dot_S5x48x64x128_S5x256x128_S5x48x64x256_3_2_12_1_0_0 none (V (Proc.devRef .tc main_v0)) (res_main_v24 V)) (broadcastInDim S5x48x64x256 ![0, 1, 2, 3] bcast_S5x48x1x1_S5x48x64x256_0_1_2_3 (broadcastInDim S5x48x1x1 ![0, 1] bcast_S5x48_S5x48x1x1_0_1 (V (Proc.devRef .tc main_arg7))))) (broadcastInDim S5x48x64x256 ![0, 1, 2, 3] bcast_S5x48x1x256_S5x48x64x256_0_1_2_3 (broadcastInDim S5x48x1x256 ![0, 1, 3] bcast_S5x48x256_S5x48x1x256_0_1_3 (res_main_v39 V))))) (mulf (broadcastInDim S5x48x64x256 ![0, 1, 2, 3] bcast_S1x48x1x1_S5x48x64x256_0_1_2_3 (broadcastInDim S1x48x1x1 ![1, 2, 3] bcast_S48x1x1_S1x48x1x1_1_2_3 (broadcastInDim S48x1x1 ![0] bcast_S48_S48x1x1_0 (V (Proc.devRef .tc main_arg5))))) (res_main_v64 V)))⟩, ⟨S5x48x64x128, (addf (addf (Host.dotGeneral (φ₁ := .bf16) (φ₂ := .bf16) dot_S5x128x48x64_S5x48x128x128_S5x48x64x128_1_3_3_2_02_01 none (res_main_v87 V) (truncf .bf16 (mulf (mulf (broadcastInDim S5x48x128x128 ![0, 1, 2, 3] bcast_S5x1x128x128_S5x48x128x128_0_1_2_3 (broadcastInDim S5x1x128x128 ![0, 2, 3] bcast_S5x128x128_S5x1x128x128_0_2_3 (Host.dotGeneral (φ₁ := .bf16) (φ₂ := .bf16) dot_S5x128x128_S5x128x128_S5x128x128_2_2_1_1_0_0 none (res_main_v90 V) (res_main_v89 V)))) (Host.exp (select (broadcastInDim S5x48x128x128 ![2, 3] bcast_S128x128_S5x48x128x128_2_3 (res_main_v96 V)) (subf (broadcastInDim S5x48x128x128 ![0, 1, 2, 3] bcast_S5x48x128x1_S5x48x128x128_0_1_2_3 (broadcastInDim S5x48x128x1 ![0, 1, 2] bcast_S5x48x128_S5x48x128x1_0_1_2 (res_main_v104 V))) (broadcastInDim S5x48x128x128 ![0, 1, 2, 3] bcast_S5x48x1x128_S5x48x128x128_0_1_2_3 (broadcastInDim S5x48x1x128 ![0, 1, 3] bcast_S5x48x128_S5x48x1x128_0_1_3 (res_main_v104 V)))) (broadcastInDim S5x48x128x128 ![] bcast_S_S5x48x128x128 (id (constant S_ .f32 0xFF800000#32)))))) (broadcastInDim S5x48x128x128 ![0, 1, 2, 3] bcast_S5x48x1x128_S5x48x128x128_0_1_2_3 (broadcastInDim S5x48x1x128 ![0, 1, 3] bcast_S5x48x128_S5x48x1x128_0_1_3 (res_main_v97 V)))) bitsLt_bf16_f32)) (mulf (Host.dotGeneral (φ₁ := .bf16) (φ₂ := .bf16) dot_S5x48x64x128_S5x128x128_S5x48x64x128_3_2_12_1_0_0 none (truncf .bf16 (res_main_v86 V) bitsLt_bf16_f32) (res_main_v90 V)) (broadcastInDim S5x48x64x128 ![0, 1, 2, 3] bcast_S5x48x1x128_S5x48x64x128_0_1_2_3 (broadcastInDim S5x48x1x128 ![0, 1, 3] bcast_S5x48x128_S5x48x1x128_0_1_3 (res_main_v105 V))))) (mulf (broadcastInDim S5x48x64x128 ![0, 1, 2, 3] bcast_S1x48x1x1_S5x48x64x128_0_1_2_3 (broadcastInDim S1x48x1x1 ![1, 2, 3] bcast_S48x1x1_S1x48x1x1_1_2_3 (broadcastInDim S48x1x1 ![0] bcast_S48_S48x1x1_0 (V (Proc.devRef .tc main_arg5))))) (res_main_v128 V)))⟩] concatenates_S5x48x64x256_S5x48x64x128_S5x48x64x384_d3

theorem y_at (b : Fin 5) (h : Fin 48) (p : Fin 64) (l : Fin 384) : (outV V : FVec Ideal S5x48x64x384 .f32) (ix4 b h p l) = D.y b h p l := by
  pointwise [outV, res_main_v86, res_main_v105, res_main_v128, res_main_v97, res_main_v89, res_main_v64, res_main_v39, res_main_v30, res_main_v25, res_main_v96, res_main_v91, res_main_v31, id]
  unfold Data.y
  split
  · rename_i hl
    refine congrArg₂ (· + ·) (congrArg₂ (· + ·) (local0 hD H b h p ⟨l.val, hl⟩ rfl rfl rfl rfl rfl) (entry0 hD H b h p ⟨l.val, hl⟩ rfl rfl rfl rfl)) ?_
    rw [H.d, x0_at hD H]
  · rename_i hl
    have hl' := l.isLt
    refine congrArg₂ (· + ·) (congrArg₂ (· + ·) (local1 hD H b h p ⟨l.val - 256, by omega⟩ rfl rfl rfl rfl rfl) (entry1 hD H b h p ⟨l.val - 256, by omega⟩ rfl rfl rfl rfl rfl rfl rfl rfl)) ?_
    rw [H.d, x1_at hD H]

omit hD H

/-! ## What the later operations start from -/

variable (m : (ℓ : Loc nD τ sig) → Idealize.ShloMosaic.Buf (Elt Ideal) ℓ) (c : Dev nD)

/-- The inputs, from the reference's arguments. -/
abbrev data : Data :=
  Data.of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- Every window's block at the one point. -/
theorem idx : ∀ t : Fin cfg0.N, win0_0.index t = ![0, 0, 0, 0] ∧ win0_1.index t = ![0, 0, 0, 0] :=
  (by decide +kernel : ∀ t : Fin grid0.N, _)

theorem iblk0 : iblk m c 0 t0_0 = m ((c : Thread nD τ).loc main_arg6) := by
  blk_ext! [iblk, Cert.ReferenceIdeal.Gen.V, idx t0_0]

/-- The widened codes are the codes. -/
theorem codes_at (b : Fin 5) (h : Fin 48) (p : Fin 64) (k : Fin 128) :
    (reg_main_v0 m c : FVec Ideal S5x48x64x128 .bf16) (ix4 b h p k) = (m ((c : Thread nD τ).loc main_arg6) : FVec Ideal S5x48x64x128 .fp8e4m3) (ix4 b h p k) := by
  refine congrFun (f := reg_main_v0 m c) (g := k0_pay1 (F := Ideal) (m ((c : Thread nD τ).loc main_arg6))) ?_ (ix4 b h p k)
  unfold reg_main_v0
  refine (dats m 0 c).arrAt_eq_of_after_last 1 t0_0 (by decide +kernel) _ fun j => ?_
  blk_simp
  rw [after0_1]
  frame_out
  rw [iblk0]

theorem holds : Holds (data m c) (exitV m c) where
  x b l h p := by rw [exit_main_arg0]; rfl
  dt b l h := by rw [exit_main_arg1]; rfl
  a h := by rw [exit_main_arg2]; rfl
  B b l k := by rw [exit_main_arg3]; rfl
  C b l k := by rw [exit_main_arg4]; rfl
  d h := by rw [exit_main_arg5]; rfl
  c b h p k := by rw [exit_main_v0]; exact codes_at m c b h p k
  s b h := by rw [exit_main_arg7]; rfl
  n b := by rw [exit_main_arg8]; rfl

/-- The reference's result. -/
theorem out_eq (hD : (data m c).Tame) :
    (truncf .bf16 (outV (exitV m c)) bitsLt_bf16_f32 : FVec Ideal S5x48x64x384 .bf16)
      = fun i => (data m c).y (i 0) (i 1) (i 2) (i 3) := by
  funext i
  obtain ⟨b, h, p, l, rfl⟩ : ∃ (b : Fin 5) (h : Fin 48) (p : Fin 64) (l : Fin 384), i = ix4 b h p l := ⟨_, _, _, _, eq_ix4 (n0 := 5) (n1 := 48) (n2 := 64) (n3 := 384) i⟩
  exact y_at hD (holds m c) b h p l

end Cert.Ssd.ReferenceIdeal

end
-- ==== Proof.Scale.lean ====
/-
  The power of two a state is scaled by, from the binary logarithm of its largest magnitude. The program looks for the
  largest exponent field whose power of two is not above the magnitude; the reference takes the floor of a logarithm. Over
  the reals the two are one number.
-/
module

public import proofs.«01_k».proof.Proof.Quant
public import Mathlib.Analysis.SpecialFunctions.Log.Basic
public import Mathlib.Analysis.SpecialFunctions.Pow.Real

@[expose] public section

noncomputable section

namespace Cert.Ssd

open Idealize.ShloMosaic

/-! ## Words as numbers -/

/-- A word with no fraction is a power of two, with the two ends of the exponent apart. -/
theorem word_eq (b : BitVec 32) (s : BitVec 1) (k : ℕ) (h1 : b.extractLsb' (8 + 23) 1 = s) (h2 : (b.extractLsb' 23 8).toNat = k)
    (h3 : (b.extractLsb' 0 23).toNat = 0) :
    Ideal.ofBits .f32 b = if k = 255 then (if s = 1#1 then (⊥ : EReal) else ⊤) else if k = 0 then 0 else
      (((if s = 1#1 then -1 else 1) * (2 : ℝ) ^ ((k : ℤ) - 127) : ℝ) : EReal) := by
  have e : (2 : ℝ) ^ ((k : ℤ) - 127) = 2 ^ 23 * (2 : ℝ) ^ ((k : ℤ) - 127 - 23) := by
    rw [← zpow_natCast, ← zpow_add₀ (by norm_num)]; congr 1; push_cast; ring
  rw [e]
  show Ideal.ieee 8 23 b = _
  unfold Ideal.ieee
  simp only [h1, h2, h3, beq_iff_eq]
  norm_num [-EReal.coe_mul]

theorem field_bits : ∀ k : Fin 256, (IntOp.shli .vector (BitVec.ofNat 32 k.val) 23#32).extractLsb' (8 + 23) 1 = 0#1
    ∧ ((IntOp.shli .vector (BitVec.ofNat 32 k.val) 23#32).extractLsb' 23 8).toNat = k.val
    ∧ ((IntOp.shli .vector (BitVec.ofNat 32 k.val) 23#32).extractLsb' 0 23).toNat = 0 := by decide +kernel

theorem field_eq (k : ℕ) (h : k < 256) :
    field (BitVec.ofNat 32 k) = if k = 255 then (⊤ : EReal) else if k = 0 then 0 else (((2 : ℝ) ^ ((k : ℤ) - 127) : ℝ) : EReal) := by
  obtain ⟨h1, h2, h3⟩ := field_bits ⟨k, h⟩
  unfold field
  rw [word_eq _ _ _ h1 h2 h3]
  simp

theorem field_top : field (BitVec.ofNat 32 255) = ⊤ := by rw [field_eq 255 (by omega)]; simp
theorem field_zero : field (BitVec.ofNat 32 0) = 0 := by rw [field_eq 0 (by omega)]; simp
theorem field_pos (k : ℕ) (h : 0 < k) (h' : k < 255) : field (BitVec.ofNat 32 k) = (((2 : ℝ) ^ ((k : ℤ) - 127) : ℝ) : EReal) := by
  rw [field_eq k (by omega), if_neg (by omega), if_neg (by omega)]
theorem field_256 : field (BitVec.ofNat 32 256) = 0 := by
  unfold field
  rw [word_eq _ 1#1 0 (by decide +kernel) (by decide +kernel) (by decide +kernel)]
  simp
theorem field_neg1 : field 4294967295#32 = ⊥ := by
  unfold field
  rw [word_eq _ 1#1 255 (by decide +kernel) (by decide +kernel) (by decide +kernel)]
  simp
theorem field_neg2 : field 4294967294#32 = Ideal.ofBits .f32 4278190080#32 := by
  unfold field
  rw [show IntOp.shli .vector 4294967294#32 23#32 = 4278190080#32 by decide +kernel]

theorem two_eq : Ideal.ofBits .f32 1073741824#32 = ((2 : ℝ) : EReal) := by
  rw [word_eq _ 0#1 128 (by decide) (by decide) (by decide)]; norm_num
theorem p127_eq : Ideal.ofBits .f32 2130706432#32 = (((2 : ℝ) ^ (127 : ℤ) : ℝ) : EReal) := by
  rw [word_eq _ 0#1 254 (by decide) (by decide) (by decide)]; norm_num
theorem p126_eq : Ideal.ofBits .f32 2122317824#32 = (((2 : ℝ) ^ (126 : ℤ) : ℝ) : EReal) := by
  rw [word_eq _ 0#1 253 (by decide) (by decide) (by decide)]; norm_num
theorem inf_eq : Ideal.ofBits .f32 2139095040#32 = (⊤ : EReal) := by
  rw [word_eq _ 0#1 255 (by decide) (by decide) (by decide)]; simp
theorem ninf_eq : Ideal.ofBits .f32 4286578688#32 = (⊥ : EReal) := by
  rw [word_eq _ 1#1 255 (by decide) (by decide) (by decide)]; simp
theorem n126_eq : Ideal.ofBits .f32 3271294976#32 = ((-126 : ℝ) : EReal) := by
  simp [Ideal.ofBits, Ideal.ieee, -EReal.coe_mul]; norm_num
theorem z_eq : Ideal.ofBits .f32 0#32 = (0 : EReal) := by
  rw [word_eq _ 0#1 0 (by decide) (by decide) (by decide)]; simp
/-- One over 448, to the nearest word, is positive. -/
theorem kappa : ∃ κ : ℝ, 0 < κ ∧ Ideal.ofBits .f32 991054117#32 = (κ : EReal) := by
  refine ⟨_, ?_, by simp [Ideal.ofBits, Ideal.ieee, -EReal.coe_mul]; rfl⟩
  positivity

/-! ## The largest field -/

theorem toInt_small (a : Fin 256) : (BitVec.ofNat 32 a.val).toInt = a.val := by
  have e : (BitVec.ofNat 32 a.val).toNat = a.val := by rw [BitVec.toNat_ofNat]; exact Nat.mod_eq_of_lt (by omega)
  rw [BitVec.toInt_eq_toNat_of_lt (by rw [e]; omega), e]
theorem maxsi_small (a b : Fin 256) : IntOp.maxsi (BitVec.ofNat 32 a.val) (BitVec.ofNat 32 b.val) = BitVec.ofNat 32 (max a.val b.val) := by
  unfold IntOp.maxsi BitVec.slt
  rw [toInt_small, toInt_small]
  by_cases h : b.val < a.val
  · rw [max_eq_left h.le, if_pos (by simpa using h)]
  · rw [max_eq_right (by omega), if_neg (by simpa using h)]
theorem maxsi_init : ∀ a : Fin 256, IntOp.maxsi (BitVec.ofNat 32 a.val) 2147483648#32 = BitVec.ofNat 32 a.val := by decide +kernel

/-- The largest of small numbers, as words. -/
theorem fold_small {ι : Type} [DecidableEq ι] (m : ι → ℕ) (hm : ∀ x, m x < 256) (s : Finset ι) :
    (s = ∅ ∧ Finset.fold IntOp.maxsi 2147483648#32 (fun x => BitVec.ofNat 32 (m x)) s = 2147483648#32)
      ∨ Finset.fold IntOp.maxsi 2147483648#32 (fun x => BitVec.ofNat 32 (m x)) s = BitVec.ofNat 32 (s.sup m) := by
  induction s using Finset.induction with
  | empty => exact .inl ⟨rfl, rfl⟩
  | insert x s hx ih =>
    right
    rw [Finset.fold_insert hx, Finset.sup_insert]
    have hs : s.sup m < 256 := by
      rw [Finset.sup_lt_iff (by show 0 < 256; omega)]
      exact fun y _ => hm y
    rcases ih with ⟨rfl, e⟩ | e
    · rw [e, Finset.sup_empty]
      exact (maxsi_init ⟨m x, hm x⟩).trans (by simp)
    · rw [e]
      exact maxsi_small ⟨m x, hm x⟩ ⟨s.sup m, hs⟩

/-- The largest field not above `v`, named. -/
theorem top_eq (v : EReal) (K : ℕ) (hK : K < 256) (h : field (BitVec.ofNat 32 K) ≤ v)
    (h' : ∀ k, k < 256 → field (BitVec.ofNat 32 k) ≤ v → k ≤ K) : top v = BitVec.ofNat 32 K := by
  let m : Fin 1 × Fin 256 → ℕ := fun x => if field (BitVec.ofNat 32 x.2.val) ≤ v then x.2.val else 0
  have hm : ∀ x, m x < 256 := fun x => by
    show (if _ then _ else _) < 256
    have := x.2.isLt
    split <;> omega
  have e : (fun x : Fin 1 × Fin 256 => if field (BitVec.ofNat 32 x.2.val) ≤ v then BitVec.ofNat 32 x.2.val else 0#32) = fun x => BitVec.ofNat 32 (m x) := by
    funext x
    show (if _ then _ else _) = BitVec.ofNat 32 (if _ then _ else _)
    split <;> rfl
  have hs : Finset.univ.sup m = K := by
    refine le_antisymm (Finset.sup_le fun x _ => ?_) ?_
    · show (if _ then _ else _) ≤ K
      split
      · next hx => exact h' _ x.2.isLt hx
      · omega
    · have e1 : m ((0 : Fin 1), (⟨K, hK⟩ : Fin 256)) = K := if_pos h
      exact e1.symm.le.trans (Finset.le_sup (f := m) (Finset.mem_univ _))
  unfold top
  rw [e]
  rcases fold_small m hm Finset.univ with ⟨h0, -⟩ | h0
  · exact absurd h0 (Finset.univ_nonempty.ne_empty)
  · rw [h0, hs]

theorem add_bits : ∀ K : Fin 256, IntOp.addi (IntOp.subi (BitVec.ofNat 32 K.val) 126#32) 127#32 = BitVec.ofNat 32 (K.val + 1) := by decide +kernel
theorem sub_bits : ∀ K : Fin 254, IntOp.subi 127#32 (IntOp.subi (BitVec.ofNat 32 K.val) 126#32) = BitVec.ofNat 32 (253 - K.val) := by decide +kernel

theorem scale_of {v : EReal} {K : ℕ} (hK : K < 256) (h : top v = BitVec.ofNat 32 K) (h0 : v ≠ 0) : scale v = field (BitVec.ofNat 32 (K + 1)) := by
  unfold scale expo
  rw [if_neg h0, h]
  exact congrArg field (add_bits ⟨K, hK⟩)
theorem unscale_of {v : EReal} {K : ℕ} (hK : K < 254) (h : top v = BitVec.ofNat 32 K) (h0 : v ≠ 0) : unscale v = field (BitVec.ofNat 32 (253 - K)) := by
  unfold unscale expo
  rw [if_neg h0, h]
  exact congrArg field (sub_bits ⟨K, hK⟩)
theorem unscale_254 {v : EReal} (h : top v = BitVec.ofNat 32 254) (h0 : v ≠ 0) : unscale v = ⊥ := by
  unfold unscale expo
  rw [if_neg h0, h, ← field_neg1]
  exact congrArg field (by decide +kernel)
theorem unscale_255 {v : EReal} (h : top v = BitVec.ofNat 32 255) (h0 : v ≠ 0) : unscale v = Ideal.ofBits .f32 4278190080#32 := by
  unfold unscale expo
  rw [if_neg h0, h, ← field_neg2]
  exact congrArg field (by decide +kernel)

theorem scale_zero : scale 0 = 1 := by
  unfold scale expo
  rw [if_pos rfl, show IntOp.addi 0#32 127#32 = BitVec.ofNat 32 127 by decide, field_pos 127 (by omega) (by omega)]
  norm_num
theorem unscale_zero : unscale 0 = 1 := by
  unfold unscale expo
  rw [if_pos rfl, show IntOp.subi 127#32 0#32 = BitVec.ofNat 32 127 by decide, field_pos 127 (by omega) (by omega)]
  norm_num

/-! ## The largest field of a real number -/

/-- The floor of the binary logarithm. -/
def flog (r : ℝ) : ℤ := Int.floor (Real.log r / Real.log 2)
theorem le_flog {r : ℝ} (hr : 0 < r) (x : ℤ) : (2 : ℝ) ^ x ≤ r ↔ x ≤ flog r := by
  unfold flog
  rw [Int.le_floor, le_div_iff₀ (Real.log_pos (by norm_num)), ← Real.log_zpow, Real.log_le_log_iff (by positivity) hr]

section Reals
variable {r : ℝ} (hr : 0 < r)
include hr

/-- Which fields are not above it. -/
theorem field_le_iff (k : ℕ) (h : 0 < k) (h' : k < 255) : field (BitVec.ofNat 32 k) ≤ (r : EReal) ↔ (k : ℤ) - 127 ≤ flog r := by
  rw [field_pos k h h', EReal.coe_le_coe_iff]
  exact le_flog hr _

theorem field_nle_top : ¬ field (BitVec.ofNat 32 255) ≤ (r : EReal) := by
  rw [field_top, top_le_iff]; exact EReal.coe_ne_top r

theorem top_lo (h : flog r < -126) : top (r : EReal) = BitVec.ofNat 32 0 := by
  refine top_eq _ 0 (by omega) ?_ fun k hk hle => ?_
  · rw [field_zero]; exact_mod_cast hr.le
  · by_contra hc
    by_cases h5 : k = 255
    · subst h5; exact field_nle_top hr hle
    · have := (field_le_iff hr k (by omega) (by omega)).1 hle
      omega
theorem top_mid (K : ℕ) (hK : 0 < K) (hK' : K < 255) (h : flog r = (K : ℤ) - 127) : top (r : EReal) = BitVec.ofNat 32 K := by
  refine top_eq _ K (by omega) ((field_le_iff hr K hK hK').2 h.symm.le) fun k hk hle => ?_
  by_contra hc
  by_cases h5 : k = 255
  · subst h5; exact field_nle_top hr hle
  · have := (field_le_iff hr k (by omega) (by omega)).1 hle
    omega
theorem top_hi (h : 127 ≤ flog r) : top (r : EReal) = BitVec.ofNat 32 254 := by
  refine top_eq _ 254 (by omega) ((field_le_iff hr 254 (by omega) (by omega)).2 (by omega)) fun k hk hle => ?_
  by_contra hc
  obtain rfl : k = 255 := by omega
  exact field_nle_top hr hle

theorem lt_pow (x : ℤ) : (r : EReal) < (((2 : ℝ) ^ x : ℝ) : EReal) ↔ flog r < x := by
  rw [EReal.coe_lt_coe_iff]
  rw [← not_le, ← not_le, le_flog hr]

/-- The floor of the quotient of logarithms. -/
theorem floor_log : Ideal.liftRound Int.floor (Ideal.div (Ideal.log (r : EReal)) (Ideal.log (Ideal.ofBits .f32 1073741824#32))) = (((flog r : ℤ) : ℝ) : EReal) := by
  have h2 : Real.log 2 ≠ 0 := (Real.log_pos (by norm_num)).ne'
  have e1 : Ideal.log (r : EReal) = (Real.log r : EReal) := if_neg hr.not_ge
  have e2 : Ideal.log (((2 : ℝ)) : EReal) = (Real.log 2 : EReal) := if_neg (by norm_num)
  rw [two_eq, e1, e2]
  unfold Ideal.div
  rw [if_neg (by exact_mod_cast h2), ← EReal.coe_inv, ← EReal.coe_mul, ← div_eq_mul_inv]
  rfl

end Reals

/-! ## The reference's exponent -/

/-- The exponent of the scale, from the floor of a logarithm. -/
def rexpo (a v : EReal) : EReal :=
  if a = 0 then 0 else max (Ideal.liftRound Int.floor (Ideal.div (Ideal.log v) (Ideal.log (Ideal.ofBits .f32 1073741824#32))) + 1) (Ideal.ofBits .f32 3271294976#32)

theorem rexpo_real {a : EReal} (ha : a ≠ 0) {r : ℝ} (hr : 0 < r) : rexpo a r = (((max (flog r + 1) (-126) : ℤ) : ℝ) : EReal) := by
  unfold rexpo
  rw [if_neg ha, floor_log hr, n126_eq, show (1 : EReal) = ((1 : ℝ) : EReal) from rfl, ← EReal.coe_add]
  push_cast
  exact (EReal.coe_strictMono.monotone.map_max (a := (flog r : ℝ) + 1) (b := (-126 : ℝ))).symm

theorem pow_two (x : ℤ) : Ideal.pow (Ideal.ofBits .f32 1073741824#32) (((x : ℤ) : ℝ) : EReal) = (((2 : ℝ) ^ x : ℝ) : EReal) := by
  rw [two_eq]
  show ((Real.rpow 2 (x : ℝ) : ℝ) : EReal) = _
  exact congrArg _ (Real.rpow_intCast 2 x)

/-- The scale, from it. -/
def rscale (a v : EReal) : EReal :=
  if v < Ideal.ofBits .f32 2130706432#32 then Ideal.pow (Ideal.ofBits .f32 1073741824#32) (rexpo a v)
  else if v < Ideal.ofBits .f32 2139095040#32 then Ideal.ofBits .f32 2139095040#32 else Ideal.ofBits .f32 0#32
/-- One over the scale, from it. -/
def runscale (a v : EReal) : EReal :=
  if v < Ideal.ofBits .f32 2122317824#32 then Ideal.pow (Ideal.ofBits .f32 1073741824#32) (-rexpo a v)
  else if v < Ideal.ofBits .f32 2130706432#32 then Ideal.ofBits .f32 0#32
  else if v < Ideal.ofBits .f32 2139095040#32 then Ideal.ofBits .f32 4286578688#32 else Ideal.ofBits .f32 4278190080#32

theorem real_eq {a : EReal} (ha : a ≠ 0) {r : ℝ} (hr : 0 < r) : scale r = rscale a r ∧ unscale r = runscale a r := by
  have h0 : (r : EReal) ≠ 0 := by exact_mod_cast hr.ne'
  have ht : (r : EReal) < ⊤ := EReal.coe_lt_top r
  unfold rscale runscale
  rw [rexpo_real ha hr, ← EReal.coe_neg, ← Int.cast_neg, pow_two, pow_two, p127_eq, p126_eq, inf_eq, ninf_eq, z_eq]
  simp only [lt_pow hr, if_pos ht]
  rcases lt_or_ge (flog r) (-126) with h | h
  · have hK := top_lo hr h
    rw [scale_of (by omega) hK h0, unscale_of (by omega) hK h0, field_pos _ (by omega) (by omega), field_pos _ (by omega) (by omega),
      if_pos (by omega), if_pos (by omega), max_eq_right (by omega)]
    exact ⟨rfl, rfl⟩
  rcases lt_or_ge (flog r) 127 with h' | h'
  · obtain ⟨K, hk⟩ : ∃ K : ℕ, flog r = (K : ℤ) - 127 := ⟨(flog r + 127).toNat, by omega⟩
    have hK := top_mid hr K (by omega) (by omega) hk
    rw [scale_of (by omega) hK h0, unscale_of (by omega) hK h0, hk, if_pos (by omega), max_eq_left (by omega), field_pos _ (by omega) (by omega)]
    refine ⟨by congr 2; push_cast; ring, ?_⟩
    by_cases h6 : K = 253
    · subst h6
      rw [if_neg (by omega), if_pos (by omega)]
      exact field_zero
    · rw [if_pos (by omega), field_pos _ (by omega) (by omega)]
      congr 2
      omega
  · have hK := top_hi hr h'
    rw [scale_of (by omega) hK h0, unscale_254 hK h0, if_neg (by omega), if_neg (by omega), if_neg (by omega)]
    exact ⟨field_top, rfl⟩

theorem top_top : scale ⊤ = Ideal.ofBits .f32 0#32 ∧ unscale ⊤ = Ideal.ofBits .f32 4278190080#32 := by
  have hK : top ⊤ = BitVec.ofNat 32 255 := top_eq _ 255 (by omega) le_top fun k hk _ => by omega
  refine ⟨?_, unscale_255 hK (by simp)⟩
  rw [scale_of (by omega) hK (by simp), z_eq]
  exact field_256

/-! ## The two scales -/

theorem abs_nonneg' (x : EReal) : 0 ≤ FloatOps.absf (F := Ideal) (φ := .f32) x := by
  show (0 : EReal) ≤ max x (-x)
  rcases le_total 0 x with h | h
  · exact le_max_of_le_left h
  · exact le_max_of_le_right (EReal.neg_nonneg.2 h)

theorem amax_nonneg (f : Fin 64 → Fin 128 → EReal) : 0 ≤ amax f := by
  unfold amax
  rw [Finset.le_fold_max]
  exact .inr ⟨(0, 0), Finset.mem_univ _, abs_nonneg' _⟩

/-- The program's scale of a state is the reference's, and so is one over it. -/
theorem scales_agree (f : Fin 64 → Fin 128 → EReal) : scale (mag f) = rscale (amax f) (mag f) ∧ unscale (mag f) = runscale (amax f) (mag f) := by
  obtain ⟨κ, hκ, e⟩ := kappa
  have h0 := amax_nonneg f
  unfold mag
  rw [e]
  generalize amax f = a at h0 ⊢
  induction a with
  | bot => exact absurd h0 (by simp)
  | top =>
    rw [EReal.top_mul_coe_of_pos hκ]
    unfold rscale runscale
    simp only [not_top_lt, if_false]
    exact top_top
  | coe x =>
    rw [← EReal.coe_mul]
    have hx : 0 ≤ x := by exact_mod_cast h0
    rcases hx.eq_or_lt with rfl | hx
    · have p : ∀ y : ℝ, 0 < y → ((0 * κ : ℝ) : EReal) < (y : EReal) := fun y hy => by rw [zero_mul]; exact_mod_cast hy
      unfold rscale runscale rexpo
      rw [p127_eq, p126_eq, if_pos (p _ (by positivity)), if_pos (p _ (by positivity)), if_pos (by simp), zero_mul]
      have q := pow_two 0
      rw [Int.cast_zero, EReal.coe_zero, zpow_zero, EReal.coe_one] at q
      rw [neg_zero, q]
      exact ⟨scale_zero, unscale_zero⟩
    · exact real_eq (by exact_mod_cast hx.ne') (mul_pos hx hκ)

end Cert.Ssd

end
-- ==== Proof.RefState.lean ====
/-
  The reference's other results, read at an index: the codes and the scales of the final state.
-/
module

public import proofs.«01_k».proof.Proof.RefValue
public import proofs.«01_k».proof.Proof.Scale

@[expose] public section

set_option maxRecDepth 16384

noncomputable section

namespace Cert.Ssd.ReferenceIdeal

open Cert.ReferenceIdeal Cert.ReferenceIdeal.Gen Cert.ReferenceIdeal.Value Idealize.ShloMosaic Idealize.ShloMosaic.TcCoe Idealize.SL.Sem Idealize.ShloMosaic.StableHlo

variable {D : Data} (hD : D.Tame) {V : Valuation τ sig (Elt Ideal)} (H : Holds D V)

section State
include hD H

/-! ## The states -/

theorem B1_at (b : Fin 5) (l : Fin 128) (k : Fin 128) : (res_main_v89 V : FVec Ideal S5x128x128 .bf16) (ix3 b l k) = D.B' b (p1 l) k := by
  rw [← B_at hD H]
  pointwise [res_main_v89]

/-- The first chunk's state from its parts. -/
theorem state0 (b : Fin 5) (h : Fin 48) (p : Fin 64) (n : Fin 128)
    {X : FVec Ideal S5x256x48x64 .bf16} {T₀ : FVec Ideal S5x256x48 .f32} {B₀ : FVec Ideal S5x256x128 .bf16} {R₀ : FVec Ideal S5x48x256 .f32} {K : FVec Ideal S5x48x64x128 .bf16} {Q : FVec Ideal S5x48 .f32}
    (h21 : X = res_main_v21 V) (h22 : T₀ = res_main_v22 V) (h23 : B₀ = res_main_v23 V) (h38 : R₀ = res_main_v38 V) (hK : K = V (Proc.devRef .tc main_v0)) (hQ : Q = V (Proc.devRef .tc main_arg7)) :
    ((Ideal.exp (R₀ (ix3 b h 255)) * ((K (ix4 b h p n) : EReal) * Q (ix2 b h)) +
        ((∑ s : Fin 256, (X (ix4 b s h p) : EReal) *
          (Ideal.exp ((R₀ (ix3 b h 255) : EReal) - R₀ (ix3 b h s)) * T₀ (ix3 b s h)) * B₀ (ix3 b s n)) : EReal)) : EReal)
      = D.st b h p n := by
  subst h21 h22 h23 h38 hK hQ
  rw [H.s, H.c, cs0_at hD H]
  refine congrArg (_ + ·) (Finset.sum_congr (M := EReal) rfl fun s _ => ?_)
  rw [x0_at hD H, cs0_at hD H, dt0_at hD H, B0_at hD H]
  rfl

theorem st_at (b : Fin 5) (h : Fin 48) (p : Fin 64) (n : Fin 128) : (res_main_v86 V : FVec Ideal S5x48x64x128 .f32) (ix4 b h p n) = (D.st b h p n : EReal) := by
  pointwise [res_main_v86, res_main_v39, res_main_v64, res_main_v31, id]
  exact state0 hD H b h p n rfl rfl rfl rfl rfl rfl

/-- The final state from its parts. -/
theorem state1 (b : Fin 5) (h : Fin 48) (p : Fin 64) (n : Fin 128)
    {X : FVec Ideal S5x128x48x64 .bf16} {T₁ : FVec Ideal S5x128x48 .f32} {B₁ : FVec Ideal S5x128x128 .bf16} {R₁ : FVec Ideal S5x48x128 .f32} {S : FVec Ideal S5x48x64x128 .f32}
    (h87 : X = res_main_v87 V) (h88 : T₁ = res_main_v88 V) (h89 : B₁ = res_main_v89 V) (h104 : R₁ = res_main_v104 V) (h86 : S = res_main_v86 V) :
    ((Ideal.exp (R₁ (ix3 b h 127)) * (S (ix4 b h p n) : EReal) +
        ((∑ s : Fin 128, (X (ix4 b s h p) : EReal) *
          (Ideal.exp ((R₁ (ix3 b h 127) : EReal) - R₁ (ix3 b h s)) * T₁ (ix3 b s h)) * B₁ (ix3 b s n)) : EReal)) : EReal)
      = D.fin b h p n := by
  subst h87 h88 h89 h104 h86
  rw [st_at hD H, cs1_at hD H]
  refine congrArg (_ + ·) (Finset.sum_congr (M := EReal) rfl fun s _ => ?_)
  rw [x1_at hD H, cs1_at hD H, dt1_at hD H, B1_at hD H]
  rfl

theorem fin_at (b : Fin 5) (h : Fin 48) (p : Fin 64) (n : Fin 128) : (res_main_v150 V : FVec Ideal S5x48x64x128 .f32) (ix4 b h p n) = (D.fin b h p n : EReal) := by
  pointwise [res_main_v150, res_main_v105, res_main_v128, res_main_v97, id]
  exact state1 hD H b h p n rfl rfl rfl rfl rfl

end State

/-! ## The largest magnitude -/

/-- The largest magnitudes, the same over 448 and the exponents, each from what is before it. -/
def amaxV (g : FVec Ideal S5x48x64x128 .f32) : FVec Ideal S5x48 .f32 :=
  Host.reduce FloatOps.maximumf (Host.absf g) (constant S_ .f32 0xFF800000#32) reducesTo_S5x48x64x128_S5x48_d2_3 h_S_
def magV (A : FVec Ideal S5x48 .f32) : FVec Ideal S5x48 .f32 :=
  mulf A (broadcastInDim S5x48 ![] bcast_S_S5x48 (constant S_ .f32 0x3B124925#32))
def rexpoV (A v : FVec Ideal S5x48 .f32) : FVec Ideal S5x48 .f32 :=
  select (cmpf .oeq A (broadcastInDim S5x48 ![] bcast_S_S5x48 (constant S_ .f32 0x00000000#32))) (broadcastInDim S5x48 ![] bcast_S_S5x48 (id (constant S_ .f32 0x00000000#32))) (maximumf (addf (Host.floor (Host.divf (Host.log v) (Host.log (broadcastInDim S5x48 ![] bcast_S_S5x48 (constant S_ .f32 0x40000000#32))))) (broadcastInDim S5x48 ![] bcast_S_S5x48 (constant S_ .f32 0x3F800000#32))) (broadcastInDim S5x48 ![] bcast_S_S5x48 (constant S_ .f32 0xC2FC0000#32)))

theorem amaxV_apply (g : FVec Ideal S5x48x64x128 .f32) (b : Fin 5) (h : Fin 48) :
    amaxV g (ix2 b h) = amax fun p n => g (ix4 b h p n) := by
  pointwise [amaxV]
  rfl
theorem magV_apply (A : FVec Ideal S5x48 .f32) (b : Fin 5) (h : Fin 48) : magV A (ix2 b h) = (A (ix2 b h) * Ideal.ofBits .f32 991054117#32 : EReal) := by
  pointwise [magV]
theorem rexpoV_apply (A v : FVec Ideal S5x48 .f32) (b : Fin 5) (h : Fin 48) : rexpoV A v (ix2 b h) = rexpo (A (ix2 b h)) (v (ix2 b h)) := by
  pointwise [rexpoV, id]
  unfold rexpo
  rfl

section Scales
include hD H

theorem amax_at (b : Fin 5) (h : Fin 48) : (res_main_v154 V : FVec Ideal S5x48 .f32) (ix2 b h) = (amax (D.fin b h) : EReal) :=
  (amaxV_apply (res_main_v150 V) b h).trans (congrArg amax (funext fun p => funext fun n => fin_at hD H b h p n))

theorem mag_at (b : Fin 5) (h : Fin 48) : (res_main_v156 V : FVec Ideal S5x48 .f32) (ix2 b h) = (mag (D.fin b h) : EReal) :=
  (magV_apply (res_main_v154 V) b h).trans (congrArg (fun a : EReal => a * Ideal.ofBits .f32 991054117#32) (amax_at hD H b h))

theorem rexpo_at (b : Fin 5) (h : Fin 48) : (res_main_v168 V : FVec Ideal S5x48 .f32) (ix2 b h) = (rexpo (amax (D.fin b h)) (mag (D.fin b h)) : EReal) :=
  (rexpoV_apply (res_main_v154 V) (res_main_v156 V) b h).trans (congrArg₂ rexpo (amax_at hD H b h) (mag_at hD H b h))

end Scales

/-! ## The results as they are written -/

/-- The scales, from the magnitudes and the exponents. -/
def scalesV (v e : FVec Ideal S5x48 .f32) : FVec Ideal S5x48 .f32 :=
  select (cmpf .olt v (broadcastInDim S5x48 ![] bcast_S_S5x48 (constant S_ .f32 0x7F000000#32))) (Host.powf (broadcastInDim S5x48 ![] bcast_S_S5x48 (constant S_ .f32 0x40000000#32)) e) (id (select (cmpf .olt v (broadcastInDim S5x48 ![] bcast_S_S5x48 (constant S_ .f32 0x7F800000#32))) (broadcastInDim S5x48 ![] bcast_S_S5x48 (constant S_ .f32 0x7F800000#32)) (broadcastInDim S5x48 ![] bcast_S_S5x48 (constant S_ .f32 0x00000000#32))))

/-- One over the scales. -/
def invV (v e : FVec Ideal S5x48 .f32) : FVec Ideal S5x48 .f32 :=
  select (cmpf .olt v (broadcastInDim S5x48 ![] bcast_S_S5x48 (constant S_ .f32 0x7E800000#32))) (Host.powf (broadcastInDim S5x48 ![] bcast_S_S5x48 (constant S_ .f32 0x40000000#32)) (Host.negf e)) (id (select (cmpf .olt v (broadcastInDim S5x48 ![] bcast_S_S5x48 (constant S_ .f32 0x7F000000#32))) (broadcastInDim S5x48 ![] bcast_S_S5x48 (constant S_ .f32 0x00000000#32)) (select (cmpf .olt v (broadcastInDim S5x48 ![] bcast_S_S5x48 (constant S_ .f32 0x7F800000#32))) (broadcastInDim S5x48 ![] bcast_S_S5x48 (constant S_ .f32 0xFF800000#32)) (broadcastInDim S5x48 ![] bcast_S_S5x48 (constant S_ .f32 0xFF000000#32)))))

/-- The codes, from the state and one over the scales. -/
def codesV (s : FVec Ideal S5x48x64x128 .f32) (u : FVec Ideal S5x48 .f32) : FVec Ideal S5x48x64x128 .fp8e4m3 :=
  Host.convertf .fp8e4m3 (minimumf (broadcastInDim S5x48x64x128 ![] bcast_S_S5x48x64x128 (id (constant S_ .f32 0x43E00000#32))) (maximumf (broadcastInDim S5x48x64x128 ![] bcast_S_S5x48x64x128 (id (constant S_ .f32 0xC3E00000#32))) (mulf s (broadcastInDim S5x48x64x128 ![0, 1, 2, 3] bcast_S5x48x1x1_S5x48x64x128_0_1_2_3 (broadcastInDim S5x48x1x1 ![0, 1] bcast_S5x48_S5x48x1x1_0_1 u)))))

theorem scalesV_apply (v e : FVec Ideal S5x48 .f32) (b : Fin 5) (h : Fin 48) (a : EReal) (he : e (ix2 b h) = rexpo a (v (ix2 b h))) :
    scalesV v e (ix2 b h) = rscale a (v (ix2 b h)) := by
  pointwise [scalesV, id]
  unfold rscale
  rw [he, z_eq]

theorem invV_apply (v e : FVec Ideal S5x48 .f32) (b : Fin 5) (h : Fin 48) (a : EReal) (he : e (ix2 b h) = rexpo a (v (ix2 b h))) :
    invV v e (ix2 b h) = runscale a (v (ix2 b h)) := by
  pointwise [invV, id]
  unfold runscale
  rw [he, z_eq]

theorem codesV_apply (s : FVec Ideal S5x48x64x128 .f32) (u : FVec Ideal S5x48 .f32) (b : Fin 5) (h : Fin 48) (p : Fin 64) (n : Fin 128) :
    codesV s u (ix4 b h p n)
      = min (Ideal.ofBits .f32 1138753536#32) (max (Ideal.ofBits .f32 3286237184#32) ((s (ix4 b h p n) : EReal) * u (ix2 b h))) := by
  pointwise [codesV, id]

section Results
include hD H

theorem scale_at (b : Fin 5) (h : Fin 48) : scalesV (res_main_v156 V) (res_main_v168 V) (ix2 b h) = scale (mag (D.fin b h)) := by
  have e := mag_at hD H b h
  refine (scalesV_apply _ _ b h (amax (D.fin b h)) ((rexpo_at hD H b h).trans (congrArg _ e.symm))).trans ?_
  exact (congrArg _ e).trans (scales_agree (D.fin b h)).1.symm

theorem inv_at (b : Fin 5) (h : Fin 48) : invV (res_main_v156 V) (res_main_v168 V) (ix2 b h) = unscale (mag (D.fin b h)) := by
  have e := mag_at hD H b h
  refine (invV_apply _ _ b h (amax (D.fin b h)) ((rexpo_at hD H b h).trans (congrArg _ e.symm))).trans ?_
  exact (congrArg _ e).trans (scales_agree (D.fin b h)).2.symm

theorem code_at (b : Fin 5) (h : Fin 48) (p : Fin 64) (n : Fin 128) :
    codesV (res_main_v150 V) (invV (res_main_v156 V) (res_main_v168 V)) (ix4 b h p n) = code (mag (D.fin b h)) (D.fin b h p n) := by
  rw [codesV_apply, inv_at hD H, fin_at hD H]
  rfl

end Results

variable (m : (ℓ : Loc nD τ sig) → Idealize.ShloMosaic.Buf (Elt Ideal) ℓ) (c : Dev nD)

/-- The reference's scales. -/
theorem scales_eq (hD : (data m c).Tame) :
    scalesV (res_main_v156 (exitV m c)) (res_main_v168 (exitV m c)) = fun i => scale (mag ((data m c).fin (i 0) (i 1))) := by
  funext i
  obtain ⟨b, h, rfl⟩ : ∃ (b : Fin 5) (h : Fin 48), i = ix2 b h := ⟨_, _, eq_ix2 (n0 := 5) (n1 := 48) i⟩
  exact scale_at hD (holds m c) b h

/-- The reference's codes. -/
theorem codes_eq (hD : (data m c).Tame) :
    codesV (res_main_v150 (exitV m c)) (invV (res_main_v156 (exitV m c)) (res_main_v168 (exitV m c)))
      = fun i => code (mag ((data m c).fin (i 0) (i 1))) ((data m c).fin (i 0) (i 1) (i 2) (i 3)) := by
  funext i
  obtain ⟨b, h, p, n, rfl⟩ : ∃ (b : Fin 5) (h : Fin 48) (p : Fin 64) (n : Fin 128), i = ix4 b h p n := ⟨_, _, _, _, eq_ix4 (n0 := 5) (n1 := 48) (n2 := 64) (n3 := 128) i⟩
  exact code_at hD (holds m c) b h p n

end Cert.Ssd.ReferenceIdeal

end
-- ==== Proof.Agree.lean ====
/-
  The program and the reference end with equal outputs, codes and scales: each leaves the scan's, at its own arguments.
-/
module

public import proofs.«01_k».proof.Defs
public import proofs.«01_k».proof.Proof.RunY
public import proofs.«01_k».proof.Proof.RefState

@[expose] public section

set_option maxRecDepth 16384

noncomputable section

namespace Cert.Ssd

open Idealize.ShloMosaic Idealize.ShloMosaic.TcCoe Idealize.SL.Sem

/-- There is one device. -/
theorem one_dev (c c' : Dev Cert.KernelIdeal.nD) : c = c' := @Subsingleton.elim (Fin 1) inferInstance c c'

theorem algebraic : Cert.algebraic_KernelIdeal_ReferenceIdeal_pre_tame := by
  intro m g m' g' hp hm
  have hD : ∀ c, (KernelIdeal.data m c).Tame := fun c => tame_of (hp c).1 (hp c).2.1 (hp c).2.2
  have hd : ∀ c, ReferenceIdeal.data m' c = KernelIdeal.data m c := fun c => by
    obtain ⟨h0, h1, h2, h3, h4, h5, h6, h7, h8⟩ := hm c
    unfold KernelIdeal.data
    rw [← h0, ← h1, ← h2, ← h3, ← h4, ← h5, ← h6, ← h7, ← h8]
  refine ⟨fun c => fun i : Cert.KernelIdeal.S5x48x64x384.Idx => (KernelIdeal.data m c).y (i 0) (i 1) (i 2) (i 3),
    fun c => fun i : Cert.KernelIdeal.S5x48x64x128.Idx => code (mag ((KernelIdeal.data m c).fin (i 0) (i 1))) ((KernelIdeal.data m c).fin (i 0) (i 1) (i 2) (i 3)),
    fun c => fun i : Cert.KernelIdeal.S5x48.Idx => scale (mag ((KernelIdeal.data m c).fin (i 0) (i 1))), ?_, ?_⟩
  · refine (θ_run _ _ _).mono (fun _ h c => ?_)
      (KernelIdeal.run m g (KernelIdeal.aftY (KernelIdeal.data m 0)) (KernelIdeal.InvY (KernelIdeal.data m 0)) (KernelIdeal.keeps m)
        (KernelIdeal.stepOk m (KernelIdeal.data m 0) (hD 0) fun c => by rw [one_dev c 0]) (fun σ h => absurd rfl h))
    rw [one_dev c 0]
    exact ⟨KernelIdeal.out_eq m _ h.1 0, KernelIdeal.codes_eq m _ h.1 0, KernelIdeal.scales_eq m _ h.1 0, KernelIdeal.args_eq m _ _ h.1 0⟩
  · refine (θ_run _ _ _).mono (fun _ h c => ⟨(h c).1.trans ?_, (h c).2.1.trans ?_, (h c).2.2.1.trans ?_, (h c).2.2.2⟩) (Cert.ReferenceIdeal.Value.run m' g')
    · exact (ReferenceIdeal.out_eq m' c ((hd c).symm ▸ hD c)).trans (by rw [hd c])
    · exact (ReferenceIdeal.codes_eq m' c ((hd c).symm ▸ hD c)).trans (by rw [hd c])
    · exact (ReferenceIdeal.scales_eq m' c ((hd c).symm ▸ hD c)).trans (by rw [hd c])

end Cert.Ssd

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Frame
public import proofs.«01_k».proof.Proof.Gen.ReferenceIdeal.Launch
public import proofs.«01_k».proof.Proof.Frame
public import proofs.«01_k».proof.Proof.FrameIdeal
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Ssd.preTameFacts,
  fun m ρ _ => Cert.Ssd.Kernel.frame m ρ,
  fun m ρ _ => Cert.Ssd.KernelIdeal.frame m ρ,
  fun m ρ _ => Cert.Ssd.KernelIdeal.frame m ρ,
  fun m ρ _ => Cert.ReferenceIdeal.Gen.frame m ρ,
  fun m ρ _ => Cert.ReferenceIdeal.Gen.frame m ρ,
  IdealRules.named_const.statement Cert.KernelIdeal.κ "log2e" .f32 0x3FB8AA3B#32 _ rfl,
  Cert.Ssd.algebraic⟩

end Cert.Proof

end
